-- ==== Defs.lean ====
def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v23)) (v1 : (c : Dev Cert.KernelIdeal.nD) → Buf (Elt Ideal) ((c.tc : Thread Cert.KernelIdeal.nD Cert.KernelIdeal.τ).loc Cert.KernelIdeal.main_v26)) (v2 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_v26) = v1 c
          ∧ r.2.mem ((c.tc : Thread Cert.KernelIdeal.nD Cert.KernelIdeal.τ).loc Cert.KernelIdeal.main_v28) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_v123) = v1 c
          ∧ r.2.mem ((c.tc : Thread Cert.ReferenceIdeal.nD Cert.ReferenceIdeal.τ).loc Cert.ReferenceIdeal.main_v124) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernelIdeal : Cert.KernelIdeal.Facts) (hReferenceIdeal : Cert.ReferenceIdeal.Facts),
    quiescent_KernelIdeal (hKernelIdeal := hKernelIdeal)
    ∧ quiescent_ReferenceIdeal (hReferenceIdeal := hReferenceIdeal)
    ∧ algebraic_KernelIdeal_ReferenceIdeal (hKernelIdeal := hKernelIdeal) (hReferenceIdeal := hReferenceIdeal)
-- ==== KernelIdeal.lean ====
abbrev S300000x5 : Shape := ⟨2, ![300000, 5]⟩
abbrev S300000x1 : Shape := ⟨2, ![300000, 1]⟩
abbrev S300000 : Shape := ⟨1, ![300000]⟩
abbrev S_ : Shape := ⟨0, ![]⟩
abbrev S300032 : Shape := ⟨1, ![300032]⟩
abbrev S2344x128 : Shape := ⟨2, ![2344, 128]⟩
abbrev S46876x128 : Shape := ⟨2, ![46876, 128]⟩
abbrev S2814x128 : Shape := ⟨2, ![2814, 128]⟩
abbrev S939x128 : Shape := ⟨2, ![939, 128]⟩
abbrev S11391x128 : Shape := ⟨2, ![11391, 128]⟩
abbrev S1x128 : Shape := ⟨2, ![1, 128]⟩
abbrev S2x128 : Shape := ⟨2, ![2, 128]⟩
abbrev S1x1 : Shape := ⟨2, ![1, 1]⟩
abbrev S128x128 : Shape := ⟨2, ![128, 128]⟩
abbrev S6000128 : Shape := ⟨1, ![6000128]⟩
abbrev S6000000 : Shape := ⟨1, ![6000000]⟩
abbrev S120000x10x5 : Shape := ⟨3, ![120000, 10, 5]⟩
abbrev S360192 : Shape := ⟨1, ![360192]⟩
abbrev S360000 : Shape := ⟨1, ![360000]⟩
abbrev S120000x3 : Shape := ⟨2, ![120000, 3]⟩
abbrev S120192 : Shape := ⟨1, ![120192]⟩
abbrev S120000 : Shape := ⟨1, ![120000]⟩

abbrev nBuf : Space → Nat
  | .hbm => 42
  | .vmem => 12
  | .smem => 0
  | _ => 0

abbrev bufTy : (tb : Table) → Fin (tcTables nBuf tb) → BufTy
  | .hbm, ⟨0, _⟩ => ⟨S300000x5, .f32⟩
  | .hbm, ⟨1, _⟩ => ⟨S300000x1, .f32⟩
  | .hbm, ⟨2, _⟩ => ⟨S300000, .f32⟩
  | .hbm, ⟨3, _⟩ => ⟨S_, .i32⟩
  | .hbm, ⟨4, _⟩ => ⟨S_, .f32⟩
  | .hbm, ⟨5, _⟩ => ⟨S300032, .f32⟩
  | .hbm, ⟨6, _⟩ => ⟨S2344x128, .f32⟩
  | .hbm, ⟨7, _⟩ => ⟨S300000x1, .f32⟩
  | .hbm, ⟨8, _⟩ => ⟨S300000, .f32⟩
  | .hbm, ⟨9, _⟩ => ⟨S_, .i32⟩
  | .hbm, ⟨10, _⟩ => ⟨S_, .f32⟩
  | .hbm, ⟨11, _⟩ => ⟨S300032, .f32⟩
  | .hbm, ⟨12, _⟩ => ⟨S2344x128, .f32⟩
  | .hbm, ⟨13, _⟩ => ⟨S300000x1, .f32⟩
  | .hbm, ⟨14, _⟩ => ⟨S300000, .f32⟩
  | .hbm, ⟨15, _⟩ => ⟨S_, .i32⟩
  | .hbm, ⟨16, _⟩ => ⟨S_, .f32⟩
  | .hbm, ⟨17, _⟩ => ⟨S300032, .f32⟩
  | .hbm, ⟨18, _⟩ => ⟨S2344x128, .f32⟩
  | .hbm, ⟨19, _⟩ => ⟨S300000x1, .f32⟩
  | .hbm, ⟨20, _⟩ => ⟨S300000, .f32⟩
  | .hbm, ⟨21, _⟩ => ⟨S_, .i32⟩
  | .hbm, ⟨22, _⟩ => ⟨S_, .f32⟩
  | .hbm, ⟨23, _⟩ => ⟨S300032, .f32⟩
  | .hbm, ⟨24, _⟩ => ⟨S2344x128, .f32⟩
  | .hbm, ⟨25, _⟩ => ⟨S300000x1, .f32⟩
  | .hbm, ⟨26, _⟩ => ⟨S300000, .f32⟩
  | .hbm, ⟨27, _⟩ => ⟨S_, .i32⟩
  | .hbm, ⟨28, _⟩ => ⟨S_, .f32⟩
  | .hbm, ⟨29, _⟩ => ⟨S300032, .f32⟩
  | .hbm, ⟨30, _⟩ => ⟨S2344x128, .f32⟩
  | .hbm, ⟨31, _⟩ => ⟨S46876x128, .f32⟩
  | .hbm, ⟨32, _⟩ => ⟨S2814x128, .i32⟩
  | .hbm, ⟨33, _⟩ => ⟨S939x128, .i32⟩
  | .hbm, ⟨34, _⟩ => ⟨S6000128, .f32⟩
  | .hbm, ⟨35, _⟩ => ⟨S6000000, .f32⟩
  | .hbm, ⟨36, _⟩ => ⟨S120000x10x5, .f32⟩
  | .hbm, ⟨37, _⟩ => ⟨S360192, .i32⟩
  | .hbm, ⟨38, _⟩ => ⟨S360000, .i32⟩
  | .hbm, ⟨39, _⟩ => ⟨S120000x3, .i32⟩
  | .hbm, ⟨40, _⟩ => ⟨S120192, .i32⟩
  | .hbm, ⟨41, _⟩ => ⟨S120000, .i32⟩
  | .local _ .vmem, ⟨0, _⟩ => ⟨S2344x128, .f32⟩
  | .local _ .vmem, ⟨1, _⟩ => ⟨S2344x128, .f32⟩
  | .local _ .vmem, ⟨2, _⟩ => ⟨S2344x128, .f32⟩
  | .local _ .vmem, ⟨3, _⟩ => ⟨S2344x128, .f32⟩
  | .local _ .vmem, ⟨4, _⟩ => ⟨S2344x128, .f32⟩
  | .local _ .vmem, ⟨5, _⟩ => ⟨S46876x128, .f32⟩
  | .local _ .vmem, ⟨6, _⟩ => ⟨S2814x128, .i32⟩
  | .local _ .vmem, ⟨7, _⟩ => ⟨S939x128, .i32⟩
  | .local _ .vmem, ⟨8, _⟩ => ⟨S11391x128, .i32⟩
  | .local _ .vmem, ⟨9, _⟩ => ⟨S11391x128, .f32⟩
  | .local _ .vmem, ⟨10, _⟩ => ⟨S2344x128, .i32⟩
  | .local _ .vmem, ⟨11, _⟩ => ⟨S2344x128, .i32⟩
  | _, _ => ⟨S300000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_call0_v0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_call1_v0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_1 : Ref sig .tc := ⟨.hbm, 15, rfl⟩
abbrev main_call2_v0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_2 : Ref sig .tc := ⟨.hbm, 21, rfl⟩
abbrev main_call3_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_3 : Ref sig .tc := ⟨.hbm, 27, rfl⟩
abbrev main_call4_v0 : Ref sig .tc := ⟨.hbm, 28, rfl⟩
abbrev main_v18 : Ref sig .tc := ⟨.hbm, 29, rfl⟩
abbrev main_v19 : Ref sig .tc := ⟨.hbm, 30, rfl⟩
abbrev main_v20_0 : Ref sig .tc := ⟨.hbm, 31, rfl⟩
abbrev main_v20_1 : Ref sig .tc := ⟨.hbm, 32, rfl⟩
abbrev main_v20_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

@[reducible] def k0_t1_loop : Scf.Loop 32 :=
  let c0_i32_33 : BitVec 32 := 0#32
  let c18750_i32 : BitVec 32 := 18750#32
  let v87 : BitVec 32 := Scalar.addi c0_i32_33 c18750_i32
  let c1_i32 : BitVec 32 := 1#32
  ⟨c0_i32_33, v87, c1_i32⟩
def k0_off1 (k0_t1 : Fin k0_t1_loop.trips) : Fin 2 → Nat :=
  let c0_i32_33 : BitVec 32 := 0#32
  let c1_i32 : BitVec 32 := 1#32
  let arg12 : BitVec 32 := Scf.iv c0_i32_33 c1_i32 k0_t1
  let c3_i32 : BitVec 32 := 3#32
  let v123 : BitVec 32 := Scalar.shrsi arg12 c3_i32
  let v128 : Index := Scalar.indexCast v123
  let c0_52 : Index := 0#32
  ![v128.toNat, 0]
def k0_off2 (v132 : BitVec 32) : Fin 2 → Nat :=
  let c5_i32 : BitVec 32 := 5#32
  let v133 : BitVec 32 := Scalar.shrsi v132 c5_i32
  let c7_i32_54 : BitVec 32 := 7#32
  let v136 : BitVec 32 := Scalar.shrsi v133 c7_i32_54
  let v138 : Index := Scalar.indexCast v136
  let c0_56 : Index := 0#32
  ![v138.toNat, 0]

def k0_chk1 (v132 : BitVec 32) : Prop :=
  (∀ a, (k0_off2 v132) a + S1x128.size a ≤ S11391x128.size a)
theorem k0_off2_inb : ∀ (v132 : BitVec 32) (k0_hw1 : k0_chk1 v132), ∀ a, (k0_off2 v132) a + S1x128.size a ≤ S11391x128.size a := fun v132 k0_hw1 => k0_hw1

def k0_off3 (v151 : BitVec 32) : Fin 2 → Nat :=
  let c5_i32_59 : BitVec 32 := 5#32
  let v152 : BitVec 32 := Scalar.shrsi v151 c5_i32_59
  let c7_i32_62 : BitVec 32 := 7#32
  let v155 : BitVec 32 := Scalar.shrsi v152 c7_i32_62
  let v157 : Index := Scalar.indexCast v155
  let c0_64 : Index := 0#32
  ![v157.toNat, 0]

def k0_chk2 (v151 : BitVec 32) : Prop :=
  (∀ a, (k0_off3 v151) a + S1x128.size a ≤ S11391x128.size a)
theorem k0_off3_inb : ∀ (v151 : BitVec 32) (k0_hw2 : k0_chk2 v151), ∀ a, (k0_off3 v151) a + S1x128.size a ≤ S11391x128.size a := fun v151 k0_hw2 => k0_hw2

def k0_off4 (v170 : BitVec 32) : Fin 2 → Nat :=
  let c5_i32_67 : BitVec 32 := 5#32
  let v171 : BitVec 32 := Scalar.shrsi v170 c5_i32_67
  let c7_i32_70 : BitVec 32 := 7#32
  let v174 : BitVec 32 := Scalar.shrsi v171 c7_i32_70
  let v176 : Index := Scalar.indexCast v174
  let c0_72 : Index := 0#32
  ![v176.toNat, 0]

def k0_chk3 (v170 : BitVec 32) : Prop :=
  (∀ a, (k0_off4 v170) a + S1x128.size a ≤ S11391x128.size a)
theorem k0_off4_inb : ∀ (v170 : BitVec 32) (k0_hw3 : k0_chk3 v170), ∀ a, (k0_off4 v170) a + S1x128.size a ≤ S11391x128.size a := fun v170 k0_hw3 => k0_hw3

def k0_off5 (v189 : BitVec 32) : Fin 2 → Nat :=
  let c5_i32_75 : BitVec 32 := 5#32
  let v190 : BitVec 32 := Scalar.shrsi v189 c5_i32_75
  let c7_i32_78 : BitVec 32 := 7#32
  let v193 : BitVec 32 := Scalar.shrsi v190 c7_i32_78
  let v195 : Index := Scalar.indexCast v193
  let c0_80 : Index := 0#32
  ![v195.toNat, 0]

def k0_chk4 (v189 : BitVec 32) : Prop :=
  (∀ a, (k0_off5 v189) a + S1x128.size a ≤ S11391x128.size a)
theorem k0_off5_inb : ∀ (v189 : BitVec 32) (k0_hw4 : k0_chk4 v189), ∀ a, (k0_off5 v189) a + S1x128.size a ≤ S11391x128.size a := fun v189 k0_hw4 => k0_hw4

def k0_off6 (v208 : BitVec 32) : Fin 2 → Nat :=
  let c5_i32_83 : BitVec 32 := 5#32
  let v209 : BitVec 32 := Scalar.shrsi v208 c5_i32_83
  let c7_i32_86 : BitVec 32 := 7#32
  let v212 : BitVec 32 := Scalar.shrsi v209 c7_i32_86
  let v214 : Index := Scalar.indexCast v212
  let c0_88 : Index := 0#32
  ![v214.toNat, 0]

def k0_chk5 (v208 : BitVec 32) : Prop :=
  (∀ a, (k0_off6 v208) a + S1x128.size a ≤ S11391x128.size a)
theorem k0_off6_inb : ∀ (v208 : BitVec 32) (k0_hw5 : k0_chk5 v208), ∀ a, (k0_off6 v208) a + S1x128.size a ≤ S11391x128.size a := fun v208 k0_hw5 => k0_hw5

def k0_off7 (v227 : BitVec 32) : Fin 2 → Nat :=
  let c5_i32_91 : BitVec 32 := 5#32
  let v228 : BitVec 32 := Scalar.shrsi v227 c5_i32_91
  let c7_i32_94 : BitVec 32 := 7#32
  let v231 : BitVec 32 := Scalar.shrsi v228 c7_i32_94
  let v233 : Index := Scalar.indexCast v231
  let c0_96 : Index := 0#32
  ![v233.toNat, 0]

def k0_chk6 (v227 : BitVec 32) : Prop :=
  (∀ a, (k0_off7 v227) a + S1x128.size a ≤ S11391x128.size a)
theorem k0_off7_inb : ∀ (v227 : BitVec 32) (k0_hw6 : k0_chk6 v227), ∀ a, (k0_off7 v227) a + S1x128.size a ≤ S11391x128.size a := fun v227 k0_hw6 => k0_hw6

def k0_off8 (v246 : BitVec 32) : Fin 2 → Nat :=
  let c5_i32_99 : BitVec 32 := 5#32
  let v247 : BitVec 32 := Scalar.shrsi v246 c5_i32_99
  let c7_i32_102 : BitVec 32 := 7#32
  let v250 : BitVec 32 := Scalar.shrsi v247 c7_i32_102
  let v252 : Index := Scalar.indexCast v250
  let c0_104 : Index := 0#32
  ![v252.toNat, 0]

def k0_chk7 (v246 : BitVec 32) : Prop :=
  (∀ a, (k0_off8 v246) a + S1x128.size a ≤ S11391x128.size a)
theorem k0_off8_inb : ∀ (v246 : BitVec 32) (k0_hw7 : k0_chk7 v246), ∀ a, (k0_off8 v246) a + S1x128.size a ≤ S11391x128.size a := fun v246 k0_hw7 => k0_hw7

def k0_off9 (v265 : BitVec 32) : Fin 2 → Nat :=
  let c5_i32_107 : BitVec 32 := 5#32
  let v266 : BitVec 32 := Scalar.shrsi v265 c5_i32_107
  let c7_i32_110 : BitVec 32 := 7#32
  let v269 : BitVec 32 := Scalar.shrsi v266 c7_i32_110
  let v271 : Index := Scalar.indexCast v269
  let c0_112 : Index := 0#32
  ![v271.toNat, 0]

def k0_chk8 (v265 : BitVec 32) : Prop :=
  (∀ a, (k0_off9 v265) a + S1x128.size a ≤ S11391x128.size a)
theorem k0_off9_inb : ∀ (v265 : BitVec 32) (k0_hw8 : k0_chk8 v265), ∀ a, (k0_off9 v265) a + S1x128.size a ≤ S11391x128.size a := fun v265 k0_hw8 => k0_hw8

def k0_off10 (v284 : BitVec 32) : Fin 2 → Nat :=
  let c5_i32_115 : BitVec 32 := 5#32
  let v285 : BitVec 32 := Scalar.shrsi v284 c5_i32_115
  let c7_i32_118 : BitVec 32 := 7#32
  let v288 : BitVec 32 := Scalar.shrsi v285 c7_i32_118
  let v290 : Index := Scalar.indexCast v288
  let c0_120 : Index := 0#32
  ![v290.toNat, 0]

def k0_chk9 (v284 : BitVec 32) : Prop :=
  (∀ a, (k0_off10 v284) a + S1x128.size a ≤ S11391x128.size a)
theorem k0_off10_inb : ∀ (v284 : BitVec 32) (k0_hw9 : k0_chk9 v284), ∀ a, (k0_off10 v284) a + S1x128.size a ≤ S11391x128.size a := fun v284 k0_hw9 => k0_hw9

def k0_off11 (v303 : BitVec 32) : Fin 2 → Nat :=
  let c5_i32_123 : BitVec 32 := 5#32
  let v304 : BitVec 32 := Scalar.shrsi v303 c5_i32_123
  let c7_i32_126 : BitVec 32 := 7#32
  let v307 : BitVec 32 := Scalar.shrsi v304 c7_i32_126
  let v309 : Index := Scalar.indexCast v307
  let c0_128 : Index := 0#32
  ![v309.toNat, 0]

def k0_chk10 (v303 : BitVec 32) : Prop :=
  (∀ a, (k0_off11 v303) a + S1x128.size a ≤ S11391x128.size a)
theorem k0_off11_inb : ∀ (v303 : BitVec 32) (k0_hw10 : k0_chk10 v303), ∀ a, (k0_off11 v303) a + S1x128.size a ≤ S11391x128.size a := fun v303 k0_hw10 => k0_hw10

def k0_off12 (v322 : BitVec 32) : Fin 2 → Nat :=
  let c5_i32_131 : BitVec 32 := 5#32
  let v323 : BitVec 32 := Scalar.shrsi v322 c5_i32_131
  let c7_i32_134 : BitVec 32 := 7#32
  let v326 : BitVec 32 := Scalar.shrsi v323 c7_i32_134
  let v328 : Index := Scalar.indexCast v326
  let c0_136 : Index := 0#32
  ![v328.toNat, 0]

def k0_chk11 (v322 : BitVec 32) : Prop :=
  (∀ a, (k0_off12 v322) a + S1x128.size a ≤ S11391x128.size a)
theorem k0_off12_inb : ∀ (v322 : BitVec 32) (k0_hw11 : k0_chk11 v322), ∀ a, (k0_off12 v322) a + S1x128.size a ≤ S11391x128.size a := fun v322 k0_hw11 => k0_hw11

def k0_off13 (v341 : BitVec 32) : Fin 2 → Nat :=
  let c5_i32_139 : BitVec 32 := 5#32
  let v342 : BitVec 32 := Scalar.shrsi v341 c5_i32_139
  let c7_i32_142 : BitVec 32 := 7#32
  let v345 : BitVec 32 := Scalar.shrsi v342 c7_i32_142
  let v347 : Index := Scalar.indexCast v345
  let c0_144 : Index := 0#32
  ![v347.toNat, 0]

def k0_chk12 (v341 : BitVec 32) : Prop :=
  (∀ a, (k0_off13 v341) a + S1x128.size a ≤ S11391x128.size a)
theorem k0_off13_inb : ∀ (v341 : BitVec 32) (k0_hw12 : k0_chk12 v341), ∀ a, (k0_off13 v341) a + S1x128.size a ≤ S11391x128.size a := fun v341 k0_hw12 => k0_hw12

def k0_off14 (v360 : BitVec 32) : Fin 2 → Nat :=
  let c5_i32_147 : BitVec 32 := 5#32
  let v361 : BitVec 32 := Scalar.shrsi v360 c5_i32_147
  let c7_i32_150 : BitVec 32 := 7#32
  let v364 : BitVec 32 := Scalar.shrsi v361 c7_i32_150
  let v366 : Index := Scalar.indexCast v364
  let c0_152 : Index := 0#32
  ![v366.toNat, 0]

def k0_chk13 (v360 : BitVec 32) : Prop :=
  (∀ a, (k0_off14 v360) a + S1x128.size a ≤ S11391x128.size a)
theorem k0_off14_inb : ∀ (v360 : BitVec 32) (k0_hw13 : k0_chk13 v360), ∀ a, (k0_off14 v360) a + S1x128.size a ≤ S11391x128.size a := fun v360 k0_hw13 => k0_hw13

def k0_off15 (v379 : BitVec 32) : Fin 2 → Nat :=
  let c5_i32_155 : BitVec 32 := 5#32
  let v380 : BitVec 32 := Scalar.shrsi v379 c5_i32_155
  let c7_i32_158 : BitVec 32 := 7#32
  let v383 : BitVec 32 := Scalar.shrsi v380 c7_i32_158
  let v385 : Index := Scalar.indexCast v383
  let c0_160 : Index := 0#32
  ![v385.toNat, 0]

def k0_chk14 (v379 : BitVec 32) : Prop :=
  (∀ a, (k0_off15 v379) a + S1x128.size a ≤ S11391x128.size a)
theorem k0_off15_inb : ∀ (v379 : BitVec 32) (k0_hw14 : k0_chk14 v379), ∀ a, (k0_off15 v379) a + S1x128.size a ≤ S11391x128.size a := fun v379 k0_hw14 => k0_hw14

def k0_off16 (v398 : BitVec 32) : Fin 2 → Nat :=
  let c5_i32_163 : BitVec 32 := 5#32
  let v399 : BitVec 32 := Scalar.shrsi v398 c5_i32_163
  let c7_i32_166 : BitVec 32 := 7#32
  let v402 : BitVec 32 := Scalar.shrsi v399 c7_i32_166
  let v404 : Index := Scalar.indexCast v402
  let c0_168 : Index := 0#32
  ![v404.toNat, 0]

def k0_chk15 (v398 : BitVec 32) : Prop :=
  (∀ a, (k0_off16 v398) a + S1x128.size a ≤ S11391x128.size a)
theorem k0_off16_inb : ∀ (v398 : BitVec 32) (k0_hw15 : k0_chk15 v398), ∀ a, (k0_off16 v398) a + S1x128.size a ≤ S11391x128.size a := fun v398 k0_hw15 => k0_hw15

def k0_off17 (v417 : BitVec 32) : Fin 2 → Nat :=
  let c5_i32_171 : BitVec 32 := 5#32
  let v418 : BitVec 32 := Scalar.shrsi v417 c5_i32_171
  let c7_i32_174 : BitVec 32 := 7#32
  let v421 : BitVec 32 := Scalar.shrsi v418 c7_i32_174
  let v423 : Index := Scalar.indexCast v421
  let c0_176 : Index := 0#32
  ![v423.toNat, 0]

def k0_chk16 (v417 : BitVec 32) : Prop :=
  (∀ a, (k0_off17 v417) a + S1x128.size a ≤ S11391x128.size a)
theorem k0_off17_inb : ∀ (v417 : BitVec 32) (k0_hw16 : k0_chk16 v417), ∀ a, (k0_off17 v417) a + S1x128.size a ≤ S11391x128.size a := fun v417 k0_hw16 => k0_hw16

@[reducible] def k0_t2_loop : Scf.Loop 32 :=
  let c0_i32_43 : BitVec 32 := 0#32
  let c11391_i32 : BitVec 32 := 11391#32
  let v120 : BitVec 32 := Scalar.addi c0_i32_43 c11391_i32
  let c1_i32_44 : BitVec 32 := 1#32
  ⟨c0_i32_43, v120, c1_i32_44⟩
def k0_off18 (k0_t2 : Fin k0_t2_loop.trips) : Fin 2 → Nat :=
  let c0_i32_43 : BitVec 32 := 0#32
  let c1_i32_44 : BitVec 32 := 1#32
  let arg12 : BitVec 32 := Scf.iv c0_i32_43 c1_i32_44 k0_t2
  let v124 : Index := Scalar.indexCast arg12
  let c0_50 : Index := 0#32
  ![v124.toNat, 0]
@[reducible] def k0_t3_loop : Scf.Loop 32 :=
  let c0_i32_46 : BitVec 32 := 0#32
  let c18750_i32_47 : BitVec 32 := 18750#32
  let v122 : BitVec 32 := Scalar.addi c0_i32_46 c18750_i32_47
  let c1_i32_48 : BitVec 32 := 1#32
  ⟨c0_i32_46, v122, c1_i32_48⟩
def k0_off19 (k0_t3 : Fin k0_t3_loop.trips) : Fin 2 → Nat :=
  let c0_i32_46 : BitVec 32 := 0#32
  let c1_i32_48 : BitVec 32 := 1#32
  let arg12 : BitVec 32 := Scf.iv c0_i32_46 c1_i32_48 k0_t3
  let c3_i32 : BitVec 32 := 3#32
  let v123 : BitVec 32 := Scalar.shrsi arg12 c3_i32
  let v128 : Index := Scalar.indexCast v123
  let c0_52 : Index := 0#32
  ![v128.toNat, 0]
def k0_off20 (v155 : BitVec 32) : Fin 2 → Nat :=
  let c5_i32 : BitVec 32 := 5#32
  let v234 : BitVec 32 := Scalar.shrsi v155 c5_i32
  let c7_i32_91 : BitVec 32 := 7#32
  let v236 : BitVec 32 := Scalar.shrsi v234 c7_i32_91
  let v240 : Index := Scalar.indexCast v236
  let c0_95 : Index := 0#32
  ![v240.toNat, 0]
def k0_cond1 (v155 : BitVec 32) : BitVec 1 :=
  let c46656000_i32_59 : BitVec 32 := 46656000#32
  let v156 : BitVec 1 := Scalar.cmpi .slt v155 c46656000_i32_59
  let v157 : BitVec 32 := Scalar.extui v156
  let c0_i32_60 : BitVec 32 := 0#32
  let v158 : BitVec 1 := Scalar.cmpi .ne v157 c0_i32_60
  v158

def k0_chk17 (v155 : BitVec 32) : Prop :=
  (∀ (k0_h1 : k0_cond1 v155 = 1#1), ∀ a, (k0_off20 v155) a + S1x128.size a ≤ S11391x128.size a)
theorem k0_off20_inb : ∀ (v155 : BitVec 32) (k0_hw17 : k0_chk17 v155), ∀ (k0_h1 : k0_cond1 v155 = 1#1), ∀ a, (k0_off20 v155) a + S1x128.size a ≤ S11391x128.size a := fun v155 k0_hw17 k0_h1 => k0_hw17 k0_h1

def k0_off21 (v155 : BitVec 32) (v244 : BitVec 32) (v265 : BitVec 32) : Fin 2 → Nat :=
  let c1_i32_97 : BitVec 32 := 1#32
  let c31_i32 : BitVec 32 := 31#32
  let v235 : BitVec 32 := Scalar.andi v155 c31_i32
  let v250 : BitVec 32 := Scalar.shli c1_i32_97 v235
  let c1_i32_98 : BitVec 32 := 1#32
  let v251 : BitVec 32 := Scalar.subi v250 c1_i32_98
  let v252 : BitVec 32 := Scalar.andi v244 v251
  let c1_i32_99 : BitVec 32 := 1#32
  let v253 : BitVec 32 := Scalar.shrsi v252 c1_i32_99
  let c1431655765_i32_100 : BitVec 32 := 1431655765#32
  let v254 : BitVec 32 := Scalar.andi v253 c1431655765_i32_100
  let v255 : BitVec 32 := Scalar.subi v252 v254
  let c858993459_i32_101 : BitVec 32 := 858993459#32
  let v256 : BitVec 32 := Scalar.andi v255 c858993459_i32_101
  let c2_i32_102 : BitVec 32 := 2#32
  let v257 : BitVec 32 := Scalar.shrsi v255 c2_i32_102
  let c858993459_i32_103 : BitVec 32 := 858993459#32
  let v258 : BitVec 32 := Scalar.andi v257 c858993459_i32_103
  let v259 : BitVec 32 := Scalar.addi v256 v258
  let c4_i32_104 : BitVec 32 := 4#32
  let v260 : BitVec 32 := Scalar.shrsi v259 c4_i32_104
  let v261 : BitVec 32 := Scalar.addi v259 v260
  let c252645135_i32_105 : BitVec 32 := 252645135#32
  let v262 : BitVec 32 := Scalar.andi v261 c252645135_i32_105
  let c16843009_i32_106 : BitVec 32 := 16843009#32
  let v263 : BitVec 32 := Scalar.muli v262 c16843009_i32_106
  let c24_i32_107 : BitVec 32 := 24#32
  let v264 : BitVec 32 := Scalar.shrsi v263 c24_i32_107
  let v266 : BitVec 32 := Scalar.addi v265 v264
  let c7_i32_109 : BitVec 32 := 7#32
  let v270 : BitVec 32 := Scalar.shrsi v266 c7_i32_109
  let v272 : Index := Scalar.indexCast v270
  let c0_111 : Index := 0#32
  ![v272.toNat, 0]
def k0_cond2 (v155 : BitVec 32) (v244 : BitVec 32) (v265 : BitVec 32) : BitVec 1 :=
  let c1_i32_97 : BitVec 32 := 1#32
  let c31_i32 : BitVec 32 := 31#32
  let v235 : BitVec 32 := Scalar.andi v155 c31_i32
  let v250 : BitVec 32 := Scalar.shli c1_i32_97 v235
  let c1_i32_98 : BitVec 32 := 1#32
  let v251 : BitVec 32 := Scalar.subi v250 c1_i32_98
  let v252 : BitVec 32 := Scalar.andi v244 v251
  let c1_i32_99 : BitVec 32 := 1#32
  let v253 : BitVec 32 := Scalar.shrsi v252 c1_i32_99
  let c1431655765_i32_100 : BitVec 32 := 1431655765#32
  let v254 : BitVec 32 := Scalar.andi v253 c1431655765_i32_100
  let v255 : BitVec 32 := Scalar.subi v252 v254
  let c858993459_i32_101 : BitVec 32 := 858993459#32
  let v256 : BitVec 32 := Scalar.andi v255 c858993459_i32_101
  let c2_i32_102 : BitVec 32 := 2#32
  let v257 : BitVec 32 := Scalar.shrsi v255 c2_i32_102
  let c858993459_i32_103 : BitVec 32 := 858993459#32
  let v258 : BitVec 32 := Scalar.andi v257 c858993459_i32_103
  let v259 : BitVec 32 := Scalar.addi v256 v258
  let c4_i32_104 : BitVec 32 := 4#32
  let v260 : BitVec 32 := Scalar.shrsi v259 c4_i32_104
  let v261 : BitVec 32 := Scalar.addi v259 v260
  let c252645135_i32_105 : BitVec 32 := 252645135#32
  let v262 : BitVec 32 := Scalar.andi v261 c252645135_i32_105
  let c16843009_i32_106 : BitVec 32 := 16843009#32
  let v263 : BitVec 32 := Scalar.muli v262 c16843009_i32_106
  let c24_i32_107 : BitVec 32 := 24#32
  let v264 : BitVec 32 := Scalar.shrsi v263 c24_i32_107
  let v266 : BitVec 32 := Scalar.addi v265 v264
  let c120000_i32 : BitVec 32 := 120000#32
  let v267 : BitVec 1 := Scalar.cmpi .slt v266 c120000_i32
  let v268 : BitVec 32 := Scalar.extui v267
  let c0_i32_108 : BitVec 32 := 0#32
  let v269 : BitVec 1 := Scalar.cmpi .ne v268 c0_i32_108
  v269

def k0_chk18 (v155 : BitVec 32) (v244 : BitVec 32) (v265 : BitVec 32) : Prop :=
  (∀ (k0_h1 : k0_cond1 v155 = 1#1), ∀ (k0_h2 : k0_cond2 v155 v244 v265 = 1#1), ∀ a, (k0_off21 v155 v244 v265) a + S1x128.size a ≤ S939x128.size a)
theorem k0_off21_inb : ∀ (v155 : BitVec 32) (v244 : BitVec 32) (v265 : BitVec 32) (k0_hw18 : k0_chk18 v155 v244 v265), ∀ (k0_h1 : k0_cond1 v155 = 1#1), ∀ (k0_h2 : k0_cond2 v155 v244 v265 = 1#1), ∀ a, (k0_off21 v155 v244 v265) a + S1x128.size a ≤ S939x128.size a := fun v155 v244 v265 k0_hw18 k0_h1 k0_h2 => k0_hw18 k0_h1 k0_h2

def k0_off22 (v155 : BitVec 32) (v244 : BitVec 32) (v265 : BitVec 32) (v279 : BitVec 32) : Fin 2 → Nat :=
  let c1_i32_97 : BitVec 32 := 1#32
  let c31_i32 : BitVec 32 := 31#32
  let v235 : BitVec 32 := Scalar.andi v155 c31_i32
  let v250 : BitVec 32 := Scalar.shli c1_i32_97 v235
  let c1_i32_98 : BitVec 32 := 1#32
  let v251 : BitVec 32 := Scalar.subi v250 c1_i32_98
  let v252 : BitVec 32 := Scalar.andi v244 v251
  let c1_i32_99 : BitVec 32 := 1#32
  let v253 : BitVec 32 := Scalar.shrsi v252 c1_i32_99
  let c1431655765_i32_100 : BitVec 32 := 1431655765#32
  let v254 : BitVec 32 := Scalar.andi v253 c1431655765_i32_100
  let v255 : BitVec 32 := Scalar.subi v252 v254
  let c858993459_i32_101 : BitVec 32 := 858993459#32
  let v256 : BitVec 32 := Scalar.andi v255 c858993459_i32_101
  let c2_i32_102 : BitVec 32 := 2#32
  let v257 : BitVec 32 := Scalar.shrsi v255 c2_i32_102
  let c858993459_i32_103 : BitVec 32 := 858993459#32
  let v258 : BitVec 32 := Scalar.andi v257 c858993459_i32_103
  let v259 : BitVec 32 := Scalar.addi v256 v258
  let c4_i32_104 : BitVec 32 := 4#32
  let v260 : BitVec 32 := Scalar.shrsi v259 c4_i32_104
  let v261 : BitVec 32 := Scalar.addi v259 v260
  let c252645135_i32_105 : BitVec 32 := 252645135#32
  let v262 : BitVec 32 := Scalar.andi v261 c252645135_i32_105
  let c16843009_i32_106 : BitVec 32 := 16843009#32
  let v263 : BitVec 32 := Scalar.muli v262 c16843009_i32_106
  let c24_i32_107 : BitVec 32 := 24#32
  let v264 : BitVec 32 := Scalar.shrsi v263 c24_i32_107
  let v266 : BitVec 32 := Scalar.addi v265 v264
  let c10_i32_115 : BitVec 32 := 10#32
  let v283 : BitVec 32 := Scalar.muli v266 c10_i32_115
  let v284 : BitVec 32 := Scalar.addi v283 v279
  let c5_i32_116 : BitVec 32 := 5#32
  let v285 : BitVec 32 := Scalar.muli v284 c5_i32_116
  let c7_i32_117 : BitVec 32 := 7#32
  let v286 : BitVec 32 := Scalar.shrsi v285 c7_i32_117
  let v288 : Index := Scalar.indexCast v286
  let c0_119 : Index := 0#32
  ![v288.toNat, 0]
def k0_cond3 (v279 : BitVec 32) : BitVec 1 :=
  let c10_i32 : BitVec 32 := 10#32
  let v280 : BitVec 1 := Scalar.cmpi .slt v279 c10_i32
  let v281 : BitVec 32 := Scalar.extui v280
  let c0_i32_114 : BitVec 32 := 0#32
  let v282 : BitVec 1 := Scalar.cmpi .ne v281 c0_i32_114
  v282

def k0_off23 (v155 : BitVec 32) (v244 : BitVec 32) (v265 : BitVec 32) : Fin 2 → Nat :=
  let c1_i32_97 : BitVec 32 := 1#32
  let c31_i32 : BitVec 32 := 31#32
  let v235 : BitVec 32 := Scalar.andi v155 c31_i32
  let v250 : BitVec 32 := Scalar.shli c1_i32_97 v235
  let c1_i32_98 : BitVec 32 := 1#32
  let v251 : BitVec 32 := Scalar.subi v250 c1_i32_98
  let v252 : BitVec 32 := Scalar.andi v244 v251
  let c1_i32_99 : BitVec 32 := 1#32
  let v253 : BitVec 32 := Scalar.shrsi v252 c1_i32_99
  let c1431655765_i32_100 : BitVec 32 := 1431655765#32
  let v254 : BitVec 32 := Scalar.andi v253 c1431655765_i32_100
  let v255 : BitVec 32 := Scalar.subi v252 v254
  let c858993459_i32_101 : BitVec 32 := 858993459#32
  let v256 : BitVec 32 := Scalar.andi v255 c858993459_i32_101
  let c2_i32_102 : BitVec 32 := 2#32
  let v257 : BitVec 32 := Scalar.shrsi v255 c2_i32_102
  let c858993459_i32_103 : BitVec 32 := 858993459#32
  let v258 : BitVec 32 := Scalar.andi v257 c858993459_i32_103
  let v259 : BitVec 32 := Scalar.addi v256 v258
  let c4_i32_104 : BitVec 32 := 4#32
  let v260 : BitVec 32 := Scalar.shrsi v259 c4_i32_104
  let v261 : BitVec 32 := Scalar.addi v259 v260
  let c252645135_i32_105 : BitVec 32 := 252645135#32
  let v262 : BitVec 32 := Scalar.andi v261 c252645135_i32_105
  let c16843009_i32_106 : BitVec 32 := 16843009#32
  let v263 : BitVec 32 := Scalar.muli v262 c16843009_i32_106
  let c24_i32_107 : BitVec 32 := 24#32
  let v264 : BitVec 32 := Scalar.shrsi v263 c24_i32_107
  let v266 : BitVec 32 := Scalar.addi v265 v264
  let c3_i32_125 : BitVec 32 := 3#32
  let v329 : BitVec 32 := Scalar.muli v266 c3_i32_125
  let c7_i32_126 : BitVec 32 := 7#32
  let v330 : BitVec 32 := Scalar.shrsi v329 c7_i32_126
  let v332 : Index := Scalar.indexCast v330
  let c0_128 : Index := 0#32
  ![v332.toNat, 0]
def k0_off24 (v155 : BitVec 32) (v244 : BitVec 32) (v265 : BitVec 32) : Fin 2 → Nat :=
  let c1_i32_97 : BitVec 32 := 1#32
  let c31_i32 : BitVec 32 := 31#32
  let v235 : BitVec 32 := Scalar.andi v155 c31_i32
  let v250 : BitVec 32 := Scalar.shli c1_i32_97 v235
  let c1_i32_98 : BitVec 32 := 1#32
  let v251 : BitVec 32 := Scalar.subi v250 c1_i32_98
  let v252 : BitVec 32 := Scalar.andi v244 v251
  let c1_i32_99 : BitVec 32 := 1#32
  let v253 : BitVec 32 := Scalar.shrsi v252 c1_i32_99
  let c1431655765_i32_100 : BitVec 32 := 1431655765#32
  let v254 : BitVec 32 := Scalar.andi v253 c1431655765_i32_100
  let v255 : BitVec 32 := Scalar.subi v252 v254
  let c858993459_i32_101 : BitVec 32 := 858993459#32
  let v256 : BitVec 32 := Scalar.andi v255 c858993459_i32_101
  let c2_i32_102 : BitVec 32 := 2#32
  let v257 : BitVec 32 := Scalar.shrsi v255 c2_i32_102
  let c858993459_i32_103 : BitVec 32 := 858993459#32
  let v258 : BitVec 32 := Scalar.andi v257 c858993459_i32_103
  let v259 : BitVec 32 := Scalar.addi v256 v258
  let c4_i32_104 : BitVec 32 := 4#32
  let v260 : BitVec 32 := Scalar.shrsi v259 c4_i32_104
  let v261 : BitVec 32 := Scalar.addi v259 v260
  let c252645135_i32_105 : BitVec 32 := 252645135#32
  let v262 : BitVec 32 := Scalar.andi v261 c252645135_i32_105
  let c16843009_i32_106 : BitVec 32 := 16843009#32
  let v263 : BitVec 32 := Scalar.muli v262 c16843009_i32_106
  let c24_i32_107 : BitVec 32 := 24#32
  let v264 : BitVec 32 := Scalar.shrsi v263 c24_i32_107
  let v266 : BitVec 32 := Scalar.addi v265 v264
  let c7_i32_109 : BitVec 32 := 7#32
  let v270 : BitVec 32 := Scalar.shrsi v266 c7_i32_109
  let v360 : Index := Scalar.indexCast v270
  let c0_136 : Index := 0#32
  ![v360.toNat, 0]

def k0_chk19 (v155 : BitVec 32) (v244 : BitVec 32) (v265 : BitVec 32) (v279 : BitVec 32) : Prop :=
  (∀ (k0_h1 : k0_cond1 v155 = 1#1), ∀ (k0_h2 : k0_cond2 v155 v244 v265 = 1#1), ∀ (k0_h3 : k0_cond3 v279 = 1#1), ∀ a, (k0_off22 v155 v244 v265 v279) a + S2x128.size a ≤ S46876x128.size a) ∧
  (∀ (k0_h1 : k0_cond1 v155 = 1#1), ∀ (k0_h2 : k0_cond2 v155 v244 v265 = 1#1), ∀ (k0_h3 : k0_cond3 v279 = 1#1), ∀ a, (k0_off23 v155 v244 v265) a + S2x128.size a ≤ S2814x128.size a) ∧
  (∀ (k0_h1 : k0_cond1 v155 = 1#1), ∀ (k0_h2 : k0_cond2 v155 v244 v265 = 1#1), ∀ (k0_h3 : k0_cond3 v279 = 1#1), ∀ a, (k0_off24 v155 v244 v265) a + S1x128.size a ≤ S939x128.size a)
theorem k0_off22_inb : ∀ (v155 : BitVec 32) (v244 : BitVec 32) (v265 : BitVec 32) (v279 : BitVec 32) (k0_hw19 : k0_chk19 v155 v244 v265 v279), ∀ (k0_h1 : k0_cond1 v155 = 1#1), ∀ (k0_h2 : k0_cond2 v155 v244 v265 = 1#1), ∀ (k0_h3 : k0_cond3 v279 = 1#1), ∀ a, (k0_off22 v155 v244 v265 v279) a + S2x128.size a ≤ S46876x128.size a := fun v155 v244 v265 v279 k0_hw19 k0_h1 k0_h2 k0_h3 => k0_hw19.1 k0_h1 k0_h2 k0_h3
theorem k0_off23_inb : ∀ (v155 : BitVec 32) (v244 : BitVec 32) (v265 : BitVec 32) (v279 : BitVec 32) (k0_hw19 : k0_chk19 v155 v244 v265 v279), ∀ (k0_h1 : k0_cond1 v155 = 1#1), ∀ (k0_h2 : k0_cond2 v155 v244 v265 = 1#1), ∀ (k0_h3 : k0_cond3 v279 = 1#1), ∀ a, (k0_off23 v155 v244 v265) a + S2x128.size a ≤ S2814x128.size a := fun v155 v244 v265 v279 k0_hw19 k0_h1 k0_h2 k0_h3 => k0_hw19.2.1 k0_h1 k0_h2 k0_h3
theorem k0_off24_inb : ∀ (v155 : BitVec 32) (v244 : BitVec 32) (v265 : BitVec 32) (v279 : BitVec 32) (k0_hw19 : k0_chk19 v155 v244 v265 v279), ∀ (k0_h1 : k0_cond1 v155 = 1#1), ∀ (k0_h2 : k0_cond2 v155 v244 v265 = 1#1), ∀ (k0_h3 : k0_cond3 v279 = 1#1), ∀ a, (k0_off24 v155 v244 v265) a + S1x128.size a ≤ S939x128.size a := fun v155 v244 v265 v279 k0_hw19 k0_h1 k0_h2 k0_h3 => k0_hw19.2.2 k0_h1 k0_h2 k0_h3

def k0_off25 (v160 : BitVec 32) : Fin 2 → Nat :=
  let c5_i32 : BitVec 32 := 5#32
  let v234 : BitVec 32 := Scalar.shrsi v160 c5_i32
  let c7_i32_91 : BitVec 32 := 7#32
  let v236 : BitVec 32 := Scalar.shrsi v234 c7_i32_91
  let v240 : Index := Scalar.indexCast v236
  let c0_95 : Index := 0#32
  ![v240.toNat, 0]
def k0_cond4 (v160 : BitVec 32) : BitVec 1 :=
  let c46656000_i32_61 : BitVec 32 := 46656000#32
  let v161 : BitVec 1 := Scalar.cmpi .slt v160 c46656000_i32_61
  let v162 : BitVec 32 := Scalar.extui v161
  let c0_i32_62 : BitVec 32 := 0#32
  let v163 : BitVec 1 := Scalar.cmpi .ne v162 c0_i32_62
  v163

def k0_chk20 (v160 : BitVec 32) : Prop :=
  (∀ (k0_h4 : k0_cond4 v160 = 1#1), ∀ a, (k0_off25 v160) a + S1x128.size a ≤ S11391x128.size a)
theorem k0_off25_inb : ∀ (v160 : BitVec 32) (k0_hw20 : k0_chk20 v160), ∀ (k0_h4 : k0_cond4 v160 = 1#1), ∀ a, (k0_off25 v160) a + S1x128.size a ≤ S11391x128.size a := fun v160 k0_hw20 k0_h4 => k0_hw20 k0_h4

def k0_off26 (v160 : BitVec 32) (v244 : BitVec 32) (v265 : BitVec 32) : Fin 2 → Nat :=
  let c1_i32_97 : BitVec 32 := 1#32
  let c31_i32 : BitVec 32 := 31#32
  let v235 : BitVec 32 := Scalar.andi v160 c31_i32
  let v250 : BitVec 32 := Scalar.shli c1_i32_97 v235
  let c1_i32_98 : BitVec 32 := 1#32
  let v251 : BitVec 32 := Scalar.subi v250 c1_i32_98
  let v252 : BitVec 32 := Scalar.andi v244 v251
  let c1_i32_99 : BitVec 32 := 1#32
  let v253 : BitVec 32 := Scalar.shrsi v252 c1_i32_99
  let c1431655765_i32_100 : BitVec 32 := 1431655765#32
  let v254 : BitVec 32 := Scalar.andi v253 c1431655765_i32_100
  let v255 : BitVec 32 := Scalar.subi v252 v254
  let c858993459_i32_101 : BitVec 32 := 858993459#32
  let v256 : BitVec 32 := Scalar.andi v255 c858993459_i32_101
  let c2_i32_102 : BitVec 32 := 2#32
  let v257 : BitVec 32 := Scalar.shrsi v255 c2_i32_102
  let c858993459_i32_103 : BitVec 32 := 858993459#32
  let v258 : BitVec 32 := Scalar.andi v257 c858993459_i32_103
  let v259 : BitVec 32 := Scalar.addi v256 v258
  let c4_i32_104 : BitVec 32 := 4#32
  let v260 : BitVec 32 := Scalar.shrsi v259 c4_i32_104
  let v261 : BitVec 32 := Scalar.addi v259 v260
  let c252645135_i32_105 : BitVec 32 := 252645135#32
  let v262 : BitVec 32 := Scalar.andi v261 c252645135_i32_105
  let c16843009_i32_106 : BitVec 32 := 16843009#32
  let v263 : BitVec 32 := Scalar.muli v262 c16843009_i32_106
  let c24_i32_107 : BitVec 32 := 24#32
  let v264 : BitVec 32 := Scalar.shrsi v263 c24_i32_107
  let v266 : BitVec 32 := Scalar.addi v265 v264
  let c7_i32_109 : BitVec 32 := 7#32
  let v270 : BitVec 32 := Scalar.shrsi v266 c7_i32_109
  let v272 : Index := Scalar.indexCast v270
  let c0_111 : Index := 0#32
  ![v272.toNat, 0]
def k0_cond5 (v160 : BitVec 32) (v244 : BitVec 32) (v265 : BitVec 32) : BitVec 1 :=
  let c1_i32_97 : BitVec 32 := 1#32
  let c31_i32 : BitVec 32 := 31#32
  let v235 : BitVec 32 := Scalar.andi v160 c31_i32
  let v250 : BitVec 32 := Scalar.shli c1_i32_97 v235
  let c1_i32_98 : BitVec 32 := 1#32
  let v251 : BitVec 32 := Scalar.subi v250 c1_i32_98
  let v252 : BitVec 32 := Scalar.andi v244 v251
  let c1_i32_99 : BitVec 32 := 1#32
  let v253 : BitVec 32 := Scalar.shrsi v252 c1_i32_99
  let c1431655765_i32_100 : BitVec 32 := 1431655765#32
  let v254 : BitVec 32 := Scalar.andi v253 c1431655765_i32_100
  let v255 : BitVec 32 := Scalar.subi v252 v254
  let c858993459_i32_101 : BitVec 32 := 858993459#32
  let v256 : BitVec 32 := Scalar.andi v255 c858993459_i32_101
  let c2_i32_102 : BitVec 32 := 2#32
  let v257 : BitVec 32 := Scalar.shrsi v255 c2_i32_102
  let c858993459_i32_103 : BitVec 32 := 858993459#32
  let v258 : BitVec 32 := Scalar.andi v257 c858993459_i32_103
  let v259 : BitVec 32 := Scalar.addi v256 v258
  let c4_i32_104 : BitVec 32 := 4#32
  let v260 : BitVec 32 := Scalar.shrsi v259 c4_i32_104
  let v261 : BitVec 32 := Scalar.addi v259 v260
  let c252645135_i32_105 : BitVec 32 := 252645135#32
  let v262 : BitVec 32 := Scalar.andi v261 c252645135_i32_105
  let c16843009_i32_106 : BitVec 32 := 16843009#32
  let v263 : BitVec 32 := Scalar.muli v262 c16843009_i32_106
  let c24_i32_107 : BitVec 32 := 24#32
  let v264 : BitVec 32 := Scalar.shrsi v263 c24_i32_107
  let v266 : BitVec 32 := Scalar.addi v265 v264
  let c120000_i32 : BitVec 32 := 120000#32
  let v267 : BitVec 1 := Scalar.cmpi .slt v266 c120000_i32
  let v268 : BitVec 32 := Scalar.extui v267
  let c0_i32_108 : BitVec 32 := 0#32
  let v269 : BitVec 1 := Scalar.cmpi .ne v268 c0_i32_108
  v269

def k0_chk21 (v160 : BitVec 32) (v244 : BitVec 32) (v265 : BitVec 32) : Prop :=
  (∀ (k0_h4 : k0_cond4 v160 = 1#1), ∀ (k0_h5 : k0_cond5 v160 v244 v265 = 1#1), ∀ a, (k0_off26 v160 v244 v265) a + S1x128.size a ≤ S939x128.size a)
theorem k0_off26_inb : ∀ (v160 : BitVec 32) (v244 : BitVec 32) (v265 : BitVec 32) (k0_hw21 : k0_chk21 v160 v244 v265), ∀ (k0_h4 : k0_cond4 v160 = 1#1), ∀ (k0_h5 : k0_cond5 v160 v244 v265 = 1#1), ∀ a, (k0_off26 v160 v244 v265) a + S1x128.size a ≤ S939x128.size a := fun v160 v244 v265 k0_hw21 k0_h4 k0_h5 => k0_hw21 k0_h4 k0_h5

def k0_off27 (v160 : BitVec 32) (v244 : BitVec 32) (v265 : BitVec 32) (v279 : BitVec 32) : Fin 2 → Nat :=
  let c1_i32_97 : BitVec 32 := 1#32
  let c31_i32 : BitVec 32 := 31#32
  let v235 : BitVec 32 := Scalar.andi v160 c31_i32
  let v250 : BitVec 32 := Scalar.shli c1_i32_97 v235
  let c1_i32_98 : BitVec 32 := 1#32
  let v251 : BitVec 32 := Scalar.subi v250 c1_i32_98
  let v252 : BitVec 32 := Scalar.andi v244 v251
  let c1_i32_99 : BitVec 32 := 1#32
  let v253 : BitVec 32 := Scalar.shrsi v252 c1_i32_99
  let c1431655765_i32_100 : BitVec 32 := 1431655765#32
  let v254 : BitVec 32 := Scalar.andi v253 c1431655765_i32_100
  let v255 : BitVec 32 := Scalar.subi v252 v254
  let c858993459_i32_101 : BitVec 32 := 858993459#32
  let v256 : BitVec 32 := Scalar.andi v255 c858993459_i32_101
  let c2_i32_102 : BitVec 32 := 2#32
  let v257 : BitVec 32 := Scalar.shrsi v255 c2_i32_102
  let c858993459_i32_103 : BitVec 32 := 858993459#32
  let v258 : BitVec 32 := Scalar.andi v257 c858993459_i32_103
  let v259 : BitVec 32 := Scalar.addi v256 v258
  let c4_i32_104 : BitVec 32 := 4#32
  let v260 : BitVec 32 := Scalar.shrsi v259 c4_i32_104
  let v261 : BitVec 32 := Scalar.addi v259 v260
  let c252645135_i32_105 : BitVec 32 := 252645135#32
  let v262 : BitVec 32 := Scalar.andi v261 c252645135_i32_105
  let c16843009_i32_106 : BitVec 32 := 16843009#32
  let v263 : BitVec 32 := Scalar.muli v262 c16843009_i32_106
  let c24_i32_107 : BitVec 32 := 24#32
  let v264 : BitVec 32 := Scalar.shrsi v263 c24_i32_107
  let v266 : BitVec 32 := Scalar.addi v265 v264
  let c10_i32_115 : BitVec 32 := 10#32
  let v283 : BitVec 32 := Scalar.muli v266 c10_i32_115
  let v284 : BitVec 32 := Scalar.addi v283 v279
  let c5_i32_116 : BitVec 32 := 5#32
  let v285 : BitVec 32 := Scalar.muli v284 c5_i32_116
  let c7_i32_117 : BitVec 32 := 7#32
  let v286 : BitVec 32 := Scalar.shrsi v285 c7_i32_117
  let v288 : Index := Scalar.indexCast v286
  let c0_119 : Index := 0#32
  ![v288.toNat, 0]
def k0_cond6 (v279 : BitVec 32) : BitVec 1 :=
  let c10_i32 : BitVec 32 := 10#32
  let v280 : BitVec 1 := Scalar.cmpi .slt v279 c10_i32
  let v281 : BitVec 32 := Scalar.extui v280
  let c0_i32_114 : BitVec 32 := 0#32
  let v282 : BitVec 1 := Scalar.cmpi .ne v281 c0_i32_114
  v282

def k0_off28 (v160 : BitVec 32) (v244 : BitVec 32) (v265 : BitVec 32) : Fin 2 → Nat :=
  let c1_i32_97 : BitVec 32 := 1#32
  let c31_i32 : BitVec 32 := 31#32
  let v235 : BitVec 32 := Scalar.andi v160 c31_i32
  let v250 : BitVec 32 := Scalar.shli c1_i32_97 v235
  let c1_i32_98 : BitVec 32 := 1#32
  let v251 : BitVec 32 := Scalar.subi v250 c1_i32_98
  let v252 : BitVec 32 := Scalar.andi v244 v251
  let c1_i32_99 : BitVec 32 := 1#32
  let v253 : BitVec 32 := Scalar.shrsi v252 c1_i32_99
  let c1431655765_i32_100 : BitVec 32 := 1431655765#32
  let v254 : BitVec 32 := Scalar.andi v253 c1431655765_i32_100
  let v255 : BitVec 32 := Scalar.subi v252 v254
  let c858993459_i32_101 : BitVec 32 := 858993459#32
  let v256 : BitVec 32 := Scalar.andi v255 c858993459_i32_101
  let c2_i32_102 : BitVec 32 := 2#32
  let v257 : BitVec 32 := Scalar.shrsi v255 c2_i32_102
  let c858993459_i32_103 : BitVec 32 := 858993459#32
  let v258 : BitVec 32 := Scalar.andi v257 c858993459_i32_103
  let v259 : BitVec 32 := Scalar.addi v256 v258
  let c4_i32_104 : BitVec 32 := 4#32
  let v260 : BitVec 32 := Scalar.shrsi v259 c4_i32_104
  let v261 : BitVec 32 := Scalar.addi v259 v260
  let c252645135_i32_105 : BitVec 32 := 252645135#32
  let v262 : BitVec 32 := Scalar.andi v261 c252645135_i32_105
  let c16843009_i32_106 : BitVec 32 := 16843009#32
  let v263 : BitVec 32 := Scalar.muli v262 c16843009_i32_106
  let c24_i32_107 : BitVec 32 := 24#32
  let v264 : BitVec 32 := Scalar.shrsi v263 c24_i32_107
  let v266 : BitVec 32 := Scalar.addi v265 v264
  let c3_i32_125 : BitVec 32 := 3#32
  let v329 : BitVec 32 := Scalar.muli v266 c3_i32_125
  let c7_i32_126 : BitVec 32 := 7#32
  let v330 : BitVec 32 := Scalar.shrsi v329 c7_i32_126
  let v332 : Index := Scalar.indexCast v330
  let c0_128 : Index := 0#32
  ![v332.toNat, 0]
def k0_off29 (v160 : BitVec 32) (v244 : BitVec 32) (v265 : BitVec 32) : Fin 2 → Nat :=
  let c1_i32_97 : BitVec 32 := 1#32
  let c31_i32 : BitVec 32 := 31#32
  let v235 : BitVec 32 := Scalar.andi v160 c31_i32
  let v250 : BitVec 32 := Scalar.shli c1_i32_97 v235
  let c1_i32_98 : BitVec 32 := 1#32
  let v251 : BitVec 32 := Scalar.subi v250 c1_i32_98
  let v252 : BitVec 32 := Scalar.andi v244 v251
  let c1_i32_99 : BitVec 32 := 1#32
  let v253 : BitVec 32 := Scalar.shrsi v252 c1_i32_99
  let c1431655765_i32_100 : BitVec 32 := 1431655765#32
  let v254 : BitVec 32 := Scalar.andi v253 c1431655765_i32_100
  let v255 : BitVec 32 := Scalar.subi v252 v254
  let c858993459_i32_101 : BitVec 32 := 858993459#32
  let v256 : BitVec 32 := Scalar.andi v255 c858993459_i32_101
  let c2_i32_102 : BitVec 32 := 2#32
  let v257 : BitVec 32 := Scalar.shrsi v255 c2_i32_102
  let c858993459_i32_103 : BitVec 32 := 858993459#32
  let v258 : BitVec 32 := Scalar.andi v257 c858993459_i32_103
  let v259 : BitVec 32 := Scalar.addi v256 v258
  let c4_i32_104 : BitVec 32 := 4#32
  let v260 : BitVec 32 := Scalar.shrsi v259 c4_i32_104
  let v261 : BitVec 32 := Scalar.addi v259 v260
  let c252645135_i32_105 : BitVec 32 := 252645135#32
  let v262 : BitVec 32 := Scalar.andi v261 c252645135_i32_105
  let c16843009_i32_106 : BitVec 32 := 16843009#32
  let v263 : BitVec 32 := Scalar.muli v262 c16843009_i32_106
  let c24_i32_107 : BitVec 32 := 24#32
  let v264 : BitVec 32 := Scalar.shrsi v263 c24_i32_107
  let v266 : BitVec 32 := Scalar.addi v265 v264
  let c7_i32_109 : BitVec 32 := 7#32
  let v270 : BitVec 32 := Scalar.shrsi v266 c7_i32_109
  let v360 : Index := Scalar.indexCast v270
  let c0_136 : Index := 0#32
  ![v360.toNat, 0]

def k0_chk22 (v160 : BitVec 32) (v244 : BitVec 32) (v265 : BitVec 32) (v279 : BitVec 32) : Prop :=
  (∀ (k0_h4 : k0_cond4 v160 = 1#1), ∀ (k0_h5 : k0_cond5 v160 v244 v265 = 1#1), ∀ (k0_h6 : k0_cond6 v279 = 1#1), ∀ a, (k0_off27 v160 v244 v265 v279) a + S2x128.size a ≤ S46876x128.size a) ∧
  (∀ (k0_h4 : k0_cond4 v160 = 1#1), ∀ (k0_h5 : k0_cond5 v160 v244 v265 = 1#1), ∀ (k0_h6 : k0_cond6 v279 = 1#1), ∀ a, (k0_off28 v160 v244 v265) a + S2x128.size a ≤ S2814x128.size a) ∧
  (∀ (k0_h4 : k0_cond4 v160 = 1#1), ∀ (k0_h5 : k0_cond5 v160 v244 v265 = 1#1), ∀ (k0_h6 : k0_cond6 v279 = 1#1), ∀ a, (k0_off29 v160 v244 v265) a + S1x128.size a ≤ S939x128.size a)
theorem k0_off27_inb : ∀ (v160 : BitVec 32) (v244 : BitVec 32) (v265 : BitVec 32) (v279 : BitVec 32) (k0_hw22 : k0_chk22 v160 v244 v265 v279), ∀ (k0_h4 : k0_cond4 v160 = 1#1), ∀ (k0_h5 : k0_cond5 v160 v244 v265 = 1#1), ∀ (k0_h6 : k0_cond6 v279 = 1#1), ∀ a, (k0_off27 v160 v244 v265 v279) a + S2x128.size a ≤ S46876x128.size a := fun v160 v244 v265 v279 k0_hw22 k0_h4 k0_h5 k0_h6 => k0_hw22.1 k0_h4 k0_h5 k0_h6
theorem k0_off28_inb : ∀ (v160 : BitVec 32) (v244 : BitVec 32) (v265 : BitVec 32) (v279 : BitVec 32) (k0_hw22 : k0_chk22 v160 v244 v265 v279), ∀ (k0_h4 : k0_cond4 v160 = 1#1), ∀ (k0_h5 : k0_cond5 v160 v244 v265 = 1#1), ∀ (k0_h6 : k0_cond6 v279 = 1#1), ∀ a, (k0_off28 v160 v244 v265) a + S2x128.size a ≤ S2814x128.size a := fun v160 v244 v265 v279 k0_hw22 k0_h4 k0_h5 k0_h6 => k0_hw22.2.1 k0_h4 k0_h5 k0_h6
theorem k0_off29_inb : ∀ (v160 : BitVec 32) (v244 : BitVec 32) (v265 : BitVec 32) (v279 : BitVec 32) (k0_hw22 : k0_chk22 v160 v244 v265 v279), ∀ (k0_h4 : k0_cond4 v160 = 1#1), ∀ (k0_h5 : k0_cond5 v160 v244 v265 = 1#1), ∀ (k0_h6 : k0_cond6 v279 = 1#1), ∀ a, (k0_off29 v160 v244 v265) a + S1x128.size a ≤ S939x128.size a := fun v160 v244 v265 v279 k0_hw22 k0_h4 k0_h5 k0_h6 => k0_hw22.2.2 k0_h4 k0_h5 k0_h6

def k0_off30 (v165 : BitVec 32) : Fin 2 → Nat :=
  let c5_i32 : BitVec 32 := 5#32
  let v234 : BitVec 32 := Scalar.shrsi v165 c5_i32
  let c7_i32_91 : BitVec 32 := 7#32
  let v236 : BitVec 32 := Scalar.shrsi v234 c7_i32_91
  let v240 : Index := Scalar.indexCast v236
  let c0_95 : Index := 0#32
  ![v240.toNat, 0]
def k0_cond7 (v165 : BitVec 32) : BitVec 1 :=
  let c46656000_i32_63 : BitVec 32 := 46656000#32
  let v166 : BitVec 1 := Scalar.cmpi .slt v165 c46656000_i32_63
  let v167 : BitVec 32 := Scalar.extui v166
  let c0_i32_64 : BitVec 32 := 0#32
  let v168 : BitVec 1 := Scalar.cmpi .ne v167 c0_i32_64
  v168

def k0_chk23 (v165 : BitVec 32) : Prop :=
  (∀ (k0_h7 : k0_cond7 v165 = 1#1), ∀ a, (k0_off30 v165) a + S1x128.size a ≤ S11391x128.size a)
theorem k0_off30_inb : ∀ (v165 : BitVec 32) (k0_hw23 : k0_chk23 v165), ∀ (k0_h7 : k0_cond7 v165 = 1#1), ∀ a, (k0_off30 v165) a + S1x128.size a ≤ S11391x128.size a := fun v165 k0_hw23 k0_h7 => k0_hw23 k0_h7

def k0_off31 (v165 : BitVec 32) (v244 : BitVec 32) (v265 : BitVec 32) : Fin 2 → Nat :=
  let c1_i32_97 : BitVec 32 := 1#32
  let c31_i32 : BitVec 32 := 31#32
  let v235 : BitVec 32 := Scalar.andi v165 c31_i32
  let v250 : BitVec 32 := Scalar.shli c1_i32_97 v235
  let c1_i32_98 : BitVec 32 := 1#32
  let v251 : BitVec 32 := Scalar.subi v250 c1_i32_98
  let v252 : BitVec 32 := Scalar.andi v244 v251
  let c1_i32_99 : BitVec 32 := 1#32
  let v253 : BitVec 32 := Scalar.shrsi v252 c1_i32_99
  let c1431655765_i32_100 : BitVec 32 := 1431655765#32
  let v254 : BitVec 32 := Scalar.andi v253 c1431655765_i32_100
  let v255 : BitVec 32 := Scalar.subi v252 v254
  let c858993459_i32_101 : BitVec 32 := 858993459#32
  let v256 : BitVec 32 := Scalar.andi v255 c858993459_i32_101
  let c2_i32_102 : BitVec 32 := 2#32
  let v257 : BitVec 32 := Scalar.shrsi v255 c2_i32_102
  let c858993459_i32_103 : BitVec 32 := 858993459#32
  let v258 : BitVec 32 := Scalar.andi v257 c858993459_i32_103
  let v259 : BitVec 32 := Scalar.addi v256 v258
  let c4_i32_104 : BitVec 32 := 4#32
  let v260 : BitVec 32 := Scalar.shrsi v259 c4_i32_104
  let v261 : BitVec 32 := Scalar.addi v259 v260
  let c252645135_i32_105 : BitVec 32 := 252645135#32
  let v262 : BitVec 32 := Scalar.andi v261 c252645135_i32_105
  let c16843009_i32_106 : BitVec 32 := 16843009#32
  let v263 : BitVec 32 := Scalar.muli v262 c16843009_i32_106
  let c24_i32_107 : BitVec 32 := 24#32
  let v264 : BitVec 32 := Scalar.shrsi v263 c24_i32_107
  let v266 : BitVec 32 := Scalar.addi v265 v264
  let c7_i32_109 : BitVec 32 := 7#32
  let v270 : BitVec 32 := Scalar.shrsi v266 c7_i32_109
  let v272 : Index := Scalar.indexCast v270
  let c0_111 : Index := 0#32
  ![v272.toNat, 0]
def k0_cond8 (v165 : BitVec 32) (v244 : BitVec 32) (v265 : BitVec 32) : BitVec 1 :=
  let c1_i32_97 : BitVec 32 := 1#32
  let c31_i32 : BitVec 32 := 31#32
  let v235 : BitVec 32 := Scalar.andi v165 c31_i32
  let v250 : BitVec 32 := Scalar.shli c1_i32_97 v235
  let c1_i32_98 : BitVec 32 := 1#32
  let v251 : BitVec 32 := Scalar.subi v250 c1_i32_98
  let v252 : BitVec 32 := Scalar.andi v244 v251
  let c1_i32_99 : BitVec 32 := 1#32
  let v253 : BitVec 32 := Scalar.shrsi v252 c1_i32_99
  let c1431655765_i32_100 : BitVec 32 := 1431655765#32
  let v254 : BitVec 32 := Scalar.andi v253 c1431655765_i32_100
  let v255 : BitVec 32 := Scalar.subi v252 v254
  let c858993459_i32_101 : BitVec 32 := 858993459#32
  let v256 : BitVec 32 := Scalar.andi v255 c858993459_i32_101
  let c2_i32_102 : BitVec 32 := 2#32
  let v257 : BitVec 32 := Scalar.shrsi v255 c2_i32_102
  let c858993459_i32_103 : BitVec 32 := 858993459#32
  let v258 : BitVec 32 := Scalar.andi v257 c858993459_i32_103
  let v259 : BitVec 32 := Scalar.addi v256 v258
  let c4_i32_104 : BitVec 32 := 4#32
  let v260 : BitVec 32 := Scalar.shrsi v259 c4_i32_104
  let v261 : BitVec 32 := Scalar.addi v259 v260
  let c252645135_i32_105 : BitVec 32 := 252645135#32
  let v262 : BitVec 32 := Scalar.andi v261 c252645135_i32_105
  let c16843009_i32_106 : BitVec 32 := 16843009#32
  let v263 : BitVec 32 := Scalar.muli v262 c16843009_i32_106
  let c24_i32_107 : BitVec 32 := 24#32
  let v264 : BitVec 32 := Scalar.shrsi v263 c24_i32_107
  let v266 : BitVec 32 := Scalar.addi v265 v264
  let c120000_i32 : BitVec 32 := 120000#32
  let v267 : BitVec 1 := Scalar.cmpi .slt v266 c120000_i32
  let v268 : BitVec 32 := Scalar.extui v267
  let c0_i32_108 : BitVec 32 := 0#32
  let v269 : BitVec 1 := Scalar.cmpi .ne v268 c0_i32_108
  v269

def k0_chk24 (v165 : BitVec 32) (v244 : BitVec 32) (v265 : BitVec 32) : Prop :=
  (∀ (k0_h7 : k0_cond7 v165 = 1#1), ∀ (k0_h8 : k0_cond8 v165 v244 v265 = 1#1), ∀ a, (k0_off31 v165 v244 v265) a + S1x128.size a ≤ S939x128.size a)
theorem k0_off31_inb : ∀ (v165 : BitVec 32) (v244 : BitVec 32) (v265 : BitVec 32) (k0_hw24 : k0_chk24 v165 v244 v265), ∀ (k0_h7 : k0_cond7 v165 = 1#1), ∀ (k0_h8 : k0_cond8 v165 v244 v265 = 1#1), ∀ a, (k0_off31 v165 v244 v265) a + S1x128.size a ≤ S939x128.size a := fun v165 v244 v265 k0_hw24 k0_h7 k0_h8 => k0_hw24 k0_h7 k0_h8

def k0_off32 (v165 : BitVec 32) (v244 : BitVec 32) (v265 : BitVec 32) (v279 : BitVec 32) : Fin 2 → Nat :=
  let c1_i32_97 : BitVec 32 := 1#32
  let c31_i32 : BitVec 32 := 31#32
  let v235 : BitVec 32 := Scalar.andi v165 c31_i32
  let v250 : BitVec 32 := Scalar.shli c1_i32_97 v235
  let c1_i32_98 : BitVec 32 := 1#32
  let v251 : BitVec 32 := Scalar.subi v250 c1_i32_98
  let v252 : BitVec 32 := Scalar.andi v244 v251
  let c1_i32_99 : BitVec 32 := 1#32
  let v253 : BitVec 32 := Scalar.shrsi v252 c1_i32_99
  let c1431655765_i32_100 : BitVec 32 := 1431655765#32
  let v254 : BitVec 32 := Scalar.andi v253 c1431655765_i32_100
  let v255 : BitVec 32 := Scalar.subi v252 v254
  let c858993459_i32_101 : BitVec 32 := 858993459#32
  let v256 : BitVec 32 := Scalar.andi v255 c858993459_i32_101
  let c2_i32_102 : BitVec 32 := 2#32
  let v257 : BitVec 32 := Scalar.shrsi v255 c2_i32_102
  let c858993459_i32_103 : BitVec 32 := 858993459#32
  let v258 : BitVec 32 := Scalar.andi v257 c858993459_i32_103
  let v259 : BitVec 32 := Scalar.addi v256 v258
  let c4_i32_104 : BitVec 32 := 4#32
  let v260 : BitVec 32 := Scalar.shrsi v259 c4_i32_104
  let v261 : BitVec 32 := Scalar.addi v259 v260
  let c252645135_i32_105 : BitVec 32 := 252645135#32
  let v262 : BitVec 32 := Scalar.andi v261 c252645135_i32_105
  let c16843009_i32_106 : BitVec 32 := 16843009#32
  let v263 : BitVec 32 := Scalar.muli v262 c16843009_i32_106
  let c24_i32_107 : BitVec 32 := 24#32
  let v264 : BitVec 32 := Scalar.shrsi v263 c24_i32_107
  let v266 : BitVec 32 := Scalar.addi v265 v264
  let c10_i32_115 : BitVec 32 := 10#32
  let v283 : BitVec 32 := Scalar.muli v266 c10_i32_115
  let v284 : BitVec 32 := Scalar.addi v283 v279
  let c5_i32_116 : BitVec 32 := 5#32
  let v285 : BitVec 32 := Scalar.muli v284 c5_i32_116
  let c7_i32_117 : BitVec 32 := 7#32
  let v286 : BitVec 32 := Scalar.shrsi v285 c7_i32_117
  let v288 : Index := Scalar.indexCast v286
  let c0_119 : Index := 0#32
  ![v288.toNat, 0]
def k0_cond9 (v279 : BitVec 32) : BitVec 1 :=
  let c10_i32 : BitVec 32 := 10#32
  let v280 : BitVec 1 := Scalar.cmpi .slt v279 c10_i32
  let v281 : BitVec 32 := Scalar.extui v280
  let c0_i32_114 : BitVec 32 := 0#32
  let v282 : BitVec 1 := Scalar.cmpi .ne v281 c0_i32_114
  v282

def k0_off33 (v165 : BitVec 32) (v244 : BitVec 32) (v265 : BitVec 32) : Fin 2 → Nat :=
  let c1_i32_97 : BitVec 32 := 1#32
  let c31_i32 : BitVec 32 := 31#32
  let v235 : BitVec 32 := Scalar.andi v165 c31_i32
  let v250 : BitVec 32 := Scalar.shli c1_i32_97 v235
  let c1_i32_98 : BitVec 32 := 1#32
  let v251 : BitVec 32 := Scalar.subi v250 c1_i32_98
  let v252 : BitVec 32 := Scalar.andi v244 v251
  let c1_i32_99 : BitVec 32 := 1#32
  let v253 : BitVec 32 := Scalar.shrsi v252 c1_i32_99
  let c1431655765_i32_100 : BitVec 32 := 1431655765#32
  let v254 : BitVec 32 := Scalar.andi v253 c1431655765_i32_100
  let v255 : BitVec 32 := Scalar.subi v252 v254
  let c858993459_i32_101 : BitVec 32 := 858993459#32
  let v256 : BitVec 32 := Scalar.andi v255 c858993459_i32_101
  let c2_i32_102 : BitVec 32 := 2#32
  let v257 : BitVec 32 := Scalar.shrsi v255 c2_i32_102
  let c858993459_i32_103 : BitVec 32 := 858993459#32
  let v258 : BitVec 32 := Scalar.andi v257 c858993459_i32_103
  let v259 : BitVec 32 := Scalar.addi v256 v258
  let c4_i32_104 : BitVec 32 := 4#32
  let v260 : BitVec 32 := Scalar.shrsi v259 c4_i32_104
  let v261 : BitVec 32 := Scalar.addi v259 v260
  let c252645135_i32_105 : BitVec 32 := 252645135#32
  let v262 : BitVec 32 := Scalar.andi v261 c252645135_i32_105
  let c16843009_i32_106 : BitVec 32 := 16843009#32
  let v263 : BitVec 32 := Scalar.muli v262 c16843009_i32_106
  let c24_i32_107 : BitVec 32 := 24#32
  let v264 : BitVec 32 := Scalar.shrsi v263 c24_i32_107
  let v266 : BitVec 32 := Scalar.addi v265 v264
  let c3_i32_125 : BitVec 32 := 3#32
  let v329 : BitVec 32 := Scalar.muli v266 c3_i32_125
  let c7_i32_126 : BitVec 32 := 7#32
  let v330 : BitVec 32 := Scalar.shrsi v329 c7_i32_126
  let v332 : Index := Scalar.indexCast v330
  let c0_128 : Index := 0#32
  ![v332.toNat, 0]
def k0_off34 (v165 : BitVec 32) (v244 : BitVec 32) (v265 : BitVec 32) : Fin 2 → Nat :=
  let c1_i32_97 : BitVec 32 := 1#32
  let c31_i32 : BitVec 32 := 31#32
  let v235 : BitVec 32 := Scalar.andi v165 c31_i32
  let v250 : BitVec 32 := Scalar.shli c1_i32_97 v235
  let c1_i32_98 : BitVec 32 := 1#32
  let v251 : BitVec 32 := Scalar.subi v250 c1_i32_98
  let v252 : BitVec 32 := Scalar.andi v244 v251
  let c1_i32_99 : BitVec 32 := 1#32
  let v253 : BitVec 32 := Scalar.shrsi v252 c1_i32_99
  let c1431655765_i32_100 : BitVec 32 := 1431655765#32
  let v254 : BitVec 32 := Scalar.andi v253 c1431655765_i32_100
  let v255 : BitVec 32 := Scalar.subi v252 v254
  let c858993459_i32_101 : BitVec 32 := 858993459#32
  let v256 : BitVec 32 := Scalar.andi v255 c858993459_i32_101
  let c2_i32_102 : BitVec 32 := 2#32
  let v257 : BitVec 32 := Scalar.shrsi v255 c2_i32_102
  let c858993459_i32_103 : BitVec 32 := 858993459#32
  let v258 : BitVec 32 := Scalar.andi v257 c858993459_i32_103
  let v259 : BitVec 32 := Scalar.addi v256 v258
  let c4_i32_104 : BitVec 32 := 4#32
  let v260 : BitVec 32 := Scalar.shrsi v259 c4_i32_104
  let v261 : BitVec 32 := Scalar.addi v259 v260
  let c252645135_i32_105 : BitVec 32 := 252645135#32
  let v262 : BitVec 32 := Scalar.andi v261 c252645135_i32_105
  let c16843009_i32_106 : BitVec 32 := 16843009#32
  let v263 : BitVec 32 := Scalar.muli v262 c16843009_i32_106
  let c24_i32_107 : BitVec 32 := 24#32
  let v264 : BitVec 32 := Scalar.shrsi v263 c24_i32_107
  let v266 : BitVec 32 := Scalar.addi v265 v264
  let c7_i32_109 : BitVec 32 := 7#32
  let v270 : BitVec 32 := Scalar.shrsi v266 c7_i32_109
  let v360 : Index := Scalar.indexCast v270
  let c0_136 : Index := 0#32
  ![v360.toNat, 0]

def k0_chk25 (v165 : BitVec 32) (v244 : BitVec 32) (v265 : BitVec 32) (v279 : BitVec 32) : Prop :=
  (∀ (k0_h7 : k0_cond7 v165 = 1#1), ∀ (k0_h8 : k0_cond8 v165 v244 v265 = 1#1), ∀ (k0_h9 : k0_cond9 v279 = 1#1), ∀ a, (k0_off32 v165 v244 v265 v279) a + S2x128.size a ≤ S46876x128.size a) ∧
  (∀ (k0_h7 : k0_cond7 v165 = 1#1), ∀ (k0_h8 : k0_cond8 v165 v244 v265 = 1#1), ∀ (k0_h9 : k0_cond9 v279 = 1#1), ∀ a, (k0_off33 v165 v244 v265) a + S2x128.size a ≤ S2814x128.size a) ∧
  (∀ (k0_h7 : k0_cond7 v165 = 1#1), ∀ (k0_h8 : k0_cond8 v165 v244 v265 = 1#1), ∀ (k0_h9 : k0_cond9 v279 = 1#1), ∀ a, (k0_off34 v165 v244 v265) a + S1x128.size a ≤ S939x128.size a)
theorem k0_off32_inb : ∀ (v165 : BitVec 32) (v244 : BitVec 32) (v265 : BitVec 32) (v279 : BitVec 32) (k0_hw25 : k0_chk25 v165 v244 v265 v279), ∀ (k0_h7 : k0_cond7 v165 = 1#1), ∀ (k0_h8 : k0_cond8 v165 v244 v265 = 1#1), ∀ (k0_h9 : k0_cond9 v279 = 1#1), ∀ a, (k0_off32 v165 v244 v265 v279) a + S2x128.size a ≤ S46876x128.size a := fun v165 v244 v265 v279 k0_hw25 k0_h7 k0_h8 k0_h9 => k0_hw25.1 k0_h7 k0_h8 k0_h9
theorem k0_off33_inb : ∀ (v165 : BitVec 32) (v244 : BitVec 32) (v265 : BitVec 32) (v279 : BitVec 32) (k0_hw25 : k0_chk25 v165 v244 v265 v279), ∀ (k0_h7 : k0_cond7 v165 = 1#1), ∀ (k0_h8 : k0_cond8 v165 v244 v265 = 1#1), ∀ (k0_h9 : k0_cond9 v279 = 1#1), ∀ a, (k0_off33 v165 v244 v265) a + S2x128.size a ≤ S2814x128.size a := fun v165 v244 v265 v279 k0_hw25 k0_h7 k0_h8 k0_h9 => k0_hw25.2.1 k0_h7 k0_h8 k0_h9
theorem k0_off34_inb : ∀ (v165 : BitVec 32) (v244 : BitVec 32) (v265 : BitVec 32) (v279 : BitVec 32) (k0_hw25 : k0_chk25 v165 v244 v265 v279), ∀ (k0_h7 : k0_cond7 v165 = 1#1), ∀ (k0_h8 : k0_cond8 v165 v244 v265 = 1#1), ∀ (k0_h9 : k0_cond9 v279 = 1#1), ∀ a, (k0_off34 v165 v244 v265) a + S1x128.size a ≤ S939x128.size a := fun v165 v244 v265 v279 k0_hw25 k0_h7 k0_h8 k0_h9 => k0_hw25.2.2 k0_h7 k0_h8 k0_h9

def k0_off35 (v170 : BitVec 32) : Fin 2 → Nat :=
  let c5_i32 : BitVec 32 := 5#32
  let v234 : BitVec 32 := Scalar.shrsi v170 c5_i32
  let c7_i32_91 : BitVec 32 := 7#32
  let v236 : BitVec 32 := Scalar.shrsi v234 c7_i32_91
  let v240 : Index := Scalar.indexCast v236
  let c0_95 : Index := 0#32
  ![v240.toNat, 0]
def k0_cond10 (v170 : BitVec 32) : BitVec 1 :=
  let c46656000_i32_65 : BitVec 32 := 46656000#32
  let v171 : BitVec 1 := Scalar.cmpi .slt v170 c46656000_i32_65
  let v172 : BitVec 32 := Scalar.extui v171
  let c0_i32_66 : BitVec 32 := 0#32
  let v173 : BitVec 1 := Scalar.cmpi .ne v172 c0_i32_66
  v173

def k0_chk26 (v170 : BitVec 32) : Prop :=
  (∀ (k0_h10 : k0_cond10 v170 = 1#1), ∀ a, (k0_off35 v170) a + S1x128.size a ≤ S11391x128.size a)
theorem k0_off35_inb : ∀ (v170 : BitVec 32) (k0_hw26 : k0_chk26 v170), ∀ (k0_h10 : k0_cond10 v170 = 1#1), ∀ a, (k0_off35 v170) a + S1x128.size a ≤ S11391x128.size a := fun v170 k0_hw26 k0_h10 => k0_hw26 k0_h10

def k0_off36 (v170 : BitVec 32) (v244 : BitVec 32) (v265 : BitVec 32) : Fin 2 → Nat :=
  let c1_i32_97 : BitVec 32 := 1#32
  let c31_i32 : BitVec 32 := 31#32
  let v235 : BitVec 32 := Scalar.andi v170 c31_i32
  let v250 : BitVec 32 := Scalar.shli c1_i32_97 v235
  let c1_i32_98 : BitVec 32 := 1#32
  let v251 : BitVec 32 := Scalar.subi v250 c1_i32_98
  let v252 : BitVec 32 := Scalar.andi v244 v251
  let c1_i32_99 : BitVec 32 := 1#32
  let v253 : BitVec 32 := Scalar.shrsi v252 c1_i32_99
  let c1431655765_i32_100 : BitVec 32 := 1431655765#32
  let v254 : BitVec 32 := Scalar.andi v253 c1431655765_i32_100
  let v255 : BitVec 32 := Scalar.subi v252 v254
  let c858993459_i32_101 : BitVec 32 := 858993459#32
  let v256 : BitVec 32 := Scalar.andi v255 c858993459_i32_101
  let c2_i32_102 : BitVec 32 := 2#32
  let v257 : BitVec 32 := Scalar.shrsi v255 c2_i32_102
  let c858993459_i32_103 : BitVec 32 := 858993459#32
  let v258 : BitVec 32 := Scalar.andi v257 c858993459_i32_103
  let v259 : BitVec 32 := Scalar.addi v256 v258
  let c4_i32_104 : BitVec 32 := 4#32
  let v260 : BitVec 32 := Scalar.shrsi v259 c4_i32_104
  let v261 : BitVec 32 := Scalar.addi v259 v260
  let c252645135_i32_105 : BitVec 32 := 252645135#32
  let v262 : BitVec 32 := Scalar.andi v261 c252645135_i32_105
  let c16843009_i32_106 : BitVec 32 := 16843009#32
  let v263 : BitVec 32 := Scalar.muli v262 c16843009_i32_106
  let c24_i32_107 : BitVec 32 := 24#32
  let v264 : BitVec 32 := Scalar.shrsi v263 c24_i32_107
  let v266 : BitVec 32 := Scalar.addi v265 v264
  let c7_i32_109 : BitVec 32 := 7#32
  let v270 : BitVec 32 := Scalar.shrsi v266 c7_i32_109
  let v272 : Index := Scalar.indexCast v270
  let c0_111 : Index := 0#32
  ![v272.toNat, 0]
def k0_cond11 (v170 : BitVec 32) (v244 : BitVec 32) (v265 : BitVec 32) : BitVec 1 :=
  let c1_i32_97 : BitVec 32 := 1#32
  let c31_i32 : BitVec 32 := 31#32
  let v235 : BitVec 32 := Scalar.andi v170 c31_i32
  let v250 : BitVec 32 := Scalar.shli c1_i32_97 v235
  let c1_i32_98 : BitVec 32 := 1#32
  let v251 : BitVec 32 := Scalar.subi v250 c1_i32_98
  let v252 : BitVec 32 := Scalar.andi v244 v251
  let c1_i32_99 : BitVec 32 := 1#32
  let v253 : BitVec 32 := Scalar.shrsi v252 c1_i32_99
  let c1431655765_i32_100 : BitVec 32 := 1431655765#32
  let v254 : BitVec 32 := Scalar.andi v253 c1431655765_i32_100
  let v255 : BitVec 32 := Scalar.subi v252 v254
  let c858993459_i32_101 : BitVec 32 := 858993459#32
  let v256 : BitVec 32 := Scalar.andi v255 c858993459_i32_101
  let c2_i32_102 : BitVec 32 := 2#32
  let v257 : BitVec 32 := Scalar.shrsi v255 c2_i32_102
  let c858993459_i32_103 : BitVec 32 := 858993459#32
  let v258 : BitVec 32 := Scalar.andi v257 c858993459_i32_103
  let v259 : BitVec 32 := Scalar.addi v256 v258
  let c4_i32_104 : BitVec 32 := 4#32
  let v260 : BitVec 32 := Scalar.shrsi v259 c4_i32_104
  let v261 : BitVec 32 := Scalar.addi v259 v260
  let c252645135_i32_105 : BitVec 32 := 252645135#32
  let v262 : BitVec 32 := Scalar.andi v261 c252645135_i32_105
  let c16843009_i32_106 : BitVec 32 := 16843009#32
  let v263 : BitVec 32 := Scalar.muli v262 c16843009_i32_106
  let c24_i32_107 : BitVec 32 := 24#32
  let v264 : BitVec 32 := Scalar.shrsi v263 c24_i32_107
  let v266 : BitVec 32 := Scalar.addi v265 v264
  let c120000_i32 : BitVec 32 := 120000#32
  let v267 : BitVec 1 := Scalar.cmpi .slt v266 c120000_i32
  let v268 : BitVec 32 := Scalar.extui v267
  let c0_i32_108 : BitVec 32 := 0#32
  let v269 : BitVec 1 := Scalar.cmpi .ne v268 c0_i32_108
  v269

def k0_chk27 (v170 : BitVec 32) (v244 : BitVec 32) (v265 : BitVec 32) : Prop :=
  (∀ (k0_h10 : k0_cond10 v170 = 1#1), ∀ (k0_h11 : k0_cond11 v170 v244 v265 = 1#1), ∀ a, (k0_off36 v170 v244 v265) a + S1x128.size a ≤ S939x128.size a)
theorem k0_off36_inb : ∀ (v170 : BitVec 32) (v244 : BitVec 32) (v265 : BitVec 32) (k0_hw27 : k0_chk27 v170 v244 v265), ∀ (k0_h10 : k0_cond10 v170 = 1#1), ∀ (k0_h11 : k0_cond11 v170 v244 v265 = 1#1), ∀ a, (k0_off36 v170 v244 v265) a + S1x128.size a ≤ S939x128.size a := fun v170 v244 v265 k0_hw27 k0_h10 k0_h11 => k0_hw27 k0_h10 k0_h11

def k0_off37 (v170 : BitVec 32) (v244 : BitVec 32) (v265 : BitVec 32) (v279 : BitVec 32) : Fin 2 → Nat :=
  let c1_i32_97 : BitVec 32 := 1#32
  let c31_i32 : BitVec 32 := 31#32
  let v235 : BitVec 32 := Scalar.andi v170 c31_i32
  let v250 : BitVec 32 := Scalar.shli c1_i32_97 v235
  let c1_i32_98 : BitVec 32 := 1#32
  let v251 : BitVec 32 := Scalar.subi v250 c1_i32_98
  let v252 : BitVec 32 := Scalar.andi v244 v251
  let c1_i32_99 : BitVec 32 := 1#32
  let v253 : BitVec 32 := Scalar.shrsi v252 c1_i32_99
  let c1431655765_i32_100 : BitVec 32 := 1431655765#32
  let v254 : BitVec 32 := Scalar.andi v253 c1431655765_i32_100
  let v255 : BitVec 32 := Scalar.subi v252 v254
  let c858993459_i32_101 : BitVec 32 := 858993459#32
  let v256 : BitVec 32 := Scalar.andi v255 c858993459_i32_101
  let c2_i32_102 : BitVec 32 := 2#32
  let v257 : BitVec 32 := Scalar.shrsi v255 c2_i32_102
  let c858993459_i32_103 : BitVec 32 := 858993459#32
  let v258 : BitVec 32 := Scalar.andi v257 c858993459_i32_103
  let v259 : BitVec 32 := Scalar.addi v256 v258
  let c4_i32_104 : BitVec 32 := 4#32
  let v260 : BitVec 32 := Scalar.shrsi v259 c4_i32_104
  let v261 : BitVec 32 := Scalar.addi v259 v260
  let c252645135_i32_105 : BitVec 32 := 252645135#32
  let v262 : BitVec 32 := Scalar.andi v261 c252645135_i32_105
  let c16843009_i32_106 : BitVec 32 := 16843009#32
  let v263 : BitVec 32 := Scalar.muli v262 c16843009_i32_106
  let c24_i32_107 : BitVec 32 := 24#32
  let v264 : BitVec 32 := Scalar.shrsi v263 c24_i32_107
  let v266 : BitVec 32 := Scalar.addi v265 v264
  let c10_i32_115 : BitVec 32 := 10#32
  let v283 : BitVec 32 := Scalar.muli v266 c10_i32_115
  let v284 : BitVec 32 := Scalar.addi v283 v279
  let c5_i32_116 : BitVec 32 := 5#32
  let v285 : BitVec 32 := Scalar.muli v284 c5_i32_116
  let c7_i32_117 : BitVec 32 := 7#32
  let v286 : BitVec 32 := Scalar.shrsi v285 c7_i32_117
  let v288 : Index := Scalar.indexCast v286
  let c0_119 : Index := 0#32
  ![v288.toNat, 0]
def k0_cond12 (v279 : BitVec 32) : BitVec 1 :=
  let c10_i32 : BitVec 32 := 10#32
  let v280 : BitVec 1 := Scalar.cmpi .slt v279 c10_i32
  let v281 : BitVec 32 := Scalar.extui v280
  let c0_i32_114 : BitVec 32 := 0#32
  let v282 : BitVec 1 := Scalar.cmpi .ne v281 c0_i32_114
  v282

def k0_off38 (v170 : BitVec 32) (v244 : BitVec 32) (v265 : BitVec 32) : Fin 2 → Nat :=
  let c1_i32_97 : BitVec 32 := 1#32
  let c31_i32 : BitVec 32 := 31#32
  let v235 : BitVec 32 := Scalar.andi v170 c31_i32
  let v250 : BitVec 32 := Scalar.shli c1_i32_97 v235
  let c1_i32_98 : BitVec 32 := 1#32
  let v251 : BitVec 32 := Scalar.subi v250 c1_i32_98
  let v252 : BitVec 32 := Scalar.andi v244 v251
  let c1_i32_99 : BitVec 32 := 1#32
  let v253 : BitVec 32 := Scalar.shrsi v252 c1_i32_99
  let c1431655765_i32_100 : BitVec 32 := 1431655765#32
  let v254 : BitVec 32 := Scalar.andi v253 c1431655765_i32_100
  let v255 : BitVec 32 := Scalar.subi v252 v254
  let c858993459_i32_101 : BitVec 32 := 858993459#32
  let v256 : BitVec 32 := Scalar.andi v255 c858993459_i32_101
  let c2_i32_102 : BitVec 32 := 2#32
  let v257 : BitVec 32 := Scalar.shrsi v255 c2_i32_102
  let c858993459_i32_103 : BitVec 32 := 858993459#32
  let v258 : BitVec 32 := Scalar.andi v257 c858993459_i32_103
  let v259 : BitVec 32 := Scalar.addi v256 v258
  let c4_i32_104 : BitVec 32 := 4#32
  let v260 : BitVec 32 := Scalar.shrsi v259 c4_i32_104
  let v261 : BitVec 32 := Scalar.addi v259 v260
  let c252645135_i32_105 : BitVec 32 := 252645135#32
  let v262 : BitVec 32 := Scalar.andi v261 c252645135_i32_105
  let c16843009_i32_106 : BitVec 32 := 16843009#32
  let v263 : BitVec 32 := Scalar.muli v262 c16843009_i32_106
  let c24_i32_107 : BitVec 32 := 24#32
  let v264 : BitVec 32 := Scalar.shrsi v263 c24_i32_107
  let v266 : BitVec 32 := Scalar.addi v265 v264
  let c3_i32_125 : BitVec 32 := 3#32
  let v329 : BitVec 32 := Scalar.muli v266 c3_i32_125
  let c7_i32_126 : BitVec 32 := 7#32
  let v330 : BitVec 32 := Scalar.shrsi v329 c7_i32_126
  let v332 : Index := Scalar.indexCast v330
  let c0_128 : Index := 0#32
  ![v332.toNat, 0]
def k0_off39 (v170 : BitVec 32) (v244 : BitVec 32) (v265 : BitVec 32) : Fin 2 → Nat :=
  let c1_i32_97 : BitVec 32 := 1#32
  let c31_i32 : BitVec 32 := 31#32
  let v235 : BitVec 32 := Scalar.andi v170 c31_i32
  let v250 : BitVec 32 := Scalar.shli c1_i32_97 v235
  let c1_i32_98 : BitVec 32 := 1#32
  let v251 : BitVec 32 := Scalar.subi v250 c1_i32_98
  let v252 : BitVec 32 := Scalar.andi v244 v251
  let c1_i32_99 : BitVec 32 := 1#32
  let v253 : BitVec 32 := Scalar.shrsi v252 c1_i32_99
  let c1431655765_i32_100 : BitVec 32 := 1431655765#32
  let v254 : BitVec 32 := Scalar.andi v253 c1431655765_i32_100
  let v255 : BitVec 32 := Scalar.subi v252 v254
  let c858993459_i32_101 : BitVec 32 := 858993459#32
  let v256 : BitVec 32 := Scalar.andi v255 c858993459_i32_101
  let c2_i32_102 : BitVec 32 := 2#32
  let v257 : BitVec 32 := Scalar.shrsi v255 c2_i32_102
  let c858993459_i32_103 : BitVec 32 := 858993459#32
  let v258 : BitVec 32 := Scalar.andi v257 c858993459_i32_103
  let v259 : BitVec 32 := Scalar.addi v256 v258
  let c4_i32_104 : BitVec 32 := 4#32
  let v260 : BitVec 32 := Scalar.shrsi v259 c4_i32_104
  let v261 : BitVec 32 := Scalar.addi v259 v260
  let c252645135_i32_105 : BitVec 32 := 252645135#32
  let v262 : BitVec 32 := Scalar.andi v261 c252645135_i32_105
  let c16843009_i32_106 : BitVec 32 := 16843009#32
  let v263 : BitVec 32 := Scalar.muli v262 c16843009_i32_106
  let c24_i32_107 : BitVec 32 := 24#32
  let v264 : BitVec 32 := Scalar.shrsi v263 c24_i32_107
  let v266 : BitVec 32 := Scalar.addi v265 v264
  let c7_i32_109 : BitVec 32 := 7#32
  let v270 : BitVec 32 := Scalar.shrsi v266 c7_i32_109
  let v360 : Index := Scalar.indexCast v270
  let c0_136 : Index := 0#32
  ![v360.toNat, 0]

def k0_chk28 (v170 : BitVec 32) (v244 : BitVec 32) (v265 : BitVec 32) (v279 : BitVec 32) : Prop :=
  (∀ (k0_h10 : k0_cond10 v170 = 1#1), ∀ (k0_h11 : k0_cond11 v170 v244 v265 = 1#1), ∀ (k0_h12 : k0_cond12 v279 = 1#1), ∀ a, (k0_off37 v170 v244 v265 v279) a + S2x128.size a ≤ S46876x128.size a) ∧
  (∀ (k0_h10 : k0_cond10 v170 = 1#1), ∀ (k0_h11 : k0_cond11 v170 v244 v265 = 1#1), ∀ (k0_h12 : k0_cond12 v279 = 1#1), ∀ a, (k0_off38 v170 v244 v265) a + S2x128.size a ≤ S2814x128.size a) ∧
  (∀ (k0_h10 : k0_cond10 v170 = 1#1), ∀ (k0_h11 : k0_cond11 v170 v244 v265 = 1#1), ∀ (k0_h12 : k0_cond12 v279 = 1#1), ∀ a, (k0_off39 v170 v244 v265) a + S1x128.size a ≤ S939x128.size a)
theorem k0_off37_inb : ∀ (v170 : BitVec 32) (v244 : BitVec 32) (v265 : BitVec 32) (v279 : BitVec 32) (k0_hw28 : k0_chk28 v170 v244 v265 v279), ∀ (k0_h10 : k0_cond10 v170 = 1#1), ∀ (k0_h11 : k0_cond11 v170 v244 v265 = 1#1), ∀ (k0_h12 : k0_cond12 v279 = 1#1), ∀ a, (k0_off37 v170 v244 v265 v279) a + S2x128.size a ≤ S46876x128.size a := fun v170 v244 v265 v279 k0_hw28 k0_h10 k0_h11 k0_h12 => k0_hw28.1 k0_h10 k0_h11 k0_h12
theorem k0_off38_inb : ∀ (v170 : BitVec 32) (v244 : BitVec 32) (v265 : BitVec 32) (v279 : BitVec 32) (k0_hw28 : k0_chk28 v170 v244 v265 v279), ∀ (k0_h10 : k0_cond10 v170 = 1#1), ∀ (k0_h11 : k0_cond11 v170 v244 v265 = 1#1), ∀ (k0_h12 : k0_cond12 v279 = 1#1), ∀ a, (k0_off38 v170 v244 v265) a + S2x128.size a ≤ S2814x128.size a := fun v170 v244 v265 v279 k0_hw28 k0_h10 k0_h11 k0_h12 => k0_hw28.2.1 k0_h10 k0_h11 k0_h12
theorem k0_off39_inb : ∀ (v170 : BitVec 32) (v244 : BitVec 32) (v265 : BitVec 32) (v279 : BitVec 32) (k0_hw28 : k0_chk28 v170 v244 v265 v279), ∀ (k0_h10 : k0_cond10 v170 = 1#1), ∀ (k0_h11 : k0_cond11 v170 v244 v265 = 1#1), ∀ (k0_h12 : k0_cond12 v279 = 1#1), ∀ a, (k0_off39 v170 v244 v265) a + S1x128.size a ≤ S939x128.size a := fun v170 v244 v265 v279 k0_hw28 k0_h10 k0_h11 k0_h12 => k0_hw28.2.2 k0_h10 k0_h11 k0_h12

def k0_off40 (v175 : BitVec 32) : Fin 2 → Nat :=
  let c5_i32 : BitVec 32 := 5#32
  let v234 : BitVec 32 := Scalar.shrsi v175 c5_i32
  let c7_i32_91 : BitVec 32 := 7#32
  let v236 : BitVec 32 := Scalar.shrsi v234 c7_i32_91
  let v240 : Index := Scalar.indexCast v236
  let c0_95 : Index := 0#32
  ![v240.toNat, 0]
def k0_cond13 (v175 : BitVec 32) : BitVec 1 :=
  let c46656000_i32_67 : BitVec 32 := 46656000#32
  let v176 : BitVec 1 := Scalar.cmpi .slt v175 c46656000_i32_67
  let v177 : BitVec 32 := Scalar.extui v176
  let c0_i32_68 : BitVec 32 := 0#32
  let v178 : BitVec 1 := Scalar.cmpi .ne v177 c0_i32_68
  v178

def k0_chk29 (v175 : BitVec 32) : Prop :=
  (∀ (k0_h13 : k0_cond13 v175 = 1#1), ∀ a, (k0_off40 v175) a + S1x128.size a ≤ S11391x128.size a)
theorem k0_off40_inb : ∀ (v175 : BitVec 32) (k0_hw29 : k0_chk29 v175), ∀ (k0_h13 : k0_cond13 v175 = 1#1), ∀ a, (k0_off40 v175) a + S1x128.size a ≤ S11391x128.size a := fun v175 k0_hw29 k0_h13 => k0_hw29 k0_h13

def k0_off41 (v175 : BitVec 32) (v244 : BitVec 32) (v265 : BitVec 32) : Fin 2 → Nat :=
  let c1_i32_97 : BitVec 32 := 1#32
  let c31_i32 : BitVec 32 := 31#32
  let v235 : BitVec 32 := Scalar.andi v175 c31_i32
  let v250 : BitVec 32 := Scalar.shli c1_i32_97 v235
  let c1_i32_98 : BitVec 32 := 1#32
  let v251 : BitVec 32 := Scalar.subi v250 c1_i32_98
  let v252 : BitVec 32 := Scalar.andi v244 v251
  let c1_i32_99 : BitVec 32 := 1#32
  let v253 : BitVec 32 := Scalar.shrsi v252 c1_i32_99
  let c1431655765_i32_100 : BitVec 32 := 1431655765#32
  let v254 : BitVec 32 := Scalar.andi v253 c1431655765_i32_100
  let v255 : BitVec 32 := Scalar.subi v252 v254
  let c858993459_i32_101 : BitVec 32 := 858993459#32
  let v256 : BitVec 32 := Scalar.andi v255 c858993459_i32_101
  let c2_i32_102 : BitVec 32 := 2#32
  let v257 : BitVec 32 := Scalar.shrsi v255 c2_i32_102
  let c858993459_i32_103 : BitVec 32 := 858993459#32
  let v258 : BitVec 32 := Scalar.andi v257 c858993459_i32_103
  let v259 : BitVec 32 := Scalar.addi v256 v258
  let c4_i32_104 : BitVec 32 := 4#32
  let v260 : BitVec 32 := Scalar.shrsi v259 c4_i32_104
  let v261 : BitVec 32 := Scalar.addi v259 v260
  let c252645135_i32_105 : BitVec 32 := 252645135#32
  let v262 : BitVec 32 := Scalar.andi v261 c252645135_i32_105
  let c16843009_i32_106 : BitVec 32 := 16843009#32
  let v263 : BitVec 32 := Scalar.muli v262 c16843009_i32_106
  let c24_i32_107 : BitVec 32 := 24#32
  let v264 : BitVec 32 := Scalar.shrsi v263 c24_i32_107
  let v266 : BitVec 32 := Scalar.addi v265 v264
  let c7_i32_109 : BitVec 32 := 7#32
  let v270 : BitVec 32 := Scalar.shrsi v266 c7_i32_109
  let v272 : Index := Scalar.indexCast v270
  let c0_111 : Index := 0#32
  ![v272.toNat, 0]
def k0_cond14 (v175 : BitVec 32) (v244 : BitVec 32) (v265 : BitVec 32) : BitVec 1 :=
  let c1_i32_97 : BitVec 32 := 1#32
  let c31_i32 : BitVec 32 := 31#32
  let v235 : BitVec 32 := Scalar.andi v175 c31_i32
  let v250 : BitVec 32 := Scalar.shli c1_i32_97 v235
  let c1_i32_98 : BitVec 32 := 1#32
  let v251 : BitVec 32 := Scalar.subi v250 c1_i32_98
  let v252 : BitVec 32 := Scalar.andi v244 v251
  let c1_i32_99 : BitVec 32 := 1#32
  let v253 : BitVec 32 := Scalar.shrsi v252 c1_i32_99
  let c1431655765_i32_100 : BitVec 32 := 1431655765#32
  let v254 : BitVec 32 := Scalar.andi v253 c1431655765_i32_100
  let v255 : BitVec 32 := Scalar.subi v252 v254
  let c858993459_i32_101 : BitVec 32 := 858993459#32
  let v256 : BitVec 32 := Scalar.andi v255 c858993459_i32_101
  let c2_i32_102 : BitVec 32 := 2#32
  let v257 : BitVec 32 := Scalar.shrsi v255 c2_i32_102
  let c858993459_i32_103 : BitVec 32 := 858993459#32
  let v258 : BitVec 32 := Scalar.andi v257 c858993459_i32_103
  let v259 : BitVec 32 := Scalar.addi v256 v258
  let c4_i32_104 : BitVec 32 := 4#32
  let v260 : BitVec 32 := Scalar.shrsi v259 c4_i32_104
  let v261 : BitVec 32 := Scalar.addi v259 v260
  let c252645135_i32_105 : BitVec 32 := 252645135#32
  let v262 : BitVec 32 := Scalar.andi v261 c252645135_i32_105
  let c16843009_i32_106 : BitVec 32 := 16843009#32
  let v263 : BitVec 32 := Scalar.muli v262 c16843009_i32_106
  let c24_i32_107 : BitVec 32 := 24#32
  let v264 : BitVec 32 := Scalar.shrsi v263 c24_i32_107
  let v266 : BitVec 32 := Scalar.addi v265 v264
  let c120000_i32 : BitVec 32 := 120000#32
  let v267 : BitVec 1 := Scalar.cmpi .slt v266 c120000_i32
  let v268 : BitVec 32 := Scalar.extui v267
  let c0_i32_108 : BitVec 32 := 0#32
  let v269 : BitVec 1 := Scalar.cmpi .ne v268 c0_i32_108
  v269

def k0_chk30 (v175 : BitVec 32) (v244 : BitVec 32) (v265 : BitVec 32) : Prop :=
  (∀ (k0_h13 : k0_cond13 v175 = 1#1), ∀ (k0_h14 : k0_cond14 v175 v244 v265 = 1#1), ∀ a, (k0_off41 v175 v244 v265) a + S1x128.size a ≤ S939x128.size a)
theorem k0_off41_inb : ∀ (v175 : BitVec 32) (v244 : BitVec 32) (v265 : BitVec 32) (k0_hw30 : k0_chk30 v175 v244 v265), ∀ (k0_h13 : k0_cond13 v175 = 1#1), ∀ (k0_h14 : k0_cond14 v175 v244 v265 = 1#1), ∀ a, (k0_off41 v175 v244 v265) a + S1x128.size a ≤ S939x128.size a := fun v175 v244 v265 k0_hw30 k0_h13 k0_h14 => k0_hw30 k0_h13 k0_h14

def k0_off42 (v175 : BitVec 32) (v244 : BitVec 32) (v265 : BitVec 32) (v279 : BitVec 32) : Fin 2 → Nat :=
  let c1_i32_97 : BitVec 32 := 1#32
  let c31_i32 : BitVec 32 := 31#32
  let v235 : BitVec 32 := Scalar.andi v175 c31_i32
  let v250 : BitVec 32 := Scalar.shli c1_i32_97 v235
  let c1_i32_98 : BitVec 32 := 1#32
  let v251 : BitVec 32 := Scalar.subi v250 c1_i32_98
  let v252 : BitVec 32 := Scalar.andi v244 v251
  let c1_i32_99 : BitVec 32 := 1#32
  let v253 : BitVec 32 := Scalar.shrsi v252 c1_i32_99
  let c1431655765_i32_100 : BitVec 32 := 1431655765#32
  let v254 : BitVec 32 := Scalar.andi v253 c1431655765_i32_100
  let v255 : BitVec 32 := Scalar.subi v252 v254
  let c858993459_i32_101 : BitVec 32 := 858993459#32
  let v256 : BitVec 32 := Scalar.andi v255 c858993459_i32_101
  let c2_i32_102 : BitVec 32 := 2#32
  let v257 : BitVec 32 := Scalar.shrsi v255 c2_i32_102
  let c858993459_i32_103 : BitVec 32 := 858993459#32
  let v258 : BitVec 32 := Scalar.andi v257 c858993459_i32_103
  let v259 : BitVec 32 := Scalar.addi v256 v258
  let c4_i32_104 : BitVec 32 := 4#32
  let v260 : BitVec 32 := Scalar.shrsi v259 c4_i32_104
  let v261 : BitVec 32 := Scalar.addi v259 v260
  let c252645135_i32_105 : BitVec 32 := 252645135#32
  let v262 : BitVec 32 := Scalar.andi v261 c252645135_i32_105
  let c16843009_i32_106 : BitVec 32 := 16843009#32
  let v263 : BitVec 32 := Scalar.muli v262 c16843009_i32_106
  let c24_i32_107 : BitVec 32 := 24#32
  let v264 : BitVec 32 := Scalar.shrsi v263 c24_i32_107
  let v266 : BitVec 32 := Scalar.addi v265 v264
  let c10_i32_115 : BitVec 32 := 10#32
  let v283 : BitVec 32 := Scalar.muli v266 c10_i32_115
  let v284 : BitVec 32 := Scalar.addi v283 v279
  let c5_i32_116 : BitVec 32 := 5#32
  let v285 : BitVec 32 := Scalar.muli v284 c5_i32_116
  let c7_i32_117 : BitVec 32 := 7#32
  let v286 : BitVec 32 := Scalar.shrsi v285 c7_i32_117
  let v288 : Index := Scalar.indexCast v286
  let c0_119 : Index := 0#32
  ![v288.toNat, 0]
def k0_cond15 (v279 : BitVec 32) : BitVec 1 :=
  let c10_i32 : BitVec 32 := 10#32
  let v280 : BitVec 1 := Scalar.cmpi .slt v279 c10_i32
  let v281 : BitVec 32 := Scalar.extui v280
  let c0_i32_114 : BitVec 32 := 0#32
  let v282 : BitVec 1 := Scalar.cmpi .ne v281 c0_i32_114
  v282

def k0_off43 (v175 : BitVec 32) (v244 : BitVec 32) (v265 : BitVec 32) : Fin 2 → Nat :=
  let c1_i32_97 : BitVec 32 := 1#32
  let c31_i32 : BitVec 32 := 31#32
  let v235 : BitVec 32 := Scalar.andi v175 c31_i32
  let v250 : BitVec 32 := Scalar.shli c1_i32_97 v235
  let c1_i32_98 : BitVec 32 := 1#32
  let v251 : BitVec 32 := Scalar.subi v250 c1_i32_98
  let v252 : BitVec 32 := Scalar.andi v244 v251
  let c1_i32_99 : BitVec 32 := 1#32
  let v253 : BitVec 32 := Scalar.shrsi v252 c1_i32_99
  let c1431655765_i32_100 : BitVec 32 := 1431655765#32
  let v254 : BitVec 32 := Scalar.andi v253 c1431655765_i32_100
  let v255 : BitVec 32 := Scalar.subi v252 v254
  let c858993459_i32_101 : BitVec 32 := 858993459#32
  let v256 : BitVec 32 := Scalar.andi v255 c858993459_i32_101
  let c2_i32_102 : BitVec 32 := 2#32
  let v257 : BitVec 32 := Scalar.shrsi v255 c2_i32_102
  let c858993459_i32_103 : BitVec 32 := 858993459#32
  let v258 : BitVec 32 := Scalar.andi v257 c858993459_i32_103
  let v259 : BitVec 32 := Scalar.addi v256 v258
  let c4_i32_104 : BitVec 32 := 4#32
  let v260 : BitVec 32 := Scalar.shrsi v259 c4_i32_104
  let v261 : BitVec 32 := Scalar.addi v259 v260
  let c252645135_i32_105 : BitVec 32 := 252645135#32
  let v262 : BitVec 32 := Scalar.andi v261 c252645135_i32_105
  let c16843009_i32_106 : BitVec 32 := 16843009#32
  let v263 : BitVec 32 := Scalar.muli v262 c16843009_i32_106
  let c24_i32_107 : BitVec 32 := 24#32
  let v264 : BitVec 32 := Scalar.shrsi v263 c24_i32_107
  let v266 : BitVec 32 := Scalar.addi v265 v264
  let c3_i32_125 : BitVec 32 := 3#32
  let v329 : BitVec 32 := Scalar.muli v266 c3_i32_125
  let c7_i32_126 : BitVec 32 := 7#32
  let v330 : BitVec 32 := Scalar.shrsi v329 c7_i32_126
  let v332 : Index := Scalar.indexCast v330
  let c0_128 : Index := 0#32
  ![v332.toNat, 0]
def k0_off44 (v175 : BitVec 32) (v244 : BitVec 32) (v265 : BitVec 32) : Fin 2 → Nat :=
  let c1_i32_97 : BitVec 32 := 1#32
  let c31_i32 : BitVec 32 := 31#32
  let v235 : BitVec 32 := Scalar.andi v175 c31_i32
  let v250 : BitVec 32 := Scalar.shli c1_i32_97 v235
  let c1_i32_98 : BitVec 32 := 1#32
  let v251 : BitVec 32 := Scalar.subi v250 c1_i32_98
  let v252 : BitVec 32 := Scalar.andi v244 v251
  let c1_i32_99 : BitVec 32 := 1#32
  let v253 : BitVec 32 := Scalar.shrsi v252 c1_i32_99
  let c1431655765_i32_100 : BitVec 32 := 1431655765#32
  let v254 : BitVec 32 := Scalar.andi v253 c1431655765_i32_100
  let v255 : BitVec 32 := Scalar.subi v252 v254
  let c858993459_i32_101 : BitVec 32 := 858993459#32
  let v256 : BitVec 32 := Scalar.andi v255 c858993459_i32_101
  let c2_i32_102 : BitVec 32 := 2#32
  let v257 : BitVec 32 := Scalar.shrsi v255 c2_i32_102
  let c858993459_i32_103 : BitVec 32 := 858993459#32
  let v258 : BitVec 32 := Scalar.andi v257 c858993459_i32_103
  let v259 : BitVec 32 := Scalar.addi v256 v258
  let c4_i32_104 : BitVec 32 := 4#32
  let v260 : BitVec 32 := Scalar.shrsi v259 c4_i32_104
  let v261 : BitVec 32 := Scalar.addi v259 v260
  let c252645135_i32_105 : BitVec 32 := 252645135#32
  let v262 : BitVec 32 := Scalar.andi v261 c252645135_i32_105
  let c16843009_i32_106 : BitVec 32 := 16843009#32
  let v263 : BitVec 32 := Scalar.muli v262 c16843009_i32_106
  let c24_i32_107 : BitVec 32 := 24#32
  let v264 : BitVec 32 := Scalar.shrsi v263 c24_i32_107
  let v266 : BitVec 32 := Scalar.addi v265 v264
  let c7_i32_109 : BitVec 32 := 7#32
  let v270 : BitVec 32 := Scalar.shrsi v266 c7_i32_109
  let v360 : Index := Scalar.indexCast v270
  let c0_136 : Index := 0#32
  ![v360.toNat, 0]

def k0_chk31 (v175 : BitVec 32) (v244 : BitVec 32) (v265 : BitVec 32) (v279 : BitVec 32) : Prop :=
  (∀ (k0_h13 : k0_cond13 v175 = 1#1), ∀ (k0_h14 : k0_cond14 v175 v244 v265 = 1#1), ∀ (k0_h15 : k0_cond15 v279 = 1#1), ∀ a, (k0_off42 v175 v244 v265 v279) a + S2x128.size a ≤ S46876x128.size a) ∧
  (∀ (k0_h13 : k0_cond13 v175 = 1#1), ∀ (k0_h14 : k0_cond14 v175 v244 v265 = 1#1), ∀ (k0_h15 : k0_cond15 v279 = 1#1), ∀ a, (k0_off43 v175 v244 v265) a + S2x128.size a ≤ S2814x128.size a) ∧
  (∀ (k0_h13 : k0_cond13 v175 = 1#1), ∀ (k0_h14 : k0_cond14 v175 v244 v265 = 1#1), ∀ (k0_h15 : k0_cond15 v279 = 1#1), ∀ a, (k0_off44 v175 v244 v265) a + S1x128.size a ≤ S939x128.size a)
theorem k0_off42_inb : ∀ (v175 : BitVec 32) (v244 : BitVec 32) (v265 : BitVec 32) (v279 : BitVec 32) (k0_hw31 : k0_chk31 v175 v244 v265 v279), ∀ (k0_h13 : k0_cond13 v175 = 1#1), ∀ (k0_h14 : k0_cond14 v175 v244 v265 = 1#1), ∀ (k0_h15 : k0_cond15 v279 = 1#1), ∀ a, (k0_off42 v175 v244 v265 v279) a + S2x128.size a ≤ S46876x128.size a := fun v175 v244 v265 v279 k0_hw31 k0_h13 k0_h14 k0_h15 => k0_hw31.1 k0_h13 k0_h14 k0_h15
theorem k0_off43_inb : ∀ (v175 : BitVec 32) (v244 : BitVec 32) (v265 : BitVec 32) (v279 : BitVec 32) (k0_hw31 : k0_chk31 v175 v244 v265 v279), ∀ (k0_h13 : k0_cond13 v175 = 1#1), ∀ (k0_h14 : k0_cond14 v175 v244 v265 = 1#1), ∀ (k0_h15 : k0_cond15 v279 = 1#1), ∀ a, (k0_off43 v175 v244 v265) a + S2x128.size a ≤ S2814x128.size a := fun v175 v244 v265 v279 k0_hw31 k0_h13 k0_h14 k0_h15 => k0_hw31.2.1 k0_h13 k0_h14 k0_h15
theorem k0_off44_inb : ∀ (v175 : BitVec 32) (v244 : BitVec 32) (v265 : BitVec 32) (v279 : BitVec 32) (k0_hw31 : k0_chk31 v175 v244 v265 v279), ∀ (k0_h13 : k0_cond13 v175 = 1#1), ∀ (k0_h14 : k0_cond14 v175 v244 v265 = 1#1), ∀ (k0_h15 : k0_cond15 v279 = 1#1), ∀ a, (k0_off44 v175 v244 v265) a + S1x128.size a ≤ S939x128.size a := fun v175 v244 v265 v279 k0_hw31 k0_h13 k0_h14 k0_h15 => k0_hw31.2.2 k0_h13 k0_h14 k0_h15

def k0_off45 (v180 : BitVec 32) : Fin 2 → Nat :=
  let c5_i32 : BitVec 32 := 5#32
  let v234 : BitVec 32 := Scalar.shrsi v180 c5_i32
  let c7_i32_91 : BitVec 32 := 7#32
  let v236 : BitVec 32 := Scalar.shrsi v234 c7_i32_91
  let v240 : Index := Scalar.indexCast v236
  let c0_95 : Index := 0#32
  ![v240.toNat, 0]
def k0_cond16 (v180 : BitVec 32) : BitVec 1 :=
  let c46656000_i32_69 : BitVec 32 := 46656000#32
  let v181 : BitVec 1 := Scalar.cmpi .slt v180 c46656000_i32_69
  let v182 : BitVec 32 := Scalar.extui v181
  let c0_i32_70 : BitVec 32 := 0#32
  let v183 : BitVec 1 := Scalar.cmpi .ne v182 c0_i32_70
  v183

def k0_chk32 (v180 : BitVec 32) : Prop :=
  (∀ (k0_h16 : k0_cond16 v180 = 1#1), ∀ a, (k0_off45 v180) a + S1x128.size a ≤ S11391x128.size a)
theorem k0_off45_inb : ∀ (v180 : BitVec 32) (k0_hw32 : k0_chk32 v180), ∀ (k0_h16 : k0_cond16 v180 = 1#1), ∀ a, (k0_off45 v180) a + S1x128.size a ≤ S11391x128.size a := fun v180 k0_hw32 k0_h16 => k0_hw32 k0_h16

def k0_off46 (v180 : BitVec 32) (v244 : BitVec 32) (v265 : BitVec 32) : Fin 2 → Nat :=
  let c1_i32_97 : BitVec 32 := 1#32
  let c31_i32 : BitVec 32 := 31#32
  let v235 : BitVec 32 := Scalar.andi v180 c31_i32
  let v250 : BitVec 32 := Scalar.shli c1_i32_97 v235
  let c1_i32_98 : BitVec 32 := 1#32
  let v251 : BitVec 32 := Scalar.subi v250 c1_i32_98
  let v252 : BitVec 32 := Scalar.andi v244 v251
  let c1_i32_99 : BitVec 32 := 1#32
  let v253 : BitVec 32 := Scalar.shrsi v252 c1_i32_99
  let c1431655765_i32_100 : BitVec 32 := 1431655765#32
  let v254 : BitVec 32 := Scalar.andi v253 c1431655765_i32_100
  let v255 : BitVec 32 := Scalar.subi v252 v254
  let c858993459_i32_101 : BitVec 32 := 858993459#32
  let v256 : BitVec 32 := Scalar.andi v255 c858993459_i32_101
  let c2_i32_102 : BitVec 32 := 2#32
  let v257 : BitVec 32 := Scalar.shrsi v255 c2_i32_102
  let c858993459_i32_103 : BitVec 32 := 858993459#32
  let v258 : BitVec 32 := Scalar.andi v257 c858993459_i32_103
  let v259 : BitVec 32 := Scalar.addi v256 v258
  let c4_i32_104 : BitVec 32 := 4#32
  let v260 : BitVec 32 := Scalar.shrsi v259 c4_i32_104
  let v261 : BitVec 32 := Scalar.addi v259 v260
  let c252645135_i32_105 : BitVec 32 := 252645135#32
  let v262 : BitVec 32 := Scalar.andi v261 c252645135_i32_105
  let c16843009_i32_106 : BitVec 32 := 16843009#32
  let v263 : BitVec 32 := Scalar.muli v262 c16843009_i32_106
  let c24_i32_107 : BitVec 32 := 24#32
  let v264 : BitVec 32 := Scalar.shrsi v263 c24_i32_107
  let v266 : BitVec 32 := Scalar.addi v265 v264
  let c7_i32_109 : BitVec 32 := 7#32
  let v270 : BitVec 32 := Scalar.shrsi v266 c7_i32_109
  let v272 : Index := Scalar.indexCast v270
  let c0_111 : Index := 0#32
  ![v272.toNat, 0]
def k0_cond17 (v180 : BitVec 32) (v244 : BitVec 32) (v265 : BitVec 32) : BitVec 1 :=
  let c1_i32_97 : BitVec 32 := 1#32
  let c31_i32 : BitVec 32 := 31#32
  let v235 : BitVec 32 := Scalar.andi v180 c31_i32
  let v250 : BitVec 32 := Scalar.shli c1_i32_97 v235
  let c1_i32_98 : BitVec 32 := 1#32
  let v251 : BitVec 32 := Scalar.subi v250 c1_i32_98
  let v252 : BitVec 32 := Scalar.andi v244 v251
  let c1_i32_99 : BitVec 32 := 1#32
  let v253 : BitVec 32 := Scalar.shrsi v252 c1_i32_99
  let c1431655765_i32_100 : BitVec 32 := 1431655765#32
  let v254 : BitVec 32 := Scalar.andi v253 c1431655765_i32_100
  let v255 : BitVec 32 := Scalar.subi v252 v254
  let c858993459_i32_101 : BitVec 32 := 858993459#32
  let v256 : BitVec 32 := Scalar.andi v255 c858993459_i32_101
  let c2_i32_102 : BitVec 32 := 2#32
  let v257 : BitVec 32 := Scalar.shrsi v255 c2_i32_102
  let c858993459_i32_103 : BitVec 32 := 858993459#32
  let v258 : BitVec 32 := Scalar.andi v257 c858993459_i32_103
  let v259 : BitVec 32 := Scalar.addi v256 v258
  let c4_i32_104 : BitVec 32 := 4#32
  let v260 : BitVec 32 := Scalar.shrsi v259 c4_i32_104
  let v261 : BitVec 32 := Scalar.addi v259 v260
  let c252645135_i32_105 : BitVec 32 := 252645135#32
  let v262 : BitVec 32 := Scalar.andi v261 c252645135_i32_105
  let c16843009_i32_106 : BitVec 32 := 16843009#32
  let v263 : BitVec 32 := Scalar.muli v262 c16843009_i32_106
  let c24_i32_107 : BitVec 32 := 24#32
  let v264 : BitVec 32 := Scalar.shrsi v263 c24_i32_107
  let v266 : BitVec 32 := Scalar.addi v265 v264
  let c120000_i32 : BitVec 32 := 120000#32
  let v267 : BitVec 1 := Scalar.cmpi .slt v266 c120000_i32
  let v268 : BitVec 32 := Scalar.extui v267
  let c0_i32_108 : BitVec 32 := 0#32
  let v269 : BitVec 1 := Scalar.cmpi .ne v268 c0_i32_108
  v269

def k0_chk33 (v180 : BitVec 32) (v244 : BitVec 32) (v265 : BitVec 32) : Prop :=
  (∀ (k0_h16 : k0_cond16 v180 = 1#1), ∀ (k0_h17 : k0_cond17 v180 v244 v265 = 1#1), ∀ a, (k0_off46 v180 v244 v265) a + S1x128.size a ≤ S939x128.size a)
theorem k0_off46_inb : ∀ (v180 : BitVec 32) (v244 : BitVec 32) (v265 : BitVec 32) (k0_hw33 : k0_chk33 v180 v244 v265), ∀ (k0_h16 : k0_cond16 v180 = 1#1), ∀ (k0_h17 : k0_cond17 v180 v244 v265 = 1#1), ∀ a, (k0_off46 v180 v244 v265) a + S1x128.size a ≤ S939x128.size a := fun v180 v244 v265 k0_hw33 k0_h16 k0_h17 => k0_hw33 k0_h16 k0_h17

def k0_off47 (v180 : BitVec 32) (v244 : BitVec 32) (v265 : BitVec 32) (v279 : BitVec 32) : Fin 2 → Nat :=
  let c1_i32_97 : BitVec 32 := 1#32
  let c31_i32 : BitVec 32 := 31#32
  let v235 : BitVec 32 := Scalar.andi v180 c31_i32
  let v250 : BitVec 32 := Scalar.shli c1_i32_97 v235
  let c1_i32_98 : BitVec 32 := 1#32
  let v251 : BitVec 32 := Scalar.subi v250 c1_i32_98
  let v252 : BitVec 32 := Scalar.andi v244 v251
  let c1_i32_99 : BitVec 32 := 1#32
  let v253 : BitVec 32 := Scalar.shrsi v252 c1_i32_99
  let c1431655765_i32_100 : BitVec 32 := 1431655765#32
  let v254 : BitVec 32 := Scalar.andi v253 c1431655765_i32_100
  let v255 : BitVec 32 := Scalar.subi v252 v254
  let c858993459_i32_101 : BitVec 32 := 858993459#32
  let v256 : BitVec 32 := Scalar.andi v255 c858993459_i32_101
  let c2_i32_102 : BitVec 32 := 2#32
  let v257 : BitVec 32 := Scalar.shrsi v255 c2_i32_102
  let c858993459_i32_103 : BitVec 32 := 858993459#32
  let v258 : BitVec 32 := Scalar.andi v257 c858993459_i32_103
  let v259 : BitVec 32 := Scalar.addi v256 v258
  let c4_i32_104 : BitVec 32 := 4#32
  let v260 : BitVec 32 := Scalar.shrsi v259 c4_i32_104
  let v261 : BitVec 32 := Scalar.addi v259 v260
  let c252645135_i32_105 : BitVec 32 := 252645135#32
  let v262 : BitVec 32 := Scalar.andi v261 c252645135_i32_105
  let c16843009_i32_106 : BitVec 32 := 16843009#32
  let v263 : BitVec 32 := Scalar.muli v262 c16843009_i32_106
  let c24_i32_107 : BitVec 32 := 24#32
  let v264 : BitVec 32 := Scalar.shrsi v263 c24_i32_107
  let v266 : BitVec 32 := Scalar.addi v265 v264
  let c10_i32_115 : BitVec 32 := 10#32
  let v283 : BitVec 32 := Scalar.muli v266 c10_i32_115
  let v284 : BitVec 32 := Scalar.addi v283 v279
  let c5_i32_116 : BitVec 32 := 5#32
  let v285 : BitVec 32 := Scalar.muli v284 c5_i32_116
  let c7_i32_117 : BitVec 32 := 7#32
  let v286 : BitVec 32 := Scalar.shrsi v285 c7_i32_117
  let v288 : Index := Scalar.indexCast v286
  let c0_119 : Index := 0#32
  ![v288.toNat, 0]
def k0_cond18 (v279 : BitVec 32) : BitVec 1 :=
  let c10_i32 : BitVec 32 := 10#32
  let v280 : BitVec 1 := Scalar.cmpi .slt v279 c10_i32
  let v281 : BitVec 32 := Scalar.extui v280
  let c0_i32_114 : BitVec 32 := 0#32
  let v282 : BitVec 1 := Scalar.cmpi .ne v281 c0_i32_114
  v282

def k0_off48 (v180 : BitVec 32) (v244 : BitVec 32) (v265 : BitVec 32) : Fin 2 → Nat :=
  let c1_i32_97 : BitVec 32 := 1#32
  let c31_i32 : BitVec 32 := 31#32
  let v235 : BitVec 32 := Scalar.andi v180 c31_i32
  let v250 : BitVec 32 := Scalar.shli c1_i32_97 v235
  let c1_i32_98 : BitVec 32 := 1#32
  let v251 : BitVec 32 := Scalar.subi v250 c1_i32_98
  let v252 : BitVec 32 := Scalar.andi v244 v251
  let c1_i32_99 : BitVec 32 := 1#32
  let v253 : BitVec 32 := Scalar.shrsi v252 c1_i32_99
  let c1431655765_i32_100 : BitVec 32 := 1431655765#32
  let v254 : BitVec 32 := Scalar.andi v253 c1431655765_i32_100
  let v255 : BitVec 32 := Scalar.subi v252 v254
  let c858993459_i32_101 : BitVec 32 := 858993459#32
  let v256 : BitVec 32 := Scalar.andi v255 c858993459_i32_101
  let c2_i32_102 : BitVec 32 := 2#32
  let v257 : BitVec 32 := Scalar.shrsi v255 c2_i32_102
  let c858993459_i32_103 : BitVec 32 := 858993459#32
  let v258 : BitVec 32 := Scalar.andi v257 c858993459_i32_103
  let v259 : BitVec 32 := Scalar.addi v256 v258
  let c4_i32_104 : BitVec 32 := 4#32
  let v260 : BitVec 32 := Scalar.shrsi v259 c4_i32_104
  let v261 : BitVec 32 := Scalar.addi v259 v260
  let c252645135_i32_105 : BitVec 32 := 252645135#32
  let v262 : BitVec 32 := Scalar.andi v261 c252645135_i32_105
  let c16843009_i32_106 : BitVec 32 := 16843009#32
  let v263 : BitVec 32 := Scalar.muli v262 c16843009_i32_106
  let c24_i32_107 : BitVec 32 := 24#32
  let v264 : BitVec 32 := Scalar.shrsi v263 c24_i32_107
  let v266 : BitVec 32 := Scalar.addi v265 v264
  let c3_i32_125 : BitVec 32 := 3#32
  let v329 : BitVec 32 := Scalar.muli v266 c3_i32_125
  let c7_i32_126 : BitVec 32 := 7#32
  let v330 : BitVec 32 := Scalar.shrsi v329 c7_i32_126
  let v332 : Index := Scalar.indexCast v330
  let c0_128 : Index := 0#32
  ![v332.toNat, 0]
def k0_off49 (v180 : BitVec 32) (v244 : BitVec 32) (v265 : BitVec 32) : Fin 2 → Nat :=
  let c1_i32_97 : BitVec 32 := 1#32
  let c31_i32 : BitVec 32 := 31#32
  let v235 : BitVec 32 := Scalar.andi v180 c31_i32
  let v250 : BitVec 32 := Scalar.shli c1_i32_97 v235
  let c1_i32_98 : BitVec 32 := 1#32
  let v251 : BitVec 32 := Scalar.subi v250 c1_i32_98
  let v252 : BitVec 32 := Scalar.andi v244 v251
  let c1_i32_99 : BitVec 32 := 1#32
  let v253 : BitVec 32 := Scalar.shrsi v252 c1_i32_99
  let c1431655765_i32_100 : BitVec 32 := 1431655765#32
  let v254 : BitVec 32 := Scalar.andi v253 c1431655765_i32_100
  let v255 : BitVec 32 := Scalar.subi v252 v254
  let c858993459_i32_101 : BitVec 32 := 858993459#32
  let v256 : BitVec 32 := Scalar.andi v255 c858993459_i32_101
  let c2_i32_102 : BitVec 32 := 2#32
  let v257 : BitVec 32 := Scalar.shrsi v255 c2_i32_102
  let c858993459_i32_103 : BitVec 32 := 858993459#32
  let v258 : BitVec 32 := Scalar.andi v257 c858993459_i32_103
  let v259 : BitVec 32 := Scalar.addi v256 v258
  let c4_i32_104 : BitVec 32 := 4#32
  let v260 : BitVec 32 := Scalar.shrsi v259 c4_i32_104
  let v261 : BitVec 32 := Scalar.addi v259 v260
  let c252645135_i32_105 : BitVec 32 := 252645135#32
  let v262 : BitVec 32 := Scalar.andi v261 c252645135_i32_105
  let c16843009_i32_106 : BitVec 32 := 16843009#32
  let v263 : BitVec 32 := Scalar.muli v262 c16843009_i32_106
  let c24_i32_107 : BitVec 32 := 24#32
  let v264 : BitVec 32 := Scalar.shrsi v263 c24_i32_107
  let v266 : BitVec 32 := Scalar.addi v265 v264
  let c7_i32_109 : BitVec 32 := 7#32
  let v270 : BitVec 32 := Scalar.shrsi v266 c7_i32_109
  let v360 : Index := Scalar.indexCast v270
  let c0_136 : Index := 0#32
  ![v360.toNat, 0]

def k0_chk34 (v180 : BitVec 32) (v244 : BitVec 32) (v265 : BitVec 32) (v279 : BitVec 32) : Prop :=
  (∀ (k0_h16 : k0_cond16 v180 = 1#1), ∀ (k0_h17 : k0_cond17 v180 v244 v265 = 1#1), ∀ (k0_h18 : k0_cond18 v279 = 1#1), ∀ a, (k0_off47 v180 v244 v265 v279) a + S2x128.size a ≤ S46876x128.size a) ∧
  (∀ (k0_h16 : k0_cond16 v180 = 1#1), ∀ (k0_h17 : k0_cond17 v180 v244 v265 = 1#1), ∀ (k0_h18 : k0_cond18 v279 = 1#1), ∀ a, (k0_off48 v180 v244 v265) a + S2x128.size a ≤ S2814x128.size a) ∧
  (∀ (k0_h16 : k0_cond16 v180 = 1#1), ∀ (k0_h17 : k0_cond17 v180 v244 v265 = 1#1), ∀ (k0_h18 : k0_cond18 v279 = 1#1), ∀ a, (k0_off49 v180 v244 v265) a + S1x128.size a ≤ S939x128.size a)
theorem k0_off47_inb : ∀ (v180 : BitVec 32) (v244 : BitVec 32) (v265 : BitVec 32) (v279 : BitVec 32) (k0_hw34 : k0_chk34 v180 v244 v265 v279), ∀ (k0_h16 : k0_cond16 v180 = 1#1), ∀ (k0_h17 : k0_cond17 v180 v244 v265 = 1#1), ∀ (k0_h18 : k0_cond18 v279 = 1#1), ∀ a, (k0_off47 v180 v244 v265 v279) a + S2x128.size a ≤ S46876x128.size a := fun v180 v244 v265 v279 k0_hw34 k0_h16 k0_h17 k0_h18 => k0_hw34.1 k0_h16 k0_h17 k0_h18
theorem k0_off48_inb : ∀ (v180 : BitVec 32) (v244 : BitVec 32) (v265 : BitVec 32) (v279 : BitVec 32) (k0_hw34 : k0_chk34 v180 v244 v265 v279), ∀ (k0_h16 : k0_cond16 v180 = 1#1), ∀ (k0_h17 : k0_cond17 v180 v244 v265 = 1#1), ∀ (k0_h18 : k0_cond18 v279 = 1#1), ∀ a, (k0_off48 v180 v244 v265) a + S2x128.size a ≤ S2814x128.size a := fun v180 v244 v265 v279 k0_hw34 k0_h16 k0_h17 k0_h18 => k0_hw34.2.1 k0_h16 k0_h17 k0_h18
theorem k0_off49_inb : ∀ (v180 : BitVec 32) (v244 : BitVec 32) (v265 : BitVec 32) (v279 : BitVec 32) (k0_hw34 : k0_chk34 v180 v244 v265 v279), ∀ (k0_h16 : k0_cond16 v180 = 1#1), ∀ (k0_h17 : k0_cond17 v180 v244 v265 = 1#1), ∀ (k0_h18 : k0_cond18 v279 = 1#1), ∀ a, (k0_off49 v180 v244 v265) a + S1x128.size a ≤ S939x128.size a := fun v180 v244 v265 v279 k0_hw34 k0_h16 k0_h17 k0_h18 => k0_hw34.2.2 k0_h16 k0_h17 k0_h18

def k0_off50 (v185 : BitVec 32) : Fin 2 → Nat :=
  let c5_i32 : BitVec 32 := 5#32
  let v234 : BitVec 32 := Scalar.shrsi v185 c5_i32
  let c7_i32_91 : BitVec 32 := 7#32
  let v236 : BitVec 32 := Scalar.shrsi v234 c7_i32_91
  let v240 : Index := Scalar.indexCast v236
  let c0_95 : Index := 0#32
  ![v240.toNat, 0]
def k0_cond19 (v185 : BitVec 32) : BitVec 1 :=
  let c46656000_i32_71 : BitVec 32 := 46656000#32
  let v186 : BitVec 1 := Scalar.cmpi .slt v185 c46656000_i32_71
  let v187 : BitVec 32 := Scalar.extui v186
  let c0_i32_72 : BitVec 32 := 0#32
  let v188 : BitVec 1 := Scalar.cmpi .ne v187 c0_i32_72
  v188

def k0_chk35 (v185 : BitVec 32) : Prop :=
  (∀ (k0_h19 : k0_cond19 v185 = 1#1), ∀ a, (k0_off50 v185) a + S1x128.size a ≤ S11391x128.size a)
theorem k0_off50_inb : ∀ (v185 : BitVec 32) (k0_hw35 : k0_chk35 v185), ∀ (k0_h19 : k0_cond19 v185 = 1#1), ∀ a, (k0_off50 v185) a + S1x128.size a ≤ S11391x128.size a := fun v185 k0_hw35 k0_h19 => k0_hw35 k0_h19

def k0_off51 (v185 : BitVec 32) (v244 : BitVec 32) (v265 : BitVec 32) : Fin 2 → Nat :=
  let c1_i32_97 : BitVec 32 := 1#32
  let c31_i32 : BitVec 32 := 31#32
  let v235 : BitVec 32 := Scalar.andi v185 c31_i32
  let v250 : BitVec 32 := Scalar.shli c1_i32_97 v235
  let c1_i32_98 : BitVec 32 := 1#32
  let v251 : BitVec 32 := Scalar.subi v250 c1_i32_98
  let v252 : BitVec 32 := Scalar.andi v244 v251
  let c1_i32_99 : BitVec 32 := 1#32
  let v253 : BitVec 32 := Scalar.shrsi v252 c1_i32_99
  let c1431655765_i32_100 : BitVec 32 := 1431655765#32
  let v254 : BitVec 32 := Scalar.andi v253 c1431655765_i32_100
  let v255 : BitVec 32 := Scalar.subi v252 v254
  let c858993459_i32_101 : BitVec 32 := 858993459#32
  let v256 : BitVec 32 := Scalar.andi v255 c858993459_i32_101
  let c2_i32_102 : BitVec 32 := 2#32
  let v257 : BitVec 32 := Scalar.shrsi v255 c2_i32_102
  let c858993459_i32_103 : BitVec 32 := 858993459#32
  let v258 : BitVec 32 := Scalar.andi v257 c858993459_i32_103
  let v259 : BitVec 32 := Scalar.addi v256 v258
  let c4_i32_104 : BitVec 32 := 4#32
  let v260 : BitVec 32 := Scalar.shrsi v259 c4_i32_104
  let v261 : BitVec 32 := Scalar.addi v259 v260
  let c252645135_i32_105 : BitVec 32 := 252645135#32
  let v262 : BitVec 32 := Scalar.andi v261 c252645135_i32_105
  let c16843009_i32_106 : BitVec 32 := 16843009#32
  let v263 : BitVec 32 := Scalar.muli v262 c16843009_i32_106
  let c24_i32_107 : BitVec 32 := 24#32
  let v264 : BitVec 32 := Scalar.shrsi v263 c24_i32_107
  let v266 : BitVec 32 := Scalar.addi v265 v264
  let c7_i32_109 : BitVec 32 := 7#32
  let v270 : BitVec 32 := Scalar.shrsi v266 c7_i32_109
  let v272 : Index := Scalar.indexCast v270
  let c0_111 : Index := 0#32
  ![v272.toNat, 0]
def k0_cond20 (v185 : BitVec 32) (v244 : BitVec 32) (v265 : BitVec 32) : BitVec 1 :=
  let c1_i32_97 : BitVec 32 := 1#32
  let c31_i32 : BitVec 32 := 31#32
  let v235 : BitVec 32 := Scalar.andi v185 c31_i32
  let v250 : BitVec 32 := Scalar.shli c1_i32_97 v235
  let c1_i32_98 : BitVec 32 := 1#32
  let v251 : BitVec 32 := Scalar.subi v250 c1_i32_98
  let v252 : BitVec 32 := Scalar.andi v244 v251
  let c1_i32_99 : BitVec 32 := 1#32
  let v253 : BitVec 32 := Scalar.shrsi v252 c1_i32_99
  let c1431655765_i32_100 : BitVec 32 := 1431655765#32
  let v254 : BitVec 32 := Scalar.andi v253 c1431655765_i32_100
  let v255 : BitVec 32 := Scalar.subi v252 v254
  let c858993459_i32_101 : BitVec 32 := 858993459#32
  let v256 : BitVec 32 := Scalar.andi v255 c858993459_i32_101
  let c2_i32_102 : BitVec 32 := 2#32
  let v257 : BitVec 32 := Scalar.shrsi v255 c2_i32_102
  let c858993459_i32_103 : BitVec 32 := 858993459#32
  let v258 : BitVec 32 := Scalar.andi v257 c858993459_i32_103
  let v259 : BitVec 32 := Scalar.addi v256 v258
  let c4_i32_104 : BitVec 32 := 4#32
  let v260 : BitVec 32 := Scalar.shrsi v259 c4_i32_104
  let v261 : BitVec 32 := Scalar.addi v259 v260
  let c252645135_i32_105 : BitVec 32 := 252645135#32
  let v262 : BitVec 32 := Scalar.andi v261 c252645135_i32_105
  let c16843009_i32_106 : BitVec 32 := 16843009#32
  let v263 : BitVec 32 := Scalar.muli v262 c16843009_i32_106
  let c24_i32_107 : BitVec 32 := 24#32
  let v264 : BitVec 32 := Scalar.shrsi v263 c24_i32_107
  let v266 : BitVec 32 := Scalar.addi v265 v264
  let c120000_i32 : BitVec 32 := 120000#32
  let v267 : BitVec 1 := Scalar.cmpi .slt v266 c120000_i32
  let v268 : BitVec 32 := Scalar.extui v267
  let c0_i32_108 : BitVec 32 := 0#32
  let v269 : BitVec 1 := Scalar.cmpi .ne v268 c0_i32_108
  v269

def k0_chk36 (v185 : BitVec 32) (v244 : BitVec 32) (v265 : BitVec 32) : Prop :=
  (∀ (k0_h19 : k0_cond19 v185 = 1#1), ∀ (k0_h20 : k0_cond20 v185 v244 v265 = 1#1), ∀ a, (k0_off51 v185 v244 v265) a + S1x128.size a ≤ S939x128.size a)
theorem k0_off51_inb : ∀ (v185 : BitVec 32) (v244 : BitVec 32) (v265 : BitVec 32) (k0_hw36 : k0_chk36 v185 v244 v265), ∀ (k0_h19 : k0_cond19 v185 = 1#1), ∀ (k0_h20 : k0_cond20 v185 v244 v265 = 1#1), ∀ a, (k0_off51 v185 v244 v265) a + S1x128.size a ≤ S939x128.size a := fun v185 v244 v265 k0_hw36 k0_h19 k0_h20 => k0_hw36 k0_h19 k0_h20

def k0_off52 (v185 : BitVec 32) (v244 : BitVec 32) (v265 : BitVec 32) (v279 : BitVec 32) : Fin 2 → Nat :=
  let c1_i32_97 : BitVec 32 := 1#32
  let c31_i32 : BitVec 32 := 31#32
  let v235 : BitVec 32 := Scalar.andi v185 c31_i32
  let v250 : BitVec 32 := Scalar.shli c1_i32_97 v235
  let c1_i32_98 : BitVec 32 := 1#32
  let v251 : BitVec 32 := Scalar.subi v250 c1_i32_98
  let v252 : BitVec 32 := Scalar.andi v244 v251
  let c1_i32_99 : BitVec 32 := 1#32
  let v253 : BitVec 32 := Scalar.shrsi v252 c1_i32_99
  let c1431655765_i32_100 : BitVec 32 := 1431655765#32
  let v254 : BitVec 32 := Scalar.andi v253 c1431655765_i32_100
  let v255 : BitVec 32 := Scalar.subi v252 v254
  let c858993459_i32_101 : BitVec 32 := 858993459#32
  let v256 : BitVec 32 := Scalar.andi v255 c858993459_i32_101
  let c2_i32_102 : BitVec 32 := 2#32
  let v257 : BitVec 32 := Scalar.shrsi v255 c2_i32_102
  let c858993459_i32_103 : BitVec 32 := 858993459#32
  let v258 : BitVec 32 := Scalar.andi v257 c858993459_i32_103
  let v259 : BitVec 32 := Scalar.addi v256 v258
  let c4_i32_104 : BitVec 32 := 4#32
  let v260 : BitVec 32 := Scalar.shrsi v259 c4_i32_104
  let v261 : BitVec 32 := Scalar.addi v259 v260
  let c252645135_i32_105 : BitVec 32 := 252645135#32
  let v262 : BitVec 32 := Scalar.andi v261 c252645135_i32_105
  let c16843009_i32_106 : BitVec 32 := 16843009#32
  let v263 : BitVec 32 := Scalar.muli v262 c16843009_i32_106
  let c24_i32_107 : BitVec 32 := 24#32
  let v264 : BitVec 32 := Scalar.shrsi v263 c24_i32_107
  let v266 : BitVec 32 := Scalar.addi v265 v264
  let c10_i32_115 : BitVec 32 := 10#32
  let v283 : BitVec 32 := Scalar.muli v266 c10_i32_115
  let v284 : BitVec 32 := Scalar.addi v283 v279
  let c5_i32_116 : BitVec 32 := 5#32
  let v285 : BitVec 32 := Scalar.muli v284 c5_i32_116
  let c7_i32_117 : BitVec 32 := 7#32
  let v286 : BitVec 32 := Scalar.shrsi v285 c7_i32_117
  let v288 : Index := Scalar.indexCast v286
  let c0_119 : Index := 0#32
  ![v288.toNat, 0]
def k0_cond21 (v279 : BitVec 32) : BitVec 1 :=
  let c10_i32 : BitVec 32 := 10#32
  let v280 : BitVec 1 := Scalar.cmpi .slt v279 c10_i32
  let v281 : BitVec 32 := Scalar.extui v280
  let c0_i32_114 : BitVec 32 := 0#32
  let v282 : BitVec 1 := Scalar.cmpi .ne v281 c0_i32_114
  v282

def k0_off53 (v185 : BitVec 32) (v244 : BitVec 32) (v265 : BitVec 32) : Fin 2 → Nat :=
  let c1_i32_97 : BitVec 32 := 1#32
  let c31_i32 : BitVec 32 := 31#32
  let v235 : BitVec 32 := Scalar.andi v185 c31_i32
  let v250 : BitVec 32 := Scalar.shli c1_i32_97 v235
  let c1_i32_98 : BitVec 32 := 1#32
  let v251 : BitVec 32 := Scalar.subi v250 c1_i32_98
  let v252 : BitVec 32 := Scalar.andi v244 v251
  let c1_i32_99 : BitVec 32 := 1#32
  let v253 : BitVec 32 := Scalar.shrsi v252 c1_i32_99
  let c1431655765_i32_100 : BitVec 32 := 1431655765#32
  let v254 : BitVec 32 := Scalar.andi v253 c1431655765_i32_100
  let v255 : BitVec 32 := Scalar.subi v252 v254
  let c858993459_i32_101 : BitVec 32 := 858993459#32
  let v256 : BitVec 32 := Scalar.andi v255 c858993459_i32_101
  let c2_i32_102 : BitVec 32 := 2#32
  let v257 : BitVec 32 := Scalar.shrsi v255 c2_i32_102
  let c858993459_i32_103 : BitVec 32 := 858993459#32
  let v258 : BitVec 32 := Scalar.andi v257 c858993459_i32_103
  let v259 : BitVec 32 := Scalar.addi v256 v258
  let c4_i32_104 : BitVec 32 := 4#32
  let v260 : BitVec 32 := Scalar.shrsi v259 c4_i32_104
  let v261 : BitVec 32 := Scalar.addi v259 v260
  let c252645135_i32_105 : BitVec 32 := 252645135#32
  let v262 : BitVec 32 := Scalar.andi v261 c252645135_i32_105
  let c16843009_i32_106 : BitVec 32 := 16843009#32
  let v263 : BitVec 32 := Scalar.muli v262 c16843009_i32_106
  let c24_i32_107 : BitVec 32 := 24#32
  let v264 : BitVec 32 := Scalar.shrsi v263 c24_i32_107
  let v266 : BitVec 32 := Scalar.addi v265 v264
  let c3_i32_125 : BitVec 32 := 3#32
  let v329 : BitVec 32 := Scalar.muli v266 c3_i32_125
  let c7_i32_126 : BitVec 32 := 7#32
  let v330 : BitVec 32 := Scalar.shrsi v329 c7_i32_126
  let v332 : Index := Scalar.indexCast v330
  let c0_128 : Index := 0#32
  ![v332.toNat, 0]
def k0_off54 (v185 : BitVec 32) (v244 : BitVec 32) (v265 : BitVec 32) : Fin 2 → Nat :=
  let c1_i32_97 : BitVec 32 := 1#32
  let c31_i32 : BitVec 32 := 31#32
  let v235 : BitVec 32 := Scalar.andi v185 c31_i32
  let v250 : BitVec 32 := Scalar.shli c1_i32_97 v235
  let c1_i32_98 : BitVec 32 := 1#32
  let v251 : BitVec 32 := Scalar.subi v250 c1_i32_98
  let v252 : BitVec 32 := Scalar.andi v244 v251
  let c1_i32_99 : BitVec 32 := 1#32
  let v253 : BitVec 32 := Scalar.shrsi v252 c1_i32_99
  let c1431655765_i32_100 : BitVec 32 := 1431655765#32
  let v254 : BitVec 32 := Scalar.andi v253 c1431655765_i32_100
  let v255 : BitVec 32 := Scalar.subi v252 v254
  let c858993459_i32_101 : BitVec 32 := 858993459#32
  let v256 : BitVec 32 := Scalar.andi v255 c858993459_i32_101
  let c2_i32_102 : BitVec 32 := 2#32
  let v257 : BitVec 32 := Scalar.shrsi v255 c2_i32_102
  let c858993459_i32_103 : BitVec 32 := 858993459#32
  let v258 : BitVec 32 := Scalar.andi v257 c858993459_i32_103
  let v259 : BitVec 32 := Scalar.addi v256 v258
  let c4_i32_104 : BitVec 32 := 4#32
  let v260 : BitVec 32 := Scalar.shrsi v259 c4_i32_104
  let v261 : BitVec 32 := Scalar.addi v259 v260
  let c252645135_i32_105 : BitVec 32 := 252645135#32
  let v262 : BitVec 32 := Scalar.andi v261 c252645135_i32_105
  let c16843009_i32_106 : BitVec 32 := 16843009#32
  let v263 : BitVec 32 := Scalar.muli v262 c16843009_i32_106
  let c24_i32_107 : BitVec 32 := 24#32
  let v264 : BitVec 32 := Scalar.shrsi v263 c24_i32_107
  let v266 : BitVec 32 := Scalar.addi v265 v264
  let c7_i32_109 : BitVec 32 := 7#32
  let v270 : BitVec 32 := Scalar.shrsi v266 c7_i32_109
  let v360 : Index := Scalar.indexCast v270
  let c0_136 : Index := 0#32
  ![v360.toNat, 0]

def k0_chk37 (v185 : BitVec 32) (v244 : BitVec 32) (v265 : BitVec 32) (v279 : BitVec 32) : Prop :=
  (∀ (k0_h19 : k0_cond19 v185 = 1#1), ∀ (k0_h20 : k0_cond20 v185 v244 v265 = 1#1), ∀ (k0_h21 : k0_cond21 v279 = 1#1), ∀ a, (k0_off52 v185 v244 v265 v279) a + S2x128.size a ≤ S46876x128.size a) ∧
  (∀ (k0_h19 : k0_cond19 v185 = 1#1), ∀ (k0_h20 : k0_cond20 v185 v244 v265 = 1#1), ∀ (k0_h21 : k0_cond21 v279 = 1#1), ∀ a, (k0_off53 v185 v244 v265) a + S2x128.size a ≤ S2814x128.size a) ∧
  (∀ (k0_h19 : k0_cond19 v185 = 1#1), ∀ (k0_h20 : k0_cond20 v185 v244 v265 = 1#1), ∀ (k0_h21 : k0_cond21 v279 = 1#1), ∀ a, (k0_off54 v185 v244 v265) a + S1x128.size a ≤ S939x128.size a)
theorem k0_off52_inb : ∀ (v185 : BitVec 32) (v244 : BitVec 32) (v265 : BitVec 32) (v279 : BitVec 32) (k0_hw37 : k0_chk37 v185 v244 v265 v279), ∀ (k0_h19 : k0_cond19 v185 = 1#1), ∀ (k0_h20 : k0_cond20 v185 v244 v265 = 1#1), ∀ (k0_h21 : k0_cond21 v279 = 1#1), ∀ a, (k0_off52 v185 v244 v265 v279) a + S2x128.size a ≤ S46876x128.size a := fun v185 v244 v265 v279 k0_hw37 k0_h19 k0_h20 k0_h21 => k0_hw37.1 k0_h19 k0_h20 k0_h21
theorem k0_off53_inb : ∀ (v185 : BitVec 32) (v244 : BitVec 32) (v265 : BitVec 32) (v279 : BitVec 32) (k0_hw37 : k0_chk37 v185 v244 v265 v279), ∀ (k0_h19 : k0_cond19 v185 = 1#1), ∀ (k0_h20 : k0_cond20 v185 v244 v265 = 1#1), ∀ (k0_h21 : k0_cond21 v279 = 1#1), ∀ a, (k0_off53 v185 v244 v265) a + S2x128.size a ≤ S2814x128.size a := fun v185 v244 v265 v279 k0_hw37 k0_h19 k0_h20 k0_h21 => k0_hw37.2.1 k0_h19 k0_h20 k0_h21
theorem k0_off54_inb : ∀ (v185 : BitVec 32) (v244 : BitVec 32) (v265 : BitVec 32) (v279 : BitVec 32) (k0_hw37 : k0_chk37 v185 v244 v265 v279), ∀ (k0_h19 : k0_cond19 v185 = 1#1), ∀ (k0_h20 : k0_cond20 v185 v244 v265 = 1#1), ∀ (k0_h21 : k0_cond21 v279 = 1#1), ∀ a, (k0_off54 v185 v244 v265) a + S1x128.size a ≤ S939x128.size a := fun v185 v244 v265 v279 k0_hw37 k0_h19 k0_h20 k0_h21 => k0_hw37.2.2 k0_h19 k0_h20 k0_h21

def k0_off55 (v190 : BitVec 32) : Fin 2 → Nat :=
  let c5_i32 : BitVec 32 := 5#32
  let v234 : BitVec 32 := Scalar.shrsi v190 c5_i32
  let c7_i32_91 : BitVec 32 := 7#32
  let v236 : BitVec 32 := Scalar.shrsi v234 c7_i32_91
  let v240 : Index := Scalar.indexCast v236
  let c0_95 : Index := 0#32
  ![v240.toNat, 0]
def k0_cond22 (v190 : BitVec 32) : BitVec 1 :=
  let c46656000_i32_73 : BitVec 32 := 46656000#32
  let v191 : BitVec 1 := Scalar.cmpi .slt v190 c46656000_i32_73
  let v192 : BitVec 32 := Scalar.extui v191
  let c0_i32_74 : BitVec 32 := 0#32
  let v193 : BitVec 1 := Scalar.cmpi .ne v192 c0_i32_74
  v193

def k0_chk38 (v190 : BitVec 32) : Prop :=
  (∀ (k0_h22 : k0_cond22 v190 = 1#1), ∀ a, (k0_off55 v190) a + S1x128.size a ≤ S11391x128.size a)
theorem k0_off55_inb : ∀ (v190 : BitVec 32) (k0_hw38 : k0_chk38 v190), ∀ (k0_h22 : k0_cond22 v190 = 1#1), ∀ a, (k0_off55 v190) a + S1x128.size a ≤ S11391x128.size a := fun v190 k0_hw38 k0_h22 => k0_hw38 k0_h22

def k0_off56 (v190 : BitVec 32) (v244 : BitVec 32) (v265 : BitVec 32) : Fin 2 → Nat :=
  let c1_i32_97 : BitVec 32 := 1#32
  let c31_i32 : BitVec 32 := 31#32
  let v235 : BitVec 32 := Scalar.andi v190 c31_i32
  let v250 : BitVec 32 := Scalar.shli c1_i32_97 v235
  let c1_i32_98 : BitVec 32 := 1#32
  let v251 : BitVec 32 := Scalar.subi v250 c1_i32_98
  let v252 : BitVec 32 := Scalar.andi v244 v251
  let c1_i32_99 : BitVec 32 := 1#32
  let v253 : BitVec 32 := Scalar.shrsi v252 c1_i32_99
  let c1431655765_i32_100 : BitVec 32 := 1431655765#32
  let v254 : BitVec 32 := Scalar.andi v253 c1431655765_i32_100
  let v255 : BitVec 32 := Scalar.subi v252 v254
  let c858993459_i32_101 : BitVec 32 := 858993459#32
  let v256 : BitVec 32 := Scalar.andi v255 c858993459_i32_101
  let c2_i32_102 : BitVec 32 := 2#32
  let v257 : BitVec 32 := Scalar.shrsi v255 c2_i32_102
  let c858993459_i32_103 : BitVec 32 := 858993459#32
  let v258 : BitVec 32 := Scalar.andi v257 c858993459_i32_103
  let v259 : BitVec 32 := Scalar.addi v256 v258
  let c4_i32_104 : BitVec 32 := 4#32
  let v260 : BitVec 32 := Scalar.shrsi v259 c4_i32_104
  let v261 : BitVec 32 := Scalar.addi v259 v260
  let c252645135_i32_105 : BitVec 32 := 252645135#32
  let v262 : BitVec 32 := Scalar.andi v261 c252645135_i32_105
  let c16843009_i32_106 : BitVec 32 := 16843009#32
  let v263 : BitVec 32 := Scalar.muli v262 c16843009_i32_106
  let c24_i32_107 : BitVec 32 := 24#32
  let v264 : BitVec 32 := Scalar.shrsi v263 c24_i32_107
  let v266 : BitVec 32 := Scalar.addi v265 v264
  let c7_i32_109 : BitVec 32 := 7#32
  let v270 : BitVec 32 := Scalar.shrsi v266 c7_i32_109
  let v272 : Index := Scalar.indexCast v270
  let c0_111 : Index := 0#32
  ![v272.toNat, 0]
def k0_cond23 (v190 : BitVec 32) (v244 : BitVec 32) (v265 : BitVec 32) : BitVec 1 :=
  let c1_i32_97 : BitVec 32 := 1#32
  let c31_i32 : BitVec 32 := 31#32
  let v235 : BitVec 32 := Scalar.andi v190 c31_i32
  let v250 : BitVec 32 := Scalar.shli c1_i32_97 v235
  let c1_i32_98 : BitVec 32 := 1#32
  let v251 : BitVec 32 := Scalar.subi v250 c1_i32_98
  let v252 : BitVec 32 := Scalar.andi v244 v251
  let c1_i32_99 : BitVec 32 := 1#32
  let v253 : BitVec 32 := Scalar.shrsi v252 c1_i32_99
  let c1431655765_i32_100 : BitVec 32 := 1431655765#32
  let v254 : BitVec 32 := Scalar.andi v253 c1431655765_i32_100
  let v255 : BitVec 32 := Scalar.subi v252 v254
  let c858993459_i32_101 : BitVec 32 := 858993459#32
  let v256 : BitVec 32 := Scalar.andi v255 c858993459_i32_101
  let c2_i32_102 : BitVec 32 := 2#32
  let v257 : BitVec 32 := Scalar.shrsi v255 c2_i32_102
  let c858993459_i32_103 : BitVec 32 := 858993459#32
  let v258 : BitVec 32 := Scalar.andi v257 c858993459_i32_103
  let v259 : BitVec 32 := Scalar.addi v256 v258
  let c4_i32_104 : BitVec 32 := 4#32
  let v260 : BitVec 32 := Scalar.shrsi v259 c4_i32_104
  let v261 : BitVec 32 := Scalar.addi v259 v260
  let c252645135_i32_105 : BitVec 32 := 252645135#32
  let v262 : BitVec 32 := Scalar.andi v261 c252645135_i32_105
  let c16843009_i32_106 : BitVec 32 := 16843009#32
  let v263 : BitVec 32 := Scalar.muli v262 c16843009_i32_106
  let c24_i32_107 : BitVec 32 := 24#32
  let v264 : BitVec 32 := Scalar.shrsi v263 c24_i32_107
  let v266 : BitVec 32 := Scalar.addi v265 v264
  let c120000_i32 : BitVec 32 := 120000#32
  let v267 : BitVec 1 := Scalar.cmpi .slt v266 c120000_i32
  let v268 : BitVec 32 := Scalar.extui v267
  let c0_i32_108 : BitVec 32 := 0#32
  let v269 : BitVec 1 := Scalar.cmpi .ne v268 c0_i32_108
  v269

def k0_chk39 (v190 : BitVec 32) (v244 : BitVec 32) (v265 : BitVec 32) : Prop :=
  (∀ (k0_h22 : k0_cond22 v190 = 1#1), ∀ (k0_h23 : k0_cond23 v190 v244 v265 = 1#1), ∀ a, (k0_off56 v190 v244 v265) a + S1x128.size a ≤ S939x128.size a)
theorem k0_off56_inb : ∀ (v190 : BitVec 32) (v244 : BitVec 32) (v265 : BitVec 32) (k0_hw39 : k0_chk39 v190 v244 v265), ∀ (k0_h22 : k0_cond22 v190 = 1#1), ∀ (k0_h23 : k0_cond23 v190 v244 v265 = 1#1), ∀ a, (k0_off56 v190 v244 v265) a + S1x128.size a ≤ S939x128.size a := fun v190 v244 v265 k0_hw39 k0_h22 k0_h23 => k0_hw39 k0_h22 k0_h23

def k0_off57 (v190 : BitVec 32) (v244 : BitVec 32) (v265 : BitVec 32) (v279 : BitVec 32) : Fin 2 → Nat :=
  let c1_i32_97 : BitVec 32 := 1#32
  let c31_i32 : BitVec 32 := 31#32
  let v235 : BitVec 32 := Scalar.andi v190 c31_i32
  let v250 : BitVec 32 := Scalar.shli c1_i32_97 v235
  let c1_i32_98 : BitVec 32 := 1#32
  let v251 : BitVec 32 := Scalar.subi v250 c1_i32_98
  let v252 : BitVec 32 := Scalar.andi v244 v251
  let c1_i32_99 : BitVec 32 := 1#32
  let v253 : BitVec 32 := Scalar.shrsi v252 c1_i32_99
  let c1431655765_i32_100 : BitVec 32 := 1431655765#32
  let v254 : BitVec 32 := Scalar.andi v253 c1431655765_i32_100
  let v255 : BitVec 32 := Scalar.subi v252 v254
  let c858993459_i32_101 : BitVec 32 := 858993459#32
  let v256 : BitVec 32 := Scalar.andi v255 c858993459_i32_101
  let c2_i32_102 : BitVec 32 := 2#32
  let v257 : BitVec 32 := Scalar.shrsi v255 c2_i32_102
  let c858993459_i32_103 : BitVec 32 := 858993459#32
  let v258 : BitVec 32 := Scalar.andi v257 c858993459_i32_103
  let v259 : BitVec 32 := Scalar.addi v256 v258
  let c4_i32_104 : BitVec 32 := 4#32
  let v260 : BitVec 32 := Scalar.shrsi v259 c4_i32_104
  let v261 : BitVec 32 := Scalar.addi v259 v260
  let c252645135_i32_105 : BitVec 32 := 252645135#32
  let v262 : BitVec 32 := Scalar.andi v261 c252645135_i32_105
  let c16843009_i32_106 : BitVec 32 := 16843009#32
  let v263 : BitVec 32 := Scalar.muli v262 c16843009_i32_106
  let c24_i32_107 : BitVec 32 := 24#32
  let v264 : BitVec 32 := Scalar.shrsi v263 c24_i32_107
  let v266 : BitVec 32 := Scalar.addi v265 v264
  let c10_i32_115 : BitVec 32 := 10#32
  let v283 : BitVec 32 := Scalar.muli v266 c10_i32_115
  let v284 : BitVec 32 := Scalar.addi v283 v279
  let c5_i32_116 : BitVec 32 := 5#32
  let v285 : BitVec 32 := Scalar.muli v284 c5_i32_116
  let c7_i32_117 : BitVec 32 := 7#32
  let v286 : BitVec 32 := Scalar.shrsi v285 c7_i32_117
  let v288 : Index := Scalar.indexCast v286
  let c0_119 : Index := 0#32
  ![v288.toNat, 0]
def k0_cond24 (v279 : BitVec 32) : BitVec 1 :=
  let c10_i32 : BitVec 32 := 10#32
  let v280 : BitVec 1 := Scalar.cmpi .slt v279 c10_i32
  let v281 : BitVec 32 := Scalar.extui v280
  let c0_i32_114 : BitVec 32 := 0#32
  let v282 : BitVec 1 := Scalar.cmpi .ne v281 c0_i32_114
  v282

def k0_off58 (v190 : BitVec 32) (v244 : BitVec 32) (v265 : BitVec 32) : Fin 2 → Nat :=
  let c1_i32_97 : BitVec 32 := 1#32
  let c31_i32 : BitVec 32 := 31#32
  let v235 : BitVec 32 := Scalar.andi v190 c31_i32
  let v250 : BitVec 32 := Scalar.shli c1_i32_97 v235
  let c1_i32_98 : BitVec 32 := 1#32
  let v251 : BitVec 32 := Scalar.subi v250 c1_i32_98
  let v252 : BitVec 32 := Scalar.andi v244 v251
  let c1_i32_99 : BitVec 32 := 1#32
  let v253 : BitVec 32 := Scalar.shrsi v252 c1_i32_99
  let c1431655765_i32_100 : BitVec 32 := 1431655765#32
  let v254 : BitVec 32 := Scalar.andi v253 c1431655765_i32_100
  let v255 : BitVec 32 := Scalar.subi v252 v254
  let c858993459_i32_101 : BitVec 32 := 858993459#32
  let v256 : BitVec 32 := Scalar.andi v255 c858993459_i32_101
  let c2_i32_102 : BitVec 32 := 2#32
  let v257 : BitVec 32 := Scalar.shrsi v255 c2_i32_102
  let c858993459_i32_103 : BitVec 32 := 858993459#32
  let v258 : BitVec 32 := Scalar.andi v257 c858993459_i32_103
  let v259 : BitVec 32 := Scalar.addi v256 v258
  let c4_i32_104 : BitVec 32 := 4#32
  let v260 : BitVec 32 := Scalar.shrsi v259 c4_i32_104
  let v261 : BitVec 32 := Scalar.addi v259 v260
  let c252645135_i32_105 : BitVec 32 := 252645135#32
  let v262 : BitVec 32 := Scalar.andi v261 c252645135_i32_105
  let c16843009_i32_106 : BitVec 32 := 16843009#32
  let v263 : BitVec 32 := Scalar.muli v262 c16843009_i32_106
  let c24_i32_107 : BitVec 32 := 24#32
  let v264 : BitVec 32 := Scalar.shrsi v263 c24_i32_107
  let v266 : BitVec 32 := Scalar.addi v265 v264
  let c3_i32_125 : BitVec 32 := 3#32
  let v329 : BitVec 32 := Scalar.muli v266 c3_i32_125
  let c7_i32_126 : BitVec 32 := 7#32
  let v330 : BitVec 32 := Scalar.shrsi v329 c7_i32_126
  let v332 : Index := Scalar.indexCast v330
  let c0_128 : Index := 0#32
  ![v332.toNat, 0]
def k0_off59 (v190 : BitVec 32) (v244 : BitVec 32) (v265 : BitVec 32) : Fin 2 → Nat :=
  let c1_i32_97 : BitVec 32 := 1#32
  let c31_i32 : BitVec 32 := 31#32
  let v235 : BitVec 32 := Scalar.andi v190 c31_i32
  let v250 : BitVec 32 := Scalar.shli c1_i32_97 v235
  let c1_i32_98 : BitVec 32 := 1#32
  let v251 : BitVec 32 := Scalar.subi v250 c1_i32_98
  let v252 : BitVec 32 := Scalar.andi v244 v251
  let c1_i32_99 : BitVec 32 := 1#32
  let v253 : BitVec 32 := Scalar.shrsi v252 c1_i32_99
  let c1431655765_i32_100 : BitVec 32 := 1431655765#32
  let v254 : BitVec 32 := Scalar.andi v253 c1431655765_i32_100
  let v255 : BitVec 32 := Scalar.subi v252 v254
  let c858993459_i32_101 : BitVec 32 := 858993459#32
  let v256 : BitVec 32 := Scalar.andi v255 c858993459_i32_101
  let c2_i32_102 : BitVec 32 := 2#32
  let v257 : BitVec 32 := Scalar.shrsi v255 c2_i32_102
  let c858993459_i32_103 : BitVec 32 := 858993459#32
  let v258 : BitVec 32 := Scalar.andi v257 c858993459_i32_103
  let v259 : BitVec 32 := Scalar.addi v256 v258
  let c4_i32_104 : BitVec 32 := 4#32
  let v260 : BitVec 32 := Scalar.shrsi v259 c4_i32_104
  let v261 : BitVec 32 := Scalar.addi v259 v260
  let c252645135_i32_105 : BitVec 32 := 252645135#32
  let v262 : BitVec 32 := Scalar.andi v261 c252645135_i32_105
  let c16843009_i32_106 : BitVec 32 := 16843009#32
  let v263 : BitVec 32 := Scalar.muli v262 c16843009_i32_106
  let c24_i32_107 : BitVec 32 := 24#32
  let v264 : BitVec 32 := Scalar.shrsi v263 c24_i32_107
  let v266 : BitVec 32 := Scalar.addi v265 v264
  let c7_i32_109 : BitVec 32 := 7#32
  let v270 : BitVec 32 := Scalar.shrsi v266 c7_i32_109
  let v360 : Index := Scalar.indexCast v270
  let c0_136 : Index := 0#32
  ![v360.toNat, 0]

def k0_chk40 (v190 : BitVec 32) (v244 : BitVec 32) (v265 : BitVec 32) (v279 : BitVec 32) : Prop :=
  (∀ (k0_h22 : k0_cond22 v190 = 1#1), ∀ (k0_h23 : k0_cond23 v190 v244 v265 = 1#1), ∀ (k0_h24 : k0_cond24 v279 = 1#1), ∀ a, (k0_off57 v190 v244 v265 v279) a + S2x128.size a ≤ S46876x128.size a) ∧
  (∀ (k0_h22 : k0_cond22 v190 = 1#1), ∀ (k0_h23 : k0_cond23 v190 v244 v265 = 1#1), ∀ (k0_h24 : k0_cond24 v279 = 1#1), ∀ a, (k0_off58 v190 v244 v265) a + S2x128.size a ≤ S2814x128.size a) ∧
  (∀ (k0_h22 : k0_cond22 v190 = 1#1), ∀ (k0_h23 : k0_cond23 v190 v244 v265 = 1#1), ∀ (k0_h24 : k0_cond24 v279 = 1#1), ∀ a, (k0_off59 v190 v244 v265) a + S1x128.size a ≤ S939x128.size a)
theorem k0_off57_inb : ∀ (v190 : BitVec 32) (v244 : BitVec 32) (v265 : BitVec 32) (v279 : BitVec 32) (k0_hw40 : k0_chk40 v190 v244 v265 v279), ∀ (k0_h22 : k0_cond22 v190 = 1#1), ∀ (k0_h23 : k0_cond23 v190 v244 v265 = 1#1), ∀ (k0_h24 : k0_cond24 v279 = 1#1), ∀ a, (k0_off57 v190 v244 v265 v279) a + S2x128.size a ≤ S46876x128.size a := fun v190 v244 v265 v279 k0_hw40 k0_h22 k0_h23 k0_h24 => k0_hw40.1 k0_h22 k0_h23 k0_h24
theorem k0_off58_inb : ∀ (v190 : BitVec 32) (v244 : BitVec 32) (v265 : BitVec 32) (v279 : BitVec 32) (k0_hw40 : k0_chk40 v190 v244 v265 v279), ∀ (k0_h22 : k0_cond22 v190 = 1#1), ∀ (k0_h23 : k0_cond23 v190 v244 v265 = 1#1), ∀ (k0_h24 : k0_cond24 v279 = 1#1), ∀ a, (k0_off58 v190 v244 v265) a + S2x128.size a ≤ S2814x128.size a := fun v190 v244 v265 v279 k0_hw40 k0_h22 k0_h23 k0_h24 => k0_hw40.2.1 k0_h22 k0_h23 k0_h24
theorem k0_off59_inb : ∀ (v190 : BitVec 32) (v244 : BitVec 32) (v265 : BitVec 32) (v279 : BitVec 32) (k0_hw40 : k0_chk40 v190 v244 v265 v279), ∀ (k0_h22 : k0_cond22 v190 = 1#1), ∀ (k0_h23 : k0_cond23 v190 v244 v265 = 1#1), ∀ (k0_h24 : k0_cond24 v279 = 1#1), ∀ a, (k0_off59 v190 v244 v265) a + S1x128.size a ≤ S939x128.size a := fun v190 v244 v265 v279 k0_hw40 k0_h22 k0_h23 k0_h24 => k0_hw40.2.2 k0_h22 k0_h23 k0_h24

def k0_off60 (v195 : BitVec 32) : Fin 2 → Nat :=
  let c5_i32 : BitVec 32 := 5#32
  let v234 : BitVec 32 := Scalar.shrsi v195 c5_i32
  let c7_i32_91 : BitVec 32 := 7#32
  let v236 : BitVec 32 := Scalar.shrsi v234 c7_i32_91
  let v240 : Index := Scalar.indexCast v236
  let c0_95 : Index := 0#32
  ![v240.toNat, 0]
def k0_cond25 (v195 : BitVec 32) : BitVec 1 :=
  let c46656000_i32_75 : BitVec 32 := 46656000#32
  let v196 : BitVec 1 := Scalar.cmpi .slt v195 c46656000_i32_75
  let v197 : BitVec 32 := Scalar.extui v196
  let c0_i32_76 : BitVec 32 := 0#32
  let v198 : BitVec 1 := Scalar.cmpi .ne v197 c0_i32_76
  v198

def k0_chk41 (v195 : BitVec 32) : Prop :=
  (∀ (k0_h25 : k0_cond25 v195 = 1#1), ∀ a, (k0_off60 v195) a + S1x128.size a ≤ S11391x128.size a)
theorem k0_off60_inb : ∀ (v195 : BitVec 32) (k0_hw41 : k0_chk41 v195), ∀ (k0_h25 : k0_cond25 v195 = 1#1), ∀ a, (k0_off60 v195) a + S1x128.size a ≤ S11391x128.size a := fun v195 k0_hw41 k0_h25 => k0_hw41 k0_h25

def k0_off61 (v195 : BitVec 32) (v244 : BitVec 32) (v265 : BitVec 32) : Fin 2 → Nat :=
  let c1_i32_97 : BitVec 32 := 1#32
  let c31_i32 : BitVec 32 := 31#32
  let v235 : BitVec 32 := Scalar.andi v195 c31_i32
  let v250 : BitVec 32 := Scalar.shli c1_i32_97 v235
  let c1_i32_98 : BitVec 32 := 1#32
  let v251 : BitVec 32 := Scalar.subi v250 c1_i32_98
  let v252 : BitVec 32 := Scalar.andi v244 v251
  let c1_i32_99 : BitVec 32 := 1#32
  let v253 : BitVec 32 := Scalar.shrsi v252 c1_i32_99
  let c1431655765_i32_100 : BitVec 32 := 1431655765#32
  let v254 : BitVec 32 := Scalar.andi v253 c1431655765_i32_100
  let v255 : BitVec 32 := Scalar.subi v252 v254
  let c858993459_i32_101 : BitVec 32 := 858993459#32
  let v256 : BitVec 32 := Scalar.andi v255 c858993459_i32_101
  let c2_i32_102 : BitVec 32 := 2#32
  let v257 : BitVec 32 := Scalar.shrsi v255 c2_i32_102
  let c858993459_i32_103 : BitVec 32 := 858993459#32
  let v258 : BitVec 32 := Scalar.andi v257 c858993459_i32_103
  let v259 : BitVec 32 := Scalar.addi v256 v258
  let c4_i32_104 : BitVec 32 := 4#32
  let v260 : BitVec 32 := Scalar.shrsi v259 c4_i32_104
  let v261 : BitVec 32 := Scalar.addi v259 v260
  let c252645135_i32_105 : BitVec 32 := 252645135#32
  let v262 : BitVec 32 := Scalar.andi v261 c252645135_i32_105
  let c16843009_i32_106 : BitVec 32 := 16843009#32
  let v263 : BitVec 32 := Scalar.muli v262 c16843009_i32_106
  let c24_i32_107 : BitVec 32 := 24#32
  let v264 : BitVec 32 := Scalar.shrsi v263 c24_i32_107
  let v266 : BitVec 32 := Scalar.addi v265 v264
  let c7_i32_109 : BitVec 32 := 7#32
  let v270 : BitVec 32 := Scalar.shrsi v266 c7_i32_109
  let v272 : Index := Scalar.indexCast v270
  let c0_111 : Index := 0#32
  ![v272.toNat, 0]
def k0_cond26 (v195 : BitVec 32) (v244 : BitVec 32) (v265 : BitVec 32) : BitVec 1 :=
  let c1_i32_97 : BitVec 32 := 1#32
  let c31_i32 : BitVec 32 := 31#32
  let v235 : BitVec 32 := Scalar.andi v195 c31_i32
  let v250 : BitVec 32 := Scalar.shli c1_i32_97 v235
  let c1_i32_98 : BitVec 32 := 1#32
  let v251 : BitVec 32 := Scalar.subi v250 c1_i32_98
  let v252 : BitVec 32 := Scalar.andi v244 v251
  let c1_i32_99 : BitVec 32 := 1#32
  let v253 : BitVec 32 := Scalar.shrsi v252 c1_i32_99
  let c1431655765_i32_100 : BitVec 32 := 1431655765#32
  let v254 : BitVec 32 := Scalar.andi v253 c1431655765_i32_100
  let v255 : BitVec 32 := Scalar.subi v252 v254
  let c858993459_i32_101 : BitVec 32 := 858993459#32
  let v256 : BitVec 32 := Scalar.andi v255 c858993459_i32_101
  let c2_i32_102 : BitVec 32 := 2#32
  let v257 : BitVec 32 := Scalar.shrsi v255 c2_i32_102
  let c858993459_i32_103 : BitVec 32 := 858993459#32
  let v258 : BitVec 32 := Scalar.andi v257 c858993459_i32_103
  let v259 : BitVec 32 := Scalar.addi v256 v258
  let c4_i32_104 : BitVec 32 := 4#32
  let v260 : BitVec 32 := Scalar.shrsi v259 c4_i32_104
  let v261 : BitVec 32 := Scalar.addi v259 v260
  let c252645135_i32_105 : BitVec 32 := 252645135#32
  let v262 : BitVec 32 := Scalar.andi v261 c252645135_i32_105
  let c16843009_i32_106 : BitVec 32 := 16843009#32
  let v263 : BitVec 32 := Scalar.muli v262 c16843009_i32_106
  let c24_i32_107 : BitVec 32 := 24#32
  let v264 : BitVec 32 := Scalar.shrsi v263 c24_i32_107
  let v266 : BitVec 32 := Scalar.addi v265 v264
  let c120000_i32 : BitVec 32 := 120000#32
  let v267 : BitVec 1 := Scalar.cmpi .slt v266 c120000_i32
  let v268 : BitVec 32 := Scalar.extui v267
  let c0_i32_108 : BitVec 32 := 0#32
  let v269 : BitVec 1 := Scalar.cmpi .ne v268 c0_i32_108
  v269

def k0_chk42 (v195 : BitVec 32) (v244 : BitVec 32) (v265 : BitVec 32) : Prop :=
  (∀ (k0_h25 : k0_cond25 v195 = 1#1), ∀ (k0_h26 : k0_cond26 v195 v244 v265 = 1#1), ∀ a, (k0_off61 v195 v244 v265) a + S1x128.size a ≤ S939x128.size a)
theorem k0_off61_inb : ∀ (v195 : BitVec 32) (v244 : BitVec 32) (v265 : BitVec 32) (k0_hw42 : k0_chk42 v195 v244 v265), ∀ (k0_h25 : k0_cond25 v195 = 1#1), ∀ (k0_h26 : k0_cond26 v195 v244 v265 = 1#1), ∀ a, (k0_off61 v195 v244 v265) a + S1x128.size a ≤ S939x128.size a := fun v195 v244 v265 k0_hw42 k0_h25 k0_h26 => k0_hw42 k0_h25 k0_h26

def k0_off62 (v195 : BitVec 32) (v244 : BitVec 32) (v265 : BitVec 32) (v279 : BitVec 32) : Fin 2 → Nat :=
  let c1_i32_97 : BitVec 32 := 1#32
  let c31_i32 : BitVec 32 := 31#32
  let v235 : BitVec 32 := Scalar.andi v195 c31_i32
  let v250 : BitVec 32 := Scalar.shli c1_i32_97 v235
  let c1_i32_98 : BitVec 32 := 1#32
  let v251 : BitVec 32 := Scalar.subi v250 c1_i32_98
  let v252 : BitVec 32 := Scalar.andi v244 v251
  let c1_i32_99 : BitVec 32 := 1#32
  let v253 : BitVec 32 := Scalar.shrsi v252 c1_i32_99
  let c1431655765_i32_100 : BitVec 32 := 1431655765#32
  let v254 : BitVec 32 := Scalar.andi v253 c1431655765_i32_100
  let v255 : BitVec 32 := Scalar.subi v252 v254
  let c858993459_i32_101 : BitVec 32 := 858993459#32
  let v256 : BitVec 32 := Scalar.andi v255 c858993459_i32_101
  let c2_i32_102 : BitVec 32 := 2#32
  let v257 : BitVec 32 := Scalar.shrsi v255 c2_i32_102
  let c858993459_i32_103 : BitVec 32 := 858993459#32
  let v258 : BitVec 32 := Scalar.andi v257 c858993459_i32_103
  let v259 : BitVec 32 := Scalar.addi v256 v258
  let c4_i32_104 : BitVec 32 := 4#32
  let v260 : BitVec 32 := Scalar.shrsi v259 c4_i32_104
  let v261 : BitVec 32 := Scalar.addi v259 v260
  let c252645135_i32_105 : BitVec 32 := 252645135#32
  let v262 : BitVec 32 := Scalar.andi v261 c252645135_i32_105
  let c16843009_i32_106 : BitVec 32 := 16843009#32
  let v263 : BitVec 32 := Scalar.muli v262 c16843009_i32_106
  let c24_i32_107 : BitVec 32 := 24#32
  let v264 : BitVec 32 := Scalar.shrsi v263 c24_i32_107
  let v266 : BitVec 32 := Scalar.addi v265 v264
  let c10_i32_115 : BitVec 32 := 10#32
  let v283 : BitVec 32 := Scalar.muli v266 c10_i32_115
  let v284 : BitVec 32 := Scalar.addi v283 v279
  let c5_i32_116 : BitVec 32 := 5#32
  let v285 : BitVec 32 := Scalar.muli v284 c5_i32_116
  let c7_i32_117 : BitVec 32 := 7#32
  let v286 : BitVec 32 := Scalar.shrsi v285 c7_i32_117
  let v288 : Index := Scalar.indexCast v286
  let c0_119 : Index := 0#32
  ![v288.toNat, 0]
def k0_cond27 (v279 : BitVec 32) : BitVec 1 :=
  let c10_i32 : BitVec 32 := 10#32
  let v280 : BitVec 1 := Scalar.cmpi .slt v279 c10_i32
  let v281 : BitVec 32 := Scalar.extui v280
  let c0_i32_114 : BitVec 32 := 0#32
  let v282 : BitVec 1 := Scalar.cmpi .ne v281 c0_i32_114
  v282

def k0_off63 (v195 : BitVec 32) (v244 : BitVec 32) (v265 : BitVec 32) : Fin 2 → Nat :=
  let c1_i32_97 : BitVec 32 := 1#32
  let c31_i32 : BitVec 32 := 31#32
  let v235 : BitVec 32 := Scalar.andi v195 c31_i32
  let v250 : BitVec 32 := Scalar.shli c1_i32_97 v235
  let c1_i32_98 : BitVec 32 := 1#32
  let v251 : BitVec 32 := Scalar.subi v250 c1_i32_98
  let v252 : BitVec 32 := Scalar.andi v244 v251
  let c1_i32_99 : BitVec 32 := 1#32
  let v253 : BitVec 32 := Scalar.shrsi v252 c1_i32_99
  let c1431655765_i32_100 : BitVec 32 := 1431655765#32
  let v254 : BitVec 32 := Scalar.andi v253 c1431655765_i32_100
  let v255 : BitVec 32 := Scalar.subi v252 v254
  let c858993459_i32_101 : BitVec 32 := 858993459#32
  let v256 : BitVec 32 := Scalar.andi v255 c858993459_i32_101
  let c2_i32_102 : BitVec 32 := 2#32
  let v257 : BitVec 32 := Scalar.shrsi v255 c2_i32_102
  let c858993459_i32_103 : BitVec 32 := 858993459#32
  let v258 : BitVec 32 := Scalar.andi v257 c858993459_i32_103
  let v259 : BitVec 32 := Scalar.addi v256 v258
  let c4_i32_104 : BitVec 32 := 4#32
  let v260 : BitVec 32 := Scalar.shrsi v259 c4_i32_104
  let v261 : BitVec 32 := Scalar.addi v259 v260
  let c252645135_i32_105 : BitVec 32 := 252645135#32
  let v262 : BitVec 32 := Scalar.andi v261 c252645135_i32_105
  let c16843009_i32_106 : BitVec 32 := 16843009#32
  let v263 : BitVec 32 := Scalar.muli v262 c16843009_i32_106
  let c24_i32_107 : BitVec 32 := 24#32
  let v264 : BitVec 32 := Scalar.shrsi v263 c24_i32_107
  let v266 : BitVec 32 := Scalar.addi v265 v264
  let c3_i32_125 : BitVec 32 := 3#32
  let v329 : BitVec 32 := Scalar.muli v266 c3_i32_125
  let c7_i32_126 : BitVec 32 := 7#32
  let v330 : BitVec 32 := Scalar.shrsi v329 c7_i32_126
  let v332 : Index := Scalar.indexCast v330
  let c0_128 : Index := 0#32
  ![v332.toNat, 0]
def k0_off64 (v195 : BitVec 32) (v244 : BitVec 32) (v265 : BitVec 32) : Fin 2 → Nat :=
  let c1_i32_97 : BitVec 32 := 1#32
  let c31_i32 : BitVec 32 := 31#32
  let v235 : BitVec 32 := Scalar.andi v195 c31_i32
  let v250 : BitVec 32 := Scalar.shli c1_i32_97 v235
  let c1_i32_98 : BitVec 32 := 1#32
  let v251 : BitVec 32 := Scalar.subi v250 c1_i32_98
  let v252 : BitVec 32 := Scalar.andi v244 v251
  let c1_i32_99 : BitVec 32 := 1#32
  let v253 : BitVec 32 := Scalar.shrsi v252 c1_i32_99
  let c1431655765_i32_100 : BitVec 32 := 1431655765#32
  let v254 : BitVec 32 := Scalar.andi v253 c1431655765_i32_100
  let v255 : BitVec 32 := Scalar.subi v252 v254
  let c858993459_i32_101 : BitVec 32 := 858993459#32
  let v256 : BitVec 32 := Scalar.andi v255 c858993459_i32_101
  let c2_i32_102 : BitVec 32 := 2#32
  let v257 : BitVec 32 := Scalar.shrsi v255 c2_i32_102
  let c858993459_i32_103 : BitVec 32 := 858993459#32
  let v258 : BitVec 32 := Scalar.andi v257 c858993459_i32_103
  let v259 : BitVec 32 := Scalar.addi v256 v258
  let c4_i32_104 : BitVec 32 := 4#32
  let v260 : BitVec 32 := Scalar.shrsi v259 c4_i32_104
  let v261 : BitVec 32 := Scalar.addi v259 v260
  let c252645135_i32_105 : BitVec 32 := 252645135#32
  let v262 : BitVec 32 := Scalar.andi v261 c252645135_i32_105
  let c16843009_i32_106 : BitVec 32 := 16843009#32
  let v263 : BitVec 32 := Scalar.muli v262 c16843009_i32_106
  let c24_i32_107 : BitVec 32 := 24#32
  let v264 : BitVec 32 := Scalar.shrsi v263 c24_i32_107
  let v266 : BitVec 32 := Scalar.addi v265 v264
  let c7_i32_109 : BitVec 32 := 7#32
  let v270 : BitVec 32 := Scalar.shrsi v266 c7_i32_109
  let v360 : Index := Scalar.indexCast v270
  let c0_136 : Index := 0#32
  ![v360.toNat, 0]

def k0_chk43 (v195 : BitVec 32) (v244 : BitVec 32) (v265 : BitVec 32) (v279 : BitVec 32) : Prop :=
  (∀ (k0_h25 : k0_cond25 v195 = 1#1), ∀ (k0_h26 : k0_cond26 v195 v244 v265 = 1#1), ∀ (k0_h27 : k0_cond27 v279 = 1#1), ∀ a, (k0_off62 v195 v244 v265 v279) a + S2x128.size a ≤ S46876x128.size a) ∧
  (∀ (k0_h25 : k0_cond25 v195 = 1#1), ∀ (k0_h26 : k0_cond26 v195 v244 v265 = 1#1), ∀ (k0_h27 : k0_cond27 v279 = 1#1), ∀ a, (k0_off63 v195 v244 v265) a + S2x128.size a ≤ S2814x128.size a) ∧
  (∀ (k0_h25 : k0_cond25 v195 = 1#1), ∀ (k0_h26 : k0_cond26 v195 v244 v265 = 1#1), ∀ (k0_h27 : k0_cond27 v279 = 1#1), ∀ a, (k0_off64 v195 v244 v265) a + S1x128.size a ≤ S939x128.size a)
theorem k0_off62_inb : ∀ (v195 : BitVec 32) (v244 : BitVec 32) (v265 : BitVec 32) (v279 : BitVec 32) (k0_hw43 : k0_chk43 v195 v244 v265 v279), ∀ (k0_h25 : k0_cond25 v195 = 1#1), ∀ (k0_h26 : k0_cond26 v195 v244 v265 = 1#1), ∀ (k0_h27 : k0_cond27 v279 = 1#1), ∀ a, (k0_off62 v195 v244 v265 v279) a + S2x128.size a ≤ S46876x128.size a := fun v195 v244 v265 v279 k0_hw43 k0_h25 k0_h26 k0_h27 => k0_hw43.1 k0_h25 k0_h26 k0_h27
theorem k0_off63_inb : ∀ (v195 : BitVec 32) (v244 : BitVec 32) (v265 : BitVec 32) (v279 : BitVec 32) (k0_hw43 : k0_chk43 v195 v244 v265 v279), ∀ (k0_h25 : k0_cond25 v195 = 1#1), ∀ (k0_h26 : k0_cond26 v195 v244 v265 = 1#1), ∀ (k0_h27 : k0_cond27 v279 = 1#1), ∀ a, (k0_off63 v195 v244 v265) a + S2x128.size a ≤ S2814x128.size a := fun v195 v244 v265 v279 k0_hw43 k0_h25 k0_h26 k0_h27 => k0_hw43.2.1 k0_h25 k0_h26 k0_h27
theorem k0_off64_inb : ∀ (v195 : BitVec 32) (v244 : BitVec 32) (v265 : BitVec 32) (v279 : BitVec 32) (k0_hw43 : k0_chk43 v195 v244 v265 v279), ∀ (k0_h25 : k0_cond25 v195 = 1#1), ∀ (k0_h26 : k0_cond26 v195 v244 v265 = 1#1), ∀ (k0_h27 : k0_cond27 v279 = 1#1), ∀ a, (k0_off64 v195 v244 v265) a + S1x128.size a ≤ S939x128.size a := fun v195 v244 v265 v279 k0_hw43 k0_h25 k0_h26 k0_h27 => k0_hw43.2.2 k0_h25 k0_h26 k0_h27

def k0_off65 (v200 : BitVec 32) : Fin 2 → Nat :=
  let c5_i32 : BitVec 32 := 5#32
  let v234 : BitVec 32 := Scalar.shrsi v200 c5_i32
  let c7_i32_91 : BitVec 32 := 7#32
  let v236 : BitVec 32 := Scalar.shrsi v234 c7_i32_91
  let v240 : Index := Scalar.indexCast v236
  let c0_95 : Index := 0#32
  ![v240.toNat, 0]
def k0_cond28 (v200 : BitVec 32) : BitVec 1 :=
  let c46656000_i32_77 : BitVec 32 := 46656000#32
  let v201 : BitVec 1 := Scalar.cmpi .slt v200 c46656000_i32_77
  let v202 : BitVec 32 := Scalar.extui v201
  let c0_i32_78 : BitVec 32 := 0#32
  let v203 : BitVec 1 := Scalar.cmpi .ne v202 c0_i32_78
  v203

def k0_chk44 (v200 : BitVec 32) : Prop :=
  (∀ (k0_h28 : k0_cond28 v200 = 1#1), ∀ a, (k0_off65 v200) a + S1x128.size a ≤ S11391x128.size a)
theorem k0_off65_inb : ∀ (v200 : BitVec 32) (k0_hw44 : k0_chk44 v200), ∀ (k0_h28 : k0_cond28 v200 = 1#1), ∀ a, (k0_off65 v200) a + S1x128.size a ≤ S11391x128.size a := fun v200 k0_hw44 k0_h28 => k0_hw44 k0_h28

def k0_off66 (v200 : BitVec 32) (v244 : BitVec 32) (v265 : BitVec 32) : Fin 2 → Nat :=
  let c1_i32_97 : BitVec 32 := 1#32
  let c31_i32 : BitVec 32 := 31#32
  let v235 : BitVec 32 := Scalar.andi v200 c31_i32
  let v250 : BitVec 32 := Scalar.shli c1_i32_97 v235
  let c1_i32_98 : BitVec 32 := 1#32
  let v251 : BitVec 32 := Scalar.subi v250 c1_i32_98
  let v252 : BitVec 32 := Scalar.andi v244 v251
  let c1_i32_99 : BitVec 32 := 1#32
  let v253 : BitVec 32 := Scalar.shrsi v252 c1_i32_99
  let c1431655765_i32_100 : BitVec 32 := 1431655765#32
  let v254 : BitVec 32 := Scalar.andi v253 c1431655765_i32_100
  let v255 : BitVec 32 := Scalar.subi v252 v254
  let c858993459_i32_101 : BitVec 32 := 858993459#32
  let v256 : BitVec 32 := Scalar.andi v255 c858993459_i32_101
  let c2_i32_102 : BitVec 32 := 2#32
  let v257 : BitVec 32 := Scalar.shrsi v255 c2_i32_102
  let c858993459_i32_103 : BitVec 32 := 858993459#32
  let v258 : BitVec 32 := Scalar.andi v257 c858993459_i32_103
  let v259 : BitVec 32 := Scalar.addi v256 v258
  let c4_i32_104 : BitVec 32 := 4#32
  let v260 : BitVec 32 := Scalar.shrsi v259 c4_i32_104
  let v261 : BitVec 32 := Scalar.addi v259 v260
  let c252645135_i32_105 : BitVec 32 := 252645135#32
  let v262 : BitVec 32 := Scalar.andi v261 c252645135_i32_105
  let c16843009_i32_106 : BitVec 32 := 16843009#32
  let v263 : BitVec 32 := Scalar.muli v262 c16843009_i32_106
  let c24_i32_107 : BitVec 32 := 24#32
  let v264 : BitVec 32 := Scalar.shrsi v263 c24_i32_107
  let v266 : BitVec 32 := Scalar.addi v265 v264
  let c7_i32_109 : BitVec 32 := 7#32
  let v270 : BitVec 32 := Scalar.shrsi v266 c7_i32_109
  let v272 : Index := Scalar.indexCast v270
  let c0_111 : Index := 0#32
  ![v272.toNat, 0]
def k0_cond29 (v200 : BitVec 32) (v244 : BitVec 32) (v265 : BitVec 32) : BitVec 1 :=
  let c1_i32_97 : BitVec 32 := 1#32
  let c31_i32 : BitVec 32 := 31#32
  let v235 : BitVec 32 := Scalar.andi v200 c31_i32
  let v250 : BitVec 32 := Scalar.shli c1_i32_97 v235
  let c1_i32_98 : BitVec 32 := 1#32
  let v251 : BitVec 32 := Scalar.subi v250 c1_i32_98
  let v252 : BitVec 32 := Scalar.andi v244 v251
  let c1_i32_99 : BitVec 32 := 1#32
  let v253 : BitVec 32 := Scalar.shrsi v252 c1_i32_99
  let c1431655765_i32_100 : BitVec 32 := 1431655765#32
  let v254 : BitVec 32 := Scalar.andi v253 c1431655765_i32_100
  let v255 : BitVec 32 := Scalar.subi v252 v254
  let c858993459_i32_101 : BitVec 32 := 858993459#32
  let v256 : BitVec 32 := Scalar.andi v255 c858993459_i32_101
  let c2_i32_102 : BitVec 32 := 2#32
  let v257 : BitVec 32 := Scalar.shrsi v255 c2_i32_102
  let c858993459_i32_103 : BitVec 32 := 858993459#32
  let v258 : BitVec 32 := Scalar.andi v257 c858993459_i32_103
  let v259 : BitVec 32 := Scalar.addi v256 v258
  let c4_i32_104 : BitVec 32 := 4#32
  let v260 : BitVec 32 := Scalar.shrsi v259 c4_i32_104
  let v261 : BitVec 32 := Scalar.addi v259 v260
  let c252645135_i32_105 : BitVec 32 := 252645135#32
  let v262 : BitVec 32 := Scalar.andi v261 c252645135_i32_105
  let c16843009_i32_106 : BitVec 32 := 16843009#32
  let v263 : BitVec 32 := Scalar.muli v262 c16843009_i32_106
  let c24_i32_107 : BitVec 32 := 24#32
  let v264 : BitVec 32 := Scalar.shrsi v263 c24_i32_107
  let v266 : BitVec 32 := Scalar.addi v265 v264
  let c120000_i32 : BitVec 32 := 120000#32
  let v267 : BitVec 1 := Scalar.cmpi .slt v266 c120000_i32
  let v268 : BitVec 32 := Scalar.extui v267
  let c0_i32_108 : BitVec 32 := 0#32
  let v269 : BitVec 1 := Scalar.cmpi .ne v268 c0_i32_108
  v269

def k0_chk45 (v200 : BitVec 32) (v244 : BitVec 32) (v265 : BitVec 32) : Prop :=
  (∀ (k0_h28 : k0_cond28 v200 = 1#1), ∀ (k0_h29 : k0_cond29 v200 v244 v265 = 1#1), ∀ a, (k0_off66 v200 v244 v265) a + S1x128.size a ≤ S939x128.size a)
theorem k0_off66_inb : ∀ (v200 : BitVec 32) (v244 : BitVec 32) (v265 : BitVec 32) (k0_hw45 : k0_chk45 v200 v244 v265), ∀ (k0_h28 : k0_cond28 v200 = 1#1), ∀ (k0_h29 : k0_cond29 v200 v244 v265 = 1#1), ∀ a, (k0_off66 v200 v244 v265) a + S1x128.size a ≤ S939x128.size a := fun v200 v244 v265 k0_hw45 k0_h28 k0_h29 => k0_hw45 k0_h28 k0_h29

def k0_off67 (v200 : BitVec 32) (v244 : BitVec 32) (v265 : BitVec 32) (v279 : BitVec 32) : Fin 2 → Nat :=
  let c1_i32_97 : BitVec 32 := 1#32
  let c31_i32 : BitVec 32 := 31#32
  let v235 : BitVec 32 := Scalar.andi v200 c31_i32
  let v250 : BitVec 32 := Scalar.shli c1_i32_97 v235
  let c1_i32_98 : BitVec 32 := 1#32
  let v251 : BitVec 32 := Scalar.subi v250 c1_i32_98
  let v252 : BitVec 32 := Scalar.andi v244 v251
  let c1_i32_99 : BitVec 32 := 1#32
  let v253 : BitVec 32 := Scalar.shrsi v252 c1_i32_99
  let c1431655765_i32_100 : BitVec 32 := 1431655765#32
  let v254 : BitVec 32 := Scalar.andi v253 c1431655765_i32_100
  let v255 : BitVec 32 := Scalar.subi v252 v254
  let c858993459_i32_101 : BitVec 32 := 858993459#32
  let v256 : BitVec 32 := Scalar.andi v255 c858993459_i32_101
  let c2_i32_102 : BitVec 32 := 2#32
  let v257 : BitVec 32 := Scalar.shrsi v255 c2_i32_102
  let c858993459_i32_103 : BitVec 32 := 858993459#32
  let v258 : BitVec 32 := Scalar.andi v257 c858993459_i32_103
  let v259 : BitVec 32 := Scalar.addi v256 v258
  let c4_i32_104 : BitVec 32 := 4#32
  let v260 : BitVec 32 := Scalar.shrsi v259 c4_i32_104
  let v261 : BitVec 32 := Scalar.addi v259 v260
  let c252645135_i32_105 : BitVec 32 := 252645135#32
  let v262 : BitVec 32 := Scalar.andi v261 c252645135_i32_105
  let c16843009_i32_106 : BitVec 32 := 16843009#32
  let v263 : BitVec 32 := Scalar.muli v262 c16843009_i32_106
  let c24_i32_107 : BitVec 32 := 24#32
  let v264 : BitVec 32 := Scalar.shrsi v263 c24_i32_107
  let v266 : BitVec 32 := Scalar.addi v265 v264
  let c10_i32_115 : BitVec 32 := 10#32
  let v283 : BitVec 32 := Scalar.muli v266 c10_i32_115
  let v284 : BitVec 32 := Scalar.addi v283 v279
  let c5_i32_116 : BitVec 32 := 5#32
  let v285 : BitVec 32 := Scalar.muli v284 c5_i32_116
  let c7_i32_117 : BitVec 32 := 7#32
  let v286 : BitVec 32 := Scalar.shrsi v285 c7_i32_117
  let v288 : Index := Scalar.indexCast v286
  let c0_119 : Index := 0#32
  ![v288.toNat, 0]
def k0_cond30 (v279 : BitVec 32) : BitVec 1 :=
  let c10_i32 : BitVec 32 := 10#32
  let v280 : BitVec 1 := Scalar.cmpi .slt v279 c10_i32
  let v281 : BitVec 32 := Scalar.extui v280
  let c0_i32_114 : BitVec 32 := 0#32
  let v282 : BitVec 1 := Scalar.cmpi .ne v281 c0_i32_114
  v282

def k0_off68 (v200 : BitVec 32) (v244 : BitVec 32) (v265 : BitVec 32) : Fin 2 → Nat :=
  let c1_i32_97 : BitVec 32 := 1#32
  let c31_i32 : BitVec 32 := 31#32
  let v235 : BitVec 32 := Scalar.andi v200 c31_i32
  let v250 : BitVec 32 := Scalar.shli c1_i32_97 v235
  let c1_i32_98 : BitVec 32 := 1#32
  let v251 : BitVec 32 := Scalar.subi v250 c1_i32_98
  let v252 : BitVec 32 := Scalar.andi v244 v251
  let c1_i32_99 : BitVec 32 := 1#32
  let v253 : BitVec 32 := Scalar.shrsi v252 c1_i32_99
  let c1431655765_i32_100 : BitVec 32 := 1431655765#32
  let v254 : BitVec 32 := Scalar.andi v253 c1431655765_i32_100
  let v255 : BitVec 32 := Scalar.subi v252 v254
  let c858993459_i32_101 : BitVec 32 := 858993459#32
  let v256 : BitVec 32 := Scalar.andi v255 c858993459_i32_101
  let c2_i32_102 : BitVec 32 := 2#32
  let v257 : BitVec 32 := Scalar.shrsi v255 c2_i32_102
  let c858993459_i32_103 : BitVec 32 := 858993459#32
  let v258 : BitVec 32 := Scalar.andi v257 c858993459_i32_103
  let v259 : BitVec 32 := Scalar.addi v256 v258
  let c4_i32_104 : BitVec 32 := 4#32
  let v260 : BitVec 32 := Scalar.shrsi v259 c4_i32_104
  let v261 : BitVec 32 := Scalar.addi v259 v260
  let c252645135_i32_105 : BitVec 32 := 252645135#32
  let v262 : BitVec 32 := Scalar.andi v261 c252645135_i32_105
  let c16843009_i32_106 : BitVec 32 := 16843009#32
  let v263 : BitVec 32 := Scalar.muli v262 c16843009_i32_106
  let c24_i32_107 : BitVec 32 := 24#32
  let v264 : BitVec 32 := Scalar.shrsi v263 c24_i32_107
  let v266 : BitVec 32 := Scalar.addi v265 v264
  let c3_i32_125 : BitVec 32 := 3#32
  let v329 : BitVec 32 := Scalar.muli v266 c3_i32_125
  let c7_i32_126 : BitVec 32 := 7#32
  let v330 : BitVec 32 := Scalar.shrsi v329 c7_i32_126
  let v332 : Index := Scalar.indexCast v330
  let c0_128 : Index := 0#32
  ![v332.toNat, 0]
def k0_off69 (v200 : BitVec 32) (v244 : BitVec 32) (v265 : BitVec 32) : Fin 2 → Nat :=
  let c1_i32_97 : BitVec 32 := 1#32
  let c31_i32 : BitVec 32 := 31#32
  let v235 : BitVec 32 := Scalar.andi v200 c31_i32
  let v250 : BitVec 32 := Scalar.shli c1_i32_97 v235
  let c1_i32_98 : BitVec 32 := 1#32
  let v251 : BitVec 32 := Scalar.subi v250 c1_i32_98
  let v252 : BitVec 32 := Scalar.andi v244 v251
  let c1_i32_99 : BitVec 32 := 1#32
  let v253 : BitVec 32 := Scalar.shrsi v252 c1_i32_99
  let c1431655765_i32_100 : BitVec 32 := 1431655765#32
  let v254 : BitVec 32 := Scalar.andi v253 c1431655765_i32_100
  let v255 : BitVec 32 := Scalar.subi v252 v254
  let c858993459_i32_101 : BitVec 32 := 858993459#32
  let v256 : BitVec 32 := Scalar.andi v255 c858993459_i32_101
  let c2_i32_102 : BitVec 32 := 2#32
  let v257 : BitVec 32 := Scalar.shrsi v255 c2_i32_102
  let c858993459_i32_103 : BitVec 32 := 858993459#32
  let v258 : BitVec 32 := Scalar.andi v257 c858993459_i32_103
  let v259 : BitVec 32 := Scalar.addi v256 v258
  let c4_i32_104 : BitVec 32 := 4#32
  let v260 : BitVec 32 := Scalar.shrsi v259 c4_i32_104
  let v261 : BitVec 32 := Scalar.addi v259 v260
  let c252645135_i32_105 : BitVec 32 := 252645135#32
  let v262 : BitVec 32 := Scalar.andi v261 c252645135_i32_105
  let c16843009_i32_106 : BitVec 32 := 16843009#32
  let v263 : BitVec 32 := Scalar.muli v262 c16843009_i32_106
  let c24_i32_107 : BitVec 32 := 24#32
  let v264 : BitVec 32 := Scalar.shrsi v263 c24_i32_107
  let v266 : BitVec 32 := Scalar.addi v265 v264
  let c7_i32_109 : BitVec 32 := 7#32
  let v270 : BitVec 32 := Scalar.shrsi v266 c7_i32_109
  let v360 : Index := Scalar.indexCast v270
  let c0_136 : Index := 0#32
  ![v360.toNat, 0]

def k0_chk46 (v200 : BitVec 32) (v244 : BitVec 32) (v265 : BitVec 32) (v279 : BitVec 32) : Prop :=
  (∀ (k0_h28 : k0_cond28 v200 = 1#1), ∀ (k0_h29 : k0_cond29 v200 v244 v265 = 1#1), ∀ (k0_h30 : k0_cond30 v279 = 1#1), ∀ a, (k0_off67 v200 v244 v265 v279) a + S2x128.size a ≤ S46876x128.size a) ∧
  (∀ (k0_h28 : k0_cond28 v200 = 1#1), ∀ (k0_h29 : k0_cond29 v200 v244 v265 = 1#1), ∀ (k0_h30 : k0_cond30 v279 = 1#1), ∀ a, (k0_off68 v200 v244 v265) a + S2x128.size a ≤ S2814x128.size a) ∧
  (∀ (k0_h28 : k0_cond28 v200 = 1#1), ∀ (k0_h29 : k0_cond29 v200 v244 v265 = 1#1), ∀ (k0_h30 : k0_cond30 v279 = 1#1), ∀ a, (k0_off69 v200 v244 v265) a + S1x128.size a ≤ S939x128.size a)
theorem k0_off67_inb : ∀ (v200 : BitVec 32) (v244 : BitVec 32) (v265 : BitVec 32) (v279 : BitVec 32) (k0_hw46 : k0_chk46 v200 v244 v265 v279), ∀ (k0_h28 : k0_cond28 v200 = 1#1), ∀ (k0_h29 : k0_cond29 v200 v244 v265 = 1#1), ∀ (k0_h30 : k0_cond30 v279 = 1#1), ∀ a, (k0_off67 v200 v244 v265 v279) a + S2x128.size a ≤ S46876x128.size a := fun v200 v244 v265 v279 k0_hw46 k0_h28 k0_h29 k0_h30 => k0_hw46.1 k0_h28 k0_h29 k0_h30
theorem k0_off68_inb : ∀ (v200 : BitVec 32) (v244 : BitVec 32) (v265 : BitVec 32) (v279 : BitVec 32) (k0_hw46 : k0_chk46 v200 v244 v265 v279), ∀ (k0_h28 : k0_cond28 v200 = 1#1), ∀ (k0_h29 : k0_cond29 v200 v244 v265 = 1#1), ∀ (k0_h30 : k0_cond30 v279 = 1#1), ∀ a, (k0_off68 v200 v244 v265) a + S2x128.size a ≤ S2814x128.size a := fun v200 v244 v265 v279 k0_hw46 k0_h28 k0_h29 k0_h30 => k0_hw46.2.1 k0_h28 k0_h29 k0_h30
theorem k0_off69_inb : ∀ (v200 : BitVec 32) (v244 : BitVec 32) (v265 : BitVec 32) (v279 : BitVec 32) (k0_hw46 : k0_chk46 v200 v244 v265 v279), ∀ (k0_h28 : k0_cond28 v200 = 1#1), ∀ (k0_h29 : k0_cond29 v200 v244 v265 = 1#1), ∀ (k0_h30 : k0_cond30 v279 = 1#1), ∀ a, (k0_off69 v200 v244 v265) a + S1x128.size a ≤ S939x128.size a := fun v200 v244 v265 v279 k0_hw46 k0_h28 k0_h29 k0_h30 => k0_hw46.2.2 k0_h28 k0_h29 k0_h30

def k0_off70 (v205 : BitVec 32) : Fin 2 → Nat :=
  let c5_i32 : BitVec 32 := 5#32
  let v234 : BitVec 32 := Scalar.shrsi v205 c5_i32
  let c7_i32_91 : BitVec 32 := 7#32
  let v236 : BitVec 32 := Scalar.shrsi v234 c7_i32_91
  let v240 : Index := Scalar.indexCast v236
  let c0_95 : Index := 0#32
  ![v240.toNat, 0]
def k0_cond31 (v205 : BitVec 32) : BitVec 1 :=
  let c46656000_i32_79 : BitVec 32 := 46656000#32
  let v206 : BitVec 1 := Scalar.cmpi .slt v205 c46656000_i32_79
  let v207 : BitVec 32 := Scalar.extui v206
  let c0_i32_80 : BitVec 32 := 0#32
  let v208 : BitVec 1 := Scalar.cmpi .ne v207 c0_i32_80
  v208

def k0_chk47 (v205 : BitVec 32) : Prop :=
  (∀ (k0_h31 : k0_cond31 v205 = 1#1), ∀ a, (k0_off70 v205) a + S1x128.size a ≤ S11391x128.size a)
theorem k0_off70_inb : ∀ (v205 : BitVec 32) (k0_hw47 : k0_chk47 v205), ∀ (k0_h31 : k0_cond31 v205 = 1#1), ∀ a, (k0_off70 v205) a + S1x128.size a ≤ S11391x128.size a := fun v205 k0_hw47 k0_h31 => k0_hw47 k0_h31

def k0_off71 (v205 : BitVec 32) (v244 : BitVec 32) (v265 : BitVec 32) : Fin 2 → Nat :=
  let c1_i32_97 : BitVec 32 := 1#32
  let c31_i32 : BitVec 32 := 31#32
  let v235 : BitVec 32 := Scalar.andi v205 c31_i32
  let v250 : BitVec 32 := Scalar.shli c1_i32_97 v235
  let c1_i32_98 : BitVec 32 := 1#32
  let v251 : BitVec 32 := Scalar.subi v250 c1_i32_98
  let v252 : BitVec 32 := Scalar.andi v244 v251
  let c1_i32_99 : BitVec 32 := 1#32
  let v253 : BitVec 32 := Scalar.shrsi v252 c1_i32_99
  let c1431655765_i32_100 : BitVec 32 := 1431655765#32
  let v254 : BitVec 32 := Scalar.andi v253 c1431655765_i32_100
  let v255 : BitVec 32 := Scalar.subi v252 v254
  let c858993459_i32_101 : BitVec 32 := 858993459#32
  let v256 : BitVec 32 := Scalar.andi v255 c858993459_i32_101
  let c2_i32_102 : BitVec 32 := 2#32
  let v257 : BitVec 32 := Scalar.shrsi v255 c2_i32_102
  let c858993459_i32_103 : BitVec 32 := 858993459#32
  let v258 : BitVec 32 := Scalar.andi v257 c858993459_i32_103
  let v259 : BitVec 32 := Scalar.addi v256 v258
  let c4_i32_104 : BitVec 32 := 4#32
  let v260 : BitVec 32 := Scalar.shrsi v259 c4_i32_104
  let v261 : BitVec 32 := Scalar.addi v259 v260
  let c252645135_i32_105 : BitVec 32 := 252645135#32
  let v262 : BitVec 32 := Scalar.andi v261 c252645135_i32_105
  let c16843009_i32_106 : BitVec 32 := 16843009#32
  let v263 : BitVec 32 := Scalar.muli v262 c16843009_i32_106
  let c24_i32_107 : BitVec 32 := 24#32
  let v264 : BitVec 32 := Scalar.shrsi v263 c24_i32_107
  let v266 : BitVec 32 := Scalar.addi v265 v264
  let c7_i32_109 : BitVec 32 := 7#32
  let v270 : BitVec 32 := Scalar.shrsi v266 c7_i32_109
  let v272 : Index := Scalar.indexCast v270
  let c0_111 : Index := 0#32
  ![v272.toNat, 0]
def k0_cond32 (v205 : BitVec 32) (v244 : BitVec 32) (v265 : BitVec 32) : BitVec 1 :=
  let c1_i32_97 : BitVec 32 := 1#32
  let c31_i32 : BitVec 32 := 31#32
  let v235 : BitVec 32 := Scalar.andi v205 c31_i32
  let v250 : BitVec 32 := Scalar.shli c1_i32_97 v235
  let c1_i32_98 : BitVec 32 := 1#32
  let v251 : BitVec 32 := Scalar.subi v250 c1_i32_98
  let v252 : BitVec 32 := Scalar.andi v244 v251
  let c1_i32_99 : BitVec 32 := 1#32
  let v253 : BitVec 32 := Scalar.shrsi v252 c1_i32_99
  let c1431655765_i32_100 : BitVec 32 := 1431655765#32
  let v254 : BitVec 32 := Scalar.andi v253 c1431655765_i32_100
  let v255 : BitVec 32 := Scalar.subi v252 v254
  let c858993459_i32_101 : BitVec 32 := 858993459#32
  let v256 : BitVec 32 := Scalar.andi v255 c858993459_i32_101
  let c2_i32_102 : BitVec 32 := 2#32
  let v257 : BitVec 32 := Scalar.shrsi v255 c2_i32_102
  let c858993459_i32_103 : BitVec 32 := 858993459#32
  let v258 : BitVec 32 := Scalar.andi v257 c858993459_i32_103
  let v259 : BitVec 32 := Scalar.addi v256 v258
  let c4_i32_104 : BitVec 32 := 4#32
  let v260 : BitVec 32 := Scalar.shrsi v259 c4_i32_104
  let v261 : BitVec 32 := Scalar.addi v259 v260
  let c252645135_i32_105 : BitVec 32 := 252645135#32
  let v262 : BitVec 32 := Scalar.andi v261 c252645135_i32_105
  let c16843009_i32_106 : BitVec 32 := 16843009#32
  let v263 : BitVec 32 := Scalar.muli v262 c16843009_i32_106
  let c24_i32_107 : BitVec 32 := 24#32
  let v264 : BitVec 32 := Scalar.shrsi v263 c24_i32_107
  let v266 : BitVec 32 := Scalar.addi v265 v264
  let c120000_i32 : BitVec 32 := 120000#32
  let v267 : BitVec 1 := Scalar.cmpi .slt v266 c120000_i32
  let v268 : BitVec 32 := Scalar.extui v267
  let c0_i32_108 : BitVec 32 := 0#32
  let v269 : BitVec 1 := Scalar.cmpi .ne v268 c0_i32_108
  v269

def k0_chk48 (v205 : BitVec 32) (v244 : BitVec 32) (v265 : BitVec 32) : Prop :=
  (∀ (k0_h31 : k0_cond31 v205 = 1#1), ∀ (k0_h32 : k0_cond32 v205 v244 v265 = 1#1), ∀ a, (k0_off71 v205 v244 v265) a + S1x128.size a ≤ S939x128.size a)
theorem k0_off71_inb : ∀ (v205 : BitVec 32) (v244 : BitVec 32) (v265 : BitVec 32) (k0_hw48 : k0_chk48 v205 v244 v265), ∀ (k0_h31 : k0_cond31 v205 = 1#1), ∀ (k0_h32 : k0_cond32 v205 v244 v265 = 1#1), ∀ a, (k0_off71 v205 v244 v265) a + S1x128.size a ≤ S939x128.size a := fun v205 v244 v265 k0_hw48 k0_h31 k0_h32 => k0_hw48 k0_h31 k0_h32

def k0_off72 (v205 : BitVec 32) (v244 : BitVec 32) (v265 : BitVec 32) (v279 : BitVec 32) : Fin 2 → Nat :=
  let c1_i32_97 : BitVec 32 := 1#32
  let c31_i32 : BitVec 32 := 31#32
  let v235 : BitVec 32 := Scalar.andi v205 c31_i32
  let v250 : BitVec 32 := Scalar.shli c1_i32_97 v235
  let c1_i32_98 : BitVec 32 := 1#32
  let v251 : BitVec 32 := Scalar.subi v250 c1_i32_98
  let v252 : BitVec 32 := Scalar.andi v244 v251
  let c1_i32_99 : BitVec 32 := 1#32
  let v253 : BitVec 32 := Scalar.shrsi v252 c1_i32_99
  let c1431655765_i32_100 : BitVec 32 := 1431655765#32
  let v254 : BitVec 32 := Scalar.andi v253 c1431655765_i32_100
  let v255 : BitVec 32 := Scalar.subi v252 v254
  let c858993459_i32_101 : BitVec 32 := 858993459#32
  let v256 : BitVec 32 := Scalar.andi v255 c858993459_i32_101
  let c2_i32_102 : BitVec 32 := 2#32
  let v257 : BitVec 32 := Scalar.shrsi v255 c2_i32_102
  let c858993459_i32_103 : BitVec 32 := 858993459#32
  let v258 : BitVec 32 := Scalar.andi v257 c858993459_i32_103
  let v259 : BitVec 32 := Scalar.addi v256 v258
  let c4_i32_104 : BitVec 32 := 4#32
  let v260 : BitVec 32 := Scalar.shrsi v259 c4_i32_104
  let v261 : BitVec 32 := Scalar.addi v259 v260
  let c252645135_i32_105 : BitVec 32 := 252645135#32
  let v262 : BitVec 32 := Scalar.andi v261 c252645135_i32_105
  let c16843009_i32_106 : BitVec 32 := 16843009#32
  let v263 : BitVec 32 := Scalar.muli v262 c16843009_i32_106
  let c24_i32_107 : BitVec 32 := 24#32
  let v264 : BitVec 32 := Scalar.shrsi v263 c24_i32_107
  let v266 : BitVec 32 := Scalar.addi v265 v264
  let c10_i32_115 : BitVec 32 := 10#32
  let v283 : BitVec 32 := Scalar.muli v266 c10_i32_115
  let v284 : BitVec 32 := Scalar.addi v283 v279
  let c5_i32_116 : BitVec 32 := 5#32
  let v285 : BitVec 32 := Scalar.muli v284 c5_i32_116
  let c7_i32_117 : BitVec 32 := 7#32
  let v286 : BitVec 32 := Scalar.shrsi v285 c7_i32_117
  let v288 : Index := Scalar.indexCast v286
  let c0_119 : Index := 0#32
  ![v288.toNat, 0]
def k0_cond33 (v279 : BitVec 32) : BitVec 1 :=
  let c10_i32 : BitVec 32 := 10#32
  let v280 : BitVec 1 := Scalar.cmpi .slt v279 c10_i32
  let v281 : BitVec 32 := Scalar.extui v280
  let c0_i32_114 : BitVec 32 := 0#32
  let v282 : BitVec 1 := Scalar.cmpi .ne v281 c0_i32_114
  v282

def k0_off73 (v205 : BitVec 32) (v244 : BitVec 32) (v265 : BitVec 32) : Fin 2 → Nat :=
  let c1_i32_97 : BitVec 32 := 1#32
  let c31_i32 : BitVec 32 := 31#32
  let v235 : BitVec 32 := Scalar.andi v205 c31_i32
  let v250 : BitVec 32 := Scalar.shli c1_i32_97 v235
  let c1_i32_98 : BitVec 32 := 1#32
  let v251 : BitVec 32 := Scalar.subi v250 c1_i32_98
  let v252 : BitVec 32 := Scalar.andi v244 v251
  let c1_i32_99 : BitVec 32 := 1#32
  let v253 : BitVec 32 := Scalar.shrsi v252 c1_i32_99
  let c1431655765_i32_100 : BitVec 32 := 1431655765#32
  let v254 : BitVec 32 := Scalar.andi v253 c1431655765_i32_100
  let v255 : BitVec 32 := Scalar.subi v252 v254
  let c858993459_i32_101 : BitVec 32 := 858993459#32
  let v256 : BitVec 32 := Scalar.andi v255 c858993459_i32_101
  let c2_i32_102 : BitVec 32 := 2#32
  let v257 : BitVec 32 := Scalar.shrsi v255 c2_i32_102
  let c858993459_i32_103 : BitVec 32 := 858993459#32
  let v258 : BitVec 32 := Scalar.andi v257 c858993459_i32_103
  let v259 : BitVec 32 := Scalar.addi v256 v258
  let c4_i32_104 : BitVec 32 := 4#32
  let v260 : BitVec 32 := Scalar.shrsi v259 c4_i32_104
  let v261 : BitVec 32 := Scalar.addi v259 v260
  let c252645135_i32_105 : BitVec 32 := 252645135#32
  let v262 : BitVec 32 := Scalar.andi v261 c252645135_i32_105
  let c16843009_i32_106 : BitVec 32 := 16843009#32
  let v263 : BitVec 32 := Scalar.muli v262 c16843009_i32_106
  let c24_i32_107 : BitVec 32 := 24#32
  let v264 : BitVec 32 := Scalar.shrsi v263 c24_i32_107
  let v266 : BitVec 32 := Scalar.addi v265 v264
  let c3_i32_125 : BitVec 32 := 3#32
  let v329 : BitVec 32 := Scalar.muli v266 c3_i32_125
  let c7_i32_126 : BitVec 32 := 7#32
  let v330 : BitVec 32 := Scalar.shrsi v329 c7_i32_126
  let v332 : Index := Scalar.indexCast v330
  let c0_128 : Index := 0#32
  ![v332.toNat, 0]
def k0_off74 (v205 : BitVec 32) (v244 : BitVec 32) (v265 : BitVec 32) : Fin 2 → Nat :=
  let c1_i32_97 : BitVec 32 := 1#32
  let c31_i32 : BitVec 32 := 31#32
  let v235 : BitVec 32 := Scalar.andi v205 c31_i32
  let v250 : BitVec 32 := Scalar.shli c1_i32_97 v235
  let c1_i32_98 : BitVec 32 := 1#32
  let v251 : BitVec 32 := Scalar.subi v250 c1_i32_98
  let v252 : BitVec 32 := Scalar.andi v244 v251
  let c1_i32_99 : BitVec 32 := 1#32
  let v253 : BitVec 32 := Scalar.shrsi v252 c1_i32_99
  let c1431655765_i32_100 : BitVec 32 := 1431655765#32
  let v254 : BitVec 32 := Scalar.andi v253 c1431655765_i32_100
  let v255 : BitVec 32 := Scalar.subi v252 v254
  let c858993459_i32_101 : BitVec 32 := 858993459#32
  let v256 : BitVec 32 := Scalar.andi v255 c858993459_i32_101
  let c2_i32_102 : BitVec 32 := 2#32
  let v257 : BitVec 32 := Scalar.shrsi v255 c2_i32_102
  let c858993459_i32_103 : BitVec 32 := 858993459#32
  let v258 : BitVec 32 := Scalar.andi v257 c858993459_i32_103
  let v259 : BitVec 32 := Scalar.addi v256 v258
  let c4_i32_104 : BitVec 32 := 4#32
  let v260 : BitVec 32 := Scalar.shrsi v259 c4_i32_104
  let v261 : BitVec 32 := Scalar.addi v259 v260
  let c252645135_i32_105 : BitVec 32 := 252645135#32
  let v262 : BitVec 32 := Scalar.andi v261 c252645135_i32_105
  let c16843009_i32_106 : BitVec 32 := 16843009#32
  let v263 : BitVec 32 := Scalar.muli v262 c16843009_i32_106
  let c24_i32_107 : BitVec 32 := 24#32
  let v264 : BitVec 32 := Scalar.shrsi v263 c24_i32_107
  let v266 : BitVec 32 := Scalar.addi v265 v264
  let c7_i32_109 : BitVec 32 := 7#32
  let v270 : BitVec 32 := Scalar.shrsi v266 c7_i32_109
  let v360 : Index := Scalar.indexCast v270
  let c0_136 : Index := 0#32
  ![v360.toNat, 0]

def k0_chk49 (v205 : BitVec 32) (v244 : BitVec 32) (v265 : BitVec 32) (v279 : BitVec 32) : Prop :=
  (∀ (k0_h31 : k0_cond31 v205 = 1#1), ∀ (k0_h32 : k0_cond32 v205 v244 v265 = 1#1), ∀ (k0_h33 : k0_cond33 v279 = 1#1), ∀ a, (k0_off72 v205 v244 v265 v279) a + S2x128.size a ≤ S46876x128.size a) ∧
  (∀ (k0_h31 : k0_cond31 v205 = 1#1), ∀ (k0_h32 : k0_cond32 v205 v244 v265 = 1#1), ∀ (k0_h33 : k0_cond33 v279 = 1#1), ∀ a, (k0_off73 v205 v244 v265) a + S2x128.size a ≤ S2814x128.size a) ∧
  (∀ (k0_h31 : k0_cond31 v205 = 1#1), ∀ (k0_h32 : k0_cond32 v205 v244 v265 = 1#1), ∀ (k0_h33 : k0_cond33 v279 = 1#1), ∀ a, (k0_off74 v205 v244 v265) a + S1x128.size a ≤ S939x128.size a)
theorem k0_off72_inb : ∀ (v205 : BitVec 32) (v244 : BitVec 32) (v265 : BitVec 32) (v279 : BitVec 32) (k0_hw49 : k0_chk49 v205 v244 v265 v279), ∀ (k0_h31 : k0_cond31 v205 = 1#1), ∀ (k0_h32 : k0_cond32 v205 v244 v265 = 1#1), ∀ (k0_h33 : k0_cond33 v279 = 1#1), ∀ a, (k0_off72 v205 v244 v265 v279) a + S2x128.size a ≤ S46876x128.size a := fun v205 v244 v265 v279 k0_hw49 k0_h31 k0_h32 k0_h33 => k0_hw49.1 k0_h31 k0_h32 k0_h33
theorem k0_off73_inb : ∀ (v205 : BitVec 32) (v244 : BitVec 32) (v265 : BitVec 32) (v279 : BitVec 32) (k0_hw49 : k0_chk49 v205 v244 v265 v279), ∀ (k0_h31 : k0_cond31 v205 = 1#1), ∀ (k0_h32 : k0_cond32 v205 v244 v265 = 1#1), ∀ (k0_h33 : k0_cond33 v279 = 1#1), ∀ a, (k0_off73 v205 v244 v265) a + S2x128.size a ≤ S2814x128.size a := fun v205 v244 v265 v279 k0_hw49 k0_h31 k0_h32 k0_h33 => k0_hw49.2.1 k0_h31 k0_h32 k0_h33
theorem k0_off74_inb : ∀ (v205 : BitVec 32) (v244 : BitVec 32) (v265 : BitVec 32) (v279 : BitVec 32) (k0_hw49 : k0_chk49 v205 v244 v265 v279), ∀ (k0_h31 : k0_cond31 v205 = 1#1), ∀ (k0_h32 : k0_cond32 v205 v244 v265 = 1#1), ∀ (k0_h33 : k0_cond33 v279 = 1#1), ∀ a, (k0_off74 v205 v244 v265) a + S1x128.size a ≤ S939x128.size a := fun v205 v244 v265 v279 k0_hw49 k0_h31 k0_h32 k0_h33 => k0_hw49.2.2 k0_h31 k0_h32 k0_h33

def k0_off75 (v210 : BitVec 32) : Fin 2 → Nat :=
  let c5_i32 : BitVec 32 := 5#32
  let v234 : BitVec 32 := Scalar.shrsi v210 c5_i32
  let c7_i32_91 : BitVec 32 := 7#32
  let v236 : BitVec 32 := Scalar.shrsi v234 c7_i32_91
  let v240 : Index := Scalar.indexCast v236
  let c0_95 : Index := 0#32
  ![v240.toNat, 0]
def k0_cond34 (v210 : BitVec 32) : BitVec 1 :=
  let c46656000_i32_81 : BitVec 32 := 46656000#32
  let v211 : BitVec 1 := Scalar.cmpi .slt v210 c46656000_i32_81
  let v212 : BitVec 32 := Scalar.extui v211
  let c0_i32_82 : BitVec 32 := 0#32
  let v213 : BitVec 1 := Scalar.cmpi .ne v212 c0_i32_82
  v213

def k0_chk50 (v210 : BitVec 32) : Prop :=
  (∀ (k0_h34 : k0_cond34 v210 = 1#1), ∀ a, (k0_off75 v210) a + S1x128.size a ≤ S11391x128.size a)
theorem k0_off75_inb : ∀ (v210 : BitVec 32) (k0_hw50 : k0_chk50 v210), ∀ (k0_h34 : k0_cond34 v210 = 1#1), ∀ a, (k0_off75 v210) a + S1x128.size a ≤ S11391x128.size a := fun v210 k0_hw50 k0_h34 => k0_hw50 k0_h34

def k0_off76 (v210 : BitVec 32) (v244 : BitVec 32) (v265 : BitVec 32) : Fin 2 → Nat :=
  let c1_i32_97 : BitVec 32 := 1#32
  let c31_i32 : BitVec 32 := 31#32
  let v235 : BitVec 32 := Scalar.andi v210 c31_i32
  let v250 : BitVec 32 := Scalar.shli c1_i32_97 v235
  let c1_i32_98 : BitVec 32 := 1#32
  let v251 : BitVec 32 := Scalar.subi v250 c1_i32_98
  let v252 : BitVec 32 := Scalar.andi v244 v251
  let c1_i32_99 : BitVec 32 := 1#32
  let v253 : BitVec 32 := Scalar.shrsi v252 c1_i32_99
  let c1431655765_i32_100 : BitVec 32 := 1431655765#32
  let v254 : BitVec 32 := Scalar.andi v253 c1431655765_i32_100
  let v255 : BitVec 32 := Scalar.subi v252 v254
  let c858993459_i32_101 : BitVec 32 := 858993459#32
  let v256 : BitVec 32 := Scalar.andi v255 c858993459_i32_101
  let c2_i32_102 : BitVec 32 := 2#32
  let v257 : BitVec 32 := Scalar.shrsi v255 c2_i32_102
  let c858993459_i32_103 : BitVec 32 := 858993459#32
  let v258 : BitVec 32 := Scalar.andi v257 c858993459_i32_103
  let v259 : BitVec 32 := Scalar.addi v256 v258
  let c4_i32_104 : BitVec 32 := 4#32
  let v260 : BitVec 32 := Scalar.shrsi v259 c4_i32_104
  let v261 : BitVec 32 := Scalar.addi v259 v260
  let c252645135_i32_105 : BitVec 32 := 252645135#32
  let v262 : BitVec 32 := Scalar.andi v261 c252645135_i32_105
  let c16843009_i32_106 : BitVec 32 := 16843009#32
  let v263 : BitVec 32 := Scalar.muli v262 c16843009_i32_106
  let c24_i32_107 : BitVec 32 := 24#32
  let v264 : BitVec 32 := Scalar.shrsi v263 c24_i32_107
  let v266 : BitVec 32 := Scalar.addi v265 v264
  let c7_i32_109 : BitVec 32 := 7#32
  let v270 : BitVec 32 := Scalar.shrsi v266 c7_i32_109
  let v272 : Index := Scalar.indexCast v270
  let c0_111 : Index := 0#32
  ![v272.toNat, 0]
def k0_cond35 (v210 : BitVec 32) (v244 : BitVec 32) (v265 : BitVec 32) : BitVec 1 :=
  let c1_i32_97 : BitVec 32 := 1#32
  let c31_i32 : BitVec 32 := 31#32
  let v235 : BitVec 32 := Scalar.andi v210 c31_i32
  let v250 : BitVec 32 := Scalar.shli c1_i32_97 v235
  let c1_i32_98 : BitVec 32 := 1#32
  let v251 : BitVec 32 := Scalar.subi v250 c1_i32_98
  let v252 : BitVec 32 := Scalar.andi v244 v251
  let c1_i32_99 : BitVec 32 := 1#32
  let v253 : BitVec 32 := Scalar.shrsi v252 c1_i32_99
  let c1431655765_i32_100 : BitVec 32 := 1431655765#32
  let v254 : BitVec 32 := Scalar.andi v253 c1431655765_i32_100
  let v255 : BitVec 32 := Scalar.subi v252 v254
  let c858993459_i32_101 : BitVec 32 := 858993459#32
  let v256 : BitVec 32 := Scalar.andi v255 c858993459_i32_101
  let c2_i32_102 : BitVec 32 := 2#32
  let v257 : BitVec 32 := Scalar.shrsi v255 c2_i32_102
  let c858993459_i32_103 : BitVec 32 := 858993459#32
  let v258 : BitVec 32 := Scalar.andi v257 c858993459_i32_103
  let v259 : BitVec 32 := Scalar.addi v256 v258
  let c4_i32_104 : BitVec 32 := 4#32
  let v260 : BitVec 32 := Scalar.shrsi v259 c4_i32_104
  let v261 : BitVec 32 := Scalar.addi v259 v260
  let c252645135_i32_105 : BitVec 32 := 252645135#32
  let v262 : BitVec 32 := Scalar.andi v261 c252645135_i32_105
  let c16843009_i32_106 : BitVec 32 := 16843009#32
  let v263 : BitVec 32 := Scalar.muli v262 c16843009_i32_106
  let c24_i32_107 : BitVec 32 := 24#32
  let v264 : BitVec 32 := Scalar.shrsi v263 c24_i32_107
  let v266 : BitVec 32 := Scalar.addi v265 v264
  let c120000_i32 : BitVec 32 := 120000#32
  let v267 : BitVec 1 := Scalar.cmpi .slt v266 c120000_i32
  let v268 : BitVec 32 := Scalar.extui v267
  let c0_i32_108 : BitVec 32 := 0#32
  let v269 : BitVec 1 := Scalar.cmpi .ne v268 c0_i32_108
  v269

def k0_chk51 (v210 : BitVec 32) (v244 : BitVec 32) (v265 : BitVec 32) : Prop :=
  (∀ (k0_h34 : k0_cond34 v210 = 1#1), ∀ (k0_h35 : k0_cond35 v210 v244 v265 = 1#1), ∀ a, (k0_off76 v210 v244 v265) a + S1x128.size a ≤ S939x128.size a)
theorem k0_off76_inb : ∀ (v210 : BitVec 32) (v244 : BitVec 32) (v265 : BitVec 32) (k0_hw51 : k0_chk51 v210 v244 v265), ∀ (k0_h34 : k0_cond34 v210 = 1#1), ∀ (k0_h35 : k0_cond35 v210 v244 v265 = 1#1), ∀ a, (k0_off76 v210 v244 v265) a + S1x128.size a ≤ S939x128.size a := fun v210 v244 v265 k0_hw51 k0_h34 k0_h35 => k0_hw51 k0_h34 k0_h35

def k0_off77 (v210 : BitVec 32) (v244 : BitVec 32) (v265 : BitVec 32) (v279 : BitVec 32) : Fin 2 → Nat :=
  let c1_i32_97 : BitVec 32 := 1#32
  let c31_i32 : BitVec 32 := 31#32
  let v235 : BitVec 32 := Scalar.andi v210 c31_i32
  let v250 : BitVec 32 := Scalar.shli c1_i32_97 v235
  let c1_i32_98 : BitVec 32 := 1#32
  let v251 : BitVec 32 := Scalar.subi v250 c1_i32_98
  let v252 : BitVec 32 := Scalar.andi v244 v251
  let c1_i32_99 : BitVec 32 := 1#32
  let v253 : BitVec 32 := Scalar.shrsi v252 c1_i32_99
  let c1431655765_i32_100 : BitVec 32 := 1431655765#32
  let v254 : BitVec 32 := Scalar.andi v253 c1431655765_i32_100
  let v255 : BitVec 32 := Scalar.subi v252 v254
  let c858993459_i32_101 : BitVec 32 := 858993459#32
  let v256 : BitVec 32 := Scalar.andi v255 c858993459_i32_101
  let c2_i32_102 : BitVec 32 := 2#32
  let v257 : BitVec 32 := Scalar.shrsi v255 c2_i32_102
  let c858993459_i32_103 : BitVec 32 := 858993459#32
  let v258 : BitVec 32 := Scalar.andi v257 c858993459_i32_103
  let v259 : BitVec 32 := Scalar.addi v256 v258
  let c4_i32_104 : BitVec 32 := 4#32
  let v260 : BitVec 32 := Scalar.shrsi v259 c4_i32_104
  let v261 : BitVec 32 := Scalar.addi v259 v260
  let c252645135_i32_105 : BitVec 32 := 252645135#32
  let v262 : BitVec 32 := Scalar.andi v261 c252645135_i32_105
  let c16843009_i32_106 : BitVec 32 := 16843009#32
  let v263 : BitVec 32 := Scalar.muli v262 c16843009_i32_106
  let c24_i32_107 : BitVec 32 := 24#32
  let v264 : BitVec 32 := Scalar.shrsi v263 c24_i32_107
  let v266 : BitVec 32 := Scalar.addi v265 v264
  let c10_i32_115 : BitVec 32 := 10#32
  let v283 : BitVec 32 := Scalar.muli v266 c10_i32_115
  let v284 : BitVec 32 := Scalar.addi v283 v279
  let c5_i32_116 : BitVec 32 := 5#32
  let v285 : BitVec 32 := Scalar.muli v284 c5_i32_116
  let c7_i32_117 : BitVec 32 := 7#32
  let v286 : BitVec 32 := Scalar.shrsi v285 c7_i32_117
  let v288 : Index := Scalar.indexCast v286
  let c0_119 : Index := 0#32
  ![v288.toNat, 0]
def k0_cond36 (v279 : BitVec 32) : BitVec 1 :=
  let c10_i32 : BitVec 32 := 10#32
  let v280 : BitVec 1 := Scalar.cmpi .slt v279 c10_i32
  let v281 : BitVec 32 := Scalar.extui v280
  let c0_i32_114 : BitVec 32 := 0#32
  let v282 : BitVec 1 := Scalar.cmpi .ne v281 c0_i32_114
  v282

def k0_off78 (v210 : BitVec 32) (v244 : BitVec 32) (v265 : BitVec 32) : Fin 2 → Nat :=
  let c1_i32_97 : BitVec 32 := 1#32
  let c31_i32 : BitVec 32 := 31#32
  let v235 : BitVec 32 := Scalar.andi v210 c31_i32
  let v250 : BitVec 32 := Scalar.shli c1_i32_97 v235
  let c1_i32_98 : BitVec 32 := 1#32
  let v251 : BitVec 32 := Scalar.subi v250 c1_i32_98
  let v252 : BitVec 32 := Scalar.andi v244 v251
  let c1_i32_99 : BitVec 32 := 1#32
  let v253 : BitVec 32 := Scalar.shrsi v252 c1_i32_99
  let c1431655765_i32_100 : BitVec 32 := 1431655765#32
  let v254 : BitVec 32 := Scalar.andi v253 c1431655765_i32_100
  let v255 : BitVec 32 := Scalar.subi v252 v254
  let c858993459_i32_101 : BitVec 32 := 858993459#32
  let v256 : BitVec 32 := Scalar.andi v255 c858993459_i32_101
  let c2_i32_102 : BitVec 32 := 2#32
  let v257 : BitVec 32 := Scalar.shrsi v255 c2_i32_102
  let c858993459_i32_103 : BitVec 32 := 858993459#32
  let v258 : BitVec 32 := Scalar.andi v257 c858993459_i32_103
  let v259 : BitVec 32 := Scalar.addi v256 v258
  let c4_i32_104 : BitVec 32 := 4#32
  let v260 : BitVec 32 := Scalar.shrsi v259 c4_i32_104
  let v261 : BitVec 32 := Scalar.addi v259 v260
  let c252645135_i32_105 : BitVec 32 := 252645135#32
  let v262 : BitVec 32 := Scalar.andi v261 c252645135_i32_105
  let c16843009_i32_106 : BitVec 32 := 16843009#32
  let v263 : BitVec 32 := Scalar.muli v262 c16843009_i32_106
  let c24_i32_107 : BitVec 32 := 24#32
  let v264 : BitVec 32 := Scalar.shrsi v263 c24_i32_107
  let v266 : BitVec 32 := Scalar.addi v265 v264
  let c3_i32_125 : BitVec 32 := 3#32
  let v329 : BitVec 32 := Scalar.muli v266 c3_i32_125
  let c7_i32_126 : BitVec 32 := 7#32
  let v330 : BitVec 32 := Scalar.shrsi v329 c7_i32_126
  let v332 : Index := Scalar.indexCast v330
  let c0_128 : Index := 0#32
  ![v332.toNat, 0]
def k0_off79 (v210 : BitVec 32) (v244 : BitVec 32) (v265 : BitVec 32) : Fin 2 → Nat :=
  let c1_i32_97 : BitVec 32 := 1#32
  let c31_i32 : BitVec 32 := 31#32
  let v235 : BitVec 32 := Scalar.andi v210 c31_i32
  let v250 : BitVec 32 := Scalar.shli c1_i32_97 v235
  let c1_i32_98 : BitVec 32 := 1#32
  let v251 : BitVec 32 := Scalar.subi v250 c1_i32_98
  let v252 : BitVec 32 := Scalar.andi v244 v251
  let c1_i32_99 : BitVec 32 := 1#32
  let v253 : BitVec 32 := Scalar.shrsi v252 c1_i32_99
  let c1431655765_i32_100 : BitVec 32 := 1431655765#32
  let v254 : BitVec 32 := Scalar.andi v253 c1431655765_i32_100
  let v255 : BitVec 32 := Scalar.subi v252 v254
  let c858993459_i32_101 : BitVec 32 := 858993459#32
  let v256 : BitVec 32 := Scalar.andi v255 c858993459_i32_101
  let c2_i32_102 : BitVec 32 := 2#32
  let v257 : BitVec 32 := Scalar.shrsi v255 c2_i32_102
  let c858993459_i32_103 : BitVec 32 := 858993459#32
  let v258 : BitVec 32 := Scalar.andi v257 c858993459_i32_103
  let v259 : BitVec 32 := Scalar.addi v256 v258
  let c4_i32_104 : BitVec 32 := 4#32
  let v260 : BitVec 32 := Scalar.shrsi v259 c4_i32_104
  let v261 : BitVec 32 := Scalar.addi v259 v260
  let c252645135_i32_105 : BitVec 32 := 252645135#32
  let v262 : BitVec 32 := Scalar.andi v261 c252645135_i32_105
  let c16843009_i32_106 : BitVec 32 := 16843009#32
  let v263 : BitVec 32 := Scalar.muli v262 c16843009_i32_106
  let c24_i32_107 : BitVec 32 := 24#32
  let v264 : BitVec 32 := Scalar.shrsi v263 c24_i32_107
  let v266 : BitVec 32 := Scalar.addi v265 v264
  let c7_i32_109 : BitVec 32 := 7#32
  let v270 : BitVec 32 := Scalar.shrsi v266 c7_i32_109
  let v360 : Index := Scalar.indexCast v270
  let c0_136 : Index := 0#32
  ![v360.toNat, 0]

def k0_chk52 (v210 : BitVec 32) (v244 : BitVec 32) (v265 : BitVec 32) (v279 : BitVec 32) : Prop :=
  (∀ (k0_h34 : k0_cond34 v210 = 1#1), ∀ (k0_h35 : k0_cond35 v210 v244 v265 = 1#1), ∀ (k0_h36 : k0_cond36 v279 = 1#1), ∀ a, (k0_off77 v210 v244 v265 v279) a + S2x128.size a ≤ S46876x128.size a) ∧
  (∀ (k0_h34 : k0_cond34 v210 = 1#1), ∀ (k0_h35 : k0_cond35 v210 v244 v265 = 1#1), ∀ (k0_h36 : k0_cond36 v279 = 1#1), ∀ a, (k0_off78 v210 v244 v265) a + S2x128.size a ≤ S2814x128.size a) ∧
  (∀ (k0_h34 : k0_cond34 v210 = 1#1), ∀ (k0_h35 : k0_cond35 v210 v244 v265 = 1#1), ∀ (k0_h36 : k0_cond36 v279 = 1#1), ∀ a, (k0_off79 v210 v244 v265) a + S1x128.size a ≤ S939x128.size a)
theorem k0_off77_inb : ∀ (v210 : BitVec 32) (v244 : BitVec 32) (v265 : BitVec 32) (v279 : BitVec 32) (k0_hw52 : k0_chk52 v210 v244 v265 v279), ∀ (k0_h34 : k0_cond34 v210 = 1#1), ∀ (k0_h35 : k0_cond35 v210 v244 v265 = 1#1), ∀ (k0_h36 : k0_cond36 v279 = 1#1), ∀ a, (k0_off77 v210 v244 v265 v279) a + S2x128.size a ≤ S46876x128.size a := fun v210 v244 v265 v279 k0_hw52 k0_h34 k0_h35 k0_h36 => k0_hw52.1 k0_h34 k0_h35 k0_h36
theorem k0_off78_inb : ∀ (v210 : BitVec 32) (v244 : BitVec 32) (v265 : BitVec 32) (v279 : BitVec 32) (k0_hw52 : k0_chk52 v210 v244 v265 v279), ∀ (k0_h34 : k0_cond34 v210 = 1#1), ∀ (k0_h35 : k0_cond35 v210 v244 v265 = 1#1), ∀ (k0_h36 : k0_cond36 v279 = 1#1), ∀ a, (k0_off78 v210 v244 v265) a + S2x128.size a ≤ S2814x128.size a := fun v210 v244 v265 v279 k0_hw52 k0_h34 k0_h35 k0_h36 => k0_hw52.2.1 k0_h34 k0_h35 k0_h36
theorem k0_off79_inb : ∀ (v210 : BitVec 32) (v244 : BitVec 32) (v265 : BitVec 32) (v279 : BitVec 32) (k0_hw52 : k0_chk52 v210 v244 v265 v279), ∀ (k0_h34 : k0_cond34 v210 = 1#1), ∀ (k0_h35 : k0_cond35 v210 v244 v265 = 1#1), ∀ (k0_h36 : k0_cond36 v279 = 1#1), ∀ a, (k0_off79 v210 v244 v265) a + S1x128.size a ≤ S939x128.size a := fun v210 v244 v265 v279 k0_hw52 k0_h34 k0_h35 k0_h36 => k0_hw52.2.2 k0_h34 k0_h35 k0_h36

def k0_off80 (v215 : BitVec 32) : Fin 2 → Nat :=
  let c5_i32 : BitVec 32 := 5#32
  let v234 : BitVec 32 := Scalar.shrsi v215 c5_i32
  let c7_i32_91 : BitVec 32 := 7#32
  let v236 : BitVec 32 := Scalar.shrsi v234 c7_i32_91
  let v240 : Index := Scalar.indexCast v236
  let c0_95 : Index := 0#32
  ![v240.toNat, 0]
def k0_cond37 (v215 : BitVec 32) : BitVec 1 :=
  let c46656000_i32_83 : BitVec 32 := 46656000#32
  let v216 : BitVec 1 := Scalar.cmpi .slt v215 c46656000_i32_83
  let v217 : BitVec 32 := Scalar.extui v216
  let c0_i32_84 : BitVec 32 := 0#32
  let v218 : BitVec 1 := Scalar.cmpi .ne v217 c0_i32_84
  v218

def k0_chk53 (v215 : BitVec 32) : Prop :=
  (∀ (k0_h37 : k0_cond37 v215 = 1#1), ∀ a, (k0_off80 v215) a + S1x128.size a ≤ S11391x128.size a)
theorem k0_off80_inb : ∀ (v215 : BitVec 32) (k0_hw53 : k0_chk53 v215), ∀ (k0_h37 : k0_cond37 v215 = 1#1), ∀ a, (k0_off80 v215) a + S1x128.size a ≤ S11391x128.size a := fun v215 k0_hw53 k0_h37 => k0_hw53 k0_h37

def k0_off81 (v215 : BitVec 32) (v244 : BitVec 32) (v265 : BitVec 32) : Fin 2 → Nat :=
  let c1_i32_97 : BitVec 32 := 1#32
  let c31_i32 : BitVec 32 := 31#32
  let v235 : BitVec 32 := Scalar.andi v215 c31_i32
  let v250 : BitVec 32 := Scalar.shli c1_i32_97 v235
  let c1_i32_98 : BitVec 32 := 1#32
  let v251 : BitVec 32 := Scalar.subi v250 c1_i32_98
  let v252 : BitVec 32 := Scalar.andi v244 v251
  let c1_i32_99 : BitVec 32 := 1#32
  let v253 : BitVec 32 := Scalar.shrsi v252 c1_i32_99
  let c1431655765_i32_100 : BitVec 32 := 1431655765#32
  let v254 : BitVec 32 := Scalar.andi v253 c1431655765_i32_100
  let v255 : BitVec 32 := Scalar.subi v252 v254
  let c858993459_i32_101 : BitVec 32 := 858993459#32
  let v256 : BitVec 32 := Scalar.andi v255 c858993459_i32_101
  let c2_i32_102 : BitVec 32 := 2#32
  let v257 : BitVec 32 := Scalar.shrsi v255 c2_i32_102
  let c858993459_i32_103 : BitVec 32 := 858993459#32
  let v258 : BitVec 32 := Scalar.andi v257 c858993459_i32_103
  let v259 : BitVec 32 := Scalar.addi v256 v258
  let c4_i32_104 : BitVec 32 := 4#32
  let v260 : BitVec 32 := Scalar.shrsi v259 c4_i32_104
  let v261 : BitVec 32 := Scalar.addi v259 v260
  let c252645135_i32_105 : BitVec 32 := 252645135#32
  let v262 : BitVec 32 := Scalar.andi v261 c252645135_i32_105
  let c16843009_i32_106 : BitVec 32 := 16843009#32
  let v263 : BitVec 32 := Scalar.muli v262 c16843009_i32_106
  let c24_i32_107 : BitVec 32 := 24#32
  let v264 : BitVec 32 := Scalar.shrsi v263 c24_i32_107
  let v266 : BitVec 32 := Scalar.addi v265 v264
  let c7_i32_109 : BitVec 32 := 7#32
  let v270 : BitVec 32 := Scalar.shrsi v266 c7_i32_109
  let v272 : Index := Scalar.indexCast v270
  let c0_111 : Index := 0#32
  ![v272.toNat, 0]
def k0_cond38 (v215 : BitVec 32) (v244 : BitVec 32) (v265 : BitVec 32) : BitVec 1 :=
  let c1_i32_97 : BitVec 32 := 1#32
  let c31_i32 : BitVec 32 := 31#32
  let v235 : BitVec 32 := Scalar.andi v215 c31_i32
  let v250 : BitVec 32 := Scalar.shli c1_i32_97 v235
  let c1_i32_98 : BitVec 32 := 1#32
  let v251 : BitVec 32 := Scalar.subi v250 c1_i32_98
  let v252 : BitVec 32 := Scalar.andi v244 v251
  let c1_i32_99 : BitVec 32 := 1#32
  let v253 : BitVec 32 := Scalar.shrsi v252 c1_i32_99
  let c1431655765_i32_100 : BitVec 32 := 1431655765#32
  let v254 : BitVec 32 := Scalar.andi v253 c1431655765_i32_100
  let v255 : BitVec 32 := Scalar.subi v252 v254
  let c858993459_i32_101 : BitVec 32 := 858993459#32
  let v256 : BitVec 32 := Scalar.andi v255 c858993459_i32_101
  let c2_i32_102 : BitVec 32 := 2#32
  let v257 : BitVec 32 := Scalar.shrsi v255 c2_i32_102
  let c858993459_i32_103 : BitVec 32 := 858993459#32
  let v258 : BitVec 32 := Scalar.andi v257 c858993459_i32_103
  let v259 : BitVec 32 := Scalar.addi v256 v258
  let c4_i32_104 : BitVec 32 := 4#32
  let v260 : BitVec 32 := Scalar.shrsi v259 c4_i32_104
  let v261 : BitVec 32 := Scalar.addi v259 v260
  let c252645135_i32_105 : BitVec 32 := 252645135#32
  let v262 : BitVec 32 := Scalar.andi v261 c252645135_i32_105
  let c16843009_i32_106 : BitVec 32 := 16843009#32
  let v263 : BitVec 32 := Scalar.muli v262 c16843009_i32_106
  let c24_i32_107 : BitVec 32 := 24#32
  let v264 : BitVec 32 := Scalar.shrsi v263 c24_i32_107
  let v266 : BitVec 32 := Scalar.addi v265 v264
  let c120000_i32 : BitVec 32 := 120000#32
  let v267 : BitVec 1 := Scalar.cmpi .slt v266 c120000_i32
  let v268 : BitVec 32 := Scalar.extui v267
  let c0_i32_108 : BitVec 32 := 0#32
  let v269 : BitVec 1 := Scalar.cmpi .ne v268 c0_i32_108
  v269

def k0_chk54 (v215 : BitVec 32) (v244 : BitVec 32) (v265 : BitVec 32) : Prop :=
  (∀ (k0_h37 : k0_cond37 v215 = 1#1), ∀ (k0_h38 : k0_cond38 v215 v244 v265 = 1#1), ∀ a, (k0_off81 v215 v244 v265) a + S1x128.size a ≤ S939x128.size a)
theorem k0_off81_inb : ∀ (v215 : BitVec 32) (v244 : BitVec 32) (v265 : BitVec 32) (k0_hw54 : k0_chk54 v215 v244 v265), ∀ (k0_h37 : k0_cond37 v215 = 1#1), ∀ (k0_h38 : k0_cond38 v215 v244 v265 = 1#1), ∀ a, (k0_off81 v215 v244 v265) a + S1x128.size a ≤ S939x128.size a := fun v215 v244 v265 k0_hw54 k0_h37 k0_h38 => k0_hw54 k0_h37 k0_h38

def k0_off82 (v215 : BitVec 32) (v244 : BitVec 32) (v265 : BitVec 32) (v279 : BitVec 32) : Fin 2 → Nat :=
  let c1_i32_97 : BitVec 32 := 1#32
  let c31_i32 : BitVec 32 := 31#32
  let v235 : BitVec 32 := Scalar.andi v215 c31_i32
  let v250 : BitVec 32 := Scalar.shli c1_i32_97 v235
  let c1_i32_98 : BitVec 32 := 1#32
  let v251 : BitVec 32 := Scalar.subi v250 c1_i32_98
  let v252 : BitVec 32 := Scalar.andi v244 v251
  let c1_i32_99 : BitVec 32 := 1#32
  let v253 : BitVec 32 := Scalar.shrsi v252 c1_i32_99
  let c1431655765_i32_100 : BitVec 32 := 1431655765#32
  let v254 : BitVec 32 := Scalar.andi v253 c1431655765_i32_100
  let v255 : BitVec 32 := Scalar.subi v252 v254
  let c858993459_i32_101 : BitVec 32 := 858993459#32
  let v256 : BitVec 32 := Scalar.andi v255 c858993459_i32_101
  let c2_i32_102 : BitVec 32 := 2#32
  let v257 : BitVec 32 := Scalar.shrsi v255 c2_i32_102
  let c858993459_i32_103 : BitVec 32 := 858993459#32
  let v258 : BitVec 32 := Scalar.andi v257 c858993459_i32_103
  let v259 : BitVec 32 := Scalar.addi v256 v258
  let c4_i32_104 : BitVec 32 := 4#32
  let v260 : BitVec 32 := Scalar.shrsi v259 c4_i32_104
  let v261 : BitVec 32 := Scalar.addi v259 v260
  let c252645135_i32_105 : BitVec 32 := 252645135#32
  let v262 : BitVec 32 := Scalar.andi v261 c252645135_i32_105
  let c16843009_i32_106 : BitVec 32 := 16843009#32
  let v263 : BitVec 32 := Scalar.muli v262 c16843009_i32_106
  let c24_i32_107 : BitVec 32 := 24#32
  let v264 : BitVec 32 := Scalar.shrsi v263 c24_i32_107
  let v266 : BitVec 32 := Scalar.addi v265 v264
  let c10_i32_115 : BitVec 32 := 10#32
  let v283 : BitVec 32 := Scalar.muli v266 c10_i32_115
  let v284 : BitVec 32 := Scalar.addi v283 v279
  let c5_i32_116 : BitVec 32 := 5#32
  let v285 : BitVec 32 := Scalar.muli v284 c5_i32_116
  let c7_i32_117 : BitVec 32 := 7#32
  let v286 : BitVec 32 := Scalar.shrsi v285 c7_i32_117
  let v288 : Index := Scalar.indexCast v286
  let c0_119 : Index := 0#32
  ![v288.toNat, 0]
def k0_cond39 (v279 : BitVec 32) : BitVec 1 :=
  let c10_i32 : BitVec 32 := 10#32
  let v280 : BitVec 1 := Scalar.cmpi .slt v279 c10_i32
  let v281 : BitVec 32 := Scalar.extui v280
  let c0_i32_114 : BitVec 32 := 0#32
  let v282 : BitVec 1 := Scalar.cmpi .ne v281 c0_i32_114
  v282

def k0_off83 (v215 : BitVec 32) (v244 : BitVec 32) (v265 : BitVec 32) : Fin 2 → Nat :=
  let c1_i32_97 : BitVec 32 := 1#32
  let c31_i32 : BitVec 32 := 31#32
  let v235 : BitVec 32 := Scalar.andi v215 c31_i32
  let v250 : BitVec 32 := Scalar.shli c1_i32_97 v235
  let c1_i32_98 : BitVec 32 := 1#32
  let v251 : BitVec 32 := Scalar.subi v250 c1_i32_98
  let v252 : BitVec 32 := Scalar.andi v244 v251
  let c1_i32_99 : BitVec 32 := 1#32
  let v253 : BitVec 32 := Scalar.shrsi v252 c1_i32_99
  let c1431655765_i32_100 : BitVec 32 := 1431655765#32
  let v254 : BitVec 32 := Scalar.andi v253 c1431655765_i32_100
  let v255 : BitVec 32 := Scalar.subi v252 v254
  let c858993459_i32_101 : BitVec 32 := 858993459#32
  let v256 : BitVec 32 := Scalar.andi v255 c858993459_i32_101
  let c2_i32_102 : BitVec 32 := 2#32
  let v257 : BitVec 32 := Scalar.shrsi v255 c2_i32_102
  let c858993459_i32_103 : BitVec 32 := 858993459#32
  let v258 : BitVec 32 := Scalar.andi v257 c858993459_i32_103
  let v259 : BitVec 32 := Scalar.addi v256 v258
  let c4_i32_104 : BitVec 32 := 4#32
  let v260 : BitVec 32 := Scalar.shrsi v259 c4_i32_104
  let v261 : BitVec 32 := Scalar.addi v259 v260
  let c252645135_i32_105 : BitVec 32 := 252645135#32
  let v262 : BitVec 32 := Scalar.andi v261 c252645135_i32_105
  let c16843009_i32_106 : BitVec 32 := 16843009#32
  let v263 : BitVec 32 := Scalar.muli v262 c16843009_i32_106
  let c24_i32_107 : BitVec 32 := 24#32
  let v264 : BitVec 32 := Scalar.shrsi v263 c24_i32_107
  let v266 : BitVec 32 := Scalar.addi v265 v264
  let c3_i32_125 : BitVec 32 := 3#32
  let v329 : BitVec 32 := Scalar.muli v266 c3_i32_125
  let c7_i32_126 : BitVec 32 := 7#32
  let v330 : BitVec 32 := Scalar.shrsi v329 c7_i32_126
  let v332 : Index := Scalar.indexCast v330
  let c0_128 : Index := 0#32
  ![v332.toNat, 0]
def k0_off84 (v215 : BitVec 32) (v244 : BitVec 32) (v265 : BitVec 32) : Fin 2 → Nat :=
  let c1_i32_97 : BitVec 32 := 1#32
  let c31_i32 : BitVec 32 := 31#32
  let v235 : BitVec 32 := Scalar.andi v215 c31_i32
  let v250 : BitVec 32 := Scalar.shli c1_i32_97 v235
  let c1_i32_98 : BitVec 32 := 1#32
  let v251 : BitVec 32 := Scalar.subi v250 c1_i32_98
  let v252 : BitVec 32 := Scalar.andi v244 v251
  let c1_i32_99 : BitVec 32 := 1#32
  let v253 : BitVec 32 := Scalar.shrsi v252 c1_i32_99
  let c1431655765_i32_100 : BitVec 32 := 1431655765#32
  let v254 : BitVec 32 := Scalar.andi v253 c1431655765_i32_100
  let v255 : BitVec 32 := Scalar.subi v252 v254
  let c858993459_i32_101 : BitVec 32 := 858993459#32
  let v256 : BitVec 32 := Scalar.andi v255 c858993459_i32_101
  let c2_i32_102 : BitVec 32 := 2#32
  let v257 : BitVec 32 := Scalar.shrsi v255 c2_i32_102
  let c858993459_i32_103 : BitVec 32 := 858993459#32
  let v258 : BitVec 32 := Scalar.andi v257 c858993459_i32_103
  let v259 : BitVec 32 := Scalar.addi v256 v258
  let c4_i32_104 : BitVec 32 := 4#32
  let v260 : BitVec 32 := Scalar.shrsi v259 c4_i32_104
  let v261 : BitVec 32 := Scalar.addi v259 v260
  let c252645135_i32_105 : BitVec 32 := 252645135#32
  let v262 : BitVec 32 := Scalar.andi v261 c252645135_i32_105
  let c16843009_i32_106 : BitVec 32 := 16843009#32
  let v263 : BitVec 32 := Scalar.muli v262 c16843009_i32_106
  let c24_i32_107 : BitVec 32 := 24#32
  let v264 : BitVec 32 := Scalar.shrsi v263 c24_i32_107
  let v266 : BitVec 32 := Scalar.addi v265 v264
  let c7_i32_109 : BitVec 32 := 7#32
  let v270 : BitVec 32 := Scalar.shrsi v266 c7_i32_109
  let v360 : Index := Scalar.indexCast v270
  let c0_136 : Index := 0#32
  ![v360.toNat, 0]

def k0_chk55 (v215 : BitVec 32) (v244 : BitVec 32) (v265 : BitVec 32) (v279 : BitVec 32) : Prop :=
  (∀ (k0_h37 : k0_cond37 v215 = 1#1), ∀ (k0_h38 : k0_cond38 v215 v244 v265 = 1#1), ∀ (k0_h39 : k0_cond39 v279 = 1#1), ∀ a, (k0_off82 v215 v244 v265 v279) a + S2x128.size a ≤ S46876x128.size a) ∧
  (∀ (k0_h37 : k0_cond37 v215 = 1#1), ∀ (k0_h38 : k0_cond38 v215 v244 v265 = 1#1), ∀ (k0_h39 : k0_cond39 v279 = 1#1), ∀ a, (k0_off83 v215 v244 v265) a + S2x128.size a ≤ S2814x128.size a) ∧
  (∀ (k0_h37 : k0_cond37 v215 = 1#1), ∀ (k0_h38 : k0_cond38 v215 v244 v265 = 1#1), ∀ (k0_h39 : k0_cond39 v279 = 1#1), ∀ a, (k0_off84 v215 v244 v265) a + S1x128.size a ≤ S939x128.size a)
theorem k0_off82_inb : ∀ (v215 : BitVec 32) (v244 : BitVec 32) (v265 : BitVec 32) (v279 : BitVec 32) (k0_hw55 : k0_chk55 v215 v244 v265 v279), ∀ (k0_h37 : k0_cond37 v215 = 1#1), ∀ (k0_h38 : k0_cond38 v215 v244 v265 = 1#1), ∀ (k0_h39 : k0_cond39 v279 = 1#1), ∀ a, (k0_off82 v215 v244 v265 v279) a + S2x128.size a ≤ S46876x128.size a := fun v215 v244 v265 v279 k0_hw55 k0_h37 k0_h38 k0_h39 => k0_hw55.1 k0_h37 k0_h38 k0_h39
theorem k0_off83_inb : ∀ (v215 : BitVec 32) (v244 : BitVec 32) (v265 : BitVec 32) (v279 : BitVec 32) (k0_hw55 : k0_chk55 v215 v244 v265 v279), ∀ (k0_h37 : k0_cond37 v215 = 1#1), ∀ (k0_h38 : k0_cond38 v215 v244 v265 = 1#1), ∀ (k0_h39 : k0_cond39 v279 = 1#1), ∀ a, (k0_off83 v215 v244 v265) a + S2x128.size a ≤ S2814x128.size a := fun v215 v244 v265 v279 k0_hw55 k0_h37 k0_h38 k0_h39 => k0_hw55.2.1 k0_h37 k0_h38 k0_h39
theorem k0_off84_inb : ∀ (v215 : BitVec 32) (v244 : BitVec 32) (v265 : BitVec 32) (v279 : BitVec 32) (k0_hw55 : k0_chk55 v215 v244 v265 v279), ∀ (k0_h37 : k0_cond37 v215 = 1#1), ∀ (k0_h38 : k0_cond38 v215 v244 v265 = 1#1), ∀ (k0_h39 : k0_cond39 v279 = 1#1), ∀ a, (k0_off84 v215 v244 v265) a + S1x128.size a ≤ S939x128.size a := fun v215 v244 v265 v279 k0_hw55 k0_h37 k0_h38 k0_h39 => k0_hw55.2.2 k0_h37 k0_h38 k0_h39

def k0_off85 (v220 : BitVec 32) : Fin 2 → Nat :=
  let c5_i32 : BitVec 32 := 5#32
  let v234 : BitVec 32 := Scalar.shrsi v220 c5_i32
  let c7_i32_91 : BitVec 32 := 7#32
  let v236 : BitVec 32 := Scalar.shrsi v234 c7_i32_91
  let v240 : Index := Scalar.indexCast v236
  let c0_95 : Index := 0#32
  ![v240.toNat, 0]
def k0_cond40 (v220 : BitVec 32) : BitVec 1 :=
  let c46656000_i32_85 : BitVec 32 := 46656000#32
  let v221 : BitVec 1 := Scalar.cmpi .slt v220 c46656000_i32_85
  let v222 : BitVec 32 := Scalar.extui v221
  let c0_i32_86 : BitVec 32 := 0#32
  let v223 : BitVec 1 := Scalar.cmpi .ne v222 c0_i32_86
  v223

def k0_chk56 (v220 : BitVec 32) : Prop :=
  (∀ (k0_h40 : k0_cond40 v220 = 1#1), ∀ a, (k0_off85 v220) a + S1x128.size a ≤ S11391x128.size a)
theorem k0_off85_inb : ∀ (v220 : BitVec 32) (k0_hw56 : k0_chk56 v220), ∀ (k0_h40 : k0_cond40 v220 = 1#1), ∀ a, (k0_off85 v220) a + S1x128.size a ≤ S11391x128.size a := fun v220 k0_hw56 k0_h40 => k0_hw56 k0_h40

def k0_off86 (v220 : BitVec 32) (v244 : BitVec 32) (v265 : BitVec 32) : Fin 2 → Nat :=
  let c1_i32_97 : BitVec 32 := 1#32
  let c31_i32 : BitVec 32 := 31#32
  let v235 : BitVec 32 := Scalar.andi v220 c31_i32
  let v250 : BitVec 32 := Scalar.shli c1_i32_97 v235
  let c1_i32_98 : BitVec 32 := 1#32
  let v251 : BitVec 32 := Scalar.subi v250 c1_i32_98
  let v252 : BitVec 32 := Scalar.andi v244 v251
  let c1_i32_99 : BitVec 32 := 1#32
  let v253 : BitVec 32 := Scalar.shrsi v252 c1_i32_99
  let c1431655765_i32_100 : BitVec 32 := 1431655765#32
  let v254 : BitVec 32 := Scalar.andi v253 c1431655765_i32_100
  let v255 : BitVec 32 := Scalar.subi v252 v254
  let c858993459_i32_101 : BitVec 32 := 858993459#32
  let v256 : BitVec 32 := Scalar.andi v255 c858993459_i32_101
  let c2_i32_102 : BitVec 32 := 2#32
  let v257 : BitVec 32 := Scalar.shrsi v255 c2_i32_102
  let c858993459_i32_103 : BitVec 32 := 858993459#32
  let v258 : BitVec 32 := Scalar.andi v257 c858993459_i32_103
  let v259 : BitVec 32 := Scalar.addi v256 v258
  let c4_i32_104 : BitVec 32 := 4#32
  let v260 : BitVec 32 := Scalar.shrsi v259 c4_i32_104
  let v261 : BitVec 32 := Scalar.addi v259 v260
  let c252645135_i32_105 : BitVec 32 := 252645135#32
  let v262 : BitVec 32 := Scalar.andi v261 c252645135_i32_105
  let c16843009_i32_106 : BitVec 32 := 16843009#32
  let v263 : BitVec 32 := Scalar.muli v262 c16843009_i32_106
  let c24_i32_107 : BitVec 32 := 24#32
  let v264 : BitVec 32 := Scalar.shrsi v263 c24_i32_107
  let v266 : BitVec 32 := Scalar.addi v265 v264
  let c7_i32_109 : BitVec 32 := 7#32
  let v270 : BitVec 32 := Scalar.shrsi v266 c7_i32_109
  let v272 : Index := Scalar.indexCast v270
  let c0_111 : Index := 0#32
  ![v272.toNat, 0]
def k0_cond41 (v220 : BitVec 32) (v244 : BitVec 32) (v265 : BitVec 32) : BitVec 1 :=
  let c1_i32_97 : BitVec 32 := 1#32
  let c31_i32 : BitVec 32 := 31#32
  let v235 : BitVec 32 := Scalar.andi v220 c31_i32
  let v250 : BitVec 32 := Scalar.shli c1_i32_97 v235
  let c1_i32_98 : BitVec 32 := 1#32
  let v251 : BitVec 32 := Scalar.subi v250 c1_i32_98
  let v252 : BitVec 32 := Scalar.andi v244 v251
  let c1_i32_99 : BitVec 32 := 1#32
  let v253 : BitVec 32 := Scalar.shrsi v252 c1_i32_99
  let c1431655765_i32_100 : BitVec 32 := 1431655765#32
  let v254 : BitVec 32 := Scalar.andi v253 c1431655765_i32_100
  let v255 : BitVec 32 := Scalar.subi v252 v254
  let c858993459_i32_101 : BitVec 32 := 858993459#32
  let v256 : BitVec 32 := Scalar.andi v255 c858993459_i32_101
  let c2_i32_102 : BitVec 32 := 2#32
  let v257 : BitVec 32 := Scalar.shrsi v255 c2_i32_102
  let c858993459_i32_103 : BitVec 32 := 858993459#32
  let v258 : BitVec 32 := Scalar.andi v257 c858993459_i32_103
  let v259 : BitVec 32 := Scalar.addi v256 v258
  let c4_i32_104 : BitVec 32 := 4#32
  let v260 : BitVec 32 := Scalar.shrsi v259 c4_i32_104
  let v261 : BitVec 32 := Scalar.addi v259 v260
  let c252645135_i32_105 : BitVec 32 := 252645135#32
  let v262 : BitVec 32 := Scalar.andi v261 c252645135_i32_105
  let c16843009_i32_106 : BitVec 32 := 16843009#32
  let v263 : BitVec 32 := Scalar.muli v262 c16843009_i32_106
  let c24_i32_107 : BitVec 32 := 24#32
  let v264 : BitVec 32 := Scalar.shrsi v263 c24_i32_107
  let v266 : BitVec 32 := Scalar.addi v265 v264
  let c120000_i32 : BitVec 32 := 120000#32
  let v267 : BitVec 1 := Scalar.cmpi .slt v266 c120000_i32
  let v268 : BitVec 32 := Scalar.extui v267
  let c0_i32_108 : BitVec 32 := 0#32
  let v269 : BitVec 1 := Scalar.cmpi .ne v268 c0_i32_108
  v269

def k0_chk57 (v220 : BitVec 32) (v244 : BitVec 32) (v265 : BitVec 32) : Prop :=
  (∀ (k0_h40 : k0_cond40 v220 = 1#1), ∀ (k0_h41 : k0_cond41 v220 v244 v265 = 1#1), ∀ a, (k0_off86 v220 v244 v265) a + S1x128.size a ≤ S939x128.size a)
theorem k0_off86_inb : ∀ (v220 : BitVec 32) (v244 : BitVec 32) (v265 : BitVec 32) (k0_hw57 : k0_chk57 v220 v244 v265), ∀ (k0_h40 : k0_cond40 v220 = 1#1), ∀ (k0_h41 : k0_cond41 v220 v244 v265 = 1#1), ∀ a, (k0_off86 v220 v244 v265) a + S1x128.size a ≤ S939x128.size a := fun v220 v244 v265 k0_hw57 k0_h40 k0_h41 => k0_hw57 k0_h40 k0_h41

def k0_off87 (v220 : BitVec 32) (v244 : BitVec 32) (v265 : BitVec 32) (v279 : BitVec 32) : Fin 2 → Nat :=
  let c1_i32_97 : BitVec 32 := 1#32
  let c31_i32 : BitVec 32 := 31#32
  let v235 : BitVec 32 := Scalar.andi v220 c31_i32
  let v250 : BitVec 32 := Scalar.shli c1_i32_97 v235
  let c1_i32_98 : BitVec 32 := 1#32
  let v251 : BitVec 32 := Scalar.subi v250 c1_i32_98
  let v252 : BitVec 32 := Scalar.andi v244 v251
  let c1_i32_99 : BitVec 32 := 1#32
  let v253 : BitVec 32 := Scalar.shrsi v252 c1_i32_99
  let c1431655765_i32_100 : BitVec 32 := 1431655765#32
  let v254 : BitVec 32 := Scalar.andi v253 c1431655765_i32_100
  let v255 : BitVec 32 := Scalar.subi v252 v254
  let c858993459_i32_101 : BitVec 32 := 858993459#32
  let v256 : BitVec 32 := Scalar.andi v255 c858993459_i32_101
  let c2_i32_102 : BitVec 32 := 2#32
  let v257 : BitVec 32 := Scalar.shrsi v255 c2_i32_102
  let c858993459_i32_103 : BitVec 32 := 858993459#32
  let v258 : BitVec 32 := Scalar.andi v257 c858993459_i32_103
  let v259 : BitVec 32 := Scalar.addi v256 v258
  let c4_i32_104 : BitVec 32 := 4#32
  let v260 : BitVec 32 := Scalar.shrsi v259 c4_i32_104
  let v261 : BitVec 32 := Scalar.addi v259 v260
  let c252645135_i32_105 : BitVec 32 := 252645135#32
  let v262 : BitVec 32 := Scalar.andi v261 c252645135_i32_105
  let c16843009_i32_106 : BitVec 32 := 16843009#32
  let v263 : BitVec 32 := Scalar.muli v262 c16843009_i32_106
  let c24_i32_107 : BitVec 32 := 24#32
  let v264 : BitVec 32 := Scalar.shrsi v263 c24_i32_107
  let v266 : BitVec 32 := Scalar.addi v265 v264
  let c10_i32_115 : BitVec 32 := 10#32
  let v283 : BitVec 32 := Scalar.muli v266 c10_i32_115
  let v284 : BitVec 32 := Scalar.addi v283 v279
  let c5_i32_116 : BitVec 32 := 5#32
  let v285 : BitVec 32 := Scalar.muli v284 c5_i32_116
  let c7_i32_117 : BitVec 32 := 7#32
  let v286 : BitVec 32 := Scalar.shrsi v285 c7_i32_117
  let v288 : Index := Scalar.indexCast v286
  let c0_119 : Index := 0#32
  ![v288.toNat, 0]
def k0_cond42 (v279 : BitVec 32) : BitVec 1 :=
  let c10_i32 : BitVec 32 := 10#32
  let v280 : BitVec 1 := Scalar.cmpi .slt v279 c10_i32
  let v281 : BitVec 32 := Scalar.extui v280
  let c0_i32_114 : BitVec 32 := 0#32
  let v282 : BitVec 1 := Scalar.cmpi .ne v281 c0_i32_114
  v282

def k0_off88 (v220 : BitVec 32) (v244 : BitVec 32) (v265 : BitVec 32) : Fin 2 → Nat :=
  let c1_i32_97 : BitVec 32 := 1#32
  let c31_i32 : BitVec 32 := 31#32
  let v235 : BitVec 32 := Scalar.andi v220 c31_i32
  let v250 : BitVec 32 := Scalar.shli c1_i32_97 v235
  let c1_i32_98 : BitVec 32 := 1#32
  let v251 : BitVec 32 := Scalar.subi v250 c1_i32_98
  let v252 : BitVec 32 := Scalar.andi v244 v251
  let c1_i32_99 : BitVec 32 := 1#32
  let v253 : BitVec 32 := Scalar.shrsi v252 c1_i32_99
  let c1431655765_i32_100 : BitVec 32 := 1431655765#32
  let v254 : BitVec 32 := Scalar.andi v253 c1431655765_i32_100
  let v255 : BitVec 32 := Scalar.subi v252 v254
  let c858993459_i32_101 : BitVec 32 := 858993459#32
  let v256 : BitVec 32 := Scalar.andi v255 c858993459_i32_101
  let c2_i32_102 : BitVec 32 := 2#32
  let v257 : BitVec 32 := Scalar.shrsi v255 c2_i32_102
  let c858993459_i32_103 : BitVec 32 := 858993459#32
  let v258 : BitVec 32 := Scalar.andi v257 c858993459_i32_103
  let v259 : BitVec 32 := Scalar.addi v256 v258
  let c4_i32_104 : BitVec 32 := 4#32
  let v260 : BitVec 32 := Scalar.shrsi v259 c4_i32_104
  let v261 : BitVec 32 := Scalar.addi v259 v260
  let c252645135_i32_105 : BitVec 32 := 252645135#32
  let v262 : BitVec 32 := Scalar.andi v261 c252645135_i32_105
  let c16843009_i32_106 : BitVec 32 := 16843009#32
  let v263 : BitVec 32 := Scalar.muli v262 c16843009_i32_106
  let c24_i32_107 : BitVec 32 := 24#32
  let v264 : BitVec 32 := Scalar.shrsi v263 c24_i32_107
  let v266 : BitVec 32 := Scalar.addi v265 v264
  let c3_i32_125 : BitVec 32 := 3#32
  let v329 : BitVec 32 := Scalar.muli v266 c3_i32_125
  let c7_i32_126 : BitVec 32 := 7#32
  let v330 : BitVec 32 := Scalar.shrsi v329 c7_i32_126
  let v332 : Index := Scalar.indexCast v330
  let c0_128 : Index := 0#32
  ![v332.toNat, 0]
def k0_off89 (v220 : BitVec 32) (v244 : BitVec 32) (v265 : BitVec 32) : Fin 2 → Nat :=
  let c1_i32_97 : BitVec 32 := 1#32
  let c31_i32 : BitVec 32 := 31#32
  let v235 : BitVec 32 := Scalar.andi v220 c31_i32
  let v250 : BitVec 32 := Scalar.shli c1_i32_97 v235
  let c1_i32_98 : BitVec 32 := 1#32
  let v251 : BitVec 32 := Scalar.subi v250 c1_i32_98
  let v252 : BitVec 32 := Scalar.andi v244 v251
  let c1_i32_99 : BitVec 32 := 1#32
  let v253 : BitVec 32 := Scalar.shrsi v252 c1_i32_99
  let c1431655765_i32_100 : BitVec 32 := 1431655765#32
  let v254 : BitVec 32 := Scalar.andi v253 c1431655765_i32_100
  let v255 : BitVec 32 := Scalar.subi v252 v254
  let c858993459_i32_101 : BitVec 32 := 858993459#32
  let v256 : BitVec 32 := Scalar.andi v255 c858993459_i32_101
  let c2_i32_102 : BitVec 32 := 2#32
  let v257 : BitVec 32 := Scalar.shrsi v255 c2_i32_102
  let c858993459_i32_103 : BitVec 32 := 858993459#32
  let v258 : BitVec 32 := Scalar.andi v257 c858993459_i32_103
  let v259 : BitVec 32 := Scalar.addi v256 v258
  let c4_i32_104 : BitVec 32 := 4#32
  let v260 : BitVec 32 := Scalar.shrsi v259 c4_i32_104
  let v261 : BitVec 32 := Scalar.addi v259 v260
  let c252645135_i32_105 : BitVec 32 := 252645135#32
  let v262 : BitVec 32 := Scalar.andi v261 c252645135_i32_105
  let c16843009_i32_106 : BitVec 32 := 16843009#32
  let v263 : BitVec 32 := Scalar.muli v262 c16843009_i32_106
  let c24_i32_107 : BitVec 32 := 24#32
  let v264 : BitVec 32 := Scalar.shrsi v263 c24_i32_107
  let v266 : BitVec 32 := Scalar.addi v265 v264
  let c7_i32_109 : BitVec 32 := 7#32
  let v270 : BitVec 32 := Scalar.shrsi v266 c7_i32_109
  let v360 : Index := Scalar.indexCast v270
  let c0_136 : Index := 0#32
  ![v360.toNat, 0]

def k0_chk58 (v220 : BitVec 32) (v244 : BitVec 32) (v265 : BitVec 32) (v279 : BitVec 32) : Prop :=
  (∀ (k0_h40 : k0_cond40 v220 = 1#1), ∀ (k0_h41 : k0_cond41 v220 v244 v265 = 1#1), ∀ (k0_h42 : k0_cond42 v279 = 1#1), ∀ a, (k0_off87 v220 v244 v265 v279) a + S2x128.size a ≤ S46876x128.size a) ∧
  (∀ (k0_h40 : k0_cond40 v220 = 1#1), ∀ (k0_h41 : k0_cond41 v220 v244 v265 = 1#1), ∀ (k0_h42 : k0_cond42 v279 = 1#1), ∀ a, (k0_off88 v220 v244 v265) a + S2x128.size a ≤ S2814x128.size a) ∧
  (∀ (k0_h40 : k0_cond40 v220 = 1#1), ∀ (k0_h41 : k0_cond41 v220 v244 v265 = 1#1), ∀ (k0_h42 : k0_cond42 v279 = 1#1), ∀ a, (k0_off89 v220 v244 v265) a + S1x128.size a ≤ S939x128.size a)
theorem k0_off87_inb : ∀ (v220 : BitVec 32) (v244 : BitVec 32) (v265 : BitVec 32) (v279 : BitVec 32) (k0_hw58 : k0_chk58 v220 v244 v265 v279), ∀ (k0_h40 : k0_cond40 v220 = 1#1), ∀ (k0_h41 : k0_cond41 v220 v244 v265 = 1#1), ∀ (k0_h42 : k0_cond42 v279 = 1#1), ∀ a, (k0_off87 v220 v244 v265 v279) a + S2x128.size a ≤ S46876x128.size a := fun v220 v244 v265 v279 k0_hw58 k0_h40 k0_h41 k0_h42 => k0_hw58.1 k0_h40 k0_h41 k0_h42
theorem k0_off88_inb : ∀ (v220 : BitVec 32) (v244 : BitVec 32) (v265 : BitVec 32) (v279 : BitVec 32) (k0_hw58 : k0_chk58 v220 v244 v265 v279), ∀ (k0_h40 : k0_cond40 v220 = 1#1), ∀ (k0_h41 : k0_cond41 v220 v244 v265 = 1#1), ∀ (k0_h42 : k0_cond42 v279 = 1#1), ∀ a, (k0_off88 v220 v244 v265) a + S2x128.size a ≤ S2814x128.size a := fun v220 v244 v265 v279 k0_hw58 k0_h40 k0_h41 k0_h42 => k0_hw58.2.1 k0_h40 k0_h41 k0_h42
theorem k0_off89_inb : ∀ (v220 : BitVec 32) (v244 : BitVec 32) (v265 : BitVec 32) (v279 : BitVec 32) (k0_hw58 : k0_chk58 v220 v244 v265 v279), ∀ (k0_h40 : k0_cond40 v220 = 1#1), ∀ (k0_h41 : k0_cond41 v220 v244 v265 = 1#1), ∀ (k0_h42 : k0_cond42 v279 = 1#1), ∀ a, (k0_off89 v220 v244 v265) a + S1x128.size a ≤ S939x128.size a := fun v220 v244 v265 v279 k0_hw58 k0_h40 k0_h41 k0_h42 => k0_hw58.2.2 k0_h40 k0_h41 k0_h42

def k0_off90 (v225 : BitVec 32) : Fin 2 → Nat :=
  let c5_i32 : BitVec 32 := 5#32
  let v234 : BitVec 32 := Scalar.shrsi v225 c5_i32
  let c7_i32_91 : BitVec 32 := 7#32
  let v236 : BitVec 32 := Scalar.shrsi v234 c7_i32_91
  let v240 : Index := Scalar.indexCast v236
  let c0_95 : Index := 0#32
  ![v240.toNat, 0]
def k0_cond43 (v225 : BitVec 32) : BitVec 1 :=
  let c46656000_i32_87 : BitVec 32 := 46656000#32
  let v226 : BitVec 1 := Scalar.cmpi .slt v225 c46656000_i32_87
  let v227 : BitVec 32 := Scalar.extui v226
  let c0_i32_88 : BitVec 32 := 0#32
  let v228 : BitVec 1 := Scalar.cmpi .ne v227 c0_i32_88
  v228

def k0_chk59 (v225 : BitVec 32) : Prop :=
  (∀ (k0_h43 : k0_cond43 v225 = 1#1), ∀ a, (k0_off90 v225) a + S1x128.size a ≤ S11391x128.size a)
theorem k0_off90_inb : ∀ (v225 : BitVec 32) (k0_hw59 : k0_chk59 v225), ∀ (k0_h43 : k0_cond43 v225 = 1#1), ∀ a, (k0_off90 v225) a + S1x128.size a ≤ S11391x128.size a := fun v225 k0_hw59 k0_h43 => k0_hw59 k0_h43

def k0_off91 (v225 : BitVec 32) (v244 : BitVec 32) (v265 : BitVec 32) : Fin 2 → Nat :=
  let c1_i32_97 : BitVec 32 := 1#32
  let c31_i32 : BitVec 32 := 31#32
  let v235 : BitVec 32 := Scalar.andi v225 c31_i32
  let v250 : BitVec 32 := Scalar.shli c1_i32_97 v235
  let c1_i32_98 : BitVec 32 := 1#32
  let v251 : BitVec 32 := Scalar.subi v250 c1_i32_98
  let v252 : BitVec 32 := Scalar.andi v244 v251
  let c1_i32_99 : BitVec 32 := 1#32
  let v253 : BitVec 32 := Scalar.shrsi v252 c1_i32_99
  let c1431655765_i32_100 : BitVec 32 := 1431655765#32
  let v254 : BitVec 32 := Scalar.andi v253 c1431655765_i32_100
  let v255 : BitVec 32 := Scalar.subi v252 v254
  let c858993459_i32_101 : BitVec 32 := 858993459#32
  let v256 : BitVec 32 := Scalar.andi v255 c858993459_i32_101
  let c2_i32_102 : BitVec 32 := 2#32
  let v257 : BitVec 32 := Scalar.shrsi v255 c2_i32_102
  let c858993459_i32_103 : BitVec 32 := 858993459#32
  let v258 : BitVec 32 := Scalar.andi v257 c858993459_i32_103
  let v259 : BitVec 32 := Scalar.addi v256 v258
  let c4_i32_104 : BitVec 32 := 4#32
  let v260 : BitVec 32 := Scalar.shrsi v259 c4_i32_104
  let v261 : BitVec 32 := Scalar.addi v259 v260
  let c252645135_i32_105 : BitVec 32 := 252645135#32
  let v262 : BitVec 32 := Scalar.andi v261 c252645135_i32_105
  let c16843009_i32_106 : BitVec 32 := 16843009#32
  let v263 : BitVec 32 := Scalar.muli v262 c16843009_i32_106
  let c24_i32_107 : BitVec 32 := 24#32
  let v264 : BitVec 32 := Scalar.shrsi v263 c24_i32_107
  let v266 : BitVec 32 := Scalar.addi v265 v264
  let c7_i32_109 : BitVec 32 := 7#32
  let v270 : BitVec 32 := Scalar.shrsi v266 c7_i32_109
  let v272 : Index := Scalar.indexCast v270
  let c0_111 : Index := 0#32
  ![v272.toNat, 0]
def k0_cond44 (v225 : BitVec 32) (v244 : BitVec 32) (v265 : BitVec 32) : BitVec 1 :=
  let c1_i32_97 : BitVec 32 := 1#32
  let c31_i32 : BitVec 32 := 31#32
  let v235 : BitVec 32 := Scalar.andi v225 c31_i32
  let v250 : BitVec 32 := Scalar.shli c1_i32_97 v235
  let c1_i32_98 : BitVec 32 := 1#32
  let v251 : BitVec 32 := Scalar.subi v250 c1_i32_98
  let v252 : BitVec 32 := Scalar.andi v244 v251
  let c1_i32_99 : BitVec 32 := 1#32
  let v253 : BitVec 32 := Scalar.shrsi v252 c1_i32_99
  let c1431655765_i32_100 : BitVec 32 := 1431655765#32
  let v254 : BitVec 32 := Scalar.andi v253 c1431655765_i32_100
  let v255 : BitVec 32 := Scalar.subi v252 v254
  let c858993459_i32_101 : BitVec 32 := 858993459#32
  let v256 : BitVec 32 := Scalar.andi v255 c858993459_i32_101
  let c2_i32_102 : BitVec 32 := 2#32
  let v257 : BitVec 32 := Scalar.shrsi v255 c2_i32_102
  let c858993459_i32_103 : BitVec 32 := 858993459#32
  let v258 : BitVec 32 := Scalar.andi v257 c858993459_i32_103
  let v259 : BitVec 32 := Scalar.addi v256 v258
  let c4_i32_104 : BitVec 32 := 4#32
  let v260 : BitVec 32 := Scalar.shrsi v259 c4_i32_104
  let v261 : BitVec 32 := Scalar.addi v259 v260
  let c252645135_i32_105 : BitVec 32 := 252645135#32
  let v262 : BitVec 32 := Scalar.andi v261 c252645135_i32_105
  let c16843009_i32_106 : BitVec 32 := 16843009#32
  let v263 : BitVec 32 := Scalar.muli v262 c16843009_i32_106
  let c24_i32_107 : BitVec 32 := 24#32
  let v264 : BitVec 32 := Scalar.shrsi v263 c24_i32_107
  let v266 : BitVec 32 := Scalar.addi v265 v264
  let c120000_i32 : BitVec 32 := 120000#32
  let v267 : BitVec 1 := Scalar.cmpi .slt v266 c120000_i32
  let v268 : BitVec 32 := Scalar.extui v267
  let c0_i32_108 : BitVec 32 := 0#32
  let v269 : BitVec 1 := Scalar.cmpi .ne v268 c0_i32_108
  v269

def k0_chk60 (v225 : BitVec 32) (v244 : BitVec 32) (v265 : BitVec 32) : Prop :=
  (∀ (k0_h43 : k0_cond43 v225 = 1#1), ∀ (k0_h44 : k0_cond44 v225 v244 v265 = 1#1), ∀ a, (k0_off91 v225 v244 v265) a + S1x128.size a ≤ S939x128.size a)
theorem k0_off91_inb : ∀ (v225 : BitVec 32) (v244 : BitVec 32) (v265 : BitVec 32) (k0_hw60 : k0_chk60 v225 v244 v265), ∀ (k0_h43 : k0_cond43 v225 = 1#1), ∀ (k0_h44 : k0_cond44 v225 v244 v265 = 1#1), ∀ a, (k0_off91 v225 v244 v265) a + S1x128.size a ≤ S939x128.size a := fun v225 v244 v265 k0_hw60 k0_h43 k0_h44 => k0_hw60 k0_h43 k0_h44

def k0_off92 (v225 : BitVec 32) (v244 : BitVec 32) (v265 : BitVec 32) (v279 : BitVec 32) : Fin 2 → Nat :=
  let c1_i32_97 : BitVec 32 := 1#32
  let c31_i32 : BitVec 32 := 31#32
  let v235 : BitVec 32 := Scalar.andi v225 c31_i32
  let v250 : BitVec 32 := Scalar.shli c1_i32_97 v235
  let c1_i32_98 : BitVec 32 := 1#32
  let v251 : BitVec 32 := Scalar.subi v250 c1_i32_98
  let v252 : BitVec 32 := Scalar.andi v244 v251
  let c1_i32_99 : BitVec 32 := 1#32
  let v253 : BitVec 32 := Scalar.shrsi v252 c1_i32_99
  let c1431655765_i32_100 : BitVec 32 := 1431655765#32
  let v254 : BitVec 32 := Scalar.andi v253 c1431655765_i32_100
  let v255 : BitVec 32 := Scalar.subi v252 v254
  let c858993459_i32_101 : BitVec 32 := 858993459#32
  let v256 : BitVec 32 := Scalar.andi v255 c858993459_i32_101
  let c2_i32_102 : BitVec 32 := 2#32
  let v257 : BitVec 32 := Scalar.shrsi v255 c2_i32_102
  let c858993459_i32_103 : BitVec 32 := 858993459#32
  let v258 : BitVec 32 := Scalar.andi v257 c858993459_i32_103
  let v259 : BitVec 32 := Scalar.addi v256 v258
  let c4_i32_104 : BitVec 32 := 4#32
  let v260 : BitVec 32 := Scalar.shrsi v259 c4_i32_104
  let v261 : BitVec 32 := Scalar.addi v259 v260
  let c252645135_i32_105 : BitVec 32 := 252645135#32
  let v262 : BitVec 32 := Scalar.andi v261 c252645135_i32_105
  let c16843009_i32_106 : BitVec 32 := 16843009#32
  let v263 : BitVec 32 := Scalar.muli v262 c16843009_i32_106
  let c24_i32_107 : BitVec 32 := 24#32
  let v264 : BitVec 32 := Scalar.shrsi v263 c24_i32_107
  let v266 : BitVec 32 := Scalar.addi v265 v264
  let c10_i32_115 : BitVec 32 := 10#32
  let v283 : BitVec 32 := Scalar.muli v266 c10_i32_115
  let v284 : BitVec 32 := Scalar.addi v283 v279
  let c5_i32_116 : BitVec 32 := 5#32
  let v285 : BitVec 32 := Scalar.muli v284 c5_i32_116
  let c7_i32_117 : BitVec 32 := 7#32
  let v286 : BitVec 32 := Scalar.shrsi v285 c7_i32_117
  let v288 : Index := Scalar.indexCast v286
  let c0_119 : Index := 0#32
  ![v288.toNat, 0]
def k0_cond45 (v279 : BitVec 32) : BitVec 1 :=
  let c10_i32 : BitVec 32 := 10#32
  let v280 : BitVec 1 := Scalar.cmpi .slt v279 c10_i32
  let v281 : BitVec 32 := Scalar.extui v280
  let c0_i32_114 : BitVec 32 := 0#32
  let v282 : BitVec 1 := Scalar.cmpi .ne v281 c0_i32_114
  v282

def k0_off93 (v225 : BitVec 32) (v244 : BitVec 32) (v265 : BitVec 32) : Fin 2 → Nat :=
  let c1_i32_97 : BitVec 32 := 1#32
  let c31_i32 : BitVec 32 := 31#32
  let v235 : BitVec 32 := Scalar.andi v225 c31_i32
  let v250 : BitVec 32 := Scalar.shli c1_i32_97 v235
  let c1_i32_98 : BitVec 32 := 1#32
  let v251 : BitVec 32 := Scalar.subi v250 c1_i32_98
  let v252 : BitVec 32 := Scalar.andi v244 v251
  let c1_i32_99 : BitVec 32 := 1#32
  let v253 : BitVec 32 := Scalar.shrsi v252 c1_i32_99
  let c1431655765_i32_100 : BitVec 32 := 1431655765#32
  let v254 : BitVec 32 := Scalar.andi v253 c1431655765_i32_100
  let v255 : BitVec 32 := Scalar.subi v252 v254
  let c858993459_i32_101 : BitVec 32 := 858993459#32
  let v256 : BitVec 32 := Scalar.andi v255 c858993459_i32_101
  let c2_i32_102 : BitVec 32 := 2#32
  let v257 : BitVec 32 := Scalar.shrsi v255 c2_i32_102
  let c858993459_i32_103 : BitVec 32 := 858993459#32
  let v258 : BitVec 32 := Scalar.andi v257 c858993459_i32_103
  let v259 : BitVec 32 := Scalar.addi v256 v258
  let c4_i32_104 : BitVec 32 := 4#32
  let v260 : BitVec 32 := Scalar.shrsi v259 c4_i32_104
  let v261 : BitVec 32 := Scalar.addi v259 v260
  let c252645135_i32_105 : BitVec 32 := 252645135#32
  let v262 : BitVec 32 := Scalar.andi v261 c252645135_i32_105
  let c16843009_i32_106 : BitVec 32 := 16843009#32
  let v263 : BitVec 32 := Scalar.muli v262 c16843009_i32_106
  let c24_i32_107 : BitVec 32 := 24#32
  let v264 : BitVec 32 := Scalar.shrsi v263 c24_i32_107
  let v266 : BitVec 32 := Scalar.addi v265 v264
  let c3_i32_125 : BitVec 32 := 3#32
  let v329 : BitVec 32 := Scalar.muli v266 c3_i32_125
  let c7_i32_126 : BitVec 32 := 7#32
  let v330 : BitVec 32 := Scalar.shrsi v329 c7_i32_126
  let v332 : Index := Scalar.indexCast v330
  let c0_128 : Index := 0#32
  ![v332.toNat, 0]
def k0_off94 (v225 : BitVec 32) (v244 : BitVec 32) (v265 : BitVec 32) : Fin 2 → Nat :=
  let c1_i32_97 : BitVec 32 := 1#32
  let c31_i32 : BitVec 32 := 31#32
  let v235 : BitVec 32 := Scalar.andi v225 c31_i32
  let v250 : BitVec 32 := Scalar.shli c1_i32_97 v235
  let c1_i32_98 : BitVec 32 := 1#32
  let v251 : BitVec 32 := Scalar.subi v250 c1_i32_98
  let v252 : BitVec 32 := Scalar.andi v244 v251
  let c1_i32_99 : BitVec 32 := 1#32
  let v253 : BitVec 32 := Scalar.shrsi v252 c1_i32_99
  let c1431655765_i32_100 : BitVec 32 := 1431655765#32
  let v254 : BitVec 32 := Scalar.andi v253 c1431655765_i32_100
  let v255 : BitVec 32 := Scalar.subi v252 v254
  let c858993459_i32_101 : BitVec 32 := 858993459#32
  let v256 : BitVec 32 := Scalar.andi v255 c858993459_i32_101
  let c2_i32_102 : BitVec 32 := 2#32
  let v257 : BitVec 32 := Scalar.shrsi v255 c2_i32_102
  let c858993459_i32_103 : BitVec 32 := 858993459#32
  let v258 : BitVec 32 := Scalar.andi v257 c858993459_i32_103
  let v259 : BitVec 32 := Scalar.addi v256 v258
  let c4_i32_104 : BitVec 32 := 4#32
  let v260 : BitVec 32 := Scalar.shrsi v259 c4_i32_104
  let v261 : BitVec 32 := Scalar.addi v259 v260
  let c252645135_i32_105 : BitVec 32 := 252645135#32
  let v262 : BitVec 32 := Scalar.andi v261 c252645135_i32_105
  let c16843009_i32_106 : BitVec 32 := 16843009#32
  let v263 : BitVec 32 := Scalar.muli v262 c16843009_i32_106
  let c24_i32_107 : BitVec 32 := 24#32
  let v264 : BitVec 32 := Scalar.shrsi v263 c24_i32_107
  let v266 : BitVec 32 := Scalar.addi v265 v264
  let c7_i32_109 : BitVec 32 := 7#32
  let v270 : BitVec 32 := Scalar.shrsi v266 c7_i32_109
  let v360 : Index := Scalar.indexCast v270
  let c0_136 : Index := 0#32
  ![v360.toNat, 0]

def k0_chk61 (v225 : BitVec 32) (v244 : BitVec 32) (v265 : BitVec 32) (v279 : BitVec 32) : Prop :=
  (∀ (k0_h43 : k0_cond43 v225 = 1#1), ∀ (k0_h44 : k0_cond44 v225 v244 v265 = 1#1), ∀ (k0_h45 : k0_cond45 v279 = 1#1), ∀ a, (k0_off92 v225 v244 v265 v279) a + S2x128.size a ≤ S46876x128.size a) ∧
  (∀ (k0_h43 : k0_cond43 v225 = 1#1), ∀ (k0_h44 : k0_cond44 v225 v244 v265 = 1#1), ∀ (k0_h45 : k0_cond45 v279 = 1#1), ∀ a, (k0_off93 v225 v244 v265) a + S2x128.size a ≤ S2814x128.size a) ∧
  (∀ (k0_h43 : k0_cond43 v225 = 1#1), ∀ (k0_h44 : k0_cond44 v225 v244 v265 = 1#1), ∀ (k0_h45 : k0_cond45 v279 = 1#1), ∀ a, (k0_off94 v225 v244 v265) a + S1x128.size a ≤ S939x128.size a)
theorem k0_off92_inb : ∀ (v225 : BitVec 32) (v244 : BitVec 32) (v265 : BitVec 32) (v279 : BitVec 32) (k0_hw61 : k0_chk61 v225 v244 v265 v279), ∀ (k0_h43 : k0_cond43 v225 = 1#1), ∀ (k0_h44 : k0_cond44 v225 v244 v265 = 1#1), ∀ (k0_h45 : k0_cond45 v279 = 1#1), ∀ a, (k0_off92 v225 v244 v265 v279) a + S2x128.size a ≤ S46876x128.size a := fun v225 v244 v265 v279 k0_hw61 k0_h43 k0_h44 k0_h45 => k0_hw61.1 k0_h43 k0_h44 k0_h45
theorem k0_off93_inb : ∀ (v225 : BitVec 32) (v244 : BitVec 32) (v265 : BitVec 32) (v279 : BitVec 32) (k0_hw61 : k0_chk61 v225 v244 v265 v279), ∀ (k0_h43 : k0_cond43 v225 = 1#1), ∀ (k0_h44 : k0_cond44 v225 v244 v265 = 1#1), ∀ (k0_h45 : k0_cond45 v279 = 1#1), ∀ a, (k0_off93 v225 v244 v265) a + S2x128.size a ≤ S2814x128.size a := fun v225 v244 v265 v279 k0_hw61 k0_h43 k0_h44 k0_h45 => k0_hw61.2.1 k0_h43 k0_h44 k0_h45
theorem k0_off94_inb : ∀ (v225 : BitVec 32) (v244 : BitVec 32) (v265 : BitVec 32) (v279 : BitVec 32) (k0_hw61 : k0_chk61 v225 v244 v265 v279), ∀ (k0_h43 : k0_cond43 v225 = 1#1), ∀ (k0_h44 : k0_cond44 v225 v244 v265 = 1#1), ∀ (k0_h45 : k0_cond45 v279 = 1#1), ∀ a, (k0_off94 v225 v244 v265) a + S1x128.size a ≤ S939x128.size a := fun v225 v244 v265 v279 k0_hw61 k0_h43 k0_h44 k0_h45 => k0_hw61.2.2 k0_h43 k0_h44 k0_h45

def k0_off95 (v230 : BitVec 32) : Fin 2 → Nat :=
  let c5_i32 : BitVec 32 := 5#32
  let v234 : BitVec 32 := Scalar.shrsi v230 c5_i32
  let c7_i32_91 : BitVec 32 := 7#32
  let v236 : BitVec 32 := Scalar.shrsi v234 c7_i32_91
  let v240 : Index := Scalar.indexCast v236
  let c0_95 : Index := 0#32
  ![v240.toNat, 0]
def k0_cond46 (v230 : BitVec 32) : BitVec 1 :=
  let c46656000_i32_89 : BitVec 32 := 46656000#32
  let v231 : BitVec 1 := Scalar.cmpi .slt v230 c46656000_i32_89
  let v232 : BitVec 32 := Scalar.extui v231
  let c0_i32_90 : BitVec 32 := 0#32
  let v233 : BitVec 1 := Scalar.cmpi .ne v232 c0_i32_90
  v233

def k0_chk62 (v230 : BitVec 32) : Prop :=
  (∀ (k0_h46 : k0_cond46 v230 = 1#1), ∀ a, (k0_off95 v230) a + S1x128.size a ≤ S11391x128.size a)
theorem k0_off95_inb : ∀ (v230 : BitVec 32) (k0_hw62 : k0_chk62 v230), ∀ (k0_h46 : k0_cond46 v230 = 1#1), ∀ a, (k0_off95 v230) a + S1x128.size a ≤ S11391x128.size a := fun v230 k0_hw62 k0_h46 => k0_hw62 k0_h46

def k0_off96 (v230 : BitVec 32) (v244 : BitVec 32) (v265 : BitVec 32) : Fin 2 → Nat :=
  let c1_i32_97 : BitVec 32 := 1#32
  let c31_i32 : BitVec 32 := 31#32
  let v235 : BitVec 32 := Scalar.andi v230 c31_i32
  let v250 : BitVec 32 := Scalar.shli c1_i32_97 v235
  let c1_i32_98 : BitVec 32 := 1#32
  let v251 : BitVec 32 := Scalar.subi v250 c1_i32_98
  let v252 : BitVec 32 := Scalar.andi v244 v251
  let c1_i32_99 : BitVec 32 := 1#32
  let v253 : BitVec 32 := Scalar.shrsi v252 c1_i32_99
  let c1431655765_i32_100 : BitVec 32 := 1431655765#32
  let v254 : BitVec 32 := Scalar.andi v253 c1431655765_i32_100
  let v255 : BitVec 32 := Scalar.subi v252 v254
  let c858993459_i32_101 : BitVec 32 := 858993459#32
  let v256 : BitVec 32 := Scalar.andi v255 c858993459_i32_101
  let c2_i32_102 : BitVec 32 := 2#32
  let v257 : BitVec 32 := Scalar.shrsi v255 c2_i32_102
  let c858993459_i32_103 : BitVec 32 := 858993459#32
  let v258 : BitVec 32 := Scalar.andi v257 c858993459_i32_103
  let v259 : BitVec 32 := Scalar.addi v256 v258
  let c4_i32_104 : BitVec 32 := 4#32
  let v260 : BitVec 32 := Scalar.shrsi v259 c4_i32_104
  let v261 : BitVec 32 := Scalar.addi v259 v260
  let c252645135_i32_105 : BitVec 32 := 252645135#32
  let v262 : BitVec 32 := Scalar.andi v261 c252645135_i32_105
  let c16843009_i32_106 : BitVec 32 := 16843009#32
  let v263 : BitVec 32 := Scalar.muli v262 c16843009_i32_106
  let c24_i32_107 : BitVec 32 := 24#32
  let v264 : BitVec 32 := Scalar.shrsi v263 c24_i32_107
  let v266 : BitVec 32 := Scalar.addi v265 v264
  let c7_i32_109 : BitVec 32 := 7#32
  let v270 : BitVec 32 := Scalar.shrsi v266 c7_i32_109
  let v272 : Index := Scalar.indexCast v270
  let c0_111 : Index := 0#32
  ![v272.toNat, 0]
def k0_cond47 (v230 : BitVec 32) (v244 : BitVec 32) (v265 : BitVec 32) : BitVec 1 :=
  let c1_i32_97 : BitVec 32 := 1#32
  let c31_i32 : BitVec 32 := 31#32
  let v235 : BitVec 32 := Scalar.andi v230 c31_i32
  let v250 : BitVec 32 := Scalar.shli c1_i32_97 v235
  let c1_i32_98 : BitVec 32 := 1#32
  let v251 : BitVec 32 := Scalar.subi v250 c1_i32_98
  let v252 : BitVec 32 := Scalar.andi v244 v251
  let c1_i32_99 : BitVec 32 := 1#32
  let v253 : BitVec 32 := Scalar.shrsi v252 c1_i32_99
  let c1431655765_i32_100 : BitVec 32 := 1431655765#32
  let v254 : BitVec 32 := Scalar.andi v253 c1431655765_i32_100
  let v255 : BitVec 32 := Scalar.subi v252 v254
  let c858993459_i32_101 : BitVec 32 := 858993459#32
  let v256 : BitVec 32 := Scalar.andi v255 c858993459_i32_101
  let c2_i32_102 : BitVec 32 := 2#32
  let v257 : BitVec 32 := Scalar.shrsi v255 c2_i32_102
  let c858993459_i32_103 : BitVec 32 := 858993459#32
  let v258 : BitVec 32 := Scalar.andi v257 c858993459_i32_103
  let v259 : BitVec 32 := Scalar.addi v256 v258
  let c4_i32_104 : BitVec 32 := 4#32
  let v260 : BitVec 32 := Scalar.shrsi v259 c4_i32_104
  let v261 : BitVec 32 := Scalar.addi v259 v260
  let c252645135_i32_105 : BitVec 32 := 252645135#32
  let v262 : BitVec 32 := Scalar.andi v261 c252645135_i32_105
  let c16843009_i32_106 : BitVec 32 := 16843009#32
  let v263 : BitVec 32 := Scalar.muli v262 c16843009_i32_106
  let c24_i32_107 : BitVec 32 := 24#32
  let v264 : BitVec 32 := Scalar.shrsi v263 c24_i32_107
  let v266 : BitVec 32 := Scalar.addi v265 v264
  let c120000_i32 : BitVec 32 := 120000#32
  let v267 : BitVec 1 := Scalar.cmpi .slt v266 c120000_i32
  let v268 : BitVec 32 := Scalar.extui v267
  let c0_i32_108 : BitVec 32 := 0#32
  let v269 : BitVec 1 := Scalar.cmpi .ne v268 c0_i32_108
  v269

def k0_chk63 (v230 : BitVec 32) (v244 : BitVec 32) (v265 : BitVec 32) : Prop :=
  (∀ (k0_h46 : k0_cond46 v230 = 1#1), ∀ (k0_h47 : k0_cond47 v230 v244 v265 = 1#1), ∀ a, (k0_off96 v230 v244 v265) a + S1x128.size a ≤ S939x128.size a)
theorem k0_off96_inb : ∀ (v230 : BitVec 32) (v244 : BitVec 32) (v265 : BitVec 32) (k0_hw63 : k0_chk63 v230 v244 v265), ∀ (k0_h46 : k0_cond46 v230 = 1#1), ∀ (k0_h47 : k0_cond47 v230 v244 v265 = 1#1), ∀ a, (k0_off96 v230 v244 v265) a + S1x128.size a ≤ S939x128.size a := fun v230 v244 v265 k0_hw63 k0_h46 k0_h47 => k0_hw63 k0_h46 k0_h47

def k0_off97 (v230 : BitVec 32) (v244 : BitVec 32) (v265 : BitVec 32) (v279 : BitVec 32) : Fin 2 → Nat :=
  let c1_i32_97 : BitVec 32 := 1#32
  let c31_i32 : BitVec 32 := 31#32
  let v235 : BitVec 32 := Scalar.andi v230 c31_i32
  let v250 : BitVec 32 := Scalar.shli c1_i32_97 v235
  let c1_i32_98 : BitVec 32 := 1#32
  let v251 : BitVec 32 := Scalar.subi v250 c1_i32_98
  let v252 : BitVec 32 := Scalar.andi v244 v251
  let c1_i32_99 : BitVec 32 := 1#32
  let v253 : BitVec 32 := Scalar.shrsi v252 c1_i32_99
  let c1431655765_i32_100 : BitVec 32 := 1431655765#32
  let v254 : BitVec 32 := Scalar.andi v253 c1431655765_i32_100
  let v255 : BitVec 32 := Scalar.subi v252 v254
  let c858993459_i32_101 : BitVec 32 := 858993459#32
  let v256 : BitVec 32 := Scalar.andi v255 c858993459_i32_101
  let c2_i32_102 : BitVec 32 := 2#32
  let v257 : BitVec 32 := Scalar.shrsi v255 c2_i32_102
  let c858993459_i32_103 : BitVec 32 := 858993459#32
  let v258 : BitVec 32 := Scalar.andi v257 c858993459_i32_103
  let v259 : BitVec 32 := Scalar.addi v256 v258
  let c4_i32_104 : BitVec 32 := 4#32
  let v260 : BitVec 32 := Scalar.shrsi v259 c4_i32_104
  let v261 : BitVec 32 := Scalar.addi v259 v260
  let c252645135_i32_105 : BitVec 32 := 252645135#32
  let v262 : BitVec 32 := Scalar.andi v261 c252645135_i32_105
  let c16843009_i32_106 : BitVec 32 := 16843009#32
  let v263 : BitVec 32 := Scalar.muli v262 c16843009_i32_106
  let c24_i32_107 : BitVec 32 := 24#32
  let v264 : BitVec 32 := Scalar.shrsi v263 c24_i32_107
  let v266 : BitVec 32 := Scalar.addi v265 v264
  let c10_i32_115 : BitVec 32 := 10#32
  let v283 : BitVec 32 := Scalar.muli v266 c10_i32_115
  let v284 : BitVec 32 := Scalar.addi v283 v279
  let c5_i32_116 : BitVec 32 := 5#32
  let v285 : BitVec 32 := Scalar.muli v284 c5_i32_116
  let c7_i32_117 : BitVec 32 := 7#32
  let v286 : BitVec 32 := Scalar.shrsi v285 c7_i32_117
  let v288 : Index := Scalar.indexCast v286
  let c0_119 : Index := 0#32
  ![v288.toNat, 0]
def k0_cond48 (v279 : BitVec 32) : BitVec 1 :=
  let c10_i32 : BitVec 32 := 10#32
  let v280 : BitVec 1 := Scalar.cmpi .slt v279 c10_i32
  let v281 : BitVec 32 := Scalar.extui v280
  let c0_i32_114 : BitVec 32 := 0#32
  let v282 : BitVec 1 := Scalar.cmpi .ne v281 c0_i32_114
  v282

def k0_off98 (v230 : BitVec 32) (v244 : BitVec 32) (v265 : BitVec 32) : Fin 2 → Nat :=
  let c1_i32_97 : BitVec 32 := 1#32
  let c31_i32 : BitVec 32 := 31#32
  let v235 : BitVec 32 := Scalar.andi v230 c31_i32
  let v250 : BitVec 32 := Scalar.shli c1_i32_97 v235
  let c1_i32_98 : BitVec 32 := 1#32
  let v251 : BitVec 32 := Scalar.subi v250 c1_i32_98
  let v252 : BitVec 32 := Scalar.andi v244 v251
  let c1_i32_99 : BitVec 32 := 1#32
  let v253 : BitVec 32 := Scalar.shrsi v252 c1_i32_99
  let c1431655765_i32_100 : BitVec 32 := 1431655765#32
  let v254 : BitVec 32 := Scalar.andi v253 c1431655765_i32_100
  let v255 : BitVec 32 := Scalar.subi v252 v254
  let c858993459_i32_101 : BitVec 32 := 858993459#32
  let v256 : BitVec 32 := Scalar.andi v255 c858993459_i32_101
  let c2_i32_102 : BitVec 32 := 2#32
  let v257 : BitVec 32 := Scalar.shrsi v255 c2_i32_102
  let c858993459_i32_103 : BitVec 32 := 858993459#32
  let v258 : BitVec 32 := Scalar.andi v257 c858993459_i32_103
  let v259 : BitVec 32 := Scalar.addi v256 v258
  let c4_i32_104 : BitVec 32 := 4#32
  let v260 : BitVec 32 := Scalar.shrsi v259 c4_i32_104
  let v261 : BitVec 32 := Scalar.addi v259 v260
  let c252645135_i32_105 : BitVec 32 := 252645135#32
  let v262 : BitVec 32 := Scalar.andi v261 c252645135_i32_105
  let c16843009_i32_106 : BitVec 32 := 16843009#32
  let v263 : BitVec 32 := Scalar.muli v262 c16843009_i32_106
  let c24_i32_107 : BitVec 32 := 24#32
  let v264 : BitVec 32 := Scalar.shrsi v263 c24_i32_107
  let v266 : BitVec 32 := Scalar.addi v265 v264
  let c3_i32_125 : BitVec 32 := 3#32
  let v329 : BitVec 32 := Scalar.muli v266 c3_i32_125
  let c7_i32_126 : BitVec 32 := 7#32
  let v330 : BitVec 32 := Scalar.shrsi v329 c7_i32_126
  let v332 : Index := Scalar.indexCast v330
  let c0_128 : Index := 0#32
  ![v332.toNat, 0]
def k0_off99 (v230 : BitVec 32) (v244 : BitVec 32) (v265 : BitVec 32) : Fin 2 → Nat :=
  let c1_i32_97 : BitVec 32 := 1#32
  let c31_i32 : BitVec 32 := 31#32
  let v235 : BitVec 32 := Scalar.andi v230 c31_i32
  let v250 : BitVec 32 := Scalar.shli c1_i32_97 v235
  let c1_i32_98 : BitVec 32 := 1#32
  let v251 : BitVec 32 := Scalar.subi v250 c1_i32_98
  let v252 : BitVec 32 := Scalar.andi v244 v251
  let c1_i32_99 : BitVec 32 := 1#32
  let v253 : BitVec 32 := Scalar.shrsi v252 c1_i32_99
  let c1431655765_i32_100 : BitVec 32 := 1431655765#32
  let v254 : BitVec 32 := Scalar.andi v253 c1431655765_i32_100
  let v255 : BitVec 32 := Scalar.subi v252 v254
  let c858993459_i32_101 : BitVec 32 := 858993459#32
  let v256 : BitVec 32 := Scalar.andi v255 c858993459_i32_101
  let c2_i32_102 : BitVec 32 := 2#32
  let v257 : BitVec 32 := Scalar.shrsi v255 c2_i32_102
  let c858993459_i32_103 : BitVec 32 := 858993459#32
  let v258 : BitVec 32 := Scalar.andi v257 c858993459_i32_103
  let v259 : BitVec 32 := Scalar.addi v256 v258
  let c4_i32_104 : BitVec 32 := 4#32
  let v260 : BitVec 32 := Scalar.shrsi v259 c4_i32_104
  let v261 : BitVec 32 := Scalar.addi v259 v260
  let c252645135_i32_105 : BitVec 32 := 252645135#32
  let v262 : BitVec 32 := Scalar.andi v261 c252645135_i32_105
  let c16843009_i32_106 : BitVec 32 := 16843009#32
  let v263 : BitVec 32 := Scalar.muli v262 c16843009_i32_106
  let c24_i32_107 : BitVec 32 := 24#32
  let v264 : BitVec 32 := Scalar.shrsi v263 c24_i32_107
  let v266 : BitVec 32 := Scalar.addi v265 v264
  let c7_i32_109 : BitVec 32 := 7#32
  let v270 : BitVec 32 := Scalar.shrsi v266 c7_i32_109
  let v360 : Index := Scalar.indexCast v270
  let c0_136 : Index := 0#32
  ![v360.toNat, 0]

def k0_chk64 (v230 : BitVec 32) (v244 : BitVec 32) (v265 : BitVec 32) (v279 : BitVec 32) : Prop :=
  (∀ (k0_h46 : k0_cond46 v230 = 1#1), ∀ (k0_h47 : k0_cond47 v230 v244 v265 = 1#1), ∀ (k0_h48 : k0_cond48 v279 = 1#1), ∀ a, (k0_off97 v230 v244 v265 v279) a + S2x128.size a ≤ S46876x128.size a) ∧
  (∀ (k0_h46 : k0_cond46 v230 = 1#1), ∀ (k0_h47 : k0_cond47 v230 v244 v265 = 1#1), ∀ (k0_h48 : k0_cond48 v279 = 1#1), ∀ a, (k0_off98 v230 v244 v265) a + S2x128.size a ≤ S2814x128.size a) ∧
  (∀ (k0_h46 : k0_cond46 v230 = 1#1), ∀ (k0_h47 : k0_cond47 v230 v244 v265 = 1#1), ∀ (k0_h48 : k0_cond48 v279 = 1#1), ∀ a, (k0_off99 v230 v244 v265) a + S1x128.size a ≤ S939x128.size a)
theorem k0_off97_inb : ∀ (v230 : BitVec 32) (v244 : BitVec 32) (v265 : BitVec 32) (v279 : BitVec 32) (k0_hw64 : k0_chk64 v230 v244 v265 v279), ∀ (k0_h46 : k0_cond46 v230 = 1#1), ∀ (k0_h47 : k0_cond47 v230 v244 v265 = 1#1), ∀ (k0_h48 : k0_cond48 v279 = 1#1), ∀ a, (k0_off97 v230 v244 v265 v279) a + S2x128.size a ≤ S46876x128.size a := fun v230 v244 v265 v279 k0_hw64 k0_h46 k0_h47 k0_h48 => k0_hw64.1 k0_h46 k0_h47 k0_h48
theorem k0_off98_inb : ∀ (v230 : BitVec 32) (v244 : BitVec 32) (v265 : BitVec 32) (v279 : BitVec 32) (k0_hw64 : k0_chk64 v230 v244 v265 v279), ∀ (k0_h46 : k0_cond46 v230 = 1#1), ∀ (k0_h47 : k0_cond47 v230 v244 v265 = 1#1), ∀ (k0_h48 : k0_cond48 v279 = 1#1), ∀ a, (k0_off98 v230 v244 v265) a + S2x128.size a ≤ S2814x128.size a := fun v230 v244 v265 v279 k0_hw64 k0_h46 k0_h47 k0_h48 => k0_hw64.2.1 k0_h46 k0_h47 k0_h48
theorem k0_off99_inb : ∀ (v230 : BitVec 32) (v244 : BitVec 32) (v265 : BitVec 32) (v279 : BitVec 32) (k0_hw64 : k0_chk64 v230 v244 v265 v279), ∀ (k0_h46 : k0_cond46 v230 = 1#1), ∀ (k0_h47 : k0_cond47 v230 v244 v265 = 1#1), ∀ (k0_h48 : k0_cond48 v279 = 1#1), ∀ a, (k0_off99 v230 v244 v265) a + S1x128.size a ≤ S939x128.size a := fun v230 v244 v265 v279 k0_hw64 k0_h46 k0_h47 k0_h48 => k0_hw64.2.2 k0_h46 k0_h47 k0_h48

abbrev stage0_0 : Fin 1 → Memref sig .tc .vmem S2344x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2344x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2344x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2344x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2344x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S46876x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2814x128 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S939x128 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S300000x5 : Shape := ⟨2, ![300000, 5]⟩
abbrev S3 : Shape := ⟨1, ![3]⟩
abbrev S1 : Shape := ⟨1, ![1]⟩
abbrev S300000x3 : Shape := ⟨2, ![300000, 3]⟩
abbrev S1x3 : Shape := ⟨2, ![1, 3]⟩
abbrev S_ : Shape := ⟨0, ![]⟩
abbrev S300000 : Shape := ⟨1, ![300000]⟩
abbrev S300000x1 : Shape := ⟨2, ![300000, 1]⟩
abbrev S299999 : Shape := ⟨1, ![299999]⟩
abbrev S120001x10x5 : Shape := ⟨3, ![120001, 10, 5]⟩
abbrev S300000x2 : Shape := ⟨2, ![300000, 2]⟩
abbrev S120001 : Shape := ⟨1, ![120001]⟩
abbrev S120001x3 : Shape := ⟨2, ![120001, 3]⟩
abbrev S120000x10x5 : Shape := ⟨3, ![120000, 10, 5]⟩
abbrev S120000x3 : Shape := ⟨2, ![120000, 3]⟩
abbrev S120000 : Shape := ⟨1, ![120000]⟩

abbrev nBuf : Space → Nat
  | .hbm => 179
  | .vmem => 0
  | .smem => 0
  | _ => 0

abbrev hbmTy0_0 (i : Nat) : BufTy := match i % 128 with
  | 0 => ⟨S300000x5, .f32⟩
  | 1 => ⟨S3, .f32⟩
  | 2 => ⟨S3, .f32⟩
  | 3 => ⟨S3, .i32⟩
  | 4 => ⟨S1, .i1⟩
  | 5 => ⟨S300000x3, .f32⟩
  | 6 => ⟨S1x3, .f32⟩
  | 7 => ⟨S300000x3, .f32⟩
  | 8 => ⟨S300000x3, .f32⟩
  | 9 => ⟨S1x3, .f32⟩
  | 10 => ⟨S300000x3, .f32⟩
  | 11 => ⟨S300000x3, .f32⟩
  | 12 => ⟨S300000x3, .f32⟩
  | 13 => ⟨S300000x3, .i32⟩
  | 14 => ⟨S_, .i32⟩
  | 15 => ⟨S300000x3, .i32⟩
  | 16 => ⟨S300000x3, .i1⟩
  | 17 => ⟨S1x3, .i32⟩
  | 18 => ⟨S300000x3, .i32⟩
  | 19 => ⟨S300000x3, .i1⟩
  | 20 => ⟨S300000x3, .i1⟩
  | 21 => ⟨S_, .i1⟩
  | 22 => ⟨S300000, .i1⟩
  | 23 => ⟨S300000x1, .i32⟩
  | 24 => ⟨S300000, .i32⟩
  | 25 => ⟨S300000x1, .i32⟩
  | 26 => ⟨S300000, .i32⟩
  | 27 => ⟨S300000x1, .i32⟩
  | 28 => ⟨S300000, .i32⟩
  | 29 => ⟨S1, .i32⟩
  | 30 => ⟨S_, .i32⟩
  | 31 => ⟨S300000, .i32⟩
  | 32 => ⟨S300000, .i32⟩
  | 33 => ⟨S300000, .i32⟩
  | 34 => ⟨S1, .i32⟩
  | 35 => ⟨S_, .i32⟩
  | 36 => ⟨S300000, .i32⟩
  | 37 => ⟨S300000, .i32⟩
  | 38 => ⟨S300000, .i32⟩
  | 39 => ⟨S_, .i32⟩
  | 40 => ⟨S300000, .i32⟩
  | 41 => ⟨S300000, .i32⟩
  | 42 => ⟨S300000, .i32⟩
  | 43 => ⟨S300000, .i32⟩
  | 44 => ⟨S300000, .i32⟩
  | 45 => ⟨S_, .i32⟩
  | 46 => ⟨S300000, .i32⟩
  | 47 => ⟨S300000, .i1⟩
  | 48 => ⟨S_, .i32⟩
  | 49 => ⟨S300000, .i32⟩
  | 50 => ⟨S300000, .i32⟩
  | 51 => ⟨S300000, .i32⟩
  | 52 => ⟨S300000x1, .i32⟩
  | 53 => ⟨S300000, .i32⟩
  | 54 => ⟨S_, .i32⟩
  | 55 => ⟨S300000, .i32⟩
  | 56 => ⟨S300000, .i1⟩
  | 57 => ⟨S_, .i32⟩
  | 58 => ⟨S300000, .i32⟩
  | 59 => ⟨S300000, .i32⟩
  | 60 => ⟨S300000, .i32⟩
  | 61 => ⟨S300000x1, .i32⟩
  | 62 => ⟨S300000x5, .f32⟩
  | 63 => ⟨S_, .i32⟩
  | 64 => ⟨S300000, .i32⟩
  | 65 => ⟨S300000, .i1⟩
  | 66 => ⟨S_, .i32⟩
  | 67 => ⟨S300000, .i32⟩
  | 68 => ⟨S300000, .i32⟩
  | 69 => ⟨S300000, .i32⟩
  | 70 => ⟨S300000x1, .i32⟩
  | 71 => ⟨S300000, .i1⟩
  | 72 => ⟨S300000x1, .i32⟩
  | 73 => ⟨S300000x1, .i32⟩
  | 74 => ⟨S300000x1, .i32⟩
  | 75 => ⟨S300000x3, .i32⟩
  | 76 => ⟨S_, .i32⟩
  | 77 => ⟨S300000, .i32⟩
  | 78 => ⟨S300000, .i1⟩
  | 79 => ⟨S_, .i32⟩
  | 80 => ⟨S300000, .i32⟩
  | 81 => ⟨S300000, .i32⟩
  | 82 => ⟨S300000, .i32⟩
  | 83 => ⟨S300000x1, .i32⟩
  | 84 => ⟨S300000x3, .i32⟩
  | 85 => ⟨S299999, .i32⟩
  | 86 => ⟨S299999, .i32⟩
  | 87 => ⟨S299999, .i1⟩
  | 88 => ⟨S300000, .i1⟩
  | 89 => ⟨S300000, .i32⟩
  | 90 => ⟨S_, .i32⟩
  | 91 => ⟨S_, .i32⟩
  | 92 => ⟨S300000, .i32⟩
  | 93 => ⟨S_, .i32⟩
  | 94 => ⟨S300000, .i32⟩
  | 95 => ⟨S300000, .i32⟩
  | 96 => ⟨S300000, .i32⟩
  | 97 => ⟨S_, .i32⟩
  | 98 => ⟨S_, .i32⟩
  | 99 => ⟨S300000, .i32⟩
  | 100 => ⟨S300000, .i32⟩
  | 101 => ⟨S_, .i32⟩
  | 102 => ⟨S_, .i32⟩
  | 103 => ⟨S300000, .i32⟩
  | 104 => ⟨S300000, .i32⟩
  | 105 => ⟨S_, .i32⟩
  | 106 => ⟨S300000, .i32⟩
  | 107 => ⟨S300000, .i1⟩
  | 108 => ⟨S300000, .i1⟩
  | 109 => ⟨S_, .i32⟩
  | 110 => ⟨S300000, .i32⟩
  | 111 => ⟨S300000, .i1⟩
  | 112 => ⟨S300000, .i1⟩
  | 113 => ⟨S_, .i32⟩
  | 114 => ⟨S_, .i32⟩
  | 115 => ⟨S300000, .i32⟩
  | 116 => ⟨S300000, .i32⟩
  | 117 => ⟨S_, .i32⟩
  | 118 => ⟨S_, .i32⟩
  | 119 => ⟨S300000, .i32⟩
  | 120 => ⟨S300000, .i32⟩
  | 121 => ⟨S_, .f32⟩
  | 122 => ⟨S120001x10x5, .f32⟩
  | 123 => ⟨S300000x1, .i1⟩
  | 124 => ⟨S_, .f32⟩
  | 125 => ⟨S_, .f32⟩
  | 126 => ⟨S300000x5, .i1⟩
  | 127 => ⟨S300000x5, .f32⟩
  | _ => ⟨S300000x5, .f32⟩

abbrev hbmTy0_1 (i : Nat) : BufTy := match i % 128 with
  | 0 => ⟨S300000x5, .f32⟩
  | 1 => ⟨S_, .i32⟩
  | 2 => ⟨S300000, .i32⟩
  | 3 => ⟨S300000, .i1⟩
  | 4 => ⟨S_, .i32⟩
  | 5 => ⟨S300000, .i32⟩
  | 6 => ⟨S300000, .i32⟩
  | 7 => ⟨S300000, .i32⟩
  | 8 => ⟨S_, .i32⟩
  | 9 => ⟨S300000, .i32⟩
  | 10 => ⟨S300000, .i1⟩
  | 11 => ⟨S_, .i32⟩
  | 12 => ⟨S300000, .i32⟩
  | 13 => ⟨S300000, .i32⟩
  | 14 => ⟨S300000, .i32⟩
  | 15 => ⟨S300000x1, .i32⟩
  | 16 => ⟨S300000x1, .i32⟩
  | 17 => ⟨S300000x2, .i32⟩
  | 18 => ⟨S120001x10x5, .f32⟩
  | 19 => ⟨S_, .i32⟩
  | 20 => ⟨S120001, .i32⟩
  | 21 => ⟨S300000, .i32⟩
  | 22 => ⟨S_, .i32⟩
  | 23 => ⟨S300000, .i32⟩
  | 24 => ⟨S300000, .i1⟩
  | 25 => ⟨S_, .i32⟩
  | 26 => ⟨S300000, .i32⟩
  | 27 => ⟨S300000, .i32⟩
  | 28 => ⟨S300000, .i32⟩
  | 29 => ⟨S300000x1, .i32⟩
  | 30 => ⟨S120001, .i32⟩
  | 31 => ⟨S_, .i32⟩
  | 32 => ⟨S120001x3, .i32⟩
  | 33 => ⟨S300000x1, .i1⟩
  | 34 => ⟨S_, .i32⟩
  | 35 => ⟨S_, .i32⟩
  | 36 => ⟨S300000x3, .i1⟩
  | 37 => ⟨S300000x3, .i32⟩
  | 38 => ⟨S300000x3, .i32⟩
  | 39 => ⟨S_, .i32⟩
  | 40 => ⟨S300000, .i32⟩
  | 41 => ⟨S300000, .i1⟩
  | 42 => ⟨S_, .i32⟩
  | 43 => ⟨S300000, .i32⟩
  | 44 => ⟨S300000, .i32⟩
  | 45 => ⟨S300000, .i32⟩
  | 46 => ⟨S300000x1, .i32⟩
  | 47 => ⟨S120001x3, .i32⟩
  | 48 => ⟨S120000x10x5, .f32⟩
  | 49 => ⟨S120000x3, .i32⟩
  | 50 => ⟨S120000, .i32⟩
  | _ => ⟨S300000x5, .f32⟩

abbrev hbmTy (i : Nat) : BufTy := match i / 128 with
  | 0 => hbmTy0_0 i
  | 1 => hbmTy0_1 i
  | _ => ⟨S300000x5, .f32⟩

abbrev bufTy : (tb : Table) → Fin (tcTables nBuf tb) → BufTy
  | .hbm, ⟨i, _⟩ => hbmTy i
  | _, _ => ⟨S300000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_c : Ref sig .tc := ⟨.hbm, 3, rfl⟩
abbrev main_c_1 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_c_4 : Ref sig .tc := ⟨.hbm, 39, rfl⟩
abbrev main_call0_v0 : Ref sig .tc := ⟨.hbm, 40, rfl⟩
abbrev main_v32 : Ref sig .tc := ⟨.hbm, 41, rfl⟩
abbrev main_call1_v0 : Ref sig .tc := ⟨.hbm, 42, rfl⟩
abbrev main_call1_v1_0 : Ref sig .tc := ⟨.hbm, 43, rfl⟩
abbrev main_v33 : Ref sig .tc := ⟨.hbm, 44, rfl⟩
abbrev main_c_5 : Ref sig .tc := ⟨.hbm, 45, rfl⟩
abbrev main_v34 : Ref sig .tc := ⟨.hbm, 46, rfl⟩
abbrev main_v35 : Ref sig .tc := ⟨.hbm, 47, rfl⟩
abbrev main_c_6 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_c_7 : Ref sig .tc := ⟨.hbm, 54, rfl⟩
abbrev main_v41 : Ref sig .tc := ⟨.hbm, 55, rfl⟩
abbrev main_v42 : Ref sig .tc := ⟨.hbm, 56, rfl⟩
abbrev main_c_8 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_c_9 : Ref sig .tc := ⟨.hbm, 63, rfl⟩
abbrev main_v48 : Ref sig .tc := ⟨.hbm, 64, rfl⟩
abbrev main_v49 : Ref sig .tc := ⟨.hbm, 65, rfl⟩
abbrev main_c_10 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_c_11 : Ref sig .tc := ⟨.hbm, 76, rfl⟩
abbrev main_v59 : Ref sig .tc := ⟨.hbm, 77, rfl⟩
abbrev main_v60 : Ref sig .tc := ⟨.hbm, 78, rfl⟩
abbrev main_c_12 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_call2_call0_c : Ref sig .tc := ⟨.hbm, 90, rfl⟩
abbrev main_call2_call0_v0 : Ref sig .tc := ⟨.hbm, 91, rfl⟩
abbrev main_v71 : Ref sig .tc := ⟨.hbm, 92, rfl⟩
abbrev main_c_13 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_c_14 : Ref sig .tc := ⟨.hbm, 97, rfl⟩
abbrev main_call3_v0 : Ref sig .tc := ⟨.hbm, 98, rfl⟩
abbrev main_call3_v1 : Ref sig .tc := ⟨.hbm, 99, rfl⟩
abbrev main_v75 : Ref sig .tc := ⟨.hbm, 100, rfl⟩
abbrev main_call4_c : Ref sig .tc := ⟨.hbm, 101, rfl⟩
abbrev main_call4_v0 : Ref sig .tc := ⟨.hbm, 102, rfl⟩
abbrev main_v76 : Ref sig .tc := ⟨.hbm, 103, rfl⟩
abbrev main_v77 : Ref sig .tc := ⟨.hbm, 104, rfl⟩
abbrev main_c_15 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_c_16 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_c_17 : Ref sig .tc := ⟨.hbm, 113, rfl⟩
abbrev main_call5_v0 : Ref sig .tc := ⟨.hbm, 114, rfl⟩
abbrev main_call5_v1 : Ref sig .tc := ⟨.hbm, 115, rfl⟩
abbrev main_v84 : Ref sig .tc := ⟨.hbm, 116, rfl⟩
abbrev main_c_18 : Ref sig .tc := ⟨.hbm, 117, rfl⟩
abbrev main_call6_v0 : Ref sig .tc := ⟨.hbm, 118, rfl⟩
abbrev main_call6_v1 : Ref sig .tc := ⟨.hbm, 119, rfl⟩
abbrev main_v85 : Ref sig .tc := ⟨.hbm, 120, rfl⟩
abbrev main_cst_19 : Ref sig .tc := ⟨.hbm, 121, rfl⟩
abbrev main_v86 : Ref sig .tc := ⟨.hbm, 122, rfl⟩
abbrev main_v87 : Ref sig .tc := ⟨.hbm, 123, rfl⟩
abbrev main_cst_20 : Ref sig .tc := ⟨.hbm, 124, rfl⟩
abbrev main_call7_v0 : Ref sig .tc := ⟨.hbm, 125, rfl⟩
abbrev main_call7_v1 : Ref sig .tc := ⟨.hbm, 126, rfl⟩
abbrev main_call7_v2 : Ref sig .tc := ⟨.hbm, 127, rfl⟩
abbrev main_v88 : Ref sig .tc := ⟨.hbm, 128, rfl⟩
abbrev main_c_21 : Ref sig .tc := ⟨.hbm, 129, rfl⟩
abbrev main_v89 : Ref sig .tc := ⟨.hbm, 130, rfl⟩
abbrev main_v90 : Ref sig .tc := ⟨.hbm, 131, rfl⟩
abbrev main_c_22 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_c_23 : Ref sig .tc := ⟨.hbm, 136, rfl⟩
abbrev main_v94 : Ref sig .tc := ⟨.hbm, 137, rfl⟩
abbrev main_v95 : Ref sig .tc := ⟨.hbm, 138, rfl⟩
abbrev main_c_24 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_c_25 : Ref sig .tc := ⟨.hbm, 147, rfl⟩
abbrev main_v103 : Ref sig .tc := ⟨.hbm, 148, rfl⟩
abbrev main_v104 : Ref sig .tc := ⟨.hbm, 149, rfl⟩
abbrev main_c_26 : Ref sig .tc := ⟨.hbm, 150, rfl⟩
abbrev main_v105 : Ref sig .tc := ⟨.hbm, 151, rfl⟩
abbrev main_v106 : Ref sig .tc := ⟨.hbm, 152, rfl⟩
abbrev main_c_27 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_c_28 : Ref sig .tc := ⟨.hbm, 159, rfl⟩
abbrev main_v112 : Ref sig .tc := ⟨.hbm, 160, rfl⟩
abbrev main_v113 : Ref sig .tc := ⟨.hbm, 161, rfl⟩
abbrev main_c_29 : Ref sig .tc := ⟨.hbm, 162, rfl⟩
abbrev main_call8_v0 : Ref sig .tc := ⟨.hbm, 163, rfl⟩
abbrev main_call8_v1 : Ref sig .tc := ⟨.hbm, 164, rfl⟩
abbrev main_call8_v2 : Ref sig .tc := ⟨.hbm, 165, rfl⟩
abbrev main_v114 : Ref sig .tc := ⟨.hbm, 166, rfl⟩
abbrev main_c_30 : Ref sig .tc := ⟨.hbm, 167, rfl⟩
abbrev main_v115 : Ref sig .tc := ⟨.hbm, 168, rfl⟩
abbrev main_v116 : Ref sig .tc := ⟨.hbm, 169, rfl⟩
abbrev main_c_31 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩

abbrev nD : Nat := 1
abbrev τ : Topo := Topo.v7x

variable {F : FTy → Type} [FloatOps F]
-- ==== Proof.Steps.lean ====
/-
  The kernel's two long loop bodies as chains of one repeated step each.
  A trip of the marking loop sets sixteen bits; a trip of the writing loop places sixteen points. The program has the sixteen copies written out
  and cuts the text into parts; here each copy is the same definition, taking what follows it as its last argument.
-/
module

public import proofs.«01_k».proof.Proof.Gen.KernelIdeal.Skeleton

@[expose] public section

set_option maxRecDepth 65536

noncomputable section

namespace Cert.Proof.Vox

open Cert.KernelIdeal Cert.KernelIdeal.Gen
open Idealize.ShloMosaic Idealize.SL.Sem

variable {F : FTy → Type} [FloatOps F]

/-- The programs of one TensorCore of the kernel. -/
abbrev PG (F : FTy → Type) [FloatOps F] (α : Type) := Prog (TpuEff nD τ sig (Elt F) Λ₀ .tc) α

/-- A lane of a row can be cut out of it. -/
theorem lane_slices (n : Fin 16) : S1x128.Slices ![0, n.val] S1x1 := by revert n; decide

/-- Lane `n` of a row. -/
def laneOf {α : Type} (X : S1x128.Idx → α) (n : Fin 16) : α :=
  extractAt ![0, 0] (extractStridedSlice S1x1 ![0, n.val] X (lane_slices n)) inpos_S1x1_p0_0

/-- The row rotated so that lane `l` comes first. -/
def rotTo {α : Type} (X : S1x128.Idx → α) (l : BitVec 32) : S1x128.Idx → α :=
  dynamicRotate 1 (Scalar.andi (Scalar.subi 128#32 l) 127#32) none X rotates_S1x128_d1

/-- The first lane, of the sixteen that trip `k` reads, in row `k / 8`. -/
def tripLane (k : BitVec 32) : BitVec 32 := Scalar.shli (Scalar.andi k 7#32) 4#32

/-- The kernel's count of the set bits of a word, by halving sums. -/
def popW (x : BitVec 32) : BitVec 32 :=
  let a := Scalar.subi x (Scalar.andi (Scalar.shrsi x 1#32) 1431655765#32)
  let b := Scalar.addi (Scalar.andi a 858993459#32) (Scalar.andi (Scalar.shrsi a 2#32) 858993459#32)
  Scalar.shrsi (Scalar.muli (Scalar.andi (Scalar.addi b (Scalar.shrsi b 4#32)) 252645135#32) 16843009#32) 24#32

section Marking

variable (arg8 : Memref sig .tc .vmem S11391x128 .i32)

/-- The row of the bit map with the bit of cell `w` set. -/
def markRow (v0 : IVec S1x128 32) (x : Vec F S1x128 .i32) (w : BitVec 32) : IVec S1x128 32 :=
  shapeCast S1x128 (ori x (select (cmpi .eq v0 (broadcast S1x128 (Scalar.andi (Scalar.shrsi w 5#32) 127#32)))
    (broadcast S1x128 (Scalar.shli 1#32 (Scalar.andi w 31#32))) (broadcast S1x128 0#32))) shapeCasts_S1x128_S1x128

/-- Sets the bit of cell `w`, then goes on with `k`. -/
def bitStep {α : Type} (v0 : IVec S1x128 32) (w : BitVec 32) (k : PG F α) : PG F α := do
  have hw : k0_chk1 w := (← Prog.lift (TpuEff.assume (k0_chk1 w) (k0_chk1.dec w))).down
  let x : Vec F S1x128 .i32 ← Prog.lift (.load arg8 (Rect.unit (s := S11391x128) (k0_off2 w) S1x128.size (k0_off2_inb w hw)).toLoadRect (View.loadsAt_vmem h_S1x128))
  let _y : Vec F S1x128 .i32 ← Prog.lift (.load arg8 (Rect.unit (s := S11391x128) (k0_off2 w) S1x128.size (k0_off2_inb w hw)).toLoadRect (View.loadsAt_vmem h_S1x128))
  Prog.lift (.store arg8 (Rect.unit (s := S11391x128) (k0_off2 w) S1x128.size (k0_off2_inb w hw)) (markRow v0 x w) Finset.univ (View.stores_vmem_bits_univ h_S1x128 rfl) (.inl rfl))
  k

/-- Sets the bits of the cells in the listed lanes of a row of cells. -/
def bitRun {α : Type} (v0 : IVec S1x128 32) (X : IVec S1x128 32) (k : PG F α) : List (Fin 16) → PG F α
  | [] => k
  | n :: ns => bitStep arg8 v0 (laneOf X n) (bitRun v0 X k ns)

end Marking

/-- The lanes a trip goes through, in order. -/
abbrev lanes16 : List (Fin 16) := [0, 1, 2, 3, 4, 5, 6, 7, 8, 9, 10, 11, 12, 13, 14, 15]

section Placing

variable (arg5 : Memref sig .tc .vmem S46876x128 .f32) (arg6 : Memref sig .tc .vmem S2814x128 .i32) (arg7 : Memref sig .tc .vmem S939x128 .i32)
  (arg8 : Memref sig .tc .vmem S11391x128 .i32) (arg9 : Memref sig .tc .vmem S11391x128 .f32)

/-- The two rows of the points' block with the five values of a point written from place `q` of the first row on. -/
def featRows (v5 : IVec S2x128 32) (x : Vec F S2x128 .f32) (q : BitVec 32) (a0 a1 a2 a3 a4 : F .f32) : Vec F S2x128 .f32 :=
  select (cmpi .eq v5 (broadcast S2x128 (Scalar.addi q 4#32))) (broadcast S2x128 a4)
    (select (cmpi .eq v5 (broadcast S2x128 (Scalar.addi q 3#32))) (broadcast S2x128 a3)
    (select (cmpi .eq v5 (broadcast S2x128 (Scalar.addi q 2#32))) (broadcast S2x128 a2)
    (select (cmpi .eq v5 (broadcast S2x128 (Scalar.addi q 1#32))) (broadcast S2x128 a1)
    (select (cmpi .eq v5 (broadcast S2x128 q)) (broadcast S2x128 a0) (shapeCast S2x128 x shapeCasts_S2x128_S2x128)))))

/-- The two rows of the coordinates' block with the three coordinates packed in `p` written from place `q` of the first row on. -/
def coordRows (v5 : IVec S2x128 32) (x : Vec F S2x128 .i32) (q p : BitVec 32) : IVec S2x128 32 :=
  select (cmpi .eq v5 (broadcast S2x128 (Scalar.addi q 2#32))) (broadcast S2x128 (Scalar.andi p 2047#32))
    (select (cmpi .eq v5 (broadcast S2x128 (Scalar.addi q 1#32))) (broadcast S2x128 (Scalar.andi (Scalar.shrsi p 11#32) 2047#32))
    (select (cmpi .eq v5 (broadcast S2x128 q)) (broadcast S2x128 (Scalar.shrsi p 22#32)) (shapeCast S2x128 x shapeCasts_S2x128_S2x128)))

/-- The row of the counts with the count in lane `l` put to `n`. -/
def countRow (v0 : IVec S1x128 32) (x : Vec F S1x128 .i32) (l n : BitVec 32) : IVec S1x128 32 :=
  select (cmpi .eq v0 (broadcast S1x128 l)) (broadcast S1x128 n) (shapeCast S1x128 x shapeCasts_S1x128_S1x128)

/-- The bits of a word below bit `w` of its cell. -/
def lowBits (w g : BitVec 32) : BitVec 32 := Scalar.andi g (Scalar.subi (Scalar.shli 1#32 (Scalar.andi w 31#32)) 1#32)

/-- The writes of one kept point of cell `w`: its values, the coordinates of its cell, and the cell's count one up. -/
def putPoint {α : Type} (v0 : IVec S1x128 32) (v5 : IVec S2x128 32) (a0 a1 a2 a3 a4 : F .f32) (p w g r n : BitVec 32) (y : Vec F S1x128 .i32)
    (h1 : k0_cond1 w = 1#1) (h2 : k0_cond2 w g r = 1#1) (hw : k0_chk19 w g r n) (h3 : k0_cond3 n = 1#1) (k : PG F α) : PG F α := do
  let t := Scalar.addi r (popW (lowBits w g))
  let x5 : Vec F S2x128 .f32 ← Prog.lift (.load arg5 (Rect.unit (s := S46876x128) (k0_off22 w g r n) S2x128.size (k0_off22_inb w g r n hw h1 h2 h3)).toLoadRect (View.loadsAt_vmem h_S2x128))
  let _y5 : Vec F S2x128 .f32 ← Prog.lift (.load arg5 (Rect.unit (s := S46876x128) (k0_off22 w g r n) S2x128.size (k0_off22_inb w g r n hw h1 h2 h3)).toLoadRect (View.loadsAt_vmem h_S2x128))
  Prog.lift (.store arg5 (Rect.unit (s := S46876x128) (k0_off22 w g r n) S2x128.size (k0_off22_inb w g r n hw h1 h2 h3)) (featRows v5 x5 (Scalar.andi (Scalar.muli (Scalar.addi (Scalar.muli t 10#32) n) 5#32) 127#32) a0 a1 a2 a3 a4) Finset.univ (View.stores_vmem_bits_univ h_S2x128 rfl) (.inl rfl))
  let x6 : Vec F S2x128 .i32 ← Prog.lift (.load arg6 (Rect.unit (s := S2814x128) (k0_off23 w g r) S2x128.size (k0_off23_inb w g r n hw h1 h2 h3)).toLoadRect (View.loadsAt_vmem h_S2x128))
  let _y6 : Vec F S2x128 .i32 ← Prog.lift (.load arg6 (Rect.unit (s := S2814x128) (k0_off23 w g r) S2x128.size (k0_off23_inb w g r n hw h1 h2 h3)).toLoadRect (View.loadsAt_vmem h_S2x128))
  Prog.lift (.store arg6 (Rect.unit (s := S2814x128) (k0_off23 w g r) S2x128.size (k0_off23_inb w g r n hw h1 h2 h3)) (coordRows (F := F) v5 x6 (Scalar.andi (Scalar.muli t 3#32) 127#32) p) Finset.univ (View.stores_vmem_bits_univ h_S2x128 rfl) (.inl rfl))
  let _y7 : Vec F S1x128 .i32 ← Prog.lift (.load arg7 (Rect.unit (s := S939x128) (k0_off24 w g r) S1x128.size (k0_off24_inb w g r n hw h1 h2 h3)).toLoadRect (View.loadsAt_vmem h_S1x128))
  Prog.lift (.store arg7 (Rect.unit (s := S939x128) (k0_off24 w g r) S1x128.size (k0_off24_inb w g r n hw h1 h2 h3)) (countRow (F := F) v0 y (Scalar.andi t 127#32) (Scalar.addi n 1#32)) Finset.univ (View.stores_vmem_bits_univ h_S1x128 rfl) (.inl rfl))
  k

/-- A point whose cell has a rank below the number of voxels: its count is read, and the point is written if there is room. -/
def roomStep {α : Type} (v0 : IVec S1x128 32) (v5 : IVec S2x128 32) (a0 a1 a2 a3 a4 : F .f32) (p w g r : BitVec 32)
    (h0 : k0_chk18 w g r) (h1 : k0_cond1 w = 1#1) (h2 : k0_cond2 w g r = 1#1) (k : PG F α) : PG F α := do
  let t := Scalar.addi r (popW (lowBits w g))
  let y : Vec F S1x128 .i32 ← Prog.lift (.load arg7 (Rect.unit (s := S939x128) (k0_off21 w g r) S1x128.size (k0_off21_inb w g r h0 h1 h2)).toLoadRect (View.loadsAt_vmem h_S1x128))
  let n : BitVec 32 := laneOf (rotTo (shapeCast S1x128 y shapeCasts_S1x128_S1x128) (Scalar.andi t 127#32)) 0
  have hw : k0_chk19 w g r n := (← Prog.lift (TpuEff.assume (k0_chk19 w g r n) (k0_chk19.dec w g r n))).down
  if h3 : k0_cond3 n = 1#1 then putPoint arg5 arg6 arg7 v0 v5 a0 a1 a2 a3 a4 p w g r n y h1 h2 hw h3 k else k

/-- A point of cell `w` is placed: a valid cell's rank is read off the bit map and the word counts. -/
def rankStep {α : Type} (v0 : IVec S1x128 32) (v5 : IVec S2x128 32) (a0 a1 a2 a3 a4 : F .f32) (p w : BitVec 32) (hw : k0_chk17 w) (k : PG F α) : PG F α :=
  if h1 : k0_cond1 w = 1#1 then do
    let l := Scalar.andi (Scalar.shrsi w 5#32) 127#32
    let x8 : Vec F S1x128 .i32 ← Prog.lift (.load arg8 (Rect.unit (s := S11391x128) (k0_off20 w) S1x128.size (k0_off20_inb w hw h1)).toLoadRect (View.loadsAt_vmem h_S1x128))
    let x9 : Vec F S1x128 .f32 ← Prog.lift (.load arg9 (Rect.unit (s := S11391x128) (k0_off20 w) S1x128.size (k0_off20_inb w hw h1)).toLoadRect (View.loadsAt_vmem h_S1x128))
    let g : BitVec 32 := laneOf (rotTo x8 l) 0
    let r : BitVec 32 := Scalar.fptosi 32 (laneOf (rotTo x9 l) 0)
    have h0 : k0_chk18 w g r := (← Prog.lift (TpuEff.assume (k0_chk18 w g r) (k0_chk18.dec w g r))).down
    if h2 : k0_cond2 w g r = 1#1 then roomStep arg5 arg6 arg7 v0 v5 a0 a1 a2 a3 a4 p w g r h0 h1 h2 k else k
  else k

/-- The same with the assumption that the cell's row is inside the bit map made first. -/
def placeStep {α : Type} (v0 : IVec S1x128 32) (v5 : IVec S2x128 32) (a0 a1 a2 a3 a4 : F .f32) (p w : BitVec 32) (k : PG F α) : PG F α := do
  have hw : k0_chk17 w := (← Prog.lift (TpuEff.assume (k0_chk17 w) (k0_chk17.dec w))).down
  rankStep arg5 arg6 arg7 arg8 arg9 v0 v5 a0 a1 a2 a3 a4 p w hw k

/-- Places the points in the listed lanes of a row of points: their values in `X0` to `X4`, packed coordinates in `P`, cells in `W`. -/
def placeRun {α : Type} (v0 : IVec S1x128 32) (v5 : IVec S2x128 32) (W P : IVec S1x128 32) (X0 X1 X2 X3 X4 : FVec F S1x128 .f32) (k : PG F α) : List (Fin 16) → PG F α
  | [] => k
  | n :: ns => placeStep arg5 arg6 arg7 arg8 arg9 v0 v5 (laneOf X0 n) (laneOf X1 n) (laneOf X2 n) (laneOf X3 n) (laneOf X4 n) (laneOf P n) (laneOf W n)
      (placeRun v0 v5 W P X0 X1 X2 X3 X4 k ns)

end Placing

end Cert.Proof.Vox

end
-- ==== Proof.Word.lean ====
/-
  Words as the naturals they hold: shifts, masks and sums of small words, and the kernel's count of set bits (`popW`).
-/
module

public import proofs.«01_k».proof.Proof.Steps
public import Idealize.ShloMosaic.Lib.WordCmp
public import Mathlib.Data.Nat.Bitwise
public import Mathlib.Data.BitVec
public import Mathlib.Tactic.Ring
public import Mathlib.Tactic.NormNum
public import Mathlib.Algebra.BigOperators.Intervals

@[expose] public section

namespace Cert.Proof.Vox

open Idealize.ShloMosaic

/-- An arithmetic shift right of a word that is not negative divides it. -/
theorem toNat_shrsi (w : BitVec 32) (hw : w.toNat < 2 ^ 31) (c : ℕ) (hc : c < 32) :
    (Scalar.shrsi w (BitVec.ofNat 32 c)).toNat = w.toNat / 2 ^ c := by
  have h1 : (BitVec.ofNat 32 c).toNat = c := by rw [BitVec.toNat_ofNat]; exact Nat.mod_eq_of_lt (by omega)
  have h2 : w.msb = false := by rw [BitVec.msb_eq_false_iff_two_mul_lt]; omega
  unfold Scalar.shrsi IntOp.shrsi
  rw [if_pos (by rw [h1]; exact hc), BitVec.sshiftRight', h1, BitVec.sshiftRight_eq_of_msb_false h2, BitVec.toNat_ushiftRight, Nat.shiftRight_eq_div_pow]

/-- A mask of the low `n` bits takes the remainder. -/
theorem toNat_andi_mask (w : BitVec 32) (n : ℕ) (hn : n < 32) : (Scalar.andi w (BitVec.ofNat 32 (2 ^ n - 1))).toNat = w.toNat % 2 ^ n := by
  show (w &&& _).toNat = _
  have : 2 ^ n - 1 < 2 ^ 32 := by have := Nat.pow_le_pow_right (n := 2) (by omega) hn.le; omega
  rw [BitVec.toNat_and, BitVec.toNat_ofNat, Nat.mod_eq_of_lt this, Nat.and_two_pow_sub_one_eq_mod]

theorem toNat_andi_127 (w : BitVec 32) : (Scalar.andi w 127#32).toNat = w.toNat % 128 := toNat_andi_mask w 7 (by omega)
theorem toNat_andi_31 (w : BitVec 32) : (Scalar.andi w 31#32).toNat = w.toNat % 32 := toNat_andi_mask w 5 (by omega)
theorem toNat_andi_7 (w : BitVec 32) : (Scalar.andi w 7#32).toNat = w.toNat % 8 := toNat_andi_mask w 3 (by omega)
theorem toNat_andi_2047 (w : BitVec 32) : (Scalar.andi w 2047#32).toNat = w.toNat % 2048 := toNat_andi_mask w 11 (by omega)

/-- A shift left that loses no bit multiplies. -/
theorem toNat_shli (w s : BitVec 32) (hs : s.toNat < 32) (h : w.toNat * 2 ^ s.toNat < 2 ^ 32) : (Scalar.shli w s).toNat = w.toNat * 2 ^ s.toNat := by
  unfold Scalar.shli IntOp.shli
  rw [if_pos hs]
  show (w <<< s.toNat).toNat = _
  rw [BitVec.toNat_shiftLeft, Nat.shiftLeft_eq, Nat.mod_eq_of_lt h]

/-- Sums of words that do not overflow. -/
theorem toNat_addi (x y : BitVec 32) (h : x.toNat + y.toNat < 2 ^ 32) : (Scalar.addi x y).toNat = x.toNat + y.toNat := by
  show (x + y).toNat = _
  rw [BitVec.toNat_add, Nat.mod_eq_of_lt h]

/-- Products of words that do not overflow. -/
theorem toNat_muli (x y : BitVec 32) (h : x.toNat * y.toNat < 2 ^ 32) : (Scalar.muli x y).toNat = x.toNat * y.toNat := by
  show (x * y).toNat = _
  rw [BitVec.toNat_mul, Nat.mod_eq_of_lt h]

/-- A signed comparison of two words that are not negative. -/
theorem slt_iff (x y : BitVec 32) (hx : x.toNat < 2 ^ 31) (hy : y.toNat < 2 ^ 31) : Scalar.cmpi .slt x y = 1#1 ↔ x.toNat < y.toNat := by
  show IntOp.cmpi .slt x y = 1#1 ↔ _
  rw [WordCmp.cmpi_slt_of_lt hx hy, WordCmp.ofBool_eq_one_iff]
  exact decide_eq_true_iff

/-- A comparison widened to a word and tested against zero is the comparison. -/
theorem ne_extui (c : BitVec 1) : Scalar.cmpi .ne (Scalar.extui c) 0#32 = c := by revert c; decide

/-! ## The count of set bits -/

/-- The set bits of an eight-bit number. -/
def pop8 (n : ℕ) : ℕ := n % 2 + n / 2 % 2 + n / 4 % 2 + n / 8 % 2 + n / 16 % 2 + n / 32 % 2 + n / 64 % 2 + n / 128 % 2

/-- The bits of a mask of four bytes are masked byte by byte. -/
theorem and_byte (x m M : ℕ) (hm : m < 256) : x &&& (m + 256 * M) = (x % 256 &&& m) + 256 * (x / 256 &&& M) := by
  have h1 : x = x % 256 + 256 * (x / 256) := by omega
  have hb : (x % 256 &&& m) < 256 := lt_of_le_of_lt Nat.and_le_right hm
  apply Nat.eq_of_testBit_eq
  intro i
  have k : ∀ a b : ℕ, a < 256 → (a + 256 * b).testBit i = if i < 8 then a.testBit i else b.testBit (i - 8) := by
    intro a b ha
    have := Nat.testBit_two_pow_mul_add b (i := 8) (b := a) (by simpa using ha) i
    rw [show a + 256 * b = 2 ^ 8 * b + a by ring, this]
  rw [Nat.testBit_and, k _ _ hb, k _ _ hm]
  conv_lhs => rw [h1, k _ _ (Nat.mod_lt _ (by omega))]
  by_cases h : i < 8
  · simp [h, Nat.testBit_and]
  · simp [h, Nat.testBit_and]

/-- The four bytes of a masked word. -/
theorem and_bytes (a b c d : ℕ) (ha : a < 256) (hb : b < 256) (hc : c < 256) (hd : d < 256) (m : ℕ) (hm : m < 256) :
    (a + 256 * (b + 256 * (c + 256 * d))) &&& (m + 256 * (m + 256 * (m + 256 * m)))
      = (a &&& m) + 256 * ((b &&& m) + 256 * ((c &&& m) + 256 * (d &&& m))) := by
  have q : ∀ x y : ℕ, x < 256 → (x + 256 * y) % 256 = x ∧ (x + 256 * y) / 256 = y := fun x y h => by omega
  rw [and_byte _ _ _ hm, (q _ _ ha).1, (q _ _ ha).2, and_byte _ _ _ hm, (q _ _ hb).1, (q _ _ hb).2, and_byte _ _ _ hm, (q _ _ hc).1, (q _ _ hc).2]

/-- Halving a byte, the lost bit of the next byte masked off. -/
theorem half55 : ∀ x < 256, ∀ t < 2, (x / 2 + 128 * t) &&& 0x55 = (x / 2 &&& 0x55) := by decide +kernel
/-- Quartering a byte, the lost bits of the next byte masked off. -/
theorem quarter33 : ∀ x < 256, ∀ t < 4, (x / 4 + 64 * t) &&& 0x33 = (x / 4 &&& 0x33) := by decide +kernel
/-- A byte's three halving sums give its number of set bits; no partial sum leaves the byte. -/
theorem byte_sums : ∀ x < 256, (x / 2 &&& 0x55) ≤ x ∧
    (let a := x - (x / 2 &&& 0x55); let b := (a &&& 0x33) + (a / 4 &&& 0x33); a < 256 ∧ b % 16 ≤ 4 ∧ b / 16 ≤ 4 ∧ b % 16 + b / 16 = pop8 x) := by
  decide +kernel
/-- The sum of a byte's two halves, masked. -/
theorem nibble_sum : ∀ x ≤ 4, ∀ y ≤ 4, ∀ z ≤ 4, (x + y + 16 * (y + z)) &&& 0x0f = x + y := by decide +kernel

/-- The number of set bits of a word. -/
def popN (x : ℕ) : ℕ := pop8 (x % 256) + pop8 (x / 256 % 256) + pop8 (x / 65536 % 256) + pop8 (x / 16777216 % 256)

/-- An arithmetic shift under a mask whose top bits are clear divides. -/
theorem toNat_shrsi_mask (x : BitVec 32) (c : ℕ) (hc : c < 32) (m : ℕ) (hm : m < 2 ^ (32 - c)) :
    (Scalar.andi (Scalar.shrsi x (BitVec.ofNat 32 c)) (BitVec.ofNat 32 m)).toNat = (x.toNat / 2 ^ c &&& m) := by
  have h1 : (BitVec.ofNat 32 c).toNat = c := by rw [BitVec.toNat_ofNat]; exact Nat.mod_eq_of_lt (by omega)
  have hm' : m < 2 ^ 32 := lt_of_lt_of_le hm (Nat.pow_le_pow_right (by omega) (by omega))
  have e : Scalar.shrsi x (BitVec.ofNat 32 c) = x.sshiftRight c := by
    unfold Scalar.shrsi IntOp.shrsi
    rw [if_pos (by rw [h1]; exact hc), BitVec.sshiftRight', h1]
  have : Scalar.andi (Scalar.shrsi x (BitVec.ofNat 32 c)) (BitVec.ofNat 32 m) = (x >>> c) &&& BitVec.ofNat 32 m := by
    rw [e]
    show _ &&& _ = _
    apply BitVec.eq_of_getLsbD_eq
    intro i hi
    rw [BitVec.getLsbD_and, BitVec.getLsbD_and, BitVec.getLsbD_sshiftRight, BitVec.getLsbD_ushiftRight, BitVec.getLsbD_ofNat]
    by_cases q : c + i < 32
    · simp [q, hi, Nat.not_le.2 hi]
    · have : m.testBit i = false := Nat.testBit_lt_two_pow (lt_of_lt_of_le hm (Nat.pow_le_pow_right (by omega) (by omega)))
      simp [this]
  rw [this, BitVec.toNat_and, BitVec.toNat_ushiftRight, BitVec.toNat_ofNat, Nat.mod_eq_of_lt hm', Nat.shiftRight_eq_div_pow]

/-- Four bytes as one number. -/
def quad (a b c d : ℕ) : ℕ := a + 256 * (b + 256 * (c + 256 * d))

/-- Halving a number whose lowest byte is split off. -/
theorem halve (x y : ℕ) : (x + 256 * y) / 2 = (x / 2 + 128 * (y % 2)) + 256 * (y / 2) := by omega
/-- Quartering a number whose lowest byte is split off. -/
theorem quarter (x y : ℕ) : (x + 256 * y) / 4 = (x / 4 + 64 * (y % 4)) + 256 * (y / 4) := by omega
/-- Dividing by sixteen a number whose lowest byte is split off. -/
theorem sixteenth (x y : ℕ) : (x + 256 * y) / 16 = (x / 16 + 16 * (y % 16)) + 256 * (y / 16) := by omega

/-- The halved bytes, masked. -/
theorem quad_half (a b c d : ℕ) (ha : a < 256) (hb : b < 256) (hc : c < 256) (hd : d < 256) :
    (quad a b c d / 2 &&& 1431655765) = quad (a / 2 &&& 0x55) (b / 2 &&& 0x55) (c / 2 &&& 0x55) (d / 2 &&& 0x55) := by
  unfold quad
  rw [halve, halve, halve, show d / 2 = d / 2 + 128 * 0 from rfl,
    show (1431655765 : ℕ) = 0x55 + 256 * (0x55 + 256 * (0x55 + 256 * 0x55)) from rfl,
    and_bytes _ _ _ _ (by omega) (by omega) (by omega) (by omega) _ (by omega),
    half55 _ ha _ (Nat.mod_lt _ (by omega)), half55 _ hb _ (Nat.mod_lt _ (by omega)), half55 _ hc _ (Nat.mod_lt _ (by omega)), half55 _ hd _ (by omega)]

/-- The quartered bytes, masked. -/
theorem quad_quarter (a b c d : ℕ) (ha : a < 256) (hb : b < 256) (hc : c < 256) (hd : d < 256) :
    (quad a b c d / 4 &&& 858993459) = quad (a / 4 &&& 0x33) (b / 4 &&& 0x33) (c / 4 &&& 0x33) (d / 4 &&& 0x33) := by
  unfold quad
  rw [quarter, quarter, quarter, show d / 4 = d / 4 + 64 * 0 from rfl,
    show (858993459 : ℕ) = 0x33 + 256 * (0x33 + 256 * (0x33 + 256 * 0x33)) from rfl,
    and_bytes _ _ _ _ (by omega) (by omega) (by omega) (by omega) _ (by omega),
    quarter33 _ ha _ (Nat.mod_lt _ (by omega)), quarter33 _ hb _ (Nat.mod_lt _ (by omega)), quarter33 _ hc _ (Nat.mod_lt _ (by omega)), quarter33 _ hd _ (by omega)]

/-- The bytes, masked. -/
theorem quad_mask (a b c d : ℕ) (ha : a < 256) (hb : b < 256) (hc : c < 256) (hd : d < 256) :
    (quad a b c d &&& 858993459) = quad (a &&& 0x33) (b &&& 0x33) (c &&& 0x33) (d &&& 0x33) := by
  unfold quad
  rw [show (858993459 : ℕ) = 0x33 + 256 * (0x33 + 256 * (0x33 + 256 * 0x33)) from rfl, and_bytes _ _ _ _ ha hb hc hd _ (by omega)]

/-- One byte's halves summed, with what the next byte shifts in. -/
theorem nibble_step (x y t : ℕ) (hx : x / 16 ≤ 4) (h0 : x % 16 ≤ 4) (ht : t ≤ 4) (hy : y % 16 = t) : (x + (x / 16 + 16 * (y % 16))) &&& 0x0f = x % 16 + x / 16 := by
  rw [hy, show x + (x / 16 + 16 * t) = x % 16 + x / 16 + 16 * (x / 16 + t) by omega]
  exact nibble_sum _ h0 _ hx _ ht

/-- The bytes' halves summed, masked. -/
theorem quad_nibble (a b c d : ℕ) (ha : a % 16 ≤ 4 ∧ a / 16 ≤ 4) (hb : b % 16 ≤ 4 ∧ b / 16 ≤ 4) (hc : c % 16 ≤ 4 ∧ c / 16 ≤ 4) (hd : d % 16 ≤ 4 ∧ d / 16 ≤ 4) :
    ((quad a b c d + quad a b c d / 16) &&& 252645135) = quad (a % 16 + a / 16) (b % 16 + b / 16) (c % 16 + c / 16) (d % 16 + d / 16) := by
  have m : ∀ x y : ℕ, (x + 256 * y) % 16 = x % 16 := fun x y => by omega
  have z : d / 16 + 16 * (0 % 16) = d / 16 := rfl
  unfold quad
  rw [sixteenth, sixteenth, sixteenth, m b, m c]
  rw [show a + 256 * (b + 256 * (c + 256 * d)) + (a / 16 + 16 * (b % 16) + 256 * (b / 16 + 16 * (c % 16) + 256 * (c / 16 + 16 * (d % 16) + 256 * (d / 16))))
      = (a + (a / 16 + 16 * (b % 16))) + 256 * ((b + (b / 16 + 16 * (c % 16))) + 256 * ((c + (c / 16 + 16 * (d % 16))) + 256 * (d + (d / 16 + 16 * (0 % 16))))) by rw [z]; ring,
    show (252645135 : ℕ) = 0x0f + 256 * (0x0f + 256 * (0x0f + 256 * 0x0f)) from rfl,
    and_bytes _ _ _ _ (by omega) (by omega) (by omega) (by omega) _ (by omega),
    nibble_step a b _ ha.2 ha.1 hb.1 rfl, nibble_step b c _ hb.2 hb.1 hc.1 rfl, nibble_step c d _ hc.2 hc.1 hd.1 rfl, nibble_step d 0 _ hd.2 hd.1 (by omega) rfl]

/-- The top byte of a product by one in every byte is the sum of the bytes. -/
theorem quad_sum (a b c d : ℕ) (ha : a ≤ 8) (hb : b ≤ 8) (hc : c ≤ 8) (hd : d ≤ 8) : quad a b c d * 16843009 % 2 ^ 32 / 2 ^ 24 = a + b + c + d := by
  have e : quad a b c d * 16843009 = (a + b + c + d) * 2 ^ 24 + (a + 256 * (a + b) + 65536 * (a + b + c)) + 2 ^ 32 * ((b + c + d) + 256 * (c + d) + 65536 * d) := by
    unfold quad; ring
  rw [e, Nat.add_mul_mod_self_left, Nat.mod_eq_of_lt (by omega)]
  omega

/-- A byte has at most eight set bits. -/
theorem pop8_le (x : ℕ) : pop8 x ≤ 8 := by unfold pop8; omega

/-- The kernel's count of set bits is the number of set bits. -/
theorem toNat_popW (x : BitVec 32) : (popW x).toNat = popN x.toNat := by
  have hx := x.isLt
  obtain ⟨x0, hx0⟩ : ∃ x0, x0 = x.toNat % 256 := ⟨_, rfl⟩
  obtain ⟨x1, hx1⟩ : ∃ x1, x1 = x.toNat / 256 % 256 := ⟨_, rfl⟩
  obtain ⟨x2, hx2⟩ : ∃ x2, x2 = x.toNat / 65536 % 256 := ⟨_, rfl⟩
  obtain ⟨x3, hx3⟩ : ∃ x3, x3 = x.toNat / 16777216 % 256 := ⟨_, rfl⟩
  have hX : x.toNat = quad x0 x1 x2 x3 := by unfold quad; omega
  unfold popN
  rw [← hx0, ← hx1, ← hx2, ← hx3]
  have l0 : x0 < 256 := by omega
  have l1 : x1 < 256 := by omega
  have l2 : x2 < 256 := by omega
  have l3 : x3 < 256 := by omega
  clear hx0 hx1 hx2 hx3
  unfold popW
  extract_lets a b
  have e1 : (Scalar.andi (Scalar.shrsi x 1#32) 1431655765#32).toNat = quad (x0 / 2 &&& 0x55) (x1 / 2 &&& 0x55) (x2 / 2 &&& 0x55) (x3 / 2 &&& 0x55) := by
    rw [← quad_half _ _ _ _ l0 l1 l2 l3, ← hX]
    exact toNat_shrsi_mask x 1 (by omega) 1431655765 (by omega)
  obtain ⟨p0, s0⟩ := byte_sums x0 l0
  obtain ⟨p1, s1⟩ := byte_sums x1 l1
  obtain ⟨p2, s2⟩ := byte_sums x2 l2
  obtain ⟨p3, s3⟩ := byte_sums x3 l3
  have ea : a.toNat = quad (x0 - (x0 / 2 &&& 0x55)) (x1 - (x1 / 2 &&& 0x55)) (x2 - (x2 / 2 &&& 0x55)) (x3 - (x3 / 2 &&& 0x55)) := by
    show (x - Scalar.andi (Scalar.shrsi x 1#32) 1431655765#32).toNat = _
    generalize Scalar.andi (Scalar.shrsi x 1#32) 1431655765#32 = y at e1
    clear s0 s1 s2 s3
    generalize (x0 / 2 &&& 0x55) = z0 at *
    generalize (x1 / 2 &&& 0x55) = z1 at *
    generalize (x2 / 2 &&& 0x55) = z2 at *
    generalize (x3 / 2 &&& 0x55) = z3 at *
    unfold quad at *
    rw [BitVec.toNat_sub_of_le (by rw [BitVec.le_def, e1, hX]; omega), e1, hX]
    omega
  generalize x0 - (x0 / 2 &&& 0x55) = a0 at *
  generalize x1 - (x1 / 2 &&& 0x55) = a1 at *
  generalize x2 - (x2 / 2 &&& 0x55) = a2 at *
  generalize x3 - (x3 / 2 &&& 0x55) = a3 at *
  obtain ⟨m0, q0, r0, t0⟩ := s0
  obtain ⟨m1, q1, r1, t1⟩ := s1
  obtain ⟨m2, q2, r2, t2⟩ := s2
  obtain ⟨m3, q3, r3, t3⟩ := s3
  clear e1 p0 p1 p2 p3
  clear_value a
  have e2 : (Scalar.andi a 858993459#32).toNat = quad (a0 &&& 0x33) (a1 &&& 0x33) (a2 &&& 0x33) (a3 &&& 0x33) := by
    rw [← quad_mask _ _ _ _ m0 m1 m2 m3, ← ea]
    exact BitVec.toNat_and ..
  have e3 : (Scalar.andi (Scalar.shrsi a 2#32) 858993459#32).toNat = quad (a0 / 4 &&& 0x33) (a1 / 4 &&& 0x33) (a2 / 4 &&& 0x33) (a3 / 4 &&& 0x33) := by
    rw [← quad_quarter _ _ _ _ m0 m1 m2 m3, ← ea]
    exact toNat_shrsi_mask a 2 (by omega) 858993459 (by omega)
  generalize (a0 &&& 0x33) = c0 at *
  generalize (a1 &&& 0x33) = c1 at *
  generalize (a2 &&& 0x33) = c2 at *
  generalize (a3 &&& 0x33) = c3 at *
  generalize (a0 / 4 &&& 0x33) = d0 at *
  generalize (a1 / 4 &&& 0x33) = d1 at *
  generalize (a2 / 4 &&& 0x33) = d2 at *
  generalize (a3 / 4 &&& 0x33) = d3 at *
  have es : quad c0 c1 c2 c3 + quad d0 d1 d2 d3 = quad (c0 + d0) (c1 + d1) (c2 + d2) (c3 + d3) := by unfold quad; ring
  have lq : quad (c0 + d0) (c1 + d1) (c2 + d2) (c3 + d3) < 2 ^ 31 := by
    clear t0 t1 t2 t3 e2 e3 ea hX es
    unfold quad; omega
  have eb : b.toNat = quad (c0 + d0) (c1 + d1) (c2 + d2) (c3 + d3) := by
    show (Scalar.addi _ _).toNat = _
    rw [toNat_addi _ _ (by rw [e2, e3, es]; omega), e2, e3, es]
  clear_value b
  rw [← eb] at lq
  have e4 : (Scalar.shrsi b 4#32).toNat = b.toNat / 2 ^ 4 := toNat_shrsi b lq 4 (by omega)
  have e5 : (Scalar.addi b (Scalar.shrsi b 4#32)).toNat = b.toNat + b.toNat / 16 := by rw [toNat_addi _ _ (by rw [e4]; omega), e4]; rfl
  have e6 : (Scalar.andi (Scalar.addi b (Scalar.shrsi b 4#32)) 252645135#32).toNat = quad (pop8 x0) (pop8 x1) (pop8 x2) (pop8 x3) := by
    show (Scalar.addi b (Scalar.shrsi b 4#32) &&& 252645135#32).toNat = _
    rw [BitVec.toNat_and, e5, eb]
    refine (quad_nibble _ _ _ _ ⟨q0, r0⟩ ⟨q1, r1⟩ ⟨q2, r2⟩ ⟨q3, r3⟩).trans ?_
    rw [t0, t1, t2, t3]
  have e7 : (Scalar.muli (Scalar.andi (Scalar.addi b (Scalar.shrsi b 4#32)) 252645135#32) 16843009#32).toNat
      = quad (pop8 x0) (pop8 x1) (pop8 x2) (pop8 x3) * 16843009 % 2 ^ 32 := by
    show (_ * (16843009#32)).toNat = _
    rw [BitVec.toNat_mul, e6]
    rfl
  have e8 := quad_sum _ _ _ _ (pop8_le x0) (pop8_le x1) (pop8_le x2) (pop8_le x3)
  have e9 := pop8_le x0
  have e10 := pop8_le x1
  have e11 := pop8_le x2
  have e12 := pop8_le x3
  refine (toNat_shrsi _ (by rw [e7]; omega) 24 (by omega)).trans ?_
  rw [e7, e8]

/-- A bit of a number, as a natural. -/
theorem testBit_div (x i : ℕ) : (x.testBit i).toNat = x / 2 ^ i % 2 := by
  rw [Nat.testBit_eq_decide_div_mod_eq]
  rcases Nat.mod_two_eq_zero_or_one (x / 2 ^ i) with h | h <;> simp [h]

/-- The set bits of one byte of a word. -/
theorem pop8_byte (x a : ℕ) : pop8 (x / 2 ^ a % 256) = ∑ i ∈ Finset.range 8, (x.testBit (a + i)).toNat := by
  have h : ∀ i < 8, (x.testBit (a + i)).toNat = x / 2 ^ a % 256 / 2 ^ i % 2 := by
    intro i hi
    rw [← testBit_div, show (256 : ℕ) = 2 ^ 8 from rfl, Nat.testBit_mod_two_pow, Nat.testBit_div_two_pow]
    simp [hi, Nat.add_comm]
  rw [Finset.sum_congr rfl (fun i hi => h i (Finset.mem_range.1 hi))]
  simp only [Finset.sum_range_succ, Finset.sum_range_zero]
  unfold pop8
  norm_num

/-- The number of set bits is the sum of the bits. -/
theorem popN_eq_sum (x : ℕ) : popN x = ∑ i ∈ Finset.range 32, (x.testBit i).toNat := by
  have h0 := pop8_byte x 0
  have h1 := pop8_byte x 8
  have h2 := pop8_byte x 16
  have h3 := pop8_byte x 24
  rw [show (32 : ℕ) = 8 + 8 + 8 + 8 from rfl, Finset.sum_range_add, Finset.sum_range_add, Finset.sum_range_add]
  unfold popN
  norm_num at h0 h1 h2 h3 ⊢
  rw [h0, h1, h2, h3]

end Cert.Proof.Vox
-- ==== Proof.Flat.lean ====
/-
  Blocks of 128 lanes read as one long row: place `q` is lane `q % 128` of row `q / 128`. Loads, stores and rotated lanes in these terms.
-/
module

public import proofs.«01_k».proof.Proof.Word
public import Idealize.ShloMosaic.Lib.Updates.Chain
public import Idealize.ShloMosaic.Lib.Updates.Values
public import Idealize.ShloMosaic.Lib.Updates.Loop
public import Idealize.ShloMosaic.Lib.Updates.Own
public import Idealize.ShloMosaic.Lib.KernelVsHost

@[expose] public section

namespace Cert.Proof.Vox

open Cert.KernelIdeal Cert.KernelIdeal.Gen
open Idealize.ShloMosaic TcCoe LaneScatter Updates
open Idealize.SL.Sem

variable {β γ δ : Type} {R h : ℕ}

/-- The block `X` holds `g` row after row. -/
def IsFlat (X : (Blk R 128).Idx → β) (g : ℕ → β) : Prop := IsArr X (fun p => g (p.1 * 128 + p.2))

/-- `h` rows from row `r` on replaced by `W`. -/
def patch (r h : ℕ) (W g : ℕ → β) : ℕ → β := fun q => if r * 128 ≤ q ∧ q < (r + h) * 128 then W (q - r * 128) else g q

/-- Contents that agree inside the block are both right. -/
theorem IsFlat.congr {X : (Blk R 128).Idx → β} {g g' : ℕ → β} (hX : IsFlat X g) (hg : ∀ q < R * 128, g q = g' q) : IsFlat X g' :=
  IsArr.congr hX fun a b ha hb => hg _ (by omega)

/-- The word of a block at an index. -/
theorem IsFlat.at {X : (Blk R 128).Idx → β} {g : ℕ → β} (hX : IsFlat X g) (ι : (Blk R 128).Idx) : X ι = g ((ι 0).val * 128 + (ι 1).val) := hX ι

/-- Two readings of one block agree inside it. -/
theorem IsFlat.unique {X : (Blk R 128).Idx → β} {g g' : ℕ → β} (hX : IsFlat X g) (hX' : IsFlat X g') (q : ℕ) (hq : q < R * 128) : g q = g' q := by
  have e := (hX (ValueIdx.ix2 ⟨q / 128, by omega⟩ ⟨q % 128, by omega⟩)).symm.trans (hX' (ValueIdx.ix2 ⟨q / 128, by omega⟩ ⟨q % 128, by omega⟩))
  have e' : g (q / 128 * 128 + q % 128) = g' (q / 128 * 128 + q % 128) := e
  rwa [show q / 128 * 128 + q % 128 = q by omega] at e'

theorem isFlat_broadcast (c : β) : IsFlat (R := R) (broadcast (Blk R 128) c) (fun _ => c) := fun _ => rfl

theorem isFlat_cast {X : (Blk R 128).Idx → β} {g : ℕ → β} (hX : IsFlat X g) (hc : (Blk R 128).ShapeCasts (Blk R 128)) : IsFlat (shapeCast (Blk R 128) X hc) g :=
  isArr_cast_self hX hc

theorem isFlat_map (f : β → γ) {x : (Blk R 128).Idx → β} {g : ℕ → β} (hx : IsFlat x g) : IsFlat (fun i => f (x i)) (fun q => f (g q)) := fun ι => congrArg f (hx ι)

theorem isFlat_map2 (f : β → γ → δ) {x : (Blk R 128).Idx → β} {y : (Blk R 128).Idx → γ} {g : ℕ → β} {g' : ℕ → γ} (hx : IsFlat x g) (hy : IsFlat y g') :
    IsFlat (fun i => f (x i) (y i)) (fun q => f (g q) (g' q)) := fun ι => by
  show f (x ι) (y ι) = _
  rw [hx ι, hy ι]

/-- A choice by equality with a place: the chosen block at that place, the other elsewhere. -/
theorem isFlat_select {v : (Blk R 128).Idx → BitVec 32} (hv : IsFlat v (fun q => BitVec.ofNat 32 q)) (hR : R * 128 ≤ 2 ^ 32) (w : BitVec 32)
    {x y : (Blk R 128).Idx → β} {g g' : ℕ → β} (hx : IsFlat x g) (hy : IsFlat y g') :
    IsFlat (select (cmpi .eq v (broadcast (Blk R 128) w)) x y) (fun q => if q = w.toNat then g q else g' q) := by
  have h1 : IsFlat (select (cmpi .eq v (broadcast (Blk R 128) w)) x y) (fun q => Scalar.select (IntOp.cmpi .eq (BitVec.ofNat 32 q) w) (g q) (g' q)) := by
    intro ι
    show Scalar.select (IntOp.cmpi .eq (v ι) w) (x ι) (y ι) = _
    rw [hv ι, hx ι, hy ι]
  refine h1.congr fun q hq => ?_
  have hq' : (BitVec.ofNat 32 q).toNat = q := by rw [BitVec.toNat_ofNat]; exact Nat.mod_eq_of_lt (by omega)
  have e : (BitVec.ofNat 32 q = w) ↔ q = w.toNat := by
    constructor
    · intro h; rw [← h, hq']
    · intro h; apply BitVec.eq_of_toNat_eq; rw [hq', h]
  show (if (BitVec.ofBool (BitVec.ofNat 32 q == w)) = 1#1 then g q else g' q) = _
  by_cases hqq : q = w.toNat
  · rw [if_pos hqq, if_pos (by rw [beq_iff_eq.2 (e.2 hqq)]; rfl)]
  · rw [if_neg hqq, if_neg (by rw [beq_eq_false_iff_ne.2 (fun h => hqq (e.1 h))]; decide)]

variable {sig : RefSig} {Val : EltTy → Type} {κ : Kind} {sp : Space} {e : EltTy}

/-- A load of `h` rows from row `r` on. -/
theorem isFlat_load {v : View sig κ sp (Blk R 128) e} {f : v.ty.Contents Val} {g : ℕ → Val e} (hg : IsFlat (v.read Val f) g)
    {off : Fin 2 → ℕ} {r : ℕ} (ho : off = ![r, 0]) (inb : ∀ a, off a + (Blk h 128).size a ≤ (Blk R 128).size a) :
    IsFlat (R := h) (View.readAt Val v (Rect.unit (s := Blk R 128) off (Blk h 128).size inb).toLoadRect f) (fun q => g (r * 128 + q)) := by
  have := isArr_load (h := h) (w := 128) hg (o := (r, 0)) ho inb
  refine this.congr fun a b ha hb => ?_
  show g ((r + a) * 128 + (0 + b)) = g (r * 128 + (a * 128 + b))
  congr 1; ring

/-- A store of `h` rows from row `r` on. -/
theorem isFlat_store {v : View sig κ sp (Blk R 128) e} {f : v.ty.Contents Val} {g : ℕ → Val e} (hg : IsFlat (v.read Val f) g)
    {off : Fin 2 → ℕ} {r : ℕ} (ho : off = ![r, 0]) (inb : ∀ a, off a + (Blk h 128).size a ≤ (Blk R 128).size a)
    {pay : (Blk h 128).Idx → Val e} {W : ℕ → Val e} (hW : IsFlat pay W) :
    IsFlat (v.read Val (v.writes Val f [⟨Rect.unit (s := Blk R 128) off (Blk h 128).size inb, pay⟩])) (patch r h W g) := by
  have := isArr_writes_cons (h := h) (w := 128) (L := []) (A := fun p => g (p.1 * 128 + p.2)) hg (o := (r, 0)) ho inb hW
  refine this.congr fun a b ha hb => ?_
  unfold patch
  by_cases hr : r ≤ a ∧ a < r + h
  · rw [storeAt_hit (o := (r, 0)) (s := (h, 128)) ⟨⟨hr, by show 0 ≤ b; omega, by show b < 0 + 128; omega⟩, trivial⟩, if_pos (by constructor <;> nlinarith [hr.1, hr.2])]
    show W ((a - r) * 128 + (b - 0)) = W (a * 128 + b - r * 128)
    congr 1; omega
  · rw [storeAt_miss (o := (r, 0)) (s := (h, 128)) (fun hh => hr hh.1.1), if_neg (by omega)]

/-- A lane of a rotated row: the row's lane that many places on. -/
theorem laneOf_rot {X : S1x128.Idx → β} {g : ℕ → β} (hX : IsFlat (R := 1) X g) (l : BitVec 32) (n : Fin 16) (hl : l.toNat + n.val < 128) :
    laneOf (rotTo X l) n = g (l.toNat + n.val) := by
  have hs : (Scalar.andi (Scalar.subi 128#32 l) 127#32).toNat = (128 - l.toNat) % 128 := by
    rw [toNat_andi_127]
    show (128#32 - l).toNat % 128 = _
    rw [BitVec.toNat_sub_of_le (by rw [BitVec.le_def]; show l.toNat ≤ 128; omega)]
    rfl
  have hq : ∀ j : S1x128.Idx, (j 1).val = n.val → rotTo X l j = g (l.toNat + n.val) := by
    intro j hj
    unfold rotTo
    rw [dynamicRotate_apply 1 _ X rotates_S1x128_d1 j (ValueIdx.ix2 ⟨0, by omega⟩ ⟨l.toNat + n.val, hl⟩)]
    · refine (hX _).trans ?_
      show g (0 * 128 + (l.toNat + n.val)) = _
      rw [Nat.zero_mul, Nat.zero_add]
    · intro b
      match b with
      | ⟨0, _⟩ =>
        show 0 = (j 0).val
        have : (j 0).val < 1 := (j 0).isLt
        omega
      | ⟨1, _⟩ =>
        show l.toNat + n.val = ((j 1).val + 128 - (Scalar.andi (Scalar.subi 128#32 l) 127#32).toNat % 128) % 128
        rw [hs, hj]; omega
  unfold laneOf
  exact hq _ (Nat.add_zero _)

end Cert.Proof.Vox
-- ==== Proof.StepRun.lean ====
/-
  What one marked cell makes of the bit map.
-/
module

public import proofs.«01_k».proof.Proof.Flat
public import proofs.«01_k».proof.Proof.Gen.KernelIdeal.Frame
public import Idealize.ShloMosaic.Lib.Tactic
public import Idealize.ShloMosaic.Lib.WordArith.Masks
public import Idealize.ShloMosaic.Lib.LaneScatter.Fold

@[expose] public section

noncomputable section

namespace Cert.Proof.Vox

open Cert.KernelIdeal Cert.KernelIdeal.Gen
open Idealize.ShloMosaic TcCoe LaneScatter Updates
open Idealize.SL
open Idealize.SL.BI (sProp)
open scoped Idealize.SL.BI
open Idealize.SL.BI.BIBase Idealize.SL.BI.Laws Idealize.SL.Sem Idealize.SL.ProofMode
open Idealize.SL.RA
open Idealize.ShloMosaic.Tactic

variable {F : FTy → Type} [FloatOps F]

local notation "𝕄" => MT nD τ sig Unit (Elt F) ℕ (UR sig nD τ) ℕ

/-- The weakest precondition of a program of the kernel's core. -/
abbrev wpk {α : Type} (c : Dev nD) (p : PG F α) (Q : α → sProp 𝕄) : sProp 𝕄 :=
  wp frame (wpE (defs₀ (F := F)) Variants.none (c : Thread nD τ) none) Set.univ p Q

/-- The bit map with the bit of cell `w` set. -/
def marked (g : ℕ → BitVec 32) (w : ℕ) : ℕ → BitVec 32 := fun q => if q = w / 32 then g q ||| BitVec.twoPow 32 (w % 32) else g q

/-- Place `q` of the first iota is `q`. -/
theorem isFlat_iota1 (hi) : IsFlat (R := 1) (iota .tc S1x128 32 [1] hi) (fun q => BitVec.ofNat 32 q) := by
  refine IsArr.congr (isArr_iota_lanes (R := 1) (C := 128) hi) fun a b ha hb => ?_
  rw [show a = 0 by omega, Nat.zero_mul, Nat.zero_add]

/-- The row of the bit map that a cell's bit lies in. -/
theorem off2_eq (w : BitVec 32) (hw : w.toNat ≤ 46656000) : k0_off2 w = ![w.toNat / 4096, 0] := by
  have h1 : (Scalar.shrsi w 5#32).toNat = w.toNat / 2 ^ 5 := toNat_shrsi w (by omega) 5 (by omega)
  have h2 : (Scalar.shrsi (Scalar.shrsi w 5#32) 7#32).toNat = (Scalar.shrsi w 5#32).toNat / 2 ^ 7 := toNat_shrsi _ (by omega) 7 (by omega)
  show ![(Scalar.shrsi (Scalar.shrsi w 5#32) 7#32).toNat, 0] = _
  rw [h2, h1, Nat.div_div_eq_div_mul]
  rfl

/-- That row is inside the bit map. -/
theorem chk1_of (w : BitVec 32) (hw : w.toNat ≤ 46656000) : k0_chk1 w := by
  unfold k0_chk1
  rw [off2_eq w hw]
  intro a
  match a with
  | ⟨0, _⟩ => show w.toNat / 4096 + 1 ≤ 11391; omega
  | ⟨1, _⟩ => show 0 + 128 ≤ 128; omega

/-- The lane of that row. -/
theorem lane_of_cell (w : BitVec 32) (hw : w.toNat ≤ 46656000) : (Scalar.andi (Scalar.shrsi w 5#32) 127#32).toNat = w.toNat / 32 % 128 := by
  rw [toNat_andi_127]
  exact congrArg (· % 128) (toNat_shrsi w (by omega) 5 (by omega))

/-- The bit of a cell. -/
theorem bit_of_cell (w : BitVec 32) : Scalar.shli 1#32 (Scalar.andi w 31#32) = BitVec.twoPow 32 (w.toNat % 32) := by
  have h := toNat_andi_31 w
  unfold Scalar.shli IntOp.shli
  rw [if_pos (by rw [h]; omega)]
  show 1#32 <<< (Scalar.andi w 31#32).toNat = _
  rw [h]; rfl

variable {arg8 : Memref sig .tc .vmem S11391x128 .i32}

/-- The row with the bit set, put back in the bit map. -/
theorem patch_marked (g : ℕ → BitVec 32) (w : ℕ) :
    patch (w / 4096) 1 (fun q => IntOp.ori (g (w / 4096 * 128 + q)) (if q = w / 32 % 128 then BitVec.twoPow 32 (w % 32) else 0#32)) g = marked g w := by
  funext q
  unfold patch marked
  by_cases h : w / 4096 * 128 ≤ q ∧ q < (w / 4096 + 1) * 128
  · rw [if_pos h]
    beta_reduce
    rw [show w / 4096 * 128 + (q - w / 4096 * 128) = q by omega]
    by_cases e : q = w / 32
    · rw [if_pos e, if_pos (by omega)]; rfl
    · rw [if_neg e, if_neg (by omega)]
      show g q ||| 0#32 = g q
      simp
  · rw [if_neg h, if_neg (by omega)]

/-- Marking one cell, then going on. -/
theorem bit_step {α : Type} (c : Dev nD) (v0 : IVec S1x128 32) (hv0 : IsFlat (R := 1) v0 (fun q => BitVec.ofNat 32 q)) (w : BitVec 32) (hw : w.toNat ≤ 46656000)
    (k : PG F α) (Q : α → sProp 𝕄) (Rf : sProp 𝕄) (g : ℕ → BitVec 32) (f : arg8.view.ty.Contents (Elt F))
    (hf : IsFlat (R := 11391) (β := BitVec 32) (arg8.view.read (Elt F) f) g)
    (hk : ∀ f', IsFlat (R := 11391) (β := BitVec 32) (arg8.view.read (Elt F) f') (marked g w.toNat) → iprop(Rf ∗ raw (c : Thread nD τ) arg8 f') ⊢ wpk c k Q) :
    iprop(Rf ∗ raw (c : Thread nD τ) arg8 f) ⊢ wpk c (bitStep arg8 v0 w k) Q := by
  have hc := chk1_of w hw
  unfold wpk bitStep
  iintro ⟨HR, H8⟩
  sl_exec (disch := (exact hc))
  have fin : IsFlat (R := 11391) (β := BitVec 32) (arg8.view.read (Elt F) (arg8.view.writes (Elt F) f [⟨Rect.unit (s := S11391x128) (k0_off2 w) S1x128.size (k0_off2_inb w hc), markRow (F := F) v0 (View.readAt (Elt F) arg8.view (Rect.unit (s := S11391x128) (k0_off2 w) S1x128.size (k0_off2_inb w hc)).toLoadRect f) w⟩])) (marked g w.toNat) := by
    rw [← patch_marked]
    refine isFlat_store hf (off2_eq w hw) _ ?_
    refine isFlat_cast ?_ _
    rw [← lane_of_cell w hw, ← bit_of_cell w]
    exact isFlat_map2 IntOp.ori (isFlat_load hf (off2_eq w hw) _)
      (isFlat_select hv0 (by omega) _ (isFlat_broadcast _) (isFlat_broadcast _))
  iapply (hk _ fin)
  isplitl [HR]
  · iexact HR
  · iexact H8

/-- Marking the listed lanes of a row, then going on. -/
theorem bit_run {α : Type} (c : Dev nD) (v0 : IVec S1x128 32) (hv0 : IsFlat (R := 1) v0 (fun q => BitVec.ofNat 32 q)) (X : IVec S1x128 32)
    (k : PG F α) (Q : α → sProp 𝕄) (Rf : sProp 𝕄) (ns : List (Fin 16)) (hX : ∀ n ∈ ns, (laneOf X n).toNat ≤ 46656000) (g : ℕ → BitVec 32) (f : arg8.view.ty.Contents (Elt F))
    (hf : IsFlat (R := 11391) (β := BitVec 32) (arg8.view.read (Elt F) f) g)
    (hk : ∀ f', IsFlat (R := 11391) (β := BitVec 32) (arg8.view.read (Elt F) f') (ns.foldl (fun g n => marked g (laneOf X n).toNat) g) →
      iprop(Rf ∗ raw (c : Thread nD τ) arg8 f') ⊢ wpk c k Q) :
    iprop(Rf ∗ raw (c : Thread nD τ) arg8 f) ⊢ wpk c (bitRun arg8 v0 X k ns) Q := by
  induction ns generalizing g f with
  | nil => exact hk f hf
  | cons n ns ih =>
    exact bit_step c v0 hv0 _ (hX n (by simp)) _ Q Rf g f hf
      (fun f' hf' => ih (fun m hm => hX m (by simp [hm])) _ f' hf' hk)

end Cert.Proof.Vox
-- ==== Proof.PlaceRun.lean ====
/-
  What one placed point makes of the three results' blocks.
-/
module

public import proofs.«01_k».proof.Proof.StepRun

@[expose] public section

noncomputable section

namespace Cert.Proof.Vox

open Cert.KernelIdeal Cert.KernelIdeal.Gen
open Idealize.ShloMosaic TcCoe LaneScatter Updates
open Idealize.SL
open Idealize.SL.BI (sProp)
open scoped Idealize.SL.BI
open Idealize.SL.BI.BIBase Idealize.SL.BI.Laws Idealize.SL.Sem Idealize.SL.ProofMode
open Idealize.SL.RA
open Idealize.ShloMosaic.Tactic

variable {F : FTy → Type} [FloatOps F]

local notation "𝕄" => MT nD τ sig Unit (Elt F) ℕ (UR sig nD τ) ℕ

/-! ## The contents -/

/-- The three results' blocks: the points' values, the voxels' coordinates, the voxels' counts. -/
structure PS (β : Type) where
  vox : ℕ → β
  crd : ℕ → BitVec 32
  cnt : ℕ → ℕ

/-- `n` places from place `o` on replaced by `a`. -/
def putFrom {β : Type} (n o : ℕ) (a g : ℕ → β) : ℕ → β := fun q => if o ≤ q ∧ q < o + n then a (q - o) else g q

/-- The three coordinates packed in a word. -/
def crdOf (p : BitVec 32) : ℕ → BitVec 32
  | 0 => Scalar.shrsi p 22#32
  | 1 => Scalar.andi (Scalar.shrsi p 11#32) 2047#32
  | _ => Scalar.andi p 2047#32

/-- A kept point of the voxel of rank `t` written. -/
def PS.put {β : Type} (s : PS β) (t : ℕ) (p : BitVec 32) (a : ℕ → β) : PS β :=
  ⟨putFrom 5 ((t * 10 + s.cnt t) * 5) a s.vox, putFrom 3 (t * 3) (crdOf p) s.crd, fun q => if q = t then s.cnt t + 1 else s.cnt q⟩

/-- A point of cell `w` placed, the cell's rank being `t`: kept if the cell is valid, its rank below the number of voxels and its voxel not full. -/
def PS.place {β : Type} (s : PS β) (w t : ℕ) (p : BitVec 32) (a : ℕ → β) : PS β :=
  if w < 46656000 ∧ t < 120000 ∧ s.cnt t < 10 then s.put t p a else s

/-- The five values of a point. -/
def five {β : Type} (a0 a1 a2 a3 a4 : β) : ℕ → β
  | 0 => a0
  | 1 => a1
  | 2 => a2
  | 3 => a3
  | _ => a4

/-! ## The rows written -/

/-- Places of two rows of 128 lanes, as the kernel numbers them. -/
theorem isFlat_place2 (hi0 hi1) : IsFlat (R := 2) (addi (muli (iota .tc S2x128 32 [0] hi0) (broadcast S2x128 128#32)) (iota .tc S2x128 32 [1] hi1)) (fun q => BitVec.ofNat 32 q) := by
  have h0 := isArr_iota_rows (R := 2) (C := 128) (κ := .tc) (w := 32) hi0
  have h1 := isArr_iota_lanes (R := 2) (C := 128) (κ := .tc) (w := 32) hi1
  intro ι
  show (iota .tc S2x128 32 [0] hi0 ι * 128#32 + iota .tc S2x128 32 [1] hi1 ι : BitVec 32) = _
  rw [h0 ι, h1 ι]
  simp only [BitVec.ofNat_add, BitVec.ofNat_mul]

/-- Five places chosen one by one. -/
theorem put5 {β : Type} (s x : ℕ) (a : ℕ → β) (z : β) (a0 a1 a2 a3 a4 : β) (ha : a = five a0 a1 a2 a3 a4) :
    (if x = s + 4 then a4 else if x = s + 3 then a3 else if x = s + 2 then a2 else if x = s + 1 then a1 else if x = s then a0 else z)
      = if s ≤ x ∧ x < s + 5 then a (x - s) else z := by
  subst ha
  by_cases h : s ≤ x ∧ x < s + 5
  · obtain ⟨i, rfl⟩ := Nat.exists_eq_add_of_le h.1
    have hi : i < 5 := by omega
    rw [if_pos h, Nat.add_sub_cancel_left]
    interval_cases i <;> simp [five]
  · rw [if_neg h, if_neg (by omega), if_neg (by omega), if_neg (by omega), if_neg (by omega), if_neg (by omega)]

/-- Three places chosen one by one. -/
theorem put3 (s x : ℕ) (p z : BitVec 32) :
    (if x = s + 2 then Scalar.andi p 2047#32 else if x = s + 1 then Scalar.andi (Scalar.shrsi p 11#32) 2047#32 else if x = s then Scalar.shrsi p 22#32 else z)
      = if s ≤ x ∧ x < s + 3 then crdOf p (x - s) else z := by
  by_cases h : s ≤ x ∧ x < s + 3
  · obtain ⟨i, rfl⟩ := Nat.exists_eq_add_of_le h.1
    have hi : i < 3 := by omega
    rw [if_pos h, Nat.add_sub_cancel_left]
    interval_cases i <;> simp [crdOf]
  · rw [if_neg h, if_neg (by omega), if_neg (by omega), if_neg (by omega)]

/-- A stretch of at most 128 places put into the two rows it starts in. -/
theorem patch_putFrom {β : Type} (n o : ℕ) (hn : n ≤ 128) (a g : ℕ → β) :
    patch (o / 128) 2 (fun x => if o % 128 ≤ x ∧ x < o % 128 + n then a (x - o % 128) else g (o / 128 * 128 + x)) g = putFrom n o a g := by
  funext q
  unfold patch putFrom
  by_cases h : o / 128 * 128 ≤ q ∧ q < (o / 128 + 2) * 128
  · rw [if_pos h]
    beta_reduce
    by_cases e : o ≤ q ∧ q < o + n
    · rw [if_pos e, if_pos (by omega)]
      congr 1; omega
    · rw [if_neg e, if_neg (by omega)]
      congr 1; omega
  · rw [if_neg h, if_neg (by omega)]

/-- Small sums of a word and a constant. -/
theorem toNat_add_const (q : BitVec 32) (n : ℕ) (hq : q.toNat < 128) (hn : n < 128) : (Scalar.addi q (BitVec.ofNat 32 n)).toNat = q.toNat + n := by
  have e : (BitVec.ofNat 32 n).toNat = n := by rw [BitVec.toNat_ofNat]; exact Nat.mod_eq_of_lt (by omega)
  rw [toNat_addi _ _ (by rw [e]; omega), e]

/-- The two rows of the points' block. -/
theorem isFlat_featRows (v5 : IVec S2x128 32) (hv5 : IsFlat (R := 2) v5 (fun q => BitVec.ofNat 32 q)) (x : Vec F S2x128 .f32) (g : ℕ → F .f32) (hx : IsFlat (R := 2) x g)
    (q : BitVec 32) (hq : q.toNat < 128) (a0 a1 a2 a3 a4 : F .f32) :
    IsFlat (R := 2) (featRows v5 x q a0 a1 a2 a3 a4) (fun x => if q.toNat ≤ x ∧ x < q.toNat + 5 then five a0 a1 a2 a3 a4 (x - q.toNat) else g x) := by
  have h := isFlat_select hv5 (by omega) (Scalar.addi q 4#32) (isFlat_broadcast a4) (isFlat_select hv5 (by omega) (Scalar.addi q 3#32) (isFlat_broadcast a3)
    (isFlat_select hv5 (by omega) (Scalar.addi q 2#32) (isFlat_broadcast a2) (isFlat_select hv5 (by omega) (Scalar.addi q 1#32) (isFlat_broadcast a1)
    (isFlat_select hv5 (by omega) q (isFlat_broadcast a0) (isFlat_cast hx shapeCasts_S2x128_S2x128)))))
  refine IsFlat.congr h fun x _ => ?_
  rw [toNat_add_const q 4 hq (by omega), toNat_add_const q 3 hq (by omega), toNat_add_const q 2 hq (by omega), toNat_add_const q 1 hq (by omega)]
  exact put5 q.toNat x _ (g x) a0 a1 a2 a3 a4 rfl

/-- The two rows of the coordinates' block. -/
theorem isFlat_coordRows (v5 : IVec S2x128 32) (hv5 : IsFlat (R := 2) v5 (fun q => BitVec.ofNat 32 q)) (x : Vec F S2x128 .i32) (g : ℕ → BitVec 32)
    (hx : IsFlat (R := 2) (β := BitVec 32) x g) (q : BitVec 32) (hq : q.toNat < 128) (p : BitVec 32) :
    IsFlat (R := 2) (coordRows (F := F) v5 x q p) (fun x => if q.toNat ≤ x ∧ x < q.toNat + 3 then crdOf p (x - q.toNat) else g x) := by
  have h := isFlat_select hv5 (by omega) (Scalar.addi q 2#32) (isFlat_broadcast (Scalar.andi p 2047#32))
    (isFlat_select hv5 (by omega) (Scalar.addi q 1#32) (isFlat_broadcast (Scalar.andi (Scalar.shrsi p 11#32) 2047#32))
    (isFlat_select hv5 (by omega) q (isFlat_broadcast (Scalar.shrsi p 22#32)) (isFlat_cast hx shapeCasts_S2x128_S2x128)))
  refine IsFlat.congr h fun x _ => ?_
  rw [toNat_add_const q 2 hq (by omega), toNat_add_const q 1 hq (by omega)]
  exact put3 q.toNat x p (g x)

/-- The row of the counts. -/
theorem isFlat_countRow (v0 : IVec S1x128 32) (hv0 : IsFlat (R := 1) v0 (fun q => BitVec.ofNat 32 q)) (x : Vec F S1x128 .i32) (g : ℕ → BitVec 32)
    (hx : IsFlat (R := 1) (β := BitVec 32) x g) (l n : BitVec 32) :
    IsFlat (R := 1) (countRow (F := F) v0 x l n) (fun x => if x = l.toNat then n else g x) :=
  isFlat_select hv0 (by omega) l (isFlat_broadcast n) (isFlat_cast hx shapeCasts_S1x128_S1x128)

/-! ## Conditions and offsets -/

/-- The row of the bit map a cell's rank is read in. -/
theorem off20_eq (w : BitVec 32) (hw : w.toNat ≤ 46656000) : k0_off20 w = ![w.toNat / 4096, 0] := off2_eq w hw

theorem cond1_iff (w : BitVec 32) (hw : w.toNat ≤ 46656000) : k0_cond1 w = 1#1 ↔ w.toNat < 46656000 := by
  show Scalar.cmpi .ne (Scalar.extui (Scalar.cmpi .slt w 46656000#32)) 0#32 = 1#1 ↔ _
  rw [ne_extui, slt_iff _ _ (by omega) (by decide)]
  rfl

theorem chk17_of (w : BitVec 32) (hw : w.toNat ≤ 46656000) : k0_chk17 w := fun _ => chk1_of w hw

theorem cond2_iff (w g r : BitVec 32) (t : ℕ) (ht : t < 2 ^ 31) (h : Scalar.addi r (popW (lowBits w g)) = BitVec.ofNat 32 t) : k0_cond2 w g r = 1#1 ↔ t < 120000 := by
  show Scalar.cmpi .ne (Scalar.extui (Scalar.cmpi .slt (Scalar.addi r (popW (lowBits w g))) 120000#32)) 0#32 = 1#1 ↔ _
  have e : (BitVec.ofNat 32 t).toNat = t := by rw [BitVec.toNat_ofNat]; exact Nat.mod_eq_of_lt (by omega)
  rw [h, ne_extui, slt_iff _ _ (by rw [e]; exact ht) (by decide), e]
  rfl

theorem cond3_iff (n : ℕ) (hn : n < 2 ^ 31) : k0_cond3 (BitVec.ofNat 32 n) = 1#1 ↔ n < 10 := by
  show Scalar.cmpi .ne (Scalar.extui (Scalar.cmpi .slt (BitVec.ofNat 32 n) 10#32)) 0#32 = 1#1 ↔ _
  have e : (BitVec.ofNat 32 n).toNat = n := by rw [BitVec.toNat_ofNat]; exact Nat.mod_eq_of_lt (by omega)
  rw [ne_extui, slt_iff _ _ (by rw [e]; exact hn) (by decide), e]
  rfl

theorem toNat_ofNat_lt (n : ℕ) (hn : n < 2 ^ 32) : (BitVec.ofNat 32 n).toNat = n := by rw [BitVec.toNat_ofNat]; exact Nat.mod_eq_of_lt hn

theorem mul_ofNat (a b : ℕ) : Scalar.muli (BitVec.ofNat 32 a) (BitVec.ofNat 32 b) = BitVec.ofNat 32 (a * b) := by
  show BitVec.ofNat 32 a * BitVec.ofNat 32 b = _
  rw [BitVec.ofNat_mul]
theorem add_ofNat (a b : ℕ) : Scalar.addi (BitVec.ofNat 32 a) (BitVec.ofNat 32 b) = BitVec.ofNat 32 (a + b) := by
  show BitVec.ofNat 32 a + BitVec.ofNat 32 b = _
  rw [BitVec.ofNat_add]

theorem shr7_ofNat (a : ℕ) (ha : a < 2 ^ 31) : (Scalar.shrsi (BitVec.ofNat 32 a) 7#32).toNat = a / 128 := by
  have := toNat_shrsi (BitVec.ofNat 32 a) (by rw [toNat_ofNat_lt _ (by omega)]; exact ha) 7 (by omega)
  rw [toNat_ofNat_lt _ (by omega)] at this
  exact this

theorem and127_ofNat (a : ℕ) (ha : a < 2 ^ 31) : (Scalar.andi (BitVec.ofNat 32 a) 127#32).toNat = a % 128 := by
  rw [toNat_andi_127, toNat_ofNat_lt _ (by omega)]

theorem off21_eq (w g r : BitVec 32) (t : ℕ) (ht : t < 120000) (h : Scalar.addi r (popW (lowBits w g)) = BitVec.ofNat 32 t) : k0_off21 w g r = ![t / 128, 0] := by
  show ![(Scalar.shrsi (Scalar.addi r (popW (lowBits w g))) 7#32).toNat, 0] = _
  rw [h, shr7_ofNat t (by omega)]

theorem off24_eq (w g r : BitVec 32) (t : ℕ) (ht : t < 120000) (h : Scalar.addi r (popW (lowBits w g)) = BitVec.ofNat 32 t) : k0_off24 w g r = ![t / 128, 0] :=
  off21_eq w g r t ht h

theorem off23_eq (w g r : BitVec 32) (t : ℕ) (ht : t < 120000) (h : Scalar.addi r (popW (lowBits w g)) = BitVec.ofNat 32 t) : k0_off23 w g r = ![t * 3 / 128, 0] := by
  show ![(Scalar.shrsi (Scalar.muli (Scalar.addi r (popW (lowBits w g))) 3#32) 7#32).toNat, 0] = _
  rw [h, mul_ofNat, shr7_ofNat _ (by omega)]

theorem off22_eq (w g r : BitVec 32) (t n : ℕ) (ht : t < 120000) (hn : n < 10) (h : Scalar.addi r (popW (lowBits w g)) = BitVec.ofNat 32 t) :
    k0_off22 w g r (BitVec.ofNat 32 n) = ![(t * 10 + n) * 5 / 128, 0] := by
  show ![(Scalar.shrsi (Scalar.muli (Scalar.addi (Scalar.muli (Scalar.addi r (popW (lowBits w g))) 10#32) (BitVec.ofNat 32 n)) 5#32) 7#32).toNat, 0] = _
  rw [h, mul_ofNat, add_ofNat, mul_ofNat, shr7_ofNat _ (by omega)]

/-- `h` rows from row `r` on lie inside a block of `R` rows. -/
theorem rows_inb {R h r : ℕ} {off : Fin 2 → ℕ} (ho : off = ![r, 0]) (hr : r + h ≤ R) : ∀ a, off a + (Blk h 128).size a ≤ (Blk R 128).size a := by
  subst ho
  intro a
  match a with
  | ⟨0, _⟩ => exact hr
  | ⟨1, _⟩ => exact Nat.le_of_eq (Nat.zero_add _)

theorem chk18_of (w g r : BitVec 32) (t : ℕ) (ht : t < 2 ^ 31) (h : Scalar.addi r (popW (lowBits w g)) = BitVec.ofNat 32 t) : k0_chk18 w g r := fun h1 h2 => by
  have h2' := (cond2_iff w g r t ht h).1 h2
  exact rows_inb (R := 939) (h := 1) (off21_eq w g r t h2' h) (by omega)

theorem chk19_of (w g r : BitVec 32) (t n : ℕ) (ht : t < 2 ^ 31) (hn : n < 2 ^ 31) (h : Scalar.addi r (popW (lowBits w g)) = BitVec.ofNat 32 t) :
    k0_chk19 w g r (BitVec.ofNat 32 n) := by
  refine ⟨fun h1 h2 h3 => ?_, fun h1 h2 h3 => ?_, fun h1 h2 h3 => ?_⟩
  all_goals have h2' := (cond2_iff w g r t ht h).1 h2
  all_goals have h3' := (cond3_iff n hn).1 h3
  · exact rows_inb (R := 46876) (h := 2) (off22_eq w g r t n h2' h3' h) (by omega)
  · exact rows_inb (R := 2814) (h := 2) (off23_eq w g r t h2' h) (by omega)
  · exact rows_inb (R := 939) (h := 1) (off24_eq w g r t h2' h) (by omega)

/-! ## The step -/

variable {arg5 : Memref sig .tc .vmem S46876x128 .f32} {arg6 : Memref sig .tc .vmem S2814x128 .i32} {arg7 : Memref sig .tc .vmem S939x128 .i32}
  {arg8 : Memref sig .tc .vmem S11391x128 .i32} {arg9 : Memref sig .tc .vmem S11391x128 .f32}

/-- The three blocks hold `s`, no count above ten. -/
structure Held (s : PS (F .f32)) (f5 : arg5.view.ty.Contents (Elt F)) (f6 : arg6.view.ty.Contents (Elt F)) (f7 : arg7.view.ty.Contents (Elt F)) : Prop where
  vox : IsFlat (R := 46876) (arg5.view.read (Elt F) f5) s.vox
  crd : IsFlat (R := 2814) (β := BitVec 32) (arg6.view.read (Elt F) f6) s.crd
  cnt : IsFlat (R := 939) (β := BitVec 32) (arg7.view.read (Elt F) f7) (fun q => BitVec.ofNat 32 (s.cnt q))
  le : ∀ q, s.cnt q ≤ 10

/-- The blocks the writing loop changes, and the two it reads ranks in. -/
abbrev five5 (c : Dev nD) (f8 : arg8.view.ty.Contents (Elt F)) (f9 : arg9.view.ty.Contents (Elt F)) (f5 : arg5.view.ty.Contents (Elt F)) (f6 : arg6.view.ty.Contents (Elt F))
    (f7 : arg7.view.ty.Contents (Elt F)) : sProp 𝕄 :=
  iprop(raw (c : Thread nD τ) arg5 f5 ∗ raw (c : Thread nD τ) arg6 f6 ∗ raw (c : Thread nD τ) arg7 f7 ∗ raw (c : Thread nD τ) arg8 f8 ∗ raw (c : Thread nD τ) arg9 f9)

/-- Loading rows of a block whose places are known, then going on with any row that holds them. -/
theorem load_row {α : Type} {e : EltTy} {R h r : ℕ} (c : Dev nD) (M : Memref sig .tc .vmem (Blk R 128) e) (f : M.view.ty.Contents (Elt F)) (g : ℕ → Elt F e)
    (hf : IsFlat (R := R) (M.view.read (Elt F) f) g) {off : Fin 2 → ℕ} (ho : off = ![r, 0]) (inb : ∀ a, off a + (Blk h 128).size a ≤ (Blk R 128).size a) (hl)
    (A P : sProp 𝕄) (hA : A ⊢ iprop(P ∗ raw (c : Thread nD τ) M f)) (hA' : iprop(P ∗ raw (c : Thread nD τ) M f) ⊢ A)
    (K : Vec F (Blk h 128) e → PG F α) (Q : α → sProp 𝕄) (hk : ∀ y : Vec F (Blk h 128) e, IsFlat (R := h) y (fun q => g (r * 128 + q)) → A ⊢ wpk c (K y) Q) :
    A ⊢ wpk c (Prog.lift (.load M (Rect.unit (s := Blk R 128) off (Blk h 128).size inb).toLoadRect hl) >>= K) Q := by
  have T := Entails.trans hA' (hk _ (isFlat_load hf ho inb))
  refine Entails.trans hA ?_
  unfold wpk at T ⊢
  iintro ⟨HP, H⟩
  sl_exec
  iapply T
  iframe HP H

/-- Storing rows of a block, then going on with any contents that hold them. -/
theorem store_row {α : Type} {e : EltTy} {R h r : ℕ} (c : Dev nD) (M : Memref sig .tc .vmem (Blk R 128) e) (f : M.view.ty.Contents (Elt F)) (g : ℕ → Elt F e)
    (hf : IsFlat (R := R) (M.view.read (Elt F) f) g) {off : Fin 2 → ℕ} (ho : off = ![r, 0]) (inb : ∀ a, off a + (Blk h 128).size a ≤ (Blk R 128).size a)
    (x : Vec F (Blk h 128) e) (W : ℕ → Elt F e) (hx : IsFlat (R := h) x W) (hst) (hb)
    (A P : sProp 𝕄) (hA : A ⊢ iprop(P ∗ raw (c : Thread nD τ) M f))
    (K : PUnit → PG F α) (Q : α → sProp 𝕄)
    (hk : ∀ f' : M.view.ty.Contents (Elt F), IsFlat (R := R) (M.view.read (Elt F) f') (patch r h W g) → iprop(P ∗ raw (c : Thread nD τ) M f') ⊢ wpk c (K ⟨⟩) Q) :
    A ⊢ wpk c (Prog.lift (.store M (Rect.unit (s := Blk R 128) off (Blk h 128).size inb) x Finset.univ hst hb) >>= K) Q := by
  have T := hk _ (isFlat_store hf ho inb hx)
  refine Entails.trans hA ?_
  unfold wpk at T ⊢
  iintro ⟨HP, H⟩
  sl_exec
  iapply T
  iframe HP H

/-- An assumption that holds, then going on. -/
theorem assume_run {α : Type} {p : Prop} [d : Decidable p] (c : Dev nD) (hp : p) (A : sProp 𝕄) (K : p → PG F α) (Q : α → sProp 𝕄) (h : A ⊢ wpk c (K hp) Q) :
    A ⊢ wpk c (do
      have hw : p := (← Prog.lift (TpuEff.assume p d)).down
      K hw) Q := by
  unfold wpk at h ⊢
  iintro H
  sl_exec (disch := (exact hp))
  iapply h
  iexact H

section

variable {α : Type} (c : Dev nD) (v0 : IVec S1x128 32) (hv0 : IsFlat (R := 1) v0 (fun q => BitVec.ofNat 32 q))
  (v5 : IVec S2x128 32) (hv5 : IsFlat (R := 2) v5 (fun q => BitVec.ofNat 32 q)) (a0 a1 a2 a3 a4 : F .f32) (p w g r : BitVec 32)
  (k : PG F α) (Q : α → sProp (MT nD τ sig Unit (Elt F) ℕ (UR sig nD τ) ℕ)) (Rf : sProp (MT nD τ sig Unit (Elt F) ℕ (UR sig nD τ) ℕ)) (s : PS (F .f32)) (t : ℕ) (hw : w.toNat ≤ 46656000) (ht : t < 2 ^ 31)
  (f8 : arg8.view.ty.Contents (Elt F)) (f9 : arg9.view.ty.Contents (Elt F)) (f5 : arg5.view.ty.Contents (Elt F)) (f6 : arg6.view.ty.Contents (Elt F))
  (f7 : arg7.view.ty.Contents (Elt F)) (hs : Held s f5 f6 f7)

include hv0 hv5 ht hs in
/-- Writing a kept point, then going on. -/
theorem put_point (htr : Scalar.addi r (popW (lowBits w g)) = BitVec.ofNat 32 t) (ht' : t < 120000) (hn' : s.cnt t < 10) (y : Vec F S1x128 .i32)
    (hy : IsFlat (R := 1) (β := BitVec 32) y (fun q => BitVec.ofNat 32 (s.cnt (t / 128 * 128 + q))))
    (h1 : k0_cond1 w = 1#1) (h2 : k0_cond2 w g r = 1#1) (hw19 : k0_chk19 w g r (BitVec.ofNat 32 (s.cnt t))) (h3 : k0_cond3 (BitVec.ofNat 32 (s.cnt t)) = 1#1)
    (hk : ∀ (f5 : arg5.view.ty.Contents (Elt F)) (f6 : arg6.view.ty.Contents (Elt F)) (f7 : arg7.view.ty.Contents (Elt F)), Held (s.put t p (five a0 a1 a2 a3 a4)) f5 f6 f7 → iprop(Rf ∗ five5 c f8 f9 f5 f6 f7) ⊢ wpk c k Q) :
    iprop(Rf ∗ five5 (arg5 := arg5) (arg6 := arg6) (arg7 := arg7) (arg8 := arg8) (arg9 := arg9) c f8 f9 f5 f6 f7)
      ⊢ wpk c (putPoint arg5 arg6 arg7 v0 v5 a0 a1 a2 a3 a4 p w g r (BitVec.ofNat 32 (s.cnt t)) y h1 h2 hw19 h3 k) Q := by
  unfold putPoint
  refine load_row c arg5 f5 _ hs.vox (off22_eq w g r t _ ht' hn' htr) _ _ _
    iprop(Rf ∗ raw (c : Thread nD τ) arg6 f6 ∗ raw (c : Thread nD τ) arg7 f7 ∗ raw (c : Thread nD τ) arg8 f8 ∗ raw (c : Thread nD τ) arg9 f9) ?_ ?_ _ Q (fun x5 hx5 => ?_)
  · iintro ⟨HR, H5, H6, H7, H8, H9⟩
    iframe HR H5 H6 H7 H8 H9
  · iintro ⟨⟨HR, H6, H7, H8, H9⟩, H5⟩
    iframe HR H5 H6 H7 H8 H9
  refine load_row c arg5 f5 _ hs.vox (off22_eq w g r t _ ht' hn' htr) _ _ _
    iprop(Rf ∗ raw (c : Thread nD τ) arg6 f6 ∗ raw (c : Thread nD τ) arg7 f7 ∗ raw (c : Thread nD τ) arg8 f8 ∗ raw (c : Thread nD τ) arg9 f9) ?_ ?_ _ Q (fun y5 _ => ?_)
  · iintro ⟨HR, H5, H6, H7, H8, H9⟩
    iframe HR H5 H6 H7 H8 H9
  · iintro ⟨⟨HR, H6, H7, H8, H9⟩, H5⟩
    iframe HR H5 H6 H7 H8 H9
  have e5 : (Scalar.andi (Scalar.muli (Scalar.addi (Scalar.muli (Scalar.addi r (popW (lowBits w g))) 10#32) (BitVec.ofNat 32 (s.cnt t))) 5#32) 127#32).toNat = (t * 10 + s.cnt t) * 5 % 128 := by
    rw [htr, mul_ofNat, add_ofNat, mul_ofNat, and127_ofNat _ (by omega)]
  refine store_row c arg5 f5 _ hs.vox (off22_eq w g r t _ ht' hn' htr) _ _ _ (isFlat_featRows v5 hv5 _ _ hx5 _ (by rw [e5]; omega) a0 a1 a2 a3 a4) _ _ _
    iprop(Rf ∗ raw (c : Thread nD τ) arg6 f6 ∗ raw (c : Thread nD τ) arg7 f7 ∗ raw (c : Thread nD τ) arg8 f8 ∗ raw (c : Thread nD τ) arg9 f9) ?_ _ Q (fun f5' hf5 => ?_)
  · iintro ⟨HR, H5, H6, H7, H8, H9⟩
    iframe HR H5 H6 H7 H8 H9
  rw [e5, patch_putFrom _ _ (by omega)] at hf5
  refine load_row c arg6 f6 _ hs.crd (off23_eq w g r t ht' htr) _ _ _
    iprop(Rf ∗ raw (c : Thread nD τ) arg5 f5' ∗ raw (c : Thread nD τ) arg7 f7 ∗ raw (c : Thread nD τ) arg8 f8 ∗ raw (c : Thread nD τ) arg9 f9) ?_ ?_ _ Q (fun x6 hx6 => ?_)
  · iintro ⟨⟨HR, H6, H7, H8, H9⟩, H5⟩
    iframe HR H5 H6 H7 H8 H9
  · iintro ⟨⟨HR, H5, H7, H8, H9⟩, H6⟩
    iframe HR H5 H6 H7 H8 H9
  refine load_row c arg6 f6 _ hs.crd (off23_eq w g r t ht' htr) _ _ _
    iprop(Rf ∗ raw (c : Thread nD τ) arg5 f5' ∗ raw (c : Thread nD τ) arg7 f7 ∗ raw (c : Thread nD τ) arg8 f8 ∗ raw (c : Thread nD τ) arg9 f9) ?_ ?_ _ Q (fun y6 _ => ?_)
  · iintro ⟨⟨HR, H6, H7, H8, H9⟩, H5⟩
    iframe HR H5 H6 H7 H8 H9
  · iintro ⟨⟨HR, H5, H7, H8, H9⟩, H6⟩
    iframe HR H5 H6 H7 H8 H9
  have e6 : (Scalar.andi (Scalar.muli (Scalar.addi r (popW (lowBits w g))) 3#32) 127#32).toNat = t * 3 % 128 := by
    rw [htr, mul_ofNat, and127_ofNat _ (by omega)]
  refine store_row c arg6 f6 _ hs.crd (off23_eq w g r t ht' htr) _ _ _ (isFlat_coordRows v5 hv5 _ _ hx6 _ (by rw [e6]; omega) p) _ _ _
    iprop(Rf ∗ raw (c : Thread nD τ) arg5 f5' ∗ raw (c : Thread nD τ) arg7 f7 ∗ raw (c : Thread nD τ) arg8 f8 ∗ raw (c : Thread nD τ) arg9 f9) ?_ _ Q (fun f6' hf6 => ?_)
  · iintro ⟨⟨HR, H6, H7, H8, H9⟩, H5⟩
    iframe HR H5 H6 H7 H8 H9
  rw [e6, patch_putFrom _ _ (by omega)] at hf6
  refine load_row c arg7 f7 _ hs.cnt (off24_eq w g r t ht' htr) _ _ _
    iprop(Rf ∗ raw (c : Thread nD τ) arg5 f5' ∗ raw (c : Thread nD τ) arg6 f6' ∗ raw (c : Thread nD τ) arg8 f8 ∗ raw (c : Thread nD τ) arg9 f9) ?_ ?_ _ Q (fun y7 _ => ?_)
  · iintro ⟨⟨HR, H5, H7, H8, H9⟩, H6⟩
    iframe HR H5 H6 H7 H8 H9
  · iintro ⟨⟨HR, H5, H6, H8, H9⟩, H7⟩
    iframe HR H5 H6 H7 H8 H9
  have e7 : (Scalar.andi (Scalar.addi r (popW (lowBits w g))) 127#32).toNat = t % 128 := by rw [htr, and127_ofNat _ (by omega)]
  refine store_row c arg7 f7 _ hs.cnt (off24_eq w g r t ht' htr) _ _ _ (isFlat_countRow v0 hv0 y _ hy _ _) _ _ _
    iprop(Rf ∗ raw (c : Thread nD τ) arg5 f5' ∗ raw (c : Thread nD τ) arg6 f6' ∗ raw (c : Thread nD τ) arg8 f8 ∗ raw (c : Thread nD τ) arg9 f9) ?_ _ Q (fun f7' hf7 => ?_)
  · iintro ⟨⟨HR, H5, H7, H8, H9⟩, H6⟩
    iframe HR H5 H6 H7 H8 H9
  have T := hk f5' f6' f7' ⟨hf5, hf6, IsFlat.congr hf7 fun q _ => ?_, fun q => ?_⟩
  · refine Entails.trans ?_ T
    iintro ⟨⟨HR, H5, H6, H8, H9⟩, H7⟩
    iframe HR H5 H6 H7 H8 H9
  · rw [e7, add_ofNat]
    unfold patch PS.put
    by_cases h : t / 128 * 128 ≤ q ∧ q < (t / 128 + 1) * 128
    · rw [if_pos h]
      show (if q - t / 128 * 128 = t % 128 then BitVec.ofNat 32 (s.cnt t + 1) else BitVec.ofNat 32 (s.cnt (t / 128 * 128 + (q - t / 128 * 128)))) = BitVec.ofNat 32 (if q = t then s.cnt t + 1 else s.cnt q)
      by_cases hq : q = t
      · rw [if_pos (by omega), if_pos hq]
      · rw [if_neg (by omega), if_neg hq, show t / 128 * 128 + (q - t / 128 * 128) = q by omega]
    · rw [if_neg h]
      show BitVec.ofNat 32 (s.cnt q) = BitVec.ofNat 32 (if q = t then s.cnt t + 1 else s.cnt q)
      rw [if_neg (by omega)]
  · show (if q = t then s.cnt t + 1 else s.cnt q) ≤ 10
    split
    · omega
    · exact hs.le q

include hv0 hv5 ht hs in
/-- A valid point whose voxel's rank is below the number of voxels: its voxel's count is read, and it is written if there is room. -/
theorem room_step (htr : Scalar.addi r (popW (lowBits w g)) = BitVec.ofNat 32 t) (ht' : t < 120000)
    (h0 : k0_chk18 w g r) (h1 : k0_cond1 w = 1#1) (h2 : k0_cond2 w g r = 1#1)
    (hk : ∀ (f5 : arg5.view.ty.Contents (Elt F)) (f6 : arg6.view.ty.Contents (Elt F)) (f7 : arg7.view.ty.Contents (Elt F)), Held (if s.cnt t < 10 then s.put t p (five a0 a1 a2 a3 a4) else s) f5 f6 f7 → iprop(Rf ∗ five5 c f8 f9 f5 f6 f7) ⊢ wpk c k Q) :
    iprop(Rf ∗ five5 (arg5 := arg5) (arg6 := arg6) (arg7 := arg7) (arg8 := arg8) (arg9 := arg9) c f8 f9 f5 f6 f7)
      ⊢ wpk c (roomStep arg5 arg6 arg7 v0 v5 a0 a1 a2 a3 a4 p w g r h0 h1 h2 k) Q := by
  have hle := hs.le t
  unfold roomStep
  refine load_row c arg7 f7 _ hs.cnt (off21_eq w g r t ht' htr) _ _ _
    iprop(Rf ∗ raw (c : Thread nD τ) arg5 f5 ∗ raw (c : Thread nD τ) arg6 f6 ∗ raw (c : Thread nD τ) arg8 f8 ∗ raw (c : Thread nD τ) arg9 f9) ?_ ?_ _ Q (fun y hy => ?_)
  · iintro ⟨HR, H5, H6, H7, H8, H9⟩
    iframe HR H5 H6 H7 H8 H9
  · iintro ⟨⟨HR, H5, H6, H8, H9⟩, H7⟩
    iframe HR H5 H6 H7 H8 H9
  have hn : laneOf (rotTo (shapeCast S1x128 y shapeCasts_S1x128_S1x128) (Scalar.andi (Scalar.addi r (popW (lowBits w g))) 127#32)) 0 = BitVec.ofNat 32 (s.cnt t) := by
    have e : (Scalar.andi (Scalar.addi r (popW (lowBits w g))) 127#32).toNat = t % 128 := by rw [htr, and127_ofNat _ (by omega)]
    rw [laneOf_rot (isFlat_cast hy shapeCasts_S1x128_S1x128) _ 0 (by rw [e]; show t % 128 + 0 < 128; omega), e]
    show BitVec.ofNat 32 (s.cnt (t / 128 * 128 + (t % 128 + 0))) = _
    rw [show t / 128 * 128 + (t % 128 + 0) = t by omega]
  have hc := chk19_of w g r t (s.cnt t) ht (by omega) htr
  have T : ∀ n : BitVec 32, n = BitVec.ofNat 32 (s.cnt t) → iprop(Rf ∗ five5 (arg5 := arg5) (arg6 := arg6) (arg7 := arg7) (arg8 := arg8) (arg9 := arg9) c f8 f9 f5 f6 f7) ⊢ wpk c (do
      have hw : k0_chk19 w g r n := (← Prog.lift (TpuEff.assume (k0_chk19 w g r n) (k0_chk19.dec w g r n))).down
      if h3 : k0_cond3 n = 1#1 then putPoint arg5 arg6 arg7 v0 v5 a0 a1 a2 a3 a4 p w g r n y h1 h2 hw h3 k else k) Q := by
    intro n hn
    subst hn
    by_cases h3 : k0_cond3 (BitVec.ofNat 32 (s.cnt t)) = 1#1
    · have h10 := (cond3_iff _ (by omega)).1 h3
      rw [if_pos h10] at hk
      have T := put_point (arg5 := arg5) (arg6 := arg6) (arg7 := arg7) (arg8 := arg8) (arg9 := arg9) c v0 hv0 v5 hv5 a0 a1 a2 a3 a4 p w g r k Q Rf s t ht f8 f9 f5 f6 f7 hs htr ht' h10 y hy h1 h2
        hc h3 hk
      simp only [dif_pos h3]
      exact assume_run c hc _ (fun hw => putPoint arg5 arg6 arg7 v0 v5 a0 a1 a2 a3 a4 p w g r (BitVec.ofNat 32 (s.cnt t)) y h1 h2 hw h3 k) Q T
    · have h10 : ¬ s.cnt t < 10 := fun h => h3 ((cond3_iff _ (by omega)).2 h)
      rw [if_neg h10] at hk
      simp only [dif_neg h3]
      exact assume_run c hc _ (fun _ => k) Q (hk f5 f6 f7 hs)
  exact T _ hn

/-- What is left of placing a point once its rank is read. -/
def rankTail (arg5 : Memref sig .tc .vmem S46876x128 .f32) (arg6 : Memref sig .tc .vmem S2814x128 .i32) (arg7 : Memref sig .tc .vmem S939x128 .i32) {α : Type} (v0 : IVec S1x128 32) (v5 : IVec S2x128 32) (a0 a1 a2 a3 a4 : F .f32) (p w : BitVec 32) (h1 : k0_cond1 w = 1#1) (k : PG F α) (g r : BitVec 32) : PG F α := do
  have h0 : k0_chk18 w g r := (← Prog.lift (TpuEff.assume (k0_chk18 w g r) (k0_chk18.dec w g r))).down
  if h2 : k0_cond2 w g r = 1#1 then roomStep arg5 arg6 arg7 v0 v5 a0 a1 a2 a3 a4 p w g r h0 h1 h2 k else k

/-- Placing a point of a valid cell, spelled out. -/
theorem rankStep_pos (h1 : k0_cond1 w = 1#1) (hw17 : k0_chk17 w) :
    rankStep arg5 arg6 arg7 arg8 arg9 v0 v5 a0 a1 a2 a3 a4 p w hw17 k = (do
      let x8 : Vec F S1x128 .i32 ← Prog.lift (.load arg8 (Rect.unit (s := S11391x128) (k0_off20 w) S1x128.size (k0_off20_inb w hw17 h1)).toLoadRect (View.loadsAt_vmem h_S1x128))
      let x9 : Vec F S1x128 .f32 ← Prog.lift (.load arg9 (Rect.unit (s := S11391x128) (k0_off20 w) S1x128.size (k0_off20_inb w hw17 h1)).toLoadRect (View.loadsAt_vmem h_S1x128))
      rankTail arg5 arg6 arg7 v0 v5 a0 a1 a2 a3 a4 p w h1 k (laneOf (rotTo x8 (Scalar.andi (Scalar.shrsi w 5#32) 127#32)) 0) (Scalar.fptosi 32 (laneOf (rotTo x9 (Scalar.andi (Scalar.shrsi w 5#32) 127#32)) 0))) := by
  unfold rankStep
  rw [dif_pos h1]
  rfl

include hv0 hv5 ht hs in
/-- What is left of placing a point of a valid cell. -/
theorem rank_tail (hw' : w.toNat < 46656000) (h1 : k0_cond1 w = 1#1) (htr : Scalar.addi r (popW (lowBits w g)) = BitVec.ofNat 32 t)
    (hk : ∀ (f5 : arg5.view.ty.Contents (Elt F)) (f6 : arg6.view.ty.Contents (Elt F)) (f7 : arg7.view.ty.Contents (Elt F)), Held (s.place w.toNat t p (five a0 a1 a2 a3 a4)) f5 f6 f7 → iprop(Rf ∗ five5 c f8 f9 f5 f6 f7) ⊢ wpk c k Q) :
    iprop(Rf ∗ five5 (arg5 := arg5) (arg6 := arg6) (arg7 := arg7) (arg8 := arg8) (arg9 := arg9) c f8 f9 f5 f6 f7)
      ⊢ wpk c (rankTail arg5 arg6 arg7 v0 v5 a0 a1 a2 a3 a4 p w h1 k g r) Q := by
  unfold PS.place at hk
  have hc := chk18_of w _ _ _ ht htr
  by_cases h2 : t < 120000
  · have h2' := (cond2_iff w _ _ _ ht htr).2 h2
    unfold rankTail
    simp only [dif_pos h2']
    refine assume_run c hc _ (fun h0 => roomStep arg5 arg6 arg7 v0 v5 a0 a1 a2 a3 a4 p w g r h0 h1 h2' k) Q (room_step (arg5 := arg5) (arg6 := arg6) (arg7 := arg7) (arg8 := arg8) (arg9 := arg9) c v0 hv0 v5 hv5 a0 a1 a2 a3 a4 p w g r k Q Rf s (t) ht f8 f9 f5 f6 f7 hs htr h2 hc h1 h2'
      (fun f5 f6 f7 h => hk f5 f6 f7 (by
        by_cases h3 : s.cnt (t) < 10
        · rw [if_pos h3] at h; rw [if_pos ⟨hw', h2, h3⟩]; exact h
        · rw [if_neg h3] at h; rw [if_neg (fun hh => h3 hh.2.2)]; exact h)))
  · unfold rankTail
    simp only [dif_neg (fun h => h2 ((cond2_iff w g r _ ht htr).1 h))]
    exact assume_run c hc _ (fun _ => k) Q (hk f5 f6 f7 (by rw [if_neg (fun h => h2 h.2.1)]; exact hs))

/-- The rank the kernel computes for a cell: the bits before its word, and those below it in the word. -/
def RankOf (g8 : ℕ → BitVec 32) (g9 : ℕ → F .f32) (rk : ℕ → ℕ) : Prop :=
  ∀ w : BitVec 32, w.toNat < 46656000 →
    Scalar.addi (Scalar.fptosi 32 (g9 (w.toNat / 32))) (popW (lowBits w (g8 (w.toNat / 32)))) = BitVec.ofNat 32 (rk w.toNat) ∧ rk w.toNat < 2 ^ 31

variable (g8 : ℕ → BitVec 32) (g9 : ℕ → F .f32) (rk : ℕ → ℕ) (hrk : RankOf g8 g9 rk)
  (h8 : IsFlat (R := 11391) (β := BitVec 32) (arg8.view.read (Elt F) f8) g8) (h9 : IsFlat (R := 11391) (arg9.view.read (Elt F) f9) g9)

include hv0 hv5 hw hs hrk h8 h9 in
/-- Placing a point, then going on. -/
theorem rank_step (hw17 : k0_chk17 w)
    (hk : ∀ (f5 : arg5.view.ty.Contents (Elt F)) (f6 : arg6.view.ty.Contents (Elt F)) (f7 : arg7.view.ty.Contents (Elt F)), Held (s.place w.toNat (rk w.toNat) p (five a0 a1 a2 a3 a4)) f5 f6 f7 → iprop(Rf ∗ five5 c f8 f9 f5 f6 f7) ⊢ wpk c k Q) :
    iprop(Rf ∗ five5 (arg5 := arg5) (arg6 := arg6) (arg7 := arg7) (arg8 := arg8) (arg9 := arg9) c f8 f9 f5 f6 f7)
      ⊢ wpk c (rankStep arg5 arg6 arg7 arg8 arg9 v0 v5 a0 a1 a2 a3 a4 p w hw17 k) Q := by
  by_cases h1 : k0_cond1 w = 1#1
  swap
  · unfold rankStep
    rw [dif_neg h1]
    unfold PS.place at hk
    rw [if_neg (fun h => h1 ((cond1_iff w hw).2 h.1))] at hk
    exact hk f5 f6 f7 hs
  rw [rankStep_pos]
  have hw' := (cond1_iff w hw).1 h1
  obtain ⟨htr, htb⟩ := hrk w hw'
  have hl := lane_of_cell w hw
  refine load_row c arg8 f8 _ h8 (off20_eq w hw) _ _ _
    iprop(Rf ∗ raw (c : Thread nD τ) arg5 f5 ∗ raw (c : Thread nD τ) arg6 f6 ∗ raw (c : Thread nD τ) arg7 f7 ∗ raw (c : Thread nD τ) arg9 f9) ?_ ?_ _ Q (fun x8 hx8 => ?_)
  · iintro ⟨HR, H5, H6, H7, H8, H9⟩
    iframe HR H5 H6 H7 H8 H9
  · iintro ⟨⟨HR, H5, H6, H7, H9⟩, H8⟩
    iframe HR H5 H6 H7 H8 H9
  refine load_row c arg9 f9 _ h9 (off20_eq w hw) _ _ _
    iprop(Rf ∗ raw (c : Thread nD τ) arg5 f5 ∗ raw (c : Thread nD τ) arg6 f6 ∗ raw (c : Thread nD τ) arg7 f7 ∗ raw (c : Thread nD τ) arg8 f8) ?_ ?_ _ Q (fun x9 hx9 => ?_)
  · iintro ⟨HR, H5, H6, H7, H8, H9⟩
    iframe HR H5 H6 H7 H8 H9
  · iintro ⟨⟨HR, H5, H6, H7, H8⟩, H9⟩
    iframe HR H5 H6 H7 H8 H9
  have e8 : laneOf (rotTo x8 (Scalar.andi (Scalar.shrsi w 5#32) 127#32)) 0 = g8 (w.toNat / 32) := by
    refine (laneOf_rot (β := BitVec 32) hx8 _ 0 (by rw [hl]; show _ + 0 < 128; omega)).trans ?_
    rw [hl]
    show g8 (w.toNat / 4096 * 128 + (w.toNat / 32 % 128 + 0)) = _
    congr 1; omega
  have e9 : laneOf (rotTo x9 (Scalar.andi (Scalar.shrsi w 5#32) 127#32)) 0 = g9 (w.toNat / 32) := by
    refine (laneOf_rot hx9 _ 0 (by rw [hl]; show _ + 0 < 128; omega)).trans ?_
    rw [hl]
    show g9 (w.toNat / 4096 * 128 + (w.toNat / 32 % 128 + 0)) = _
    congr 1; omega
  rw [← e8, ← e9] at htr
  exact rank_tail c v0 hv0 v5 hv5 a0 a1 a2 a3 a4 p w _ _ k Q Rf s _ htb f8 f9 f5 f6 f7 hs hw' h1 htr hk

include hv0 hv5 hw hs hrk h8 h9 in
/-- The same after the assumption that the cell's row is inside the bit map. -/
theorem place_step
    (hk : ∀ (f5 : arg5.view.ty.Contents (Elt F)) (f6 : arg6.view.ty.Contents (Elt F)) (f7 : arg7.view.ty.Contents (Elt F)), Held (s.place w.toNat (rk w.toNat) p (five a0 a1 a2 a3 a4)) f5 f6 f7 → iprop(Rf ∗ five5 c f8 f9 f5 f6 f7) ⊢ wpk c k Q) :
    iprop(Rf ∗ five5 (arg5 := arg5) (arg6 := arg6) (arg7 := arg7) (arg8 := arg8) (arg9 := arg9) c f8 f9 f5 f6 f7)
      ⊢ wpk c (placeStep arg5 arg6 arg7 arg8 arg9 v0 v5 a0 a1 a2 a3 a4 p w k) Q := by
  have hc := chk17_of w hw
  have T := rank_step (arg5 := arg5) (arg6 := arg6) (arg7 := arg7) (arg8 := arg8) (arg9 := arg9) c v0 hv0 v5 hv5 a0 a1 a2 a3 a4 p w k Q Rf s hw f8 f9 f5 f6 f7 hs g8 g9 rk hrk h8 h9 hc hk
  unfold placeStep
  exact assume_run c hc _ (fun hw17 => rankStep arg5 arg6 arg7 arg8 arg9 v0 v5 a0 a1 a2 a3 a4 p w hw17 k) Q T

end

section

variable {α : Type} (c : Dev nD) (v0 : IVec S1x128 32) (hv0 : IsFlat (R := 1) v0 (fun q => BitVec.ofNat 32 q))
  (v5 : IVec S2x128 32) (hv5 : IsFlat (R := 2) v5 (fun q => BitVec.ofNat 32 q)) (W P : IVec S1x128 32) (X0 X1 X2 X3 X4 : FVec F S1x128 .f32)
  (k : PG F α) (Q : α → sProp (MT nD τ sig Unit (Elt F) ℕ (UR sig nD τ) ℕ)) (Rf : sProp (MT nD τ sig Unit (Elt F) ℕ (UR sig nD τ) ℕ)) (f8 : arg8.view.ty.Contents (Elt F)) (f9 : arg9.view.ty.Contents (Elt F))
  (g8 : ℕ → BitVec 32) (g9 : ℕ → F .f32) (rk : ℕ → ℕ) (hrk : RankOf g8 g9 rk)
  (h8 : IsFlat (R := 11391) (β := BitVec 32) (arg8.view.read (Elt F) f8) g8) (h9 : IsFlat (R := 11391) (arg9.view.read (Elt F) f9) g9)

/-- What placing lane `n` of the rows makes of the blocks. -/
abbrev placeLane {β : Type} (W P : IVec S1x128 32) (X0 X1 X2 X3 X4 : S1x128.Idx → β) (rk : ℕ → ℕ) (s : PS β) (n : Fin 16) : PS β :=
  s.place (laneOf W n).toNat (rk (laneOf W n).toNat) (laneOf P n) (five (laneOf X0 n) (laneOf X1 n) (laneOf X2 n) (laneOf X3 n) (laneOf X4 n))

include hv0 hv5 hrk h8 h9 in
/-- Placing the points in the listed lanes, then going on. -/
theorem place_run (ns : List (Fin 16)) (hW : ∀ n ∈ ns, (laneOf W n).toNat ≤ 46656000) (s : PS (F .f32))
    (f5 : arg5.view.ty.Contents (Elt F)) (f6 : arg6.view.ty.Contents (Elt F)) (f7 : arg7.view.ty.Contents (Elt F)) (hs : Held s f5 f6 f7)
    (hk : ∀ (f5 : arg5.view.ty.Contents (Elt F)) (f6 : arg6.view.ty.Contents (Elt F)) (f7 : arg7.view.ty.Contents (Elt F)), Held (ns.foldl (placeLane W P X0 X1 X2 X3 X4 rk) s) f5 f6 f7 → iprop(Rf ∗ five5 c f8 f9 f5 f6 f7) ⊢ wpk c k Q) :
    iprop(Rf ∗ five5 (arg5 := arg5) (arg6 := arg6) (arg7 := arg7) (arg8 := arg8) (arg9 := arg9) c f8 f9 f5 f6 f7)
      ⊢ wpk c (placeRun arg5 arg6 arg7 arg8 arg9 v0 v5 W P X0 X1 X2 X3 X4 k ns) Q := by
  induction ns generalizing s f5 f6 f7 with
  | nil => exact hk f5 f6 f7 hs
  | cons n ns ih =>
    exact place_step c v0 hv0 v5 hv5 _ _ _ _ _ _ _ _ Q Rf s (hW n (by simp)) f8 f9 f5 f6 f7 hs g8 g9 rk hrk h8 h9
      (fun f5 f6 f7 h => ih (fun m hm => hW m (by simp [hm])) _ f5 f6 f7 h hk)

end

end Cert.Proof.Vox

end
-- ==== Proof.Printed.lean ====
/-
  The printed loop bodies are the chains of `Steps`.
-/
module

public import proofs.«01_k».proof.Proof.Steps

@[expose] public section

set_option maxRecDepth 65536

noncomputable section

namespace Cert.Proof.Vox

open Cert.KernelIdeal Cert.KernelIdeal.Gen
open Idealize.ShloMosaic Idealize.SL.Sem

variable {F : FTy → Type} [FloatOps F]

variable (arg0 : Memref sig .tc .vmem S2344x128 .f32) (harg0 : arg0.IsWhole) (arg1 : Memref sig .tc .vmem S2344x128 .f32) (harg1 : arg1.IsWhole)
  (arg2 : Memref sig .tc .vmem S2344x128 .f32) (harg2 : arg2.IsWhole) (arg3 : Memref sig .tc .vmem S2344x128 .f32) (harg3 : arg3.IsWhole)
  (arg4 : Memref sig .tc .vmem S2344x128 .f32) (harg4 : arg4.IsWhole) (arg5 : Memref sig .tc .vmem S46876x128 .f32) (harg5 : arg5.IsWhole)
  (arg6 : Memref sig .tc .vmem S2814x128 .i32) (harg6 : arg6.IsWhole) (arg7 : Memref sig .tc .vmem S939x128 .i32) (harg7 : arg7.IsWhole)
  (arg8 : Memref sig .tc .vmem S11391x128 .i32) (harg8 : arg8.IsWhole) (arg9 : Memref sig .tc .vmem S11391x128 .f32) (harg9 : arg9.IsWhole)
  (arg10 : Memref sig .tc .vmem S2344x128 .i32) (harg10 : arg10.IsWhole) (arg11 : Memref sig .tc .vmem S2344x128 .i32) (harg11 : arg11.IsWhole)

set_option maxHeartbeats 4000000 in
/-- A trip of the marking loop loads a row of cells and sets the bits of sixteen of them. -/
theorem k0_t1_body_eq (v0 : IVec S1x128 32) (v79 : IVec S2814x128 32) (k : Fin k0_t1_loop.trips) :
    k0_t1_body (F := F) arg0 harg0 arg1 harg1 arg2 harg2 arg3 harg3 arg4 harg4 arg5 harg5 arg6 harg6 arg7 harg7 arg8 harg8 arg9 harg9 arg10 harg10 arg11 harg11 v0 v79 k ()
      = (do
        let x : Vec F S1x128 .i32 ← Prog.lift (.load arg10 (Rect.unit (s := S2344x128) (k0_off1 k) S1x128.size (k0_off1_inb k)).toLoadRect (View.loadsAt_vmem h_S1x128))
        bitRun (F := F) arg8 v0 (rotTo x (tripLane (Scf.iv 0#32 1#32 k))) (pure ⟨⟩) lanes16) := rfl

/-- Lane `n` of trip `k`'s row of a block, as the writing loop reads it. -/
abbrev rowAt3 {α : Type} (k : Fin k0_t3_loop.trips) (x : S1x128.Idx → α) : S1x128.Idx → α := rotTo x (tripLane (Scf.iv 0#32 1#32 k))

set_option maxHeartbeats 8000000 in
/-- The first part of a trip of the writing loop: it loads a row of cells, of packed coordinates and of each of the five values, and places the first point. -/
theorem k0_part25_eq (v0 : IVec S1x128 32) (v5 : IVec S2x128 32) (k : Fin k0_t3_loop.trips) :
    k0_part25 (F := F) arg0 harg0 arg1 harg1 arg2 harg2 arg3 harg3 arg4 harg4 arg5 harg5 arg6 harg6 arg7 harg7 arg8 harg8 arg9 harg9 arg10 harg10 arg11 harg11 v0 v5 0#32 1#32 k
      = (do
        let w : Vec F S1x128 .i32 ← Prog.lift (.load arg10 (Rect.unit (s := S2344x128) (k0_off19 k) S1x128.size (k0_off19_inb k)).toLoadRect (View.loadsAt_vmem h_S1x128))
        let p : Vec F S1x128 .i32 ← Prog.lift (.load arg11 (Rect.unit (s := S2344x128) (k0_off19 k) S1x128.size (k0_off19_inb k)).toLoadRect (View.loadsAt_vmem h_S1x128))
        let x0 : Vec F S1x128 .f32 ← Prog.lift (.load arg0 (Rect.unit (s := S2344x128) (k0_off19 k) S1x128.size (k0_off19_inb k)).toLoadRect (View.loadsAt_vmem h_S1x128))
        let x1 : Vec F S1x128 .f32 ← Prog.lift (.load arg1 (Rect.unit (s := S2344x128) (k0_off19 k) S1x128.size (k0_off19_inb k)).toLoadRect (View.loadsAt_vmem h_S1x128))
        let x2 : Vec F S1x128 .f32 ← Prog.lift (.load arg2 (Rect.unit (s := S2344x128) (k0_off19 k) S1x128.size (k0_off19_inb k)).toLoadRect (View.loadsAt_vmem h_S1x128))
        let x3 : Vec F S1x128 .f32 ← Prog.lift (.load arg3 (Rect.unit (s := S2344x128) (k0_off19 k) S1x128.size (k0_off19_inb k)).toLoadRect (View.loadsAt_vmem h_S1x128))
        let x4 : Vec F S1x128 .f32 ← Prog.lift (.load arg4 (Rect.unit (s := S2344x128) (k0_off19 k) S1x128.size (k0_off19_inb k)).toLoadRect (View.loadsAt_vmem h_S1x128))
        let W := rowAt3 k w
        let P := rowAt3 k p
        let X0 : FVec F S1x128 .f32 := rowAt3 k (shapeCast S1x128 x0 shapeCasts_S1x128_S1x128)
        let X1 : FVec F S1x128 .f32 := rowAt3 k (shapeCast S1x128 x1 shapeCasts_S1x128_S1x128)
        let X2 : FVec F S1x128 .f32 := rowAt3 k (shapeCast S1x128 x2 shapeCasts_S1x128_S1x128)
        let X3 : FVec F S1x128 .f32 := rowAt3 k (shapeCast S1x128 x3 shapeCasts_S1x128_S1x128)
        let X4 : FVec F S1x128 .f32 := rowAt3 k (shapeCast S1x128 x4 shapeCasts_S1x128_S1x128)
        placeRun arg5 arg6 arg7 arg8 arg9 v0 v5 W P X0 X1 X2 X3 X4 (do
          have hw : k0_chk20 (laneOf W 1) := (← Prog.lift (TpuEff.assume (k0_chk20 (laneOf W 1)) (k0_chk20.dec (laneOf W 1)))).down
          pure ⟨W, P, X0, X1, X2, X3, X4, laneOf W 1, hw, Scalar.extui (Scalar.cmpi .slt (laneOf W 1) 46656000#32), 0#32⟩) [0]) := rfl

set_option maxHeartbeats 8000000 in
/-- The second part: points one to seven. -/
theorem k0_part26_eq (v0 : IVec S1x128 32) (v5 : IVec S2x128 32) (W P : IVec S1x128 32) (X0 X1 X2 X3 X4 : FVec F S1x128 .f32) (w : BitVec 32) (hw : k0_chk20 w)
    (u z : BitVec 32) :
    k0_part26 (F := F) arg0 harg0 arg1 harg1 arg2 harg2 arg3 harg3 arg4 harg4 arg5 harg5 arg6 harg6 arg7 harg7 arg8 harg8 arg9 harg9 arg10 harg10 arg11 harg11 v0 v5 W P X0 X1 X2 X3 X4 w hw u z
      = rankStep arg5 arg6 arg7 arg8 arg9 v0 v5 (laneOf X0 1) (laneOf X1 1) (laneOf X2 1) (laneOf X3 1) (laneOf X4 1) (laneOf P 1) w hw
        (placeRun arg5 arg6 arg7 arg8 arg9 v0 v5 W P X0 X1 X2 X3 X4 (do
          have hw : k0_chk41 (laneOf W 8) := (← Prog.lift (TpuEff.assume (k0_chk41 (laneOf W 8)) (k0_chk41.dec (laneOf W 8)))).down
          pure ⟨laneOf W 8, hw, 46656000#32⟩) [2, 3, 4, 5, 6, 7]) := rfl

set_option maxHeartbeats 8000000 in
/-- The third part: points eight to fourteen. -/
theorem k0_part27_eq (v0 : IVec S1x128 32) (v5 : IVec S2x128 32) (W P : IVec S1x128 32) (X0 X1 X2 X3 X4 : FVec F S1x128 .f32) (w : BitVec 32) (hw : k0_chk41 w)
    (u : BitVec 32) :
    k0_part27 (F := F) arg0 harg0 arg1 harg1 arg2 harg2 arg3 harg3 arg4 harg4 arg5 harg5 arg6 harg6 arg7 harg7 arg8 harg8 arg9 harg9 arg10 harg10 arg11 harg11 v0 v5 W P X0 X1 X2 X3 X4 w hw u
      = rankStep arg5 arg6 arg7 arg8 arg9 v0 v5 (laneOf X0 8) (laneOf X1 8) (laneOf X2 8) (laneOf X3 8) (laneOf X4 8) (laneOf P 8) w hw
        (placeRun arg5 arg6 arg7 arg8 arg9 v0 v5 W P X0 X1 X2 X3 X4 (pure (extractStridedSlice S1x1 ![0, 15] W slices_S1x128_o0_15_S1x1)) [9, 10, 11, 12, 13, 14]) := rfl

set_option maxHeartbeats 8000000 in
/-- A trip of the writing loop: its three parts, then the last point. -/
theorem k0_t3_body_eq (v0 : IVec S1x128 32) (v5 : IVec S2x128 32) (k : Fin k0_t3_loop.trips) :
    k0_t3_body (F := F) arg0 harg0 arg1 harg1 arg2 harg2 arg3 harg3 arg4 harg4 arg5 harg5 arg6 harg6 arg7 harg7 arg8 harg8 arg9 harg9 arg10 harg10 arg11 harg11 v0 v5 k ()
      = (k0_part25 (F := F) arg0 harg0 arg1 harg1 arg2 harg2 arg3 harg3 arg4 harg4 arg5 harg5 arg6 harg6 arg7 harg7 arg8 harg8 arg9 harg9 arg10 harg10 arg11 harg11 v0 v5 0#32 1#32 k >>= fun r =>
          match r with
          | ⟨W, P, X0, X1, X2, X3, X4, w, hw, u, z⟩ =>
            k0_part26 (F := F) arg0 harg0 arg1 harg1 arg2 harg2 arg3 harg3 arg4 harg4 arg5 harg5 arg6 harg6 arg7 harg7 arg8 harg8 arg9 harg9 arg10 harg10 arg11 harg11 v0 v5 W P X0 X1 X2 X3 X4 w hw u z >>= fun r =>
              match r with
              | ⟨w, hw, u⟩ =>
                k0_part27 (F := F) arg0 harg0 arg1 harg1 arg2 harg2 arg3 harg3 arg4 harg4 arg5 harg5 arg6 harg6 arg7 harg7 arg8 harg8 arg9 harg9 arg10 harg10 arg11 harg11 v0 v5 W P X0 X1 X2 X3 X4 w hw u >>= fun r =>
                  placeStep arg5 arg6 arg7 arg8 arg9 v0 v5 (laneOf X0 15) (laneOf X1 15) (laneOf X2 15) (laneOf X3 15) (laneOf X4 15) (laneOf P 15) (extractAt ![0, 0] r inpos_S1x1_p0_0)
                    (pure ⟨⟩)) := rfl

end Cert.Proof.Vox

end
-- ==== Proof.Trips.lean ====
/-
  The marking loop: after trip `k` the bit map holds the bits of the first `16 * k` points' cells.
-/
module

public import proofs.«01_k».proof.Proof.PlaceRun
public import proofs.«01_k».proof.Proof.Printed

@[expose] public section

noncomputable section

namespace Cert.Proof.Vox

open Cert.KernelIdeal Cert.KernelIdeal.Gen
open Idealize.ShloMosaic TcCoe LaneScatter Updates
open Idealize.SL
open Idealize.SL.BI (sProp)
open scoped Idealize.SL.BI
open Idealize.SL.BI.BIBase Idealize.SL.BI.Laws Idealize.SL.Sem Idealize.SL.ProofMode
open Idealize.SL.RA
open Idealize.ShloMosaic.Tactic

variable {F : FTy → Type} [FloatOps F]

local notation "𝕄" => MT nD τ sig Unit (Elt F) ℕ (UR sig nD τ) ℕ

/-- The bit map with the bits of the first `n` points' cells. -/
def marks (L : ℕ → BitVec 32) : ℕ → ℕ → BitVec 32
  | 0 => fun _ => 0#32
  | n + 1 => marked (marks L n) (L n).toNat

theorem trips1 : k0_t1_loop.trips = 18750 := by decide
theorem trips3 : k0_t3_loop.trips = 18750 := by decide

theorem iv_eq {n : ℕ} (k : Fin n) (hn : n ≤ 2 ^ 31) : (Scf.iv 0#32 1#32 k).toNat = k.val := WordArith.toNat_iv_zero_one _ (by have := k.isLt; omega)

/-- The row that trip `k` reads. -/
theorem trip_row {n : ℕ} (k : Fin n) (hn : n ≤ 2 ^ 31) : (Scalar.shrsi (Scf.iv 0#32 1#32 k) 3#32).toNat = k.val / 8 := by
  have h := toNat_shrsi (Scf.iv 0#32 1#32 k) (by rw [iv_eq k hn]; have := k.isLt; omega) 3 (by omega)
  rw [iv_eq k hn] at h
  exact h

theorem off1_eq (k : Fin k0_t1_loop.trips) : k0_off1 k = ![k.val / 8, 0] := by
  show ![(Scalar.shrsi (Scf.iv 0#32 1#32 k) 3#32).toNat, 0] = _
  rw [trip_row k (by rw [trips1]; omega)]

theorem off19_eq (k : Fin k0_t3_loop.trips) : k0_off19 k = ![k.val / 8, 0] := by
  show ![(Scalar.shrsi (Scf.iv 0#32 1#32 k) 3#32).toNat, 0] = _
  rw [trip_row k (by rw [trips3]; omega)]

/-- The lane that trip `k` starts at. -/
theorem trip_lane {n : ℕ} (k : Fin n) (hn : n ≤ 2 ^ 31) : (tripLane (Scf.iv 0#32 1#32 k)).toNat = k.val % 8 * 16 := by
  have h := toNat_andi_7 (Scf.iv 0#32 1#32 k)
  rw [iv_eq k hn] at h
  have e : (tripLane (Scf.iv 0#32 1#32 k)).toNat = (Scalar.andi (Scf.iv 0#32 1#32 k) 7#32).toNat * 2 ^ 4 :=
    toNat_shli _ 4#32 (by decide) (by rw [h]; show k.val % 8 * 2 ^ 4 < 2 ^ 32; omega)
  rw [e, h]; norm_num

/-- Lane `n` of trip `k`'s row is point `16 * k + n`. -/
theorem trip_word {β : Type} {m : ℕ} (k : Fin m) (hm : m ≤ 2 ^ 31) (x : S1x128.Idx → β) (g : ℕ → β) (hx : IsFlat (R := 1) x (fun q => g (k.val / 8 * 128 + q))) (n : Fin 16) :
    laneOf (rotTo x (tripLane (Scf.iv 0#32 1#32 k))) n = g (16 * k.val + n.val) := by
  have e := trip_lane k hm
  have hn := n.isLt
  rw [laneOf_rot hx _ n (by rw [e]; omega), e]
  congr 1; omega

variable (arg0 : Memref sig .tc .vmem S2344x128 .f32) (harg0 : arg0.IsWhole) (arg1 : Memref sig .tc .vmem S2344x128 .f32) (harg1 : arg1.IsWhole)
  (arg2 : Memref sig .tc .vmem S2344x128 .f32) (harg2 : arg2.IsWhole) (arg3 : Memref sig .tc .vmem S2344x128 .f32) (harg3 : arg3.IsWhole)
  (arg4 : Memref sig .tc .vmem S2344x128 .f32) (harg4 : arg4.IsWhole) (arg5 : Memref sig .tc .vmem S46876x128 .f32) (harg5 : arg5.IsWhole)
  (arg6 : Memref sig .tc .vmem S2814x128 .i32) (harg6 : arg6.IsWhole) (arg7 : Memref sig .tc .vmem S939x128 .i32) (harg7 : arg7.IsWhole)
  (arg8 : Memref sig .tc .vmem S11391x128 .i32) (harg8 : arg8.IsWhole) (arg9 : Memref sig .tc .vmem S11391x128 .f32) (harg9 : arg9.IsWhole)
  (arg10 : Memref sig .tc .vmem S2344x128 .i32) (harg10 : arg10.IsWhole) (arg11 : Memref sig .tc .vmem S2344x128 .i32) (harg11 : arg11.IsWhole)

/-- What the marking loop holds: the points' cells, and the bit map. -/
abbrev own1 (c : Dev nD) (f10 : arg10.view.ty.Contents (Elt F)) (f8 : arg8.view.ty.Contents (Elt F)) : sProp 𝕄 :=
  iprop(raw (c : Thread nD τ) arg10 f10 ∗ raw (c : Thread nD τ) arg8 f8)

/-- One trip of the marking loop. -/
theorem mark_trip (c : Dev nD) (v0 : IVec S1x128 32) (hv0 : IsFlat (R := 1) v0 (fun q => BitVec.ofNat 32 q)) (v79 : IVec S2814x128 32)
    (L : ℕ → BitVec 32) (hL : ∀ j, (L j).toNat ≤ 46656000) (f10 : arg10.view.ty.Contents (Elt F)) (h10 : IsFlat (R := 2344) (β := BitVec 32) (arg10.view.read (Elt F) f10) L)
    (k : Fin k0_t1_loop.trips) (f8 : arg8.view.ty.Contents (Elt F)) (h8 : IsFlat (R := 11391) (β := BitVec 32) (arg8.view.read (Elt F) f8) (marks L (16 * k.val))) :
    own1 (F := F) arg8 arg10 c f10 f8 ⊢
      wpk c (k0_t1_body (F := F) arg0 harg0 arg1 harg1 arg2 harg2 arg3 harg3 arg4 harg4 arg5 harg5 arg6 harg6 arg7 harg7 arg8 harg8 arg9 harg9 arg10 harg10 arg11 harg11 v0 v79 k ())
        (fun _ => heldWith (own1 (F := F) arg8 arg10 c f10) (fun f8 => IsFlat (R := 11391) (β := BitVec 32) (arg8.view.read (Elt F) f8) (marks L (16 * (k.val + 1))))) := by
  have hm : k0_t1_loop.trips ≤ 2 ^ 31 := by rw [trips1]; omega
  have hl := isFlat_load h10 (off1_eq k) (k0_off1_inb k)
  have hw := trip_word k hm _ L hl
  rw [k0_t1_body_eq]
  unfold wpk
  iintro ⟨H10, H8⟩
  sl_exec
  iapply (bit_run c v0 hv0 _ _ _ (raw (c : Thread nD τ) arg10 f10) lanes16 (fun n _ => by rw [hw]; exact hL _) _ f8 h8 ?_)
  rotate_left
  · iframe H10 H8
  intro f' hf'
  unfold wpk
  iintro ⟨H10, H8⟩
  sl_step
  unfold heldWith
  iexists f'
  isplitl [H10 H8]
  · iframe H10 H8
  ipureintro
  simp only [lanes16, List.foldl, hw] at hf'
  exact hf'

/-- The marking loop, at the head of a longer program. -/
theorem mark_loop (c : Dev nD) (v0 : IVec S1x128 32) (hv0 : IsFlat (R := 1) v0 (fun q => BitVec.ofNat 32 q)) (v79 : IVec S2814x128 32)
    (L : ℕ → BitVec 32) (hL : ∀ j, (L j).toNat ≤ 46656000) (f10 : arg10.view.ty.Contents (Elt F)) (h10 : IsFlat (R := 2344) (β := BitVec 32) (arg10.view.read (Elt F) f10) L) :
    heldWith (own1 (F := F) arg8 arg10 c f10) (fun f8 => IsFlat (R := 11391) (β := BitVec 32) (arg8.view.read (Elt F) f8) (fun _ => 0#32)) ⊢
      wpk c (Scf.Loop.for k0_t1_loop k0_t1_ok ⟨⟩ (k0_t1_body (F := F) arg0 harg0 arg1 harg1 arg2 harg2 arg3 harg3 arg4 harg4 arg5 harg5 arg6 harg6 arg7 harg7 arg8 harg8 arg9 harg9 arg10 harg10 arg11 harg11 v0 v79))
        (fun _ => heldWith (own1 (F := F) arg8 arg10 c f10) (fun f8 => IsFlat (R := 11391) (β := BitVec 32) (arg8.view.read (Elt F) f8) (marks L 300000))) := by
  have T := fun (k : Fin k0_t1_loop.trips) f8 h8 => mark_trip (F := F) arg0 harg0 arg1 harg1 arg2 harg2 arg3 harg3 arg4 harg4 arg5 harg5 arg6 harg6 arg7 harg7 arg8 harg8 arg9 harg9 arg10 harg10 arg11 harg11
    c v0 hv0 v79 L hL f10 h10 k f8 h8
  rw [show 300000 = 16 * k0_t1_loop.trips by rw [trips1]]
  unfold wpk at T ⊢
  generalize k0_t1_body (F := F) arg0 harg0 arg1 harg1 arg2 harg2 arg3 harg3 arg4 harg4 arg5 harg5 arg6 harg6 arg7 harg7 arg8 harg8 arg9 harg9 arg10 harg10 arg11 harg11 v0 v79 = B at T ⊢
  exact fold_inv frame (wpE (defs₀ (F := F)) Variants.none (c : Thread nD τ) none) Set.univ k0_t1_loop.lb k0_t1_loop.ub k0_t1_loop.st k0_t1_ok B (own1 (F := F) arg8 arg10 c f10)
    (fun n f8 => IsFlat (R := 11391) (β := BitVec 32) (arg8.view.read (Elt F) f8) (marks L (16 * n))) T

end Cert.Proof.Vox

end
-- ==== Proof.Places.lean ====
/-
  The writing loop: the points are placed one after another.
-/
module

public import proofs.«01_k».proof.Proof.Trips

@[expose] public section

noncomputable section

namespace Cert.Proof.Vox

open Cert.KernelIdeal Cert.KernelIdeal.Gen
open Idealize.ShloMosaic TcCoe LaneScatter Updates
open Idealize.SL
open Idealize.SL.BI (sProp)
open scoped Idealize.SL.BI
open Idealize.SL.BI.BIBase Idealize.SL.BI.Laws Idealize.SL.Sem Idealize.SL.ProofMode
open Idealize.SL.RA
open Idealize.ShloMosaic.Tactic

variable {F : FTy → Type} [FloatOps F]

local notation "𝕄" => MT nD τ sig Unit (Elt F) ℕ (UR sig nD τ) ℕ

/-- What the first `n` points, placed one after another, make of the blocks. -/
def places {β : Type} (s : PS β) (L P : ℕ → BitVec 32) (rk : ℕ → ℕ) (X0 X1 X2 X3 X4 : ℕ → β) : ℕ → PS β
  | 0 => s
  | n + 1 => (places s L P rk X0 X1 X2 X3 X4 n).place (L n).toNat (rk (L n).toNat) (P n) (five (X0 n) (X1 n) (X2 n) (X3 n) (X4 n))

/-- What the first part of a trip hands on. -/
abbrev Row25 (F : FTy → Type) [FloatOps F] := Σ' (v130 : IVec S1x128 32) (v133 : IVec S1x128 32) (v137 : FVec F S1x128 .f32) (v141 : FVec F S1x128 .f32) (v145 : FVec F S1x128 .f32)
  (v149 : FVec F S1x128 .f32) (v153 : FVec F S1x128 .f32) (v160 : BitVec 32) (k0_hw20 : k0_chk20 v160) (v162 : BitVec 32), BitVec 32

/-- A result handed on. -/
theorem pure_run {α : Type} (c : Dev nD) (a : α) (A : sProp 𝕄) (Q : α → sProp 𝕄) (h : A ⊢ Q a) : A ⊢ wpk c (pure a : PG F α) Q := by
  refine Entails.trans h ?_
  unfold wpk
  iintro H
  sl_step
  iexact H

variable (arg0 : Memref sig .tc .vmem S2344x128 .f32) (harg0 : arg0.IsWhole) (arg1 : Memref sig .tc .vmem S2344x128 .f32) (harg1 : arg1.IsWhole)
  (arg2 : Memref sig .tc .vmem S2344x128 .f32) (harg2 : arg2.IsWhole) (arg3 : Memref sig .tc .vmem S2344x128 .f32) (harg3 : arg3.IsWhole)
  (arg4 : Memref sig .tc .vmem S2344x128 .f32) (harg4 : arg4.IsWhole) (arg5 : Memref sig .tc .vmem S46876x128 .f32) (harg5 : arg5.IsWhole)
  (arg6 : Memref sig .tc .vmem S2814x128 .i32) (harg6 : arg6.IsWhole) (arg7 : Memref sig .tc .vmem S939x128 .i32) (harg7 : arg7.IsWhole)
  (arg8 : Memref sig .tc .vmem S11391x128 .i32) (harg8 : arg8.IsWhole) (arg9 : Memref sig .tc .vmem S11391x128 .f32) (harg9 : arg9.IsWhole)
  (arg10 : Memref sig .tc .vmem S2344x128 .i32) (harg10 : arg10.IsWhole) (arg11 : Memref sig .tc .vmem S2344x128 .i32) (harg11 : arg11.IsWhole)

section

variable (c : Dev nD) (v0 : IVec S1x128 32) (hv0 : IsFlat (R := 1) v0 (fun q => BitVec.ofNat 32 q))
  (v5 : IVec S2x128 32) (hv5 : IsFlat (R := 2) v5 (fun q => BitVec.ofNat 32 q)) (Rf : sProp (MT nD τ sig Unit (Elt F) ℕ (UR sig nD τ) ℕ))
  (f8 : arg8.view.ty.Contents (Elt F)) (f9 : arg9.view.ty.Contents (Elt F))
  (g8 : ℕ → BitVec 32) (g9 : ℕ → F .f32) (rk : ℕ → ℕ) (hrk : RankOf g8 g9 rk)
  (h8 : IsFlat (R := 11391) (β := BitVec 32) (arg8.view.read (Elt F) f8) g8) (h9 : IsFlat (R := 11391) (arg9.view.read (Elt F) f9) g9)

section

variable (W P : IVec S1x128 32) (X0 X1 X2 X3 X4 : FVec F S1x128 .f32) (hW : ∀ n : Fin 16, (laneOf W n).toNat ≤ 46656000)
  (s : PS (F .f32)) (f5 : arg5.view.ty.Contents (Elt F)) (f6 : arg6.view.ty.Contents (Elt F)) (f7 : arg7.view.ty.Contents (Elt F)) (hs : Held s f5 f6 f7)

include hv0 hv5 hrk h8 h9 hW hs in
/-- The second part of a trip. -/
theorem part26_run (u z : BitVec 32) (hw : k0_chk20 (laneOf W 1)) (Q : (Σ' (v195 : BitVec 32) (k0_hw41 : k0_chk41 v195), BitVec 32) → sProp 𝕄)
    (hk : ∀ (f5 : arg5.view.ty.Contents (Elt F)) (f6 : arg6.view.ty.Contents (Elt F)) (f7 : arg7.view.ty.Contents (Elt F)), Held ([1, 2, 3, 4, 5, 6, 7].foldl (placeLane W P X0 X1 X2 X3 X4 rk) s) f5 f6 f7 → ∀ h, iprop(Rf ∗ five5 c f8 f9 f5 f6 f7) ⊢ Q ⟨laneOf W 8, h, 46656000#32⟩) :
    iprop(Rf ∗ five5 (arg5 := arg5) (arg6 := arg6) (arg7 := arg7) (arg8 := arg8) (arg9 := arg9) c f8 f9 f5 f6 f7)
      ⊢ wpk c (k0_part26 (F := F) arg0 harg0 arg1 harg1 arg2 harg2 arg3 harg3 arg4 harg4 arg5 harg5 arg6 harg6 arg7 harg7 arg8 harg8 arg9 harg9 arg10 harg10 arg11 harg11 v0 v5 W P X0 X1 X2 X3 X4 (laneOf W 1) hw u z) Q := by
  rw [k0_part26_eq]
  refine rank_step (arg5 := arg5) (arg6 := arg6) (arg7 := arg7) (arg8 := arg8) (arg9 := arg9) c v0 hv0 v5 hv5 _ _ _ _ _ _ _ _ Q Rf s (hW 1) f8 f9 f5 f6 f7 hs g8 g9 rk hrk h8 h9 hw
    (fun f5 f6 f7 h => place_run c v0 hv0 v5 hv5 W P X0 X1 X2 X3 X4 _ Q Rf f8 f9 g8 g9 rk hrk h8 h9 _ (fun n _ => hW n) _ f5 f6 f7 h (fun f5 f6 f7 h => ?_))
  have hc : k0_chk41 (laneOf W 8) := chk17_of _ (hW 8)
  refine Entails.trans (hk f5 f6 f7 h hc) ?_
  unfold wpk
  iintro H
  sl_exec (disch := (exact hc))
  sl_step
  iexact H

include hv0 hv5 hrk h8 h9 hW hs in
/-- The third part of a trip. -/
theorem part27_run (u : BitVec 32) (hw : k0_chk41 (laneOf W 8)) (Q : IVec S1x1 32 → sProp 𝕄)
    (hk : ∀ (f5 : arg5.view.ty.Contents (Elt F)) (f6 : arg6.view.ty.Contents (Elt F)) (f7 : arg7.view.ty.Contents (Elt F)), Held ([8, 9, 10, 11, 12, 13, 14].foldl (placeLane W P X0 X1 X2 X3 X4 rk) s) f5 f6 f7 →
      iprop(Rf ∗ five5 c f8 f9 f5 f6 f7) ⊢ Q (extractStridedSlice S1x1 ![0, 15] W slices_S1x128_o0_15_S1x1)) :
    iprop(Rf ∗ five5 (arg5 := arg5) (arg6 := arg6) (arg7 := arg7) (arg8 := arg8) (arg9 := arg9) c f8 f9 f5 f6 f7)
      ⊢ wpk c (k0_part27 (F := F) arg0 harg0 arg1 harg1 arg2 harg2 arg3 harg3 arg4 harg4 arg5 harg5 arg6 harg6 arg7 harg7 arg8 harg8 arg9 harg9 arg10 harg10 arg11 harg11 v0 v5 W P X0 X1 X2 X3 X4 (laneOf W 8) hw u) Q := by
  rw [k0_part27_eq]
  refine rank_step (arg5 := arg5) (arg6 := arg6) (arg7 := arg7) (arg8 := arg8) (arg9 := arg9) c v0 hv0 v5 hv5 _ _ _ _ _ _ _ _ Q Rf s (hW 8) f8 f9 f5 f6 f7 hs g8 g9 rk hrk h8 h9 hw
    (fun f5 f6 f7 h => place_run c v0 hv0 v5 hv5 W P X0 X1 X2 X3 X4 _ Q Rf f8 f9 g8 g9 rk hrk h8 h9 _ (fun n _ => hW n) _ f5 f6 f7 h (fun f5 f6 f7 h => ?_))
  exact pure_run c _ _ Q (hk f5 f6 f7 h)

include hv0 hv5 hrk h8 h9 hW hs in
/-- The first part of a trip, from its rows on. -/
theorem part25_run (Q : Row25 F → sProp 𝕄)
    (hk : ∀ (f5 : arg5.view.ty.Contents (Elt F)) (f6 : arg6.view.ty.Contents (Elt F)) (f7 : arg7.view.ty.Contents (Elt F)), Held (placeLane W P X0 X1 X2 X3 X4 rk s 0) f5 f6 f7 →
      ∀ h, iprop(Rf ∗ five5 c f8 f9 f5 f6 f7) ⊢ Q ⟨W, P, X0, X1, X2, X3, X4, laneOf W 1, h, Scalar.extui (Scalar.cmpi .slt (laneOf W 1) 46656000#32), 0#32⟩) :
    iprop(Rf ∗ five5 (arg5 := arg5) (arg6 := arg6) (arg7 := arg7) (arg8 := arg8) (arg9 := arg9) c f8 f9 f5 f6 f7)
      ⊢ wpk c (placeRun arg5 arg6 arg7 arg8 arg9 v0 v5 W P X0 X1 X2 X3 X4 (do
          have hw : k0_chk20 (laneOf W 1) := (← Prog.lift (TpuEff.assume (k0_chk20 (laneOf W 1)) (k0_chk20.dec (laneOf W 1)))).down
          pure (⟨W, P, X0, X1, X2, X3, X4, laneOf W 1, hw, Scalar.extui (Scalar.cmpi .slt (laneOf W 1) 46656000#32), 0#32⟩ : Row25 F)) [0]) Q := by
  refine place_run c v0 hv0 v5 hv5 W P X0 X1 X2 X3 X4 _ Q Rf f8 f9 g8 g9 rk hrk h8 h9 _ (fun n _ => hW n) s f5 f6 f7 hs (fun f5 f6 f7 h => ?_)
  have hc : k0_chk20 (laneOf W 1) := chk17_of _ (hW 1)
  refine Entails.trans (hk f5 f6 f7 h hc) ?_
  unfold wpk
  iintro H
  sl_exec (disch := (exact hc))
  sl_step
  iexact H

/-- What is left of a trip after its first part. -/
def rest25 (v0 : IVec S1x128 32) (v5 : IVec S2x128 32) (c : Dev nD) (Q : Unit → sProp 𝕄) (a : Row25 F) : sProp 𝕄 :=
  wpk c (k0_part26 (F := F) arg0 harg0 arg1 harg1 arg2 harg2 arg3 harg3 arg4 harg4 arg5 harg5 arg6 harg6 arg7 harg7 arg8 harg8 arg9 harg9 arg10 harg10 arg11 harg11 v0 v5 a.1 a.2.1 a.2.2.1 a.2.2.2.1 a.2.2.2.2.1 a.2.2.2.2.2.1 a.2.2.2.2.2.2.1 a.2.2.2.2.2.2.2.1 a.2.2.2.2.2.2.2.2.1 a.2.2.2.2.2.2.2.2.2.1 a.2.2.2.2.2.2.2.2.2.2)
          (fun b : (Σ' (v195 : BitVec 32) (k0_hw41 : k0_chk41 v195), BitVec 32) => wpk c (k0_part27 (F := F) arg0 harg0 arg1 harg1 arg2 harg2 arg3 harg3 arg4 harg4 arg5 harg5 arg6 harg6 arg7 harg7 arg8 harg8 arg9 harg9 arg10 harg10 arg11 harg11 v0 v5 a.1 a.2.1 a.2.2.1 a.2.2.2.1 a.2.2.2.2.1 a.2.2.2.2.2.1 a.2.2.2.2.2.2.1 b.1 b.2.1 b.2.2)
            (fun d : IVec S1x1 32 => wpk c (placeStep arg5 arg6 arg7 arg8 arg9 v0 v5 (laneOf a.2.2.1 15) (laneOf a.2.2.2.1 15) (laneOf a.2.2.2.2.1 15) (laneOf a.2.2.2.2.2.1 15) (laneOf a.2.2.2.2.2.2.1 15) (laneOf a.2.1 15)
                (extractAt ![0, 0] d inpos_S1x1_p0_0) (Pure.pure PUnit.unit)) Q))

include hv0 hv5 hrk h8 h9 hW hs in
/-- A trip after its first part. -/
theorem rest_run (Q : Unit → sProp 𝕄) (hc : k0_chk20 (laneOf W 1)) (u z : BitVec 32)
    (hk : ∀ (f5 : arg5.view.ty.Contents (Elt F)) (f6 : arg6.view.ty.Contents (Elt F)) (f7 : arg7.view.ty.Contents (Elt F)), Held ([1, 2, 3, 4, 5, 6, 7, 8, 9, 10, 11, 12, 13, 14, 15].foldl (placeLane W P X0 X1 X2 X3 X4 rk) s) f5 f6 f7 → iprop(Rf ∗ five5 c f8 f9 f5 f6 f7) ⊢ Q ()) :
    iprop(Rf ∗ five5 (arg5 := arg5) (arg6 := arg6) (arg7 := arg7) (arg8 := arg8) (arg9 := arg9) c f8 f9 f5 f6 f7)
      ⊢ rest25 arg0 harg0 arg1 harg1 arg2 harg2 arg3 harg3 arg4 harg4 arg5 harg5 arg6 harg6 arg7 harg7 arg8 harg8 arg9 harg9 arg10 harg10 arg11 harg11 v0 v5 c Q ⟨W, P, X0, X1, X2, X3, X4, laneOf W 1, hc, u, z⟩ := by
  exact part26_run arg0 harg0 arg1 harg1 arg2 harg2 arg3 harg3 arg4 harg4 arg5 harg5 arg6 harg6 arg7 harg7 arg8 harg8 arg9 harg9 arg10 harg10 arg11 harg11 c v0 hv0 v5 hv5 Rf f8 f9 g8 g9 rk hrk h8 h9 W P X0 X1 X2 X3 X4 hW _ f5 f6 f7 hs u z hc _
    (fun f5 f6 f7 h hc => part27_run arg0 harg0 arg1 harg1 arg2 harg2 arg3 harg3 arg4 harg4 arg5 harg5 arg6 harg6 arg7 harg7 arg8 harg8 arg9 harg9 arg10 harg10 arg11 harg11 c v0 hv0 v5 hv5 Rf f8 f9 g8 g9 rk hrk h8 h9 W P X0 X1 X2 X3 X4 hW _ f5 f6 f7 h _ hc _
      (fun f5 f6 f7 h => place_step (arg5 := arg5) (arg6 := arg6) (arg7 := arg7) (arg8 := arg8) (arg9 := arg9) c v0 hv0 v5 hv5 _ _ _ _ _ _ (laneOf W 15) _ Q Rf _ (hW 15) f8 f9 f5 f6 f7 h g8 g9 rk hrk h8 h9
        (fun f5 f6 f7 h => pure_run c _ _ Q (hk f5 f6 f7 h))))

include hv0 hv5 hrk h8 h9 hW hs in
/-- A trip from its rows on. -/
theorem rows_run (Q : Unit → sProp 𝕄)
    (hk : ∀ (f5 : arg5.view.ty.Contents (Elt F)) (f6 : arg6.view.ty.Contents (Elt F)) (f7 : arg7.view.ty.Contents (Elt F)), Held (lanes16.foldl (placeLane W P X0 X1 X2 X3 X4 rk) s) f5 f6 f7 → iprop(Rf ∗ five5 c f8 f9 f5 f6 f7) ⊢ Q ()) :
    iprop(Rf ∗ five5 (arg5 := arg5) (arg6 := arg6) (arg7 := arg7) (arg8 := arg8) (arg9 := arg9) c f8 f9 f5 f6 f7)
      ⊢ wpk c (placeRun arg5 arg6 arg7 arg8 arg9 v0 v5 W P X0 X1 X2 X3 X4 (do
          have hw : k0_chk20 (laneOf W 1) := (← Prog.lift (TpuEff.assume (k0_chk20 (laneOf W 1)) (k0_chk20.dec (laneOf W 1)))).down
          pure (⟨W, P, X0, X1, X2, X3, X4, laneOf W 1, hw, Scalar.extui (Scalar.cmpi .slt (laneOf W 1) 46656000#32), 0#32⟩ : Row25 F)) [0])
        (rest25 arg0 harg0 arg1 harg1 arg2 harg2 arg3 harg3 arg4 harg4 arg5 harg5 arg6 harg6 arg7 harg7 arg8 harg8 arg9 harg9 arg10 harg10 arg11 harg11 v0 v5 c Q) :=
  part25_run (arg5 := arg5) (arg6 := arg6) (arg7 := arg7) (arg8 := arg8) (arg9 := arg9) (c := c) (v0 := v0) (hv0 := hv0) (v5 := v5) (hv5 := hv5) (Rf := Rf) (f8 := f8) (f9 := f9) (g8 := g8) (g9 := g9) (rk := rk) (hrk := hrk) (h8 := h8) (h9 := h9) (W := W) (P := P) (X0 := X0) (X1 := X1) (X2 := X2) (X3 := X3) (X4 := X4) (hW := hW) (s := s) (f5 := f5) (f6 := f6) (f7 := f7) (hs := hs) (Q := _) (hk :=
    (fun f5 f6 f7 h hc => rest_run arg0 harg0 arg1 harg1 arg2 harg2 arg3 harg3 arg4 harg4 arg5 harg5 arg6 harg6 arg7 harg7 arg8 harg8 arg9 harg9 arg10 harg10 arg11 harg11 c v0 hv0 v5 hv5 Rf f8 f9 g8 g9 rk hrk h8 h9 W P X0 X1 X2 X3 X4 hW _ f5 f6 f7 h Q hc _ _ hk))

end

end

end Cert.Proof.Vox

end
-- ==== Proof.Scan.lean ====
/-
  The kernel's counting loop: row by row, each place of the table of sums gets what all earlier rows hold.
-/
module

public import proofs.«01_k».proof.Proof.Places
public import proofs.«01_k».proof.Proof.Trips

@[expose] public section

noncomputable section

namespace Cert.Proof.Vox

open Cert.KernelIdeal Cert.KernelIdeal.Gen
open Idealize.ShloMosaic TcCoe LaneScatter Updates
open Idealize.SL
open Idealize.SL.BI (sProp)
open scoped Idealize.SL.BI
open Idealize.SL.BI.BIBase Idealize.SL.BI.Laws Idealize.SL.Sem Idealize.SL.ProofMode
open Idealize.SL.RA
open Idealize.ShloMosaic.Tactic

/-- What the counting asks of the floats: small naturals convert, add and convert back without error. -/
structure NatLaws (F : FTy → Type) [FloatOps F] where
  nat : ℕ → F .f32
  sitofp : ∀ w : BitVec 32, w.toNat < 2 ^ 24 → (Scalar.sitofp .f32 w : F .f32) = nat w.toNat
  vsitofp : ∀ w : BitVec 32, w.toNat < 2 ^ 24 → (FloatOps.sitofp .f32 w : F .f32) = nat w.toNat
  fptosi : ∀ n < 2 ^ 24, Scalar.fptosi 32 (nat n) = BitVec.ofNat 32 n
  add : ∀ n m, n + m < 2 ^ 24 → FloatOps.addf (nat n) (nat m) = nat (n + m)

/-- The sum of the first `q` counts. -/
def pre (B : ℕ → ℕ) (q : ℕ) : ℕ := ∑ i ∈ Finset.range q, B i

theorem pre_succ (B : ℕ → ℕ) (q : ℕ) : pre B (q + 1) = pre B q + B q := Finset.sum_range_succ _ _

theorem pre_mono (B : ℕ → ℕ) {a b : ℕ} (h : a ≤ b) : pre B a ≤ pre B b :=
  Finset.sum_le_sum_of_subset (Finset.range_mono h)

/-- The table of sums when the first `k` rows are done: full sums there, sums within the row elsewhere. -/
def sums (B : ℕ → ℕ) (k q : ℕ) : ℕ := if q < k * 128 then pre B q else pre B q - pre B (q / 128 * 128)

variable {F : FTy → Type} [FloatOps F]

local notation "𝕄" => MT nD τ sig Unit (Elt F) ℕ (UR sig nD τ) ℕ

/-- What holds of any contents with a property holds of the contents known to have it. -/
theorem held_elim {C : Type} {own : C → sProp 𝕄} {P : C → Prop} {R : sProp 𝕄} (h : ∀ f, P f → own f ⊢ R) : heldWith own P ⊢ R := by
  unfold heldWith
  iintro ⟨%f, H, %hf⟩
  iapply (h f hf)
  iexact H

theorem trips2 : k0_t2_loop.trips = 11391 := by decide

/-- The last lane of a row. -/
theorem last_lane {β : Type} {x : S1x128.Idx → β} {g : ℕ → β} (hx : IsFlat (R := 1) x g) :
    extractAt ![0, 0] (extractStridedSlice S1x1 ![0, 127] x slices_S1x128_o0_127_S1x1) inpos_S1x1_p0_0 = g 127 := by
  unfold extractAt
  rw [extractStridedSlice_apply _ _ _ _ (ValueIdx.ix2 ⟨0, by omega⟩ ⟨127, by omega⟩) (fun b => by match b with | ⟨0, _⟩ => rfl | ⟨1, _⟩ => rfl)]
  exact hx _

variable (arg0 : Memref sig .tc .vmem S2344x128 .f32) (harg0 : arg0.IsWhole) (arg1 : Memref sig .tc .vmem S2344x128 .f32) (harg1 : arg1.IsWhole)
  (arg2 : Memref sig .tc .vmem S2344x128 .f32) (harg2 : arg2.IsWhole) (arg3 : Memref sig .tc .vmem S2344x128 .f32) (harg3 : arg3.IsWhole)
  (arg4 : Memref sig .tc .vmem S2344x128 .f32) (harg4 : arg4.IsWhole) (arg5 : Memref sig .tc .vmem S46876x128 .f32) (harg5 : arg5.IsWhole)
  (arg6 : Memref sig .tc .vmem S2814x128 .i32) (harg6 : arg6.IsWhole) (arg7 : Memref sig .tc .vmem S939x128 .i32) (harg7 : arg7.IsWhole)
  (arg8 : Memref sig .tc .vmem S11391x128 .i32) (harg8 : arg8.IsWhole) (arg9 : Memref sig .tc .vmem S11391x128 .f32) (harg9 : arg9.IsWhole)
  (arg10 : Memref sig .tc .vmem S2344x128 .i32) (harg10 : arg10.IsWhole) (arg11 : Memref sig .tc .vmem S2344x128 .i32) (harg11 : arg11.IsWhole)

/-- What the counting loop holds: the bit map and the table of sums, besides `R`. -/
abbrev own2 (R : sProp 𝕄) (c : Dev nD) (f8 : arg8.view.ty.Contents (Elt F)) (f9 : arg9.view.ty.Contents (Elt F)) : sProp 𝕄 :=
  iprop((R ∗ raw (c : Thread nD τ) arg8 f8) ∗ raw (c : Thread nD τ) arg9 f9)

/-- The counting loop before trip `k`: the first `k` rows are done and the carried word is their sum. -/
abbrev inv2 (R : sProp 𝕄) (N : NatLaws F) (B : ℕ → ℕ) (c : Dev nD) (f8 : arg8.view.ty.Contents (Elt F)) (k : ℕ) (w : BitVec 32) : sProp 𝕄 :=
  heldWith (own2 (F := F) arg8 arg9 R c f8) (fun f9 => IsFlat (R := 11391) (arg9.view.read (Elt F) f9) (fun q => N.nat (sums B k q)) ∧ w = BitVec.ofNat 32 (pre B (k * 128)))

variable (N : NatLaws F) (B : ℕ → ℕ) (hB : ∀ q, pre B q < 2 ^ 24) (g8 : ℕ → BitVec 32) (hg8 : ∀ q, popN (g8 q).toNat = B q)

include hB in
/-- A row of the table once the carried sum is added to it. -/
theorem row_added {k : ℕ} {w : BitVec 32} (hw : w = BitVec.ofNat 32 (pre B (k * 128))) {y : Vec F S1x128 .f32}
    (hy : IsFlat (R := 1) y (fun q => N.nat (sums B k (k * 128 + q)))) : IsFlat (R := 1) (k0_pay4 (F := F) w y) (fun q => N.nat (pre B (k * 128 + q))) := by
  have hk := hB (k * 128)
  have hwn : w.toNat = pre B (k * 128) := by rw [hw, BitVec.toNat_ofNat, Nat.mod_eq_of_lt (by omega)]
  have h := isFlat_cast (isFlat_map (fun a : F .f32 => FloatOps.addf a (Scalar.sitofp .f32 w)) hy) shapeCasts_S1x128_S1x128
  refine IsFlat.congr h fun q hq => ?_
  have hd : (k * 128 + q) / 128 * 128 = k * 128 := by omega
  have hm := pre_mono B (show k * 128 ≤ k * 128 + q by omega)
  have hq' := hB (k * 128 + q)
  have hs : sums B k (k * 128 + q) = pre B (k * 128 + q) - pre B (k * 128) := by
    unfold sums
    rw [if_neg (by omega), hd]
  show FloatOps.addf (N.nat (sums B k (k * 128 + q))) (Scalar.sitofp .f32 w) = _
  rw [N.sitofp w (by omega), hwn, hs, N.add _ _ (by omega)]
  congr 1; omega

include hB hg8 in
/-- The carried word after a trip. -/
theorem carry_next {k : ℕ} {w : BitVec 32} (hw : w = BitVec.ofNat 32 (pre B (k * 128))) {y : Vec F S1x128 .f32} {x : Vec F S1x128 .i32}
    (hy : IsFlat (R := 1) y (fun q => N.nat (sums B k (k * 128 + q)))) (hx : IsFlat (R := 1) (β := BitVec 32) x (fun q => g8 (k * 128 + q))) :
    Scalar.addi (Scalar.addi w (Scalar.fptosi 32 (k0_pay2 y))) (popW (extractAt ![0, 0] (k0_pay3 x) inpos_S1x1_p0_0)) = BitVec.ofNat 32 (pre B ((k + 1) * 128)) := by
  have hs : sums B k (k * 128 + 127) = pre B (k * 128 + 127) - pre B (k * 128) := by
    unfold sums
    rw [if_neg (by omega), show (k * 128 + 127) / 128 * 128 = k * 128 by omega]
  have hm := pre_mono B (show k * 128 ≤ k * 128 + 127 by omega)
  have hq' := hB (k * 128 + 127)
  have e1 : k0_pay2 y = N.nat (pre B (k * 128 + 127) - pre B (k * 128)) := by
    rw [← hs]; exact last_lane hy
  have e2 : extractAt ![0, 0] (k0_pay3 (F := F) x) inpos_S1x1_p0_0 = g8 (k * 128 + 127) := last_lane hx
  have e3 : popW (g8 (k * 128 + 127)) = BitVec.ofNat 32 (B (k * 128 + 127)) := by
    apply BitVec.eq_of_toNat_eq
    rw [toNat_popW, hg8, BitVec.toNat_ofNat, Nat.mod_eq_of_lt]
    have := hB (k * 128 + 128)
    rw [show k * 128 + 128 = k * 128 + 127 + 1 from rfl, pre_succ B (k * 128 + 127)] at this
    omega
  rw [e1, e2, e3, N.fptosi _ (by omega), hw]
  show BitVec.ofNat 32 _ + BitVec.ofNat 32 _ + BitVec.ofNat 32 _ = _
  rw [← BitVec.ofNat_add, ← BitVec.ofNat_add]
  congr 1
  rw [show (k + 1) * 128 = k * 128 + 127 + 1 by omega, pre_succ B (k * 128 + 127)]
  omega

/-- The table after a trip. -/
theorem sums_next (k : ℕ) : patch k 1 (fun q => N.nat (pre B (k * 128 + q))) (fun q => N.nat (sums B k q)) = fun q => N.nat (sums B (k + 1) q) := by
  funext q
  unfold patch sums
  by_cases h : k * 128 ≤ q ∧ q < (k + 1) * 128
  · rw [if_pos h, if_pos h.2]
    show N.nat (pre B (k * 128 + (q - k * 128))) = _
    rw [show k * 128 + (q - k * 128) = q by omega]
  · rw [if_neg h]
    show N.nat (if q < k * 128 then pre B q else pre B q - pre B (q / 128 * 128)) = _
    by_cases h' : q < k * 128
    · rw [if_pos h', if_pos (by omega)]
    · rw [if_neg h', if_neg (by omega)]

include hB hg8 in
/-- One trip of the counting loop. -/
theorem count_trip (R : sProp 𝕄) (c : Dev nD) (f8 : arg8.view.ty.Contents (Elt F)) (h8 : IsFlat (R := 11391) (β := BitVec 32) (arg8.view.read (Elt F) f8) g8)
    (k : Fin k0_t2_loop.trips) (w : BitVec 32) :
    inv2 arg8 arg9 R N B c f8 k.val w ⊢ wpk c (k0_t2_body (F := F) arg0 harg0 arg1 harg1 arg2 harg2 arg3 harg3 arg4 harg4 arg5 harg5 arg6 harg6 arg7 harg7 arg8 harg8 arg9 harg9 arg10 harg10 arg11 harg11 k w) (inv2 arg8 arg9 R N B c f8 (k.val + 1)) := by
  refine held_elim fun f9 ⟨h9, hw⟩ => ?_
  unfold k0_t2_body
  refine load_row c arg9 f9 _ h9 (k0_off18_eq k) (k0_off18_inb k) _ _ iprop(R ∗ raw (c : Thread nD τ) arg8 f8) Entails.refl Entails.refl _ _ fun y hy => ?_
  refine load_row c arg8 f8 _ h8 (k0_off18_eq k) (k0_off18_inb k) _ _ iprop(R ∗ raw (c : Thread nD τ) arg9 f9) (by iintro ⟨⟨HR, H8⟩, H9⟩; iframe HR H8 H9) (by iintro ⟨⟨HR, H9⟩, H8⟩; iframe HR H8 H9) _ _ fun x hx => ?_
  refine load_row c arg9 f9 _ h9 (k0_off18_eq k) (k0_off18_inb k) _ _ iprop(R ∗ raw (c : Thread nD τ) arg8 f8) Entails.refl Entails.refl _ _ fun _ _ => ?_
  refine store_row c arg9 f9 _ h9 (k0_off18_eq k) (k0_off18_inb k) _ _ (row_added N B hB hw hy) _ _ _ iprop(R ∗ raw (c : Thread nD τ) arg8 f8) Entails.refl _ _ fun f' hf' => ?_
  refine pure_run c _ _ _ ?_
  have hn := carry_next N B hB g8 hg8 hw hy hx
  rw [sums_next N B k.val] at hf'
  unfold inv2 heldWith
  iintro H
  iexists f'
  isplitl [H]
  · iexact H
  ipureintro
  exact ⟨hf', hn⟩

include hB hg8 in
/-- The counting loop, then going on with the table of all sums. -/
theorem count_loop {α : Type} (R : sProp 𝕄) (c : Dev nD) (f8 : arg8.view.ty.Contents (Elt F)) (h8 : IsFlat (R := 11391) (β := BitVec 32) (arg8.view.read (Elt F) f8) g8)
    (K : BitVec 32 → PG F α) (Q : α → sProp 𝕄)
    (hk : ∀ w f9, IsFlat (R := 11391) (arg9.view.read (Elt F) f9) (fun q => N.nat (pre B q)) → own2 (F := F) arg8 arg9 R c f8 f9 ⊢ wpk c (K w) Q) :
    heldWith (own2 (F := F) arg8 arg9 R c f8) (fun f9 => IsFlat (R := 11391) (arg9.view.read (Elt F) f9) (fun q => N.nat (pre B q - pre B (q / 128 * 128)))) ⊢
      wpk c (Scf.Loop.for k0_t2_loop k0_t2_ok 0#32 (k0_t2_body (F := F) arg0 harg0 arg1 harg1 arg2 harg2 arg3 harg3 arg4 harg4 arg5 harg5 arg6 harg6 arg7 harg7 arg8 harg8 arg9 harg9 arg10 harg10 arg11 harg11) >>= K) Q := by
  have T := fun (k : Fin k0_t2_loop.trips) w => count_trip (F := F) arg0 harg0 arg1 harg1 arg2 harg2 arg3 harg3 arg4 harg4 arg5 harg5 arg6 harg6 arg7 harg7 arg8 harg8 arg9 harg9 arg10 harg10 arg11 harg11 N B hB g8 hg8 R c f8 h8 k w
  have hk' : ∀ w, inv2 (F := F) arg8 arg9 R N B c f8 k0_t2_loop.trips w ⊢ wpk c (K w) Q := by
    intro w
    refine held_elim fun f9 ⟨h9, hw⟩ => ?_
    refine hk w f9 (h9.congr fun q hq => ?_)
    unfold sums
    rw [trips2, if_pos hq]
  have h0 : heldWith (own2 (F := F) arg8 arg9 R c f8) (fun f9 => IsFlat (R := 11391) (arg9.view.read (Elt F) f9) (fun q => N.nat (pre B q - pre B (q / 128 * 128)))) ⊢
      inv2 (F := F) arg8 arg9 R N B c f8 0 0#32 := by
    refine held_elim fun f9 h9 => ?_
    unfold inv2 heldWith
    iintro H
    iexists f9
    isplitl [H]
    · iexact H
    ipureintro
    refine ⟨h9.congr fun q hq => ?_, by simp [pre]⟩
    unfold sums
    rw [if_neg (by omega)]
  refine Entails.trans h0 ?_
  unfold wpk at T hk' ⊢
  generalize k0_t2_body (F := F) arg0 harg0 arg1 harg1 arg2 harg2 arg3 harg3 arg4 harg4 arg5 harg5 arg6 harg6 arg7 harg7 arg8 harg8 arg9 harg9 arg10 harg10 arg11 harg11 = Bd at T ⊢
  have G := Scf.wp_for_bind frame (wpE (defs₀ (F := F)) Variants.none (c : Thread nD τ) none) Set.univ k0_t2_loop.lb k0_t2_loop.ub k0_t2_loop.st k0_t2_ok 0#32 Bd
    (inv2 (F := F) arg8 arg9 R N B c f8) T (kk := K) (Q := Q)
  refine Entails.trans G ?_
  iintro H
  iapply H
  iintro %w H'
  iapply (hk' w)
  iexact H'

end Cert.Proof.Vox

end
-- ==== Proof.Cells.lean ====
/-
  The occupied cells: what the bit map, the counts and the sums of counts say about them.
-/
module

public import proofs.«01_k».proof.Proof.Scan

@[expose] public section

noncomputable section

namespace Cert.Proof.Vox

open Cert.KernelIdeal Cert.KernelIdeal.Gen
open Idealize.ShloMosaic TcCoe LaneScatter Updates
open scoped Classical

/-- Cell `c` holds one of the first `n` points. -/
def Occ (L : ℕ → BitVec 32) (n c : ℕ) : Prop := ∃ j < n, (L j).toNat = c

/-- The number of occupied cells before cell `c`. -/
def rankOf (L : ℕ → BitVec 32) (n c : ℕ) : ℕ := ∑ i ∈ Finset.range c, if Occ L n i then 1 else 0

theorem occ_succ (L : ℕ → BitVec 32) (n c : ℕ) : Occ L (n + 1) c ↔ Occ L n c ∨ (L n).toNat = c := by
  constructor
  · rintro ⟨j, hj, e⟩
    rcases Nat.lt_succ_iff_lt_or_eq.mp hj with h | rfl
    · exact .inl ⟨j, h, e⟩
    · exact .inr e
  · rintro (⟨j, hj, e⟩ | e)
    · exact ⟨j, by omega, e⟩
    · exact ⟨n, by omega, e⟩

/-- Bit `b` of word `q` of the bit map says whether cell `32 * q + b` is occupied. -/
theorem marks_bit (L : ℕ → BitVec 32) (n q b : ℕ) (hb : b < 32) : (marks L n q).getLsbD b = decide (Occ L n (q * 32 + b)) := by
  induction n with
  | zero =>
    have h : ¬ Occ L 0 (q * 32 + b) := fun ⟨j, hj, _⟩ => by omega
    rw [decide_eq_false h]
    show (0#32).getLsbD b = false
    simp
  | succ n ih =>
    have e : marks L (n + 1) q = if q = (L n).toNat / 32 then marks L n q ||| BitVec.twoPow 32 ((L n).toNat % 32) else marks L n q := rfl
    rw [e]
    by_cases hq : q = (L n).toNat / 32
    · rw [if_pos hq, BitVec.getLsbD_or, ih, BitVec.getLsbD_twoPow]
      have h2 : ((L n).toNat % 32 = b) ↔ (L n).toNat = q * 32 + b := by omega
      by_cases h3 : (L n).toNat = q * 32 + b
      · have hm : (L n).toNat % 32 < 32 := by omega
        rw [decide_eq_true ((occ_succ L n _).mpr (.inr h3)), decide_eq_true hm, decide_eq_true (h2.mpr h3)]
        simp
      · have h4 : Occ L (n + 1) (q * 32 + b) ↔ Occ L n (q * 32 + b) := by rw [occ_succ]; simp [h3]
        rw [decide_eq_false (fun h => h3 (h2.mp h)), Bool.and_false, Bool.or_false]
        exact decide_eq_decide.mpr h4.symm
    · rw [if_neg hq, ih]
      have h4 : Occ L (n + 1) (q * 32 + b) ↔ Occ L n (q * 32 + b) := by
        rw [occ_succ]
        have : ¬ (L n).toNat = q * 32 + b := by omega
        simp [this]
      exact decide_eq_decide.mpr h4.symm

/-- The number of occupied cells among the 32 of word `q`. -/
def inWord (L : ℕ → BitVec 32) (n q : ℕ) : ℕ := ∑ b ∈ Finset.range 32, if Occ L n (q * 32 + b) then 1 else 0

theorem inWord_le (L : ℕ → BitVec 32) (n q : ℕ) : inWord L n q ≤ 32 := by
  unfold inWord
  rw [← Finset.card_filter]
  exact (Finset.card_filter_le _ _).trans (by simp)

theorem toNat_decide (p : Prop) [Decidable p] : (decide p).toNat = if p then 1 else 0 := by by_cases h : p <;> simp [h]

/-- The set bits of a word of the bit map are its occupied cells. -/
theorem popN_marks (L : ℕ → BitVec 32) (n q : ℕ) : popN (marks L n q).toNat = inWord L n q := by
  rw [popN_eq_sum]
  refine Finset.sum_congr rfl fun b hb => ?_
  rw [← toNat_decide, ← marks_bit L n q b (Finset.mem_range.mp hb)]
  rfl

/-- The sum of the words' counts is the number of occupied cells before the word. -/
theorem pre_inWord (L : ℕ → BitVec 32) (n q : ℕ) : pre (inWord L n) q = rankOf L n (q * 32) := by
  induction q with
  | zero => simp [pre, rankOf]
  | succ q ih =>
    rw [pre_succ, ih]
    unfold rankOf inWord
    rw [show (q + 1) * 32 = q * 32 + 32 by ring, Finset.sum_range_add]

/-- No more cells are occupied than there are points. -/
theorem rankOf_le (L : ℕ → BitVec 32) (n c : ℕ) : rankOf L n c ≤ n := by
  unfold rankOf
  rw [← Finset.card_filter]
  refine (Finset.card_le_card (t := (Finset.range n).image fun j => (L j).toNat) ?_).trans (Finset.card_image_le.trans (by simp))
  intro i hi
  obtain ⟨j, hj, e⟩ := (Finset.mem_filter.mp hi).2
  exact Finset.mem_image.mpr ⟨j, Finset.mem_range.mpr hj, e⟩

/-- The low bits kept are those below the cell's own. -/
theorem lowBits_bit (w g : BitVec 32) (b : ℕ) : (lowBits w g).toNat.testBit b = (g.toNat.testBit b && decide (b < w.toNat % 32)) := by
  unfold lowBits
  rw [bit_of_cell]
  have hm : w.toNat % 32 < 32 := Nat.mod_lt _ (by omega)
  have hp : 2 ^ (w.toNat % 32) < 2 ^ 32 := Nat.pow_lt_pow_right (by omega) hm
  have h1 : 1 ≤ 2 ^ (w.toNat % 32) := Nat.one_le_two_pow
  have e : (BitVec.twoPow 32 (w.toNat % 32) - 1#32).toNat = 2 ^ (w.toNat % 32) - 1 := by
    rw [BitVec.toNat_sub_of_le (by rw [BitVec.le_def, BitVec.toNat_twoPow, Nat.mod_eq_of_lt hp]; exact h1), BitVec.toNat_twoPow, Nat.mod_eq_of_lt hp]
    rfl
  show (g &&& (BitVec.twoPow 32 (w.toNat % 32) - 1#32)).toNat.testBit b = _
  rw [BitVec.toNat_and, e, Nat.testBit_and, Nat.testBit_two_pow_sub_one]

/-- The set low bits of a cell's word are the occupied cells of the word before it. -/
theorem popN_low (L : ℕ → BitVec 32) (n : ℕ) (w : BitVec 32) :
    popN (lowBits w (marks L n (w.toNat / 32))).toNat = ∑ b ∈ Finset.range (w.toNat % 32), if Occ L n (w.toNat / 32 * 32 + b) then 1 else 0 := by
  have hm : w.toNat % 32 < 32 := Nat.mod_lt _ (by omega)
  rw [popN_eq_sum, ← Finset.sum_subset (Finset.range_mono hm.le) (fun x _ hx => by
    rw [lowBits_bit, decide_eq_false (by rwa [Finset.mem_range] at hx), Bool.and_false]
    rfl)]
  refine Finset.sum_congr rfl fun b hb => ?_
  have hb' := Finset.mem_range.mp hb
  rw [lowBits_bit, decide_eq_true hb', Bool.and_true, ← toNat_decide, ← marks_bit L n _ b (by omega)]
  rfl

variable {F : FTy → Type} [FloatOps F]

/-- The bit map and the table of sums give every cell's rank. -/
theorem rankOf_RankOf (N : NatLaws F) (L : ℕ → BitVec 32) (n : ℕ) (hn : n < 2 ^ 24) :
    RankOf (marks L n) (fun q => N.nat (pre (inWord L n) q)) (rankOf L n) := by
  intro w hw
  have hr := rankOf_le L n w.toNat
  refine ⟨?_, by omega⟩
  have hp : pre (inWord L n) (w.toNat / 32) ≤ n := by rw [pre_inWord]; exact rankOf_le L n _
  rw [N.fptosi _ (by omega)]
  have e : popW (lowBits w (marks L n (w.toNat / 32))) = BitVec.ofNat 32 (∑ b ∈ Finset.range (w.toNat % 32), if Occ L n (w.toNat / 32 * 32 + b) then 1 else 0) := by
    apply BitVec.eq_of_toNat_eq
    rw [toNat_popW, popN_low, BitVec.toNat_ofNat]
    symm
    apply Nat.mod_eq_of_lt
    have : ∀ s : Finset ℕ, (∑ b ∈ s, if Occ L n (w.toNat / 32 * 32 + b) then 1 else 0) ≤ s.card := fun s => by
      rw [← Finset.card_filter]; exact Finset.card_filter_le _ _
    have h2 := this (Finset.range (w.toNat % 32))
    rw [Finset.card_range] at h2
    omega
  rw [e]
  show BitVec.ofNat 32 _ + BitVec.ofNat 32 _ = _
  rw [← BitVec.ofNat_add, pre_inWord]
  congr 1
  unfold rankOf
  rw [← Finset.sum_range_add, Nat.div_add_mod']

end Cert.Proof.Vox

end
-- ==== Proof.CellWord.lean ====
/-
  A point's cell and its packed coordinates, as the kernel computes them, and the blocks that hold them.
-/
module

public import proofs.«01_k».proof.Proof.Cells

@[expose] public section

noncomputable section

namespace Cert.Proof.Vox

open Cert.KernelIdeal Cert.KernelIdeal.Gen
open Idealize.ShloMosaic TcCoe LaneScatter Updates

variable {F : FTy → Type} [FloatOps F]

/-- The grid coordinate of a value: its distance from the range's start in steps, rounded down. -/
def gridOf (lo st : BitVec 32) (a : F .f32) : BitVec 32 :=
  FloatOps.fptosi 32 (FloatOps.floor (FloatOps.divf (FloatOps.subf a (Scalar.ofBits .f32 lo)) (Scalar.ofBits .f32 st)))

/-- The first three tests of a point's grid coordinates. -/
def test3 (x y : BitVec 32) : BitVec 1 :=
  Scalar.andi (Scalar.andi (Scalar.cmpi .sge x 0#32) (Scalar.cmpi .slt x 1080#32)) (Scalar.cmpi .sge y 0#32)

/-- All tests, given the first three. -/
def testAll (m : BitVec 1) (y z j : BitVec 32) : BitVec 1 :=
  Scalar.andi (Scalar.andi (Scalar.andi (Scalar.andi m (Scalar.cmpi .slt y 1080#32)) (Scalar.cmpi .sge z 0#32)) (Scalar.cmpi .slt z 40#32)) (Scalar.cmpi .slt j 300000#32)

/-- The number of the cell at given grid coordinates. -/
def cellNo (x y z : BitVec 32) : BitVec 32 := Scalar.addi (Scalar.muli (Scalar.addi (Scalar.muli z 1080#32) y) 1080#32) x

/-- The three grid coordinates in one word. -/
def packNo (x y z : BitVec 32) : BitVec 32 := Scalar.ori (Scalar.ori (Scalar.shli z 22#32) (Scalar.shli y 11#32)) x

/-- Point `j`'s cell, or the number of cells if it has none. -/
def cellW (x y z j : BitVec 32) : BitVec 32 := if testAll (test3 x y) y z j = 1#1 then cellNo x y z else 46656000#32

/-- Point `j`'s packed coordinates, or zero if it has no cell. -/
def packW (x y z j : BitVec 32) : BitVec 32 := if testAll (test3 x y) y z j = 1#1 then packNo x y z else 0#32

variable {x y z : ℕ → BitVec 32} {vx vy vz vj : IVec S2344x128 32} {m : IVec S2344x128 1}

theorem isFlat_grid {R : ℕ} (lo st : BitVec 32) {v : (Blk R 128).Idx → F .f32} {X : ℕ → F .f32} (hv : IsFlat (R := R) v X) (hc) :
    IsFlat (R := R) (fun ι => gridOf lo st (shapeCast (Blk R 128) v hc ι)) (fun q => gridOf lo st (X q)) :=
  isFlat_map (gridOf lo st) (isFlat_cast hv hc)

theorem isFlat_gx {v : Vec F S2344x128 .f32} {X : ℕ → F .f32} (hv : IsFlat (R := 2344) v X) : IsFlat (R := 2344) (k0_pay196 v) (fun q => gridOf 0xC2580000#32 0x3DCCCCCD#32 (X q)) :=
  isFlat_grid _ _ hv shapeCasts_S2344x128_S2344x128

theorem isFlat_gy {v : Vec F S2344x128 .f32} {X : ℕ → F .f32} (hv : IsFlat (R := 2344) v X) : IsFlat (R := 2344) (k0_pay197 v) (fun q => gridOf 0xC2580000#32 0x3DCCCCCD#32 (X q)) :=
  isFlat_grid _ _ hv shapeCasts_S2344x128_S2344x128

theorem isFlat_gz {v : Vec F S2344x128 .f32} {X : ℕ → F .f32} (hv : IsFlat (R := 2344) v X) : IsFlat (R := 2344) (k0_pay198 v) (fun q => gridOf 0xC0A00000#32 0x3E4CCCCD#32 (X q)) :=
  isFlat_grid _ _ hv shapeCasts_S2344x128_S2344x128

theorem isFlat_number : IsFlat (R := 2344) k0_pay199 (fun q => BitVec.ofNat 32 q) := by
  have h0 := isArr_iota_rows (R := 2344) (C := 128) (κ := .tc) (w := 32) iota_S2344x128_d0_w32
  have h1 := isArr_iota_lanes (R := 2344) (C := 128) (κ := .tc) (w := 32) iota_S2344x128_d1_w32
  intro ι
  show (iota .tc S2344x128 32 [0] _ ι * 128#32 + iota .tc S2344x128 32 [1] _ ι : BitVec 32) = _
  rw [h0 ι, h1 ι]
  show BitVec.ofNat 32 _ * BitVec.ofNat 32 128 + BitVec.ofNat 32 _ = _
  rw [← BitVec.ofNat_mul, ← BitVec.ofNat_add]

theorem isFlat_test3 {v w : Vec F S2344x128 .f32} (hx : IsFlat (R := 2344) (k0_pay196 v) x) (hy : IsFlat (R := 2344) (k0_pay197 w) y) :
    IsFlat (R := 2344) (k0_pay200 v w) (fun q => test3 (x q) (y q)) :=
  isFlat_map2 test3 hx hy

/-- The block of the tests. -/
theorem isFlat_testAll (hx : IsFlat (R := 2344) m (fun q => test3 (x q) (y q))) (hy : IsFlat (R := 2344) vy y) (hz : IsFlat (R := 2344) vz z) (hj : IsFlat (R := 2344) vj (fun q => BitVec.ofNat 32 q)) :
    IsFlat (R := 2344) (k0_pay201 vy vz vj m) (fun q => testAll (test3 (x q) (y q)) (y q) (z q) (BitVec.ofNat 32 q)) := by
  intro ι
  show testAll (m ι) (vy ι) (vz ι) (vj ι) = _
  rw [hx ι, hy ι, hz ι, hj ι]

/-- The block of the cells. -/
theorem isFlat_cellW (hm : IsFlat (R := 2344) m (fun q => test3 (x q) (y q))) (hx : IsFlat (R := 2344) vx x) (hy : IsFlat (R := 2344) vy y) (hz : IsFlat (R := 2344) vz z)
    (hj : IsFlat (R := 2344) vj (fun q => BitVec.ofNat 32 q)) : IsFlat (R := 2344) (k0_pay202 vx vy vz vj m) (fun q => cellW (x q) (y q) (z q) (BitVec.ofNat 32 q)) := by
  refine isFlat_cast (X := select (k0_pay201 vy vz vj m) (addi (muli (addi (muli vz (broadcast S2344x128 1080#32)) vy) (broadcast S2344x128 1080#32)) vx) (broadcast S2344x128 46656000#32)) ?_ shapeCasts_S2344x128_S2344x128
  intro ι
  show (if k0_pay201 vy vz vj m ι = 1#1 then cellNo (vx ι) (vy ι) (vz ι) else 46656000#32) = _
  rw [isFlat_testAll hm hy hz hj ι, hx ι, hy ι, hz ι]
  rfl

/-- The block of the packed coordinates. -/
theorem isFlat_packW (hm : IsFlat (R := 2344) m (fun q => test3 (x q) (y q))) (hx : IsFlat (R := 2344) vx x) (hy : IsFlat (R := 2344) vy y) (hz : IsFlat (R := 2344) vz z)
    (hj : IsFlat (R := 2344) vj (fun q => BitVec.ofNat 32 q)) : IsFlat (R := 2344) (k0_pay203 vx vy vz vj m) (fun q => packW (x q) (y q) (z q) (BitVec.ofNat 32 q)) := by
  refine isFlat_cast (X := select (k0_pay201 vy vz vj m) (ori (ori (shli vz (broadcast S2344x128 22#32)) (shli vy (broadcast S2344x128 11#32))) vx) (broadcast S2344x128 0#32)) ?_ shapeCasts_S2344x128_S2344x128
  intro ι
  show (if k0_pay201 vy vz vj m ι = 1#1 then packNo (vx ι) (vy ι) (vz ι) else 0#32) = _
  rw [isFlat_testAll hm hy hz hj ι, hx ι, hy ι, hz ι]
  rfl

theorem andi_eq_one (a b : BitVec 1) : Scalar.andi a b = 1#1 ↔ a = 1#1 ∧ b = 1#1 := by revert a b; decide

/-- The tests of a coordinate say that it is in its range. -/
theorem range_iff (x : BitVec 32) (n : ℕ) (hn : n < 2 ^ 31) :
    (Scalar.cmpi .sge x 0#32 = 1#1 ∧ Scalar.cmpi .slt x (BitVec.ofNat 32 n) = 1#1) ↔ x.toNat < n := by
  have h0 : Scalar.cmpi .sge x 0#32 = BitVec.ofBool (decide (x.toNat < 2 ^ 31)) := WordCmp.cmpi_sge_zero x
  have hb : ∀ p : Prop, ∀ [Decidable p], BitVec.ofBool (decide p) = 1#1 ↔ p := fun p _ => by by_cases h : p <;> simp [h]
  have hN : (BitVec.ofNat 32 n).toNat = n := by rw [BitVec.toNat_ofNat, Nat.mod_eq_of_lt (by omega)]
  rw [h0, hb]
  constructor
  · rintro ⟨h1, h2⟩
    have := (slt_iff x _ h1 (by rw [hN]; exact hn)).mp h2
    rwa [hN] at this
  · intro h
    refine ⟨by omega, (slt_iff x _ (by omega) (by rw [hN]; exact hn)).mpr (by rw [hN]; exact h)⟩

/-- The tests, all together. -/
theorem testAll_iff (x y z : BitVec 32) (j : ℕ) (hj : j < 2 ^ 31) :
    testAll (test3 x y) y z (BitVec.ofNat 32 j) = 1#1 ↔ (x.toNat < 1080 ∧ y.toNat < 1080 ∧ z.toNat < 40) ∧ j < 300000 := by
  have hx := range_iff x 1080 (by omega)
  have hy := range_iff y 1080 (by omega)
  have hz := range_iff z 40 (by omega)
  have hJ : (BitVec.ofNat 32 j).toNat = j := by rw [BitVec.toNat_ofNat, Nat.mod_eq_of_lt (by omega)]
  have hj' := slt_iff (BitVec.ofNat 32 j) 300000#32 (by rw [hJ]; exact hj) (by decide)
  rw [hJ] at hj'
  unfold testAll test3
  simp only [andi_eq_one]
  rw [← hx, ← hy, ← hz]
  have hj'' : Scalar.cmpi .slt (BitVec.ofNat 32 j) 300000#32 = 1#1 ↔ j < 300000 := hj'
  rw [hj'']
  tauto

/-- A cell's number is at most the number of cells. -/
theorem cellW_le (x y z w : BitVec 32) : (cellW x y z w).toNat ≤ 46656000 := by
  unfold cellW
  split
  · next h =>
    have hx := range_iff x 1080 (by omega)
    have hy := range_iff y 1080 (by omega)
    have hz := range_iff z 40 (by omega)
    unfold testAll test3 at h
    simp only [andi_eq_one] at h
    obtain ⟨hx, hy, hz⟩ : x.toNat < 1080 ∧ y.toNat < 1080 ∧ z.toNat < 40 := by tauto
    have e1 := toNat_muli z 1080#32 (by show _ * 1080 < _; omega)
    have e2 := toNat_addi (Scalar.muli z 1080#32) y (by rw [e1]; show _ * 1080 + _ < _; omega)
    have e3 := toNat_muli (Scalar.addi (Scalar.muli z 1080#32) y) 1080#32 (by rw [e2, e1]; show (_ * 1080 + _) * 1080 < _; omega)
    have e4 := toNat_addi (Scalar.muli (Scalar.addi (Scalar.muli z 1080#32) y) 1080#32) x (by rw [e3, e2, e1]; show (_ * 1080 + _) * 1080 + _ < _; omega)
    have e : (cellNo x y z).toNat = (z.toNat * 1080 + y.toNat) * 1080 + x.toNat := by
      unfold cellNo
      rw [e4, e3, e2, e1]; rfl
    rw [e]; omega
  · exact le_refl _

end Cert.Proof.Vox

end
-- ==== Proof.PlaceLoop.lean ====
/-
  The writing loop's trips and the loop.
-/
module

public import proofs.«01_k».proof.Proof.Places

@[expose] public section

noncomputable section

namespace Cert.Proof.Vox

open Cert.KernelIdeal Cert.KernelIdeal.Gen
open Idealize.ShloMosaic TcCoe LaneScatter Updates
open Idealize.SL
open Idealize.SL.BI (sProp)
open scoped Idealize.SL.BI
open Idealize.SL.BI.BIBase Idealize.SL.BI.Laws Idealize.SL.Sem Idealize.SL.ProofMode
open Idealize.SL.RA
open Idealize.ShloMosaic.Tactic

variable {F : FTy → Type} [FloatOps F]

local notation "𝕄" => MT nD τ sig Unit (Elt F) ℕ (UR sig nD τ) ℕ

variable (arg0 : Memref sig .tc .vmem S2344x128 .f32) (harg0 : arg0.IsWhole) (arg1 : Memref sig .tc .vmem S2344x128 .f32) (harg1 : arg1.IsWhole)
  (arg2 : Memref sig .tc .vmem S2344x128 .f32) (harg2 : arg2.IsWhole) (arg3 : Memref sig .tc .vmem S2344x128 .f32) (harg3 : arg3.IsWhole)
  (arg4 : Memref sig .tc .vmem S2344x128 .f32) (harg4 : arg4.IsWhole) (arg5 : Memref sig .tc .vmem S46876x128 .f32) (harg5 : arg5.IsWhole)
  (arg6 : Memref sig .tc .vmem S2814x128 .i32) (harg6 : arg6.IsWhole) (arg7 : Memref sig .tc .vmem S939x128 .i32) (harg7 : arg7.IsWhole)
  (arg8 : Memref sig .tc .vmem S11391x128 .i32) (harg8 : arg8.IsWhole) (arg9 : Memref sig .tc .vmem S11391x128 .f32) (harg9 : arg9.IsWhole)
  (arg10 : Memref sig .tc .vmem S2344x128 .i32) (harg10 : arg10.IsWhole) (arg11 : Memref sig .tc .vmem S2344x128 .i32) (harg11 : arg11.IsWhole)

section

variable (c : Dev nD) (v0 : IVec S1x128 32) (hv0 : IsFlat (R := 1) v0 (fun q => BitVec.ofNat 32 q))
  (v5 : IVec S2x128 32) (hv5 : IsFlat (R := 2) v5 (fun q => BitVec.ofNat 32 q)) (Rf : sProp (MT nD τ sig Unit (Elt F) ℕ (UR sig nD τ) ℕ))
  (f8 : arg8.view.ty.Contents (Elt F)) (f9 : arg9.view.ty.Contents (Elt F))
  (g8 : ℕ → BitVec 32) (g9 : ℕ → F .f32) (rk : ℕ → ℕ) (hrk : RankOf g8 g9 rk)
  (h8 : IsFlat (R := 11391) (β := BitVec 32) (arg8.view.read (Elt F) f8) g8) (h9 : IsFlat (R := 11391) (arg9.view.read (Elt F) f9) g9)

/-- What is left of a trip after its first part, as the kernel's own code has it. -/
theorem rest25_wp (Q : Unit → sProp 𝕄) (P25 : PG F (Row25 F)) (A : sProp 𝕄) (h : A ⊢ wpk c P25 (rest25 arg0 harg0 arg1 harg1 arg2 harg2 arg3 harg3 arg4 harg4 arg5 harg5 arg6 harg6 arg7 harg7 arg8 harg8 arg9 harg9 arg10 harg10 arg11 harg11 v0 v5 c Q)) :
    A ⊢ wpk c (P25 >>= fun r =>
          match r with
          | ⟨W, P, X0, X1, X2, X3, X4, w, hw, u, z⟩ =>
            k0_part26 (F := F) arg0 harg0 arg1 harg1 arg2 harg2 arg3 harg3 arg4 harg4 arg5 harg5 arg6 harg6 arg7 harg7 arg8 harg8 arg9 harg9 arg10 harg10 arg11 harg11 v0 v5 W P X0 X1 X2 X3 X4 w hw u z >>= fun r =>
              match r with
              | ⟨w, hw, u⟩ =>
                k0_part27 (F := F) arg0 harg0 arg1 harg1 arg2 harg2 arg3 harg3 arg4 harg4 arg5 harg5 arg6 harg6 arg7 harg7 arg8 harg8 arg9 harg9 arg10 harg10 arg11 harg11 v0 v5 W P X0 X1 X2 X3 X4 w hw u >>= fun r =>
                  placeStep arg5 arg6 arg7 arg8 arg9 v0 v5 (laneOf X0 15) (laneOf X1 15) (laneOf X2 15) (laneOf X3 15) (laneOf X4 15) (laneOf P 15) (extractAt ![0, 0] r inpos_S1x1_p0_0)
                    (pure ⟨⟩)) Q := by
  refine Entails.trans h ?_
  unfold wpk
  rw [wp_bind]
  iintro H
  iapply (wp_wand_r frame (wpE (defs₀ (F := F)) Variants.none (c : Thread nD τ) none) Set.univ)
  isplitl [H]
  · iexact H
  · iintro %a H
    obtain ⟨W, P, X0, X1, X2, X3, X4, w, hw, u, z⟩ := a
    unfold rest25 wpk
    dsimp only
    rw [wp_bind]
    iapply (wp_wand_r frame (wpE (defs₀ (F := F)) Variants.none (c : Thread nD τ) none) Set.univ)
    isplitl [H]
    · iexact H
    · iintro %b H
      obtain ⟨w, hw, u⟩ := b
      dsimp only
      rw [wp_bind]
      iexact H

/-- The blocks a trip reads the points in. -/
abbrev rows7 (c : Dev nD) (f0 : arg0.view.ty.Contents (Elt F)) (f1 : arg1.view.ty.Contents (Elt F)) (f2 : arg2.view.ty.Contents (Elt F)) (f3 : arg3.view.ty.Contents (Elt F))
    (f4 : arg4.view.ty.Contents (Elt F)) (f10 : arg10.view.ty.Contents (Elt F)) (f11 : arg11.view.ty.Contents (Elt F)) : sProp 𝕄 :=
  iprop(raw (c : Thread nD τ) arg0 f0 ∗ raw (c : Thread nD τ) arg1 f1 ∗ raw (c : Thread nD τ) arg2 f2 ∗ raw (c : Thread nD τ) arg3 f3 ∗ raw (c : Thread nD τ) arg4 f4
    ∗ raw (c : Thread nD τ) arg10 f10 ∗ raw (c : Thread nD τ) arg11 f11)

variable (f0 : arg0.view.ty.Contents (Elt F)) (f1 : arg1.view.ty.Contents (Elt F)) (f2 : arg2.view.ty.Contents (Elt F)) (f3 : arg3.view.ty.Contents (Elt F))
    (f4 : arg4.view.ty.Contents (Elt F)) (f10 : arg10.view.ty.Contents (Elt F)) (f11 : arg11.view.ty.Contents (Elt F))
    (L P : ℕ → BitVec 32) (X0 X1 X2 X3 X4 : ℕ → F .f32) (hL : ∀ j, (L j).toNat ≤ 46656000)
    (h0 : IsFlat (R := 2344) (arg0.view.read (Elt F) f0) X0) (h1 : IsFlat (R := 2344) (arg1.view.read (Elt F) f1) X1) (h2 : IsFlat (R := 2344) (arg2.view.read (Elt F) f2) X2)
    (h3 : IsFlat (R := 2344) (arg3.view.read (Elt F) f3) X3) (h4 : IsFlat (R := 2344) (arg4.view.read (Elt F) f4) X4)
    (h10 : IsFlat (R := 2344) (β := BitVec 32) (arg10.view.read (Elt F) f10) L) (h11 : IsFlat (R := 2344) (β := BitVec 32) (arg11.view.read (Elt F) f11) P)

/-- The blocks the writing loop changes, their contents in one. -/
abbrev own3 (c : Dev nD) (R : sProp 𝕄) (f8 : arg8.view.ty.Contents (Elt F)) (f9 : arg9.view.ty.Contents (Elt F))
    (f : arg5.view.ty.Contents (Elt F) × arg6.view.ty.Contents (Elt F) × arg7.view.ty.Contents (Elt F)) : sProp 𝕄 :=
  iprop(R ∗ five5 c f8 f9 f.1 f.2.1 f.2.2)

include hv0 hv5 hrk h8 h9 hL h0 h1 h2 h3 h4 h10 h11 in
/-- One trip of the writing loop. -/
theorem place_trip (s : PS (F .f32)) (k : Fin k0_t3_loop.trips) (f : arg5.view.ty.Contents (Elt F) × arg6.view.ty.Contents (Elt F) × arg7.view.ty.Contents (Elt F))
    (hs : Held (places s L P rk X0 X1 X2 X3 X4 (16 * k.val)) f.1 f.2.1 f.2.2) :
    own3 (arg5 := arg5) (arg6 := arg6) (arg7 := arg7) (arg8 := arg8) (arg9 := arg9) c (rows7 arg0 arg1 arg2 arg3 arg4 arg10 arg11 c f0 f1 f2 f3 f4 f10 f11) f8 f9 f ⊢
      wpk c (k0_t3_body (F := F) arg0 harg0 arg1 harg1 arg2 harg2 arg3 harg3 arg4 harg4 arg5 harg5 arg6 harg6 arg7 harg7 arg8 harg8 arg9 harg9 arg10 harg10 arg11 harg11 v0 v5 k ())
        (fun _ => heldWith (own3 (arg5 := arg5) (arg6 := arg6) (arg7 := arg7) (arg8 := arg8) (arg9 := arg9) c (rows7 arg0 arg1 arg2 arg3 arg4 arg10 arg11 c f0 f1 f2 f3 f4 f10 f11) f8 f9)
          (fun f => Held (places s L P rk X0 X1 X2 X3 X4 (16 * (k.val + 1))) f.1 f.2.1 f.2.2)) := by
  obtain ⟨f5, f6, f7⟩ := f
  have hm : k0_t3_loop.trips ≤ 2 ^ 31 := by rw [trips3]; omega
  rw [k0_t3_body_eq]
  refine rest25_wp arg0 harg0 arg1 harg1 arg2 harg2 arg3 harg3 arg4 harg4 arg5 harg5 arg6 harg6 arg7 harg7 arg8 harg8 arg9 harg9 arg10 harg10 arg11 harg11 c v0 v5 _ _ _ ?_
  rw [k0_part25_eq]
  have T := fun (W Z : IVec S1x128 32) (Y0 Y1 Y2 Y3 Y4 : FVec F S1x128 .f32) (hW : ∀ n : Fin 16, (laneOf W n).toNat ≤ 46656000) hk => rows_run arg0 harg0 arg1 harg1 arg2 harg2 arg3 harg3 arg4 harg4 arg5 harg5 arg6 harg6 arg7 harg7 arg8 harg8 arg9 harg9 arg10 harg10 arg11 harg11 c v0 hv0 v5 hv5 (rows7 arg0 arg1 arg2 arg3 arg4 arg10 arg11 c f0 f1 f2 f3 f4 f10 f11) f8 f9 g8 g9 rk hrk h8 h9
    W Z Y0 Y1 Y2 Y3 Y4 hW _ f5 f6 f7 hs
    (fun _ => heldWith (own3 (arg5 := arg5) (arg6 := arg6) (arg7 := arg7) (arg8 := arg8) (arg9 := arg9) c (rows7 arg0 arg1 arg2 arg3 arg4 arg10 arg11 c f0 f1 f2 f3 f4 f10 f11) f8 f9)
          (fun f => Held (places s L P rk X0 X1 X2 X3 X4 (16 * (k.val + 1))) f.1 f.2.1 f.2.2)) hk
  refine load_row c arg10 f10 _ h10 (off19_eq k) _ _ _ iprop((raw (c : Thread nD τ) arg0 f0 ∗ raw (c : Thread nD τ) arg1 f1 ∗ raw (c : Thread nD τ) arg2 f2 ∗ raw (c : Thread nD τ) arg3 f3 ∗ raw (c : Thread nD τ) arg4 f4 ∗ raw (c : Thread nD τ) arg11 f11) ∗ five5 c f8 f9 f5 f6 f7) ?_ ?_ _ _ (fun x10 hx10 => ?_)
  · iintro ⟨⟨H0, H1, H2, H3, H4, H10, H11⟩, H⟩
    iframe H0 H1 H2 H3 H4 H10 H11 H
  · iintro ⟨⟨⟨H0, H1, H2, H3, H4, H11⟩, H⟩, H10⟩
    iframe H0 H1 H2 H3 H4 H10 H11 H
  refine load_row c arg11 f11 _ h11 (off19_eq k) _ _ _ iprop((raw (c : Thread nD τ) arg0 f0 ∗ raw (c : Thread nD τ) arg1 f1 ∗ raw (c : Thread nD τ) arg2 f2 ∗ raw (c : Thread nD τ) arg3 f3 ∗ raw (c : Thread nD τ) arg4 f4 ∗ raw (c : Thread nD τ) arg10 f10) ∗ five5 c f8 f9 f5 f6 f7) ?_ ?_ _ _ (fun x11 hx11 => ?_)
  · iintro ⟨⟨H0, H1, H2, H3, H4, H10, H11⟩, H⟩
    iframe H0 H1 H2 H3 H4 H10 H11 H
  · iintro ⟨⟨⟨H0, H1, H2, H3, H4, H10⟩, H⟩, H11⟩
    iframe H0 H1 H2 H3 H4 H10 H11 H
  refine load_row c arg0 f0 _ h0 (off19_eq k) _ _ _ iprop((raw (c : Thread nD τ) arg1 f1 ∗ raw (c : Thread nD τ) arg2 f2 ∗ raw (c : Thread nD τ) arg3 f3 ∗ raw (c : Thread nD τ) arg4 f4 ∗ raw (c : Thread nD τ) arg10 f10 ∗ raw (c : Thread nD τ) arg11 f11) ∗ five5 c f8 f9 f5 f6 f7) ?_ ?_ _ _ (fun x0 hx0 => ?_)
  · iintro ⟨⟨H0, H1, H2, H3, H4, H10, H11⟩, H⟩
    iframe H0 H1 H2 H3 H4 H10 H11 H
  · iintro ⟨⟨⟨H1, H2, H3, H4, H10, H11⟩, H⟩, H0⟩
    iframe H0 H1 H2 H3 H4 H10 H11 H
  refine load_row c arg1 f1 _ h1 (off19_eq k) _ _ _ iprop((raw (c : Thread nD τ) arg0 f0 ∗ raw (c : Thread nD τ) arg2 f2 ∗ raw (c : Thread nD τ) arg3 f3 ∗ raw (c : Thread nD τ) arg4 f4 ∗ raw (c : Thread nD τ) arg10 f10 ∗ raw (c : Thread nD τ) arg11 f11) ∗ five5 c f8 f9 f5 f6 f7) ?_ ?_ _ _ (fun x1 hx1 => ?_)
  · iintro ⟨⟨H0, H1, H2, H3, H4, H10, H11⟩, H⟩
    iframe H0 H1 H2 H3 H4 H10 H11 H
  · iintro ⟨⟨⟨H0, H2, H3, H4, H10, H11⟩, H⟩, H1⟩
    iframe H0 H1 H2 H3 H4 H10 H11 H
  refine load_row c arg2 f2 _ h2 (off19_eq k) _ _ _ iprop((raw (c : Thread nD τ) arg0 f0 ∗ raw (c : Thread nD τ) arg1 f1 ∗ raw (c : Thread nD τ) arg3 f3 ∗ raw (c : Thread nD τ) arg4 f4 ∗ raw (c : Thread nD τ) arg10 f10 ∗ raw (c : Thread nD τ) arg11 f11) ∗ five5 c f8 f9 f5 f6 f7) ?_ ?_ _ _ (fun x2 hx2 => ?_)
  · iintro ⟨⟨H0, H1, H2, H3, H4, H10, H11⟩, H⟩
    iframe H0 H1 H2 H3 H4 H10 H11 H
  · iintro ⟨⟨⟨H0, H1, H3, H4, H10, H11⟩, H⟩, H2⟩
    iframe H0 H1 H2 H3 H4 H10 H11 H
  refine load_row c arg3 f3 _ h3 (off19_eq k) _ _ _ iprop((raw (c : Thread nD τ) arg0 f0 ∗ raw (c : Thread nD τ) arg1 f1 ∗ raw (c : Thread nD τ) arg2 f2 ∗ raw (c : Thread nD τ) arg4 f4 ∗ raw (c : Thread nD τ) arg10 f10 ∗ raw (c : Thread nD τ) arg11 f11) ∗ five5 c f8 f9 f5 f6 f7) ?_ ?_ _ _ (fun x3 hx3 => ?_)
  · iintro ⟨⟨H0, H1, H2, H3, H4, H10, H11⟩, H⟩
    iframe H0 H1 H2 H3 H4 H10 H11 H
  · iintro ⟨⟨⟨H0, H1, H2, H4, H10, H11⟩, H⟩, H3⟩
    iframe H0 H1 H2 H3 H4 H10 H11 H
  refine load_row c arg4 f4 _ h4 (off19_eq k) _ _ _ iprop((raw (c : Thread nD τ) arg0 f0 ∗ raw (c : Thread nD τ) arg1 f1 ∗ raw (c : Thread nD τ) arg2 f2 ∗ raw (c : Thread nD τ) arg3 f3 ∗ raw (c : Thread nD τ) arg10 f10 ∗ raw (c : Thread nD τ) arg11 f11) ∗ five5 c f8 f9 f5 f6 f7) ?_ ?_ _ _ (fun x4 hx4 => ?_)
  · iintro ⟨⟨H0, H1, H2, H3, H4, H10, H11⟩, H⟩
    iframe H0 H1 H2 H3 H4 H10 H11 H
  · iintro ⟨⟨⟨H0, H1, H2, H3, H10, H11⟩, H⟩, H4⟩
    iframe H0 H1 H2 H3 H4 H10 H11 H
  have w10 := trip_word k hm _ L hx10
  have w11 := trip_word k hm _ P hx11
  have w0 := trip_word k hm _ X0 (isFlat_cast hx0 shapeCasts_S1x128_S1x128)
  have w1 := trip_word k hm _ X1 (isFlat_cast hx1 shapeCasts_S1x128_S1x128)
  have w2 := trip_word k hm _ X2 (isFlat_cast hx2 shapeCasts_S1x128_S1x128)
  have w3 := trip_word k hm _ X3 (isFlat_cast hx3 shapeCasts_S1x128_S1x128)
  have w4 := trip_word k hm _ X4 (isFlat_cast hx4 shapeCasts_S1x128_S1x128)
  refine T _ _ _ _ _ _ _ (fun n => by rw [show laneOf (rowAt3 k x10) n = _ from w10 n]; exact hL _) (fun f5 f6 f7 h => ?_)
  unfold heldWith
  iintro H
  iexists (f5, f6, f7)
  isplitl [H]
  · iexact H
  ipureintro
  simp only [lanes16, List.foldl, placeLane, rowAt3, w0, w1, w2, w3, w4, w10, w11] at h
  exact h

include hv0 hv5 hrk h8 h9 hL h0 h1 h2 h3 h4 h10 h11 in
/-- The writing loop. -/
theorem place_loop (s : PS (F .f32)) :
    heldWith (own3 (arg5 := arg5) (arg6 := arg6) (arg7 := arg7) (arg8 := arg8) (arg9 := arg9) c (rows7 arg0 arg1 arg2 arg3 arg4 arg10 arg11 c f0 f1 f2 f3 f4 f10 f11) f8 f9)
        (fun f => Held s f.1 f.2.1 f.2.2) ⊢
      wpk c (Scf.Loop.for k0_t3_loop k0_t3_ok ⟨⟩ (k0_t3_body (F := F) arg0 harg0 arg1 harg1 arg2 harg2 arg3 harg3 arg4 harg4 arg5 harg5 arg6 harg6 arg7 harg7 arg8 harg8 arg9 harg9 arg10 harg10 arg11 harg11 v0 v5))
        (fun _ => heldWith (own3 (arg5 := arg5) (arg6 := arg6) (arg7 := arg7) (arg8 := arg8) (arg9 := arg9) c (rows7 arg0 arg1 arg2 arg3 arg4 arg10 arg11 c f0 f1 f2 f3 f4 f10 f11) f8 f9)
          (fun f => Held (places s L P rk X0 X1 X2 X3 X4 300000) f.1 f.2.1 f.2.2)) := by
  have T := fun (k : Fin k0_t3_loop.trips) f hs => place_trip (F := F) arg0 harg0 arg1 harg1 arg2 harg2 arg3 harg3 arg4 harg4 arg5 harg5 arg6 harg6 arg7 harg7 arg8 harg8 arg9 harg9 arg10 harg10 arg11 harg11 c v0 hv0 v5 hv5 f8 f9 g8 g9 rk hrk h8 h9 f0 f1 f2 f3 f4 f10 f11 L P X0 X1 X2 X3 X4 hL h0 h1 h2 h3 h4 h10 h11 s k f hs
  rw [show 300000 = 16 * k0_t3_loop.trips by rw [trips3]]
  unfold wpk at T ⊢
  generalize k0_t3_body (F := F) arg0 harg0 arg1 harg1 arg2 harg2 arg3 harg3 arg4 harg4 arg5 harg5 arg6 harg6 arg7 harg7 arg8 harg8 arg9 harg9 arg10 harg10 arg11 harg11 v0 v5 = B at T ⊢
  exact fold_inv frame (wpE (defs₀ (F := F)) Variants.none (c : Thread nD τ) none) Set.univ k0_t3_loop.lb k0_t3_loop.ub k0_t3_loop.st k0_t3_ok B
    (own3 (arg5 := arg5) (arg6 := arg6) (arg7 := arg7) (arg8 := arg8) (arg9 := arg9) c (rows7 arg0 arg1 arg2 arg3 arg4 arg10 arg11 c f0 f1 f2 f3 f4 f10 f11) f8 f9)
    (fun n f => Held (places s L P rk X0 X1 X2 X3 X4 (16 * n)) f.1 f.2.1 f.2.2) T

end

end Cert.Proof.Vox

end
-- ==== Proof.Body.lean ====
/-
  The kernel's body from end to end: what the three results' blocks hold when it is done.
-/
module

public import proofs.«01_k».proof.Proof.CellWord
public import proofs.«01_k».proof.Proof.PlaceLoop

@[expose] public section

noncomputable section

namespace Cert.Proof.Vox

open Cert.KernelIdeal Cert.KernelIdeal.Gen
open Idealize.ShloMosaic TcCoe LaneScatter Updates
open Idealize.SL
open Idealize.SL.BI (sProp)
open scoped Idealize.SL.BI
open Idealize.SL.BI.BIBase Idealize.SL.BI.Laws Idealize.SL.Sem Idealize.SL.ProofMode
open Idealize.SL.RA
open Idealize.ShloMosaic.Tactic

variable {F : FTy → Type} [FloatOps F]

local notation "𝕄" => MT nD τ sig Unit (Elt F) ℕ (UR sig nD τ) ℕ

/-- What the counting and the product with the triangular matrix ask of the floats. -/
structure ScanLaws (F : FTy → Type) [FloatOps F] extends NatLaws F where
  mat : ∀ (B : ℕ → ℕ), (∀ q, B q ≤ 32) → ∀ v : FVec F S11391x128 .f32, IsFlat (R := 11391) v (fun q => nat (B q)) →
    IsFlat (R := 11391) (k0_pay1 v k0_pay210) (fun q => nat (pre B q - pre B (q / 128 * 128)))

/-- Every block holds something. -/
theorem isFlat_any {β : Type} {R : ℕ} (hR : 0 < R) (X : (Blk R 128).Idx → β) : ∃ g, IsFlat X g := by
  refine ⟨fun q => X (ValueIdx.ix2 ⟨q / 128 % R, Nat.mod_lt _ hR⟩ ⟨q % 128, Nat.mod_lt _ (by omega)⟩), fun ι => ?_⟩
  have h0 : (ι 0).val < R := (ι 0).isLt
  have h1 : (ι 1).val < 128 := (ι 1).isLt
  refine congrArg X (funext fun a => Fin.ext ?_)
  match a with
  | ⟨0, _⟩ =>
    show (ι 0).val = ((ι 0).val * 128 + (ι 1).val) / 128 % R
    rw [show ((ι 0).val * 128 + (ι 1).val) / 128 = (ι 0).val by omega, Nat.mod_eq_of_lt h0]
  | ⟨1, _⟩ =>
    show (ι 1).val = ((ι 0).val * 128 + (ι 1).val) % 128
    omega

/-- A program, then another. -/
theorem bind_wpk {α γ : Type} (c : Dev nD) (p : PG F α) (K : α → PG F γ) (A : sProp 𝕄) (Q : γ → sProp 𝕄) (h : A ⊢ wpk c p (fun a => wpk c (K a) Q)) :
    A ⊢ wpk c (p >>= K) Q := by
  unfold wpk at h ⊢
  rw [wp_bind]
  exact h

/-- Loading a whole block. -/
theorem load_all {α : Type} {e : EltTy} {R : ℕ} (c : Dev nD) (M : Memref sig .tc .vmem (Blk R 128) e) (f : M.view.ty.Contents (Elt F)) (g : ℕ → Elt F e)
    (hf : IsFlat (R := R) (M.view.read (Elt F) f) g) (inb : ∀ a, (![0, 0] : Fin 2 → ℕ) a + (Blk R 128).size a ≤ (Blk R 128).size a) (hl)
    (A P : sProp 𝕄) (hA : A ⊢ iprop(P ∗ raw (c : Thread nD τ) M f)) (hA' : iprop(P ∗ raw (c : Thread nD τ) M f) ⊢ A)
    (K : Vec F (Blk R 128) e → PG F α) (Q : α → sProp 𝕄) (hk : ∀ y : Vec F (Blk R 128) e, IsFlat (R := R) y g → A ⊢ wpk c (K y) Q) :
    A ⊢ wpk c (Prog.lift (.load M (Rect.unit (s := Blk R 128) ![0, 0] (Blk R 128).size inb).toLoadRect hl) >>= K) Q :=
  load_row c M f g hf (r := 0) rfl inb hl A P hA hA' K Q fun y hy => hk y (hy.congr fun q _ => by show g (0 * 128 + q) = g q; rw [Nat.zero_mul, Nat.zero_add])

/-- Loading a whole block whose contents do not matter. -/
theorem load_some {α : Type} {e : EltTy} {R : ℕ} (hR : 0 < R) (c : Dev nD) (M : Memref sig .tc .vmem (Blk R 128) e) (f : M.view.ty.Contents (Elt F))
    (inb : ∀ a, (![0, 0] : Fin 2 → ℕ) a + (Blk R 128).size a ≤ (Blk R 128).size a) (hl)
    (A P : sProp 𝕄) (hA : A ⊢ iprop(P ∗ raw (c : Thread nD τ) M f)) (hA' : iprop(P ∗ raw (c : Thread nD τ) M f) ⊢ A)
    (K : Vec F (Blk R 128) e → PG F α) (Q : α → sProp 𝕄) (hk : ∀ y : Vec F (Blk R 128) e, A ⊢ wpk c (K y) Q) :
    A ⊢ wpk c (Prog.lift (.load M (Rect.unit (s := Blk R 128) ![0, 0] (Blk R 128).size inb).toLoadRect hl) >>= K) Q := by
  obtain ⟨g, hg⟩ := isFlat_any hR (M.view.read (Elt F) f)
  exact load_all c M f g hg inb hl A P hA hA' K Q fun y _ => hk y

/-- Storing a whole block. -/
theorem store_all {α : Type} {e : EltTy} {R : ℕ} (hR : 0 < R) (c : Dev nD) (M : Memref sig .tc .vmem (Blk R 128) e) (f : M.view.ty.Contents (Elt F))
    (inb : ∀ a, (![0, 0] : Fin 2 → ℕ) a + (Blk R 128).size a ≤ (Blk R 128).size a) (x : Vec F (Blk R 128) e) (W : ℕ → Elt F e) (hx : IsFlat (R := R) x W) (hst) (hb)
    (A P : sProp 𝕄) (hA : A ⊢ iprop(P ∗ raw (c : Thread nD τ) M f)) (K : PUnit → PG F α) (Q : α → sProp 𝕄)
    (hk : ∀ f' : M.view.ty.Contents (Elt F), IsFlat (R := R) (M.view.read (Elt F) f') W → iprop(P ∗ raw (c : Thread nD τ) M f') ⊢ wpk c (K ⟨⟩) Q) :
    A ⊢ wpk c (Prog.lift (.store M (Rect.unit (s := Blk R 128) ![0, 0] (Blk R 128).size inb) x Finset.univ hst hb) >>= K) Q := by
  obtain ⟨g, hg⟩ := isFlat_any hR (M.view.read (Elt F) f)
  refine store_row c M f g hg (r := 0) rfl inb x W hx hst hb A P hA K Q fun f' hf' => hk f' (hf'.congr fun q hq => ?_)
  unfold patch
  rw [if_pos (by omega), Nat.zero_mul, Nat.sub_zero]

variable (arg0 : Memref sig .tc .vmem S2344x128 .f32) (harg0 : arg0.IsWhole) (arg1 : Memref sig .tc .vmem S2344x128 .f32) (harg1 : arg1.IsWhole)
  (arg2 : Memref sig .tc .vmem S2344x128 .f32) (harg2 : arg2.IsWhole) (arg3 : Memref sig .tc .vmem S2344x128 .f32) (harg3 : arg3.IsWhole)
  (arg4 : Memref sig .tc .vmem S2344x128 .f32) (harg4 : arg4.IsWhole) (arg5 : Memref sig .tc .vmem S46876x128 .f32) (harg5 : arg5.IsWhole)
  (arg6 : Memref sig .tc .vmem S2814x128 .i32) (harg6 : arg6.IsWhole) (arg7 : Memref sig .tc .vmem S939x128 .i32) (harg7 : arg7.IsWhole)
  (arg8 : Memref sig .tc .vmem S11391x128 .i32) (harg8 : arg8.IsWhole) (arg9 : Memref sig .tc .vmem S11391x128 .f32) (harg9 : arg9.IsWhole)
  (arg10 : Memref sig .tc .vmem S2344x128 .i32) (harg10 : arg10.IsWhole) (arg11 : Memref sig .tc .vmem S2344x128 .i32) (harg11 : arg11.IsWhole)

variable (c : Dev nD) (Rf : sProp (MT nD τ sig Unit (Elt F) ℕ (UR sig nD τ) ℕ))

/-- The first part: the points' grid coordinates and the first tests. -/
theorem part28_run (f0 : arg0.view.ty.Contents (Elt F)) (f1 : arg1.view.ty.Contents (Elt F)) (f2 : arg2.view.ty.Contents (Elt F)) (X0 X1 X2 : ℕ → F .f32)
    (h0 : IsFlat (R := 2344) (arg0.view.read (Elt F) f0) X0) (h1 : IsFlat (R := 2344) (arg1.view.read (Elt F) f1) X1) (h2 : IsFlat (R := 2344) (arg2.view.read (Elt F) f2) X2)
    (Q : (Σ' (v0 : IVec S1x128 32) (v5 : IVec S2x128 32) (v17 : IVec S2344x128 32) (v23 : IVec S2344x128 32) (v29 : IVec S2344x128 32) (v34 : IVec S2344x128 32), IVec S2344x128 1) → sProp 𝕄)
    (hk : ∀ v17 v23 v29 v42, IsFlat (R := 2344) v17 (fun q => gridOf 0xC2580000#32 0x3DCCCCCD#32 (X0 q)) → IsFlat (R := 2344) v23 (fun q => gridOf 0xC2580000#32 0x3DCCCCCD#32 (X1 q)) →
      IsFlat (R := 2344) v29 (fun q => gridOf 0xC0A00000#32 0x3E4CCCCD#32 (X2 q)) →
      IsFlat (R := 2344) v42 (fun q => test3 (gridOf 0xC2580000#32 0x3DCCCCCD#32 (X0 q)) (gridOf 0xC2580000#32 0x3DCCCCCD#32 (X1 q))) →
      iprop(Rf ∗ raw (c : Thread nD τ) arg0 f0 ∗ raw (c : Thread nD τ) arg1 f1 ∗ raw (c : Thread nD τ) arg2 f2) ⊢ Q ⟨iota .tc S1x128 32 [1] iota_S1x128_d1_w32, k0_pay195, v17, v23, v29, k0_pay199, v42⟩) :
    iprop(Rf ∗ raw (c : Thread nD τ) arg0 f0 ∗ raw (c : Thread nD τ) arg1 f1 ∗ raw (c : Thread nD τ) arg2 f2) ⊢ wpk c (k0_part28 (F := F) arg0 harg0 arg1 harg1 arg2 harg2 arg3 harg3 arg4 harg4 arg5 harg5 arg6 harg6 arg7 harg7 arg8 harg8 arg9 harg9 arg10 harg10 arg11 harg11) Q := by
  rw [k0_part28_eq_skeleton]
  unfold k0_part28_skel
  refine load_all c arg0 f0 X0 h0 _ _ _ iprop(Rf ∗ raw (c : Thread nD τ) arg1 f1 ∗ raw (c : Thread nD τ) arg2 f2) (by iintro ⟨HR, H0, H1, H2⟩; iframe HR H0 H1 H2) (by iintro ⟨⟨HR, H1, H2⟩, H0⟩; iframe HR H0 H1 H2) _ _ fun y0 hy0 => ?_
  refine load_all c arg1 f1 X1 h1 _ _ _ iprop(Rf ∗ raw (c : Thread nD τ) arg0 f0 ∗ raw (c : Thread nD τ) arg2 f2) (by iintro ⟨HR, H0, H1, H2⟩; iframe HR H0 H1 H2) (by iintro ⟨⟨HR, H0, H2⟩, H1⟩; iframe HR H0 H1 H2) _ _ fun y1 hy1 => ?_
  refine load_all c arg2 f2 X2 h2 _ _ _ iprop(Rf ∗ raw (c : Thread nD τ) arg0 f0 ∗ raw (c : Thread nD τ) arg1 f1) (by iintro ⟨HR, H0, H1, H2⟩; iframe HR H0 H1 H2) (by iintro ⟨⟨HR, H0, H1⟩, H2⟩; iframe HR H0 H1 H2) _ _ fun y2 hy2 => ?_
  exact pure_run c _ _ Q (hk _ _ _ _ (isFlat_gx hy0) (isFlat_gy hy1) (isFlat_gz hy2) (isFlat_test3 (isFlat_gx hy0) (isFlat_gy hy1)))

/-- The second part: the points' cells and packed coordinates stored, the values' block emptied. -/
theorem part29_run (f5 : arg5.view.ty.Contents (Elt F)) (f10 : arg10.view.ty.Contents (Elt F)) (f11 : arg11.view.ty.Contents (Elt F))
    (v17 v23 v29 v34 : IVec S2344x128 32) (v42 : IVec S2344x128 1) (x y z : ℕ → BitVec 32)
    (hx : IsFlat (R := 2344) v17 x) (hy : IsFlat (R := 2344) v23 y) (hz : IsFlat (R := 2344) v29 z) (hj : IsFlat (R := 2344) v34 (fun q => BitVec.ofNat 32 q)) (hm : IsFlat (R := 2344) v42 (fun q => test3 (x q) (y q)))
    (Q : IVec S2814x128 32 → sProp 𝕄)
    (hk : ∀ (f5 : arg5.view.ty.Contents (Elt F)) (f10 : arg10.view.ty.Contents (Elt F)) (f11 : arg11.view.ty.Contents (Elt F)),
      IsFlat (R := 46876) (arg5.view.read (Elt F) f5) (fun _ => (Scalar.ofBits .f32 0x00000000#32 : F .f32)) → IsFlat (R := 2344) (β := BitVec 32) (arg10.view.read (Elt F) f10) (fun q => cellW (x q) (y q) (z q) (BitVec.ofNat 32 q)) →
      IsFlat (R := 2344) (β := BitVec 32) (arg11.view.read (Elt F) f11) (fun q => packW (x q) (y q) (z q) (BitVec.ofNat 32 q)) →
      iprop(Rf ∗ raw (c : Thread nD τ) arg10 f10 ∗ raw (c : Thread nD τ) arg11 f11 ∗ raw (c : Thread nD τ) arg5 f5) ⊢ Q k0_pay205) :
    iprop(Rf ∗ raw (c : Thread nD τ) arg10 f10 ∗ raw (c : Thread nD τ) arg11 f11 ∗ raw (c : Thread nD τ) arg5 f5) ⊢ wpk c (k0_part29 (F := F) arg0 harg0 arg1 harg1 arg2 harg2 arg3 harg3 arg4 harg4 arg5 harg5 arg6 harg6 arg7 harg7 arg8 harg8 arg9 harg9 arg10 harg10 arg11 harg11 v17 v23 v29 v34 v42) Q := by
  rw [k0_part29_eq_skeleton]
  unfold k0_part29_skel
  refine load_some (by omega) c arg10 f10 _ _ _ iprop(Rf ∗ raw (c : Thread nD τ) arg11 f11 ∗ raw (c : Thread nD τ) arg5 f5) (by iintro ⟨HR, H0, H1, H2⟩; iframe HR H0 H1 H2) (by iintro ⟨⟨HR, H1, H2⟩, H0⟩; iframe HR H0 H1 H2) _ _ fun _ => ?_
  refine store_all (by omega) c arg10 f10 _ _ _ (isFlat_cellW hm hx hy hz hj) _ _ _ iprop(Rf ∗ raw (c : Thread nD τ) arg11 f11 ∗ raw (c : Thread nD τ) arg5 f5) (by iintro ⟨HR, H0, H1, H2⟩; iframe HR H0 H1 H2) _ _ fun f10 h10 => ?_
  refine load_some (by omega) c arg11 f11 _ _ _ iprop(Rf ∗ raw (c : Thread nD τ) arg5 f5 ∗ raw (c : Thread nD τ) arg10 f10) (by iintro ⟨⟨HR, H1, H2⟩, H0⟩; iframe HR H0 H1 H2) (by iintro ⟨⟨HR, H2, H0⟩, H1⟩; iframe HR H0 H1 H2) _ _ fun _ => ?_
  refine store_all (by omega) c arg11 f11 _ _ _ (isFlat_packW hm hx hy hz hj) _ _ _ iprop(Rf ∗ raw (c : Thread nD τ) arg5 f5 ∗ raw (c : Thread nD τ) arg10 f10) (by iintro ⟨⟨HR, H1, H2⟩, H0⟩; iframe HR H0 H1 H2) _ _ fun f11 h11 => ?_
  refine load_some (by omega) c arg5 f5 _ _ _ iprop(Rf ∗ raw (c : Thread nD τ) arg10 f10 ∗ raw (c : Thread nD τ) arg11 f11) (by iintro ⟨⟨HR, H2, H0⟩, H1⟩; iframe HR H0 H1 H2) (by iintro ⟨⟨HR, H0, H1⟩, H2⟩; iframe HR H0 H1 H2) _ _ fun _ => ?_
  refine store_all (by omega) c arg5 f5 _ _ _ (isFlat_broadcast _) _ _ _ iprop(Rf ∗ raw (c : Thread nD τ) arg10 f10 ∗ raw (c : Thread nD τ) arg11 f11) (by iintro ⟨⟨HR, H2, H0⟩, H1⟩; iframe HR H0 H1 H2) _ _ fun f5 h5 => ?_
  refine pure_run c _ _ Q (Entails.trans ?_ (hk f5 f10 f11 h5 h10 h11))
  iintro ⟨⟨HR, H0, H1⟩, H2⟩
  iframe HR H0 H1 H2

/-- The third part: the other blocks emptied, the bit map filled, its words' set bits counted. -/
theorem part30_run (N : NatLaws F) (f6 : arg6.view.ty.Contents (Elt F)) (f7 : arg7.view.ty.Contents (Elt F)) (f8 : arg8.view.ty.Contents (Elt F)) (f10 : arg10.view.ty.Contents (Elt F))
    (v0 : IVec S1x128 32) (hv0 : IsFlat (R := 1) v0 (fun q => BitVec.ofNat 32 q)) (L : ℕ → BitVec 32) (hL : ∀ j, (L j).toNat ≤ 46656000)
    (h10 : IsFlat (R := 2344) (β := BitVec 32) (arg10.view.read (Elt F) f10) L)
    (Q : (Σ' (v110 : FVec F S11391x128 .f32), IVec S128x128 32) → sProp 𝕄)
    (hk : ∀ (f6 : arg6.view.ty.Contents (Elt F)) (f7 : arg7.view.ty.Contents (Elt F)) (f8 : arg8.view.ty.Contents (Elt F)) (v110 : FVec F S11391x128 .f32),
      IsFlat (R := 2814) (β := BitVec 32) (arg6.view.read (Elt F) f6) (fun _ => 0#32) → IsFlat (R := 939) (β := BitVec 32) (arg7.view.read (Elt F) f7) (fun _ => 0#32) →
      IsFlat (R := 11391) (β := BitVec 32) (arg8.view.read (Elt F) f8) (marks L 300000) → IsFlat (R := 11391) v110 (fun q => N.nat (inWord L 300000 q)) →
      iprop(Rf ∗ raw (c : Thread nD τ) arg6 f6 ∗ raw (c : Thread nD τ) arg7 f7 ∗ raw (c : Thread nD τ) arg10 f10 ∗ raw (c : Thread nD τ) arg8 f8) ⊢ Q ⟨v110, k0_pay210⟩) :
    iprop(Rf ∗ raw (c : Thread nD τ) arg6 f6 ∗ raw (c : Thread nD τ) arg7 f7 ∗ raw (c : Thread nD τ) arg10 f10 ∗ raw (c : Thread nD τ) arg8 f8) ⊢ wpk c (k0_part30 (F := F) arg0 harg0 arg1 harg1 arg2 harg2 arg3 harg3 arg4 harg4 arg5 harg5 arg6 harg6 arg7 harg7 arg8 harg8 arg9 harg9 arg10 harg10 arg11 harg11 v0 k0_pay205) Q := by
  rw [k0_part30_eq_skeleton]
  unfold k0_part30_skel
  refine load_some (by omega) c arg6 f6 _ _ _ iprop(Rf ∗ raw (c : Thread nD τ) arg7 f7 ∗ raw (c : Thread nD τ) arg10 f10 ∗ raw (c : Thread nD τ) arg8 f8) (by iintro ⟨HR, H0, H1, H2, H3⟩; iframe HR H0 H1 H2 H3) (by iintro ⟨⟨HR, H1, H2, H3⟩, H0⟩; iframe HR H0 H1 H2 H3) _ _ fun _ => ?_
  refine store_all (by omega) c arg6 f6 _ _ _ (isFlat_broadcast _) _ _ _ iprop(Rf ∗ raw (c : Thread nD τ) arg7 f7 ∗ raw (c : Thread nD τ) arg10 f10 ∗ raw (c : Thread nD τ) arg8 f8) (by iintro ⟨HR, H0, H1, H2, H3⟩; iframe HR H0 H1 H2 H3) _ _ fun f6 h6 => ?_
  refine load_some (by omega) c arg7 f7 _ _ _ iprop(Rf ∗ raw (c : Thread nD τ) arg10 f10 ∗ raw (c : Thread nD τ) arg8 f8 ∗ raw (c : Thread nD τ) arg6 f6) (by iintro ⟨⟨HR, H1, H2, H3⟩, H0⟩; iframe HR H0 H1 H2 H3) (by iintro ⟨⟨HR, H2, H3, H0⟩, H1⟩; iframe HR H0 H1 H2 H3) _ _ fun _ => ?_
  refine store_all (by omega) c arg7 f7 _ _ _ (isFlat_broadcast _) _ _ _ iprop(Rf ∗ raw (c : Thread nD τ) arg10 f10 ∗ raw (c : Thread nD τ) arg8 f8 ∗ raw (c : Thread nD τ) arg6 f6) (by iintro ⟨⟨HR, H1, H2, H3⟩, H0⟩; iframe HR H0 H1 H2 H3) _ _ fun f7 h7 => ?_
  refine load_some (by omega) c arg8 f8 _ _ _ iprop(Rf ∗ raw (c : Thread nD τ) arg10 f10 ∗ raw (c : Thread nD τ) arg6 f6 ∗ raw (c : Thread nD τ) arg7 f7) (by iintro ⟨⟨HR, H2, H3, H0⟩, H1⟩; iframe HR H0 H1 H2 H3) (by iintro ⟨⟨HR, H2, H0, H1⟩, H3⟩; iframe HR H0 H1 H2 H3) _ _ fun _ => ?_
  refine store_all (by omega) c arg8 f8 _ _ _ (isFlat_cast (isFlat_broadcast _) shapeCasts_S11391x128_S11391x128) _ _ _ iprop(Rf ∗ raw (c : Thread nD τ) arg10 f10 ∗ raw (c : Thread nD τ) arg6 f6 ∗ raw (c : Thread nD τ) arg7 f7) (by iintro ⟨⟨HR, H2, H3, H0⟩, H1⟩; iframe HR H0 H1 H2 H3) _ _ fun f8 h8 => ?_
  have T := mark_loop (F := F) arg0 harg0 arg1 harg1 arg2 harg2 arg3 harg3 arg4 harg4 arg5 harg5 arg6 harg6 arg7 harg7 arg8 harg8 arg9 harg9 arg10 harg10 arg11 harg11 c v0 hv0 k0_pay205 L hL f10 h10
  have hk' : ∀ f8 : arg8.view.ty.Contents (Elt F), IsFlat (R := 11391) (β := BitVec 32) (arg8.view.read (Elt F) f8) (marks L 300000) →
      iprop(Rf ∗ raw (c : Thread nD τ) arg10 f10 ∗ raw (c : Thread nD τ) arg6 f6 ∗ raw (c : Thread nD τ) arg7 f7 ∗ raw (c : Thread nD τ) arg8 f8) ⊢
      wpk c (do
        let v88 : Vec F S11391x128 .i32 ← Prog.lift (.load arg8 (Rect.unit (s := S11391x128) ![0, 0] S11391x128.size inb_S11391x128_S11391x128_0_0).toLoadRect (View.loadsAt_vmem h_S11391x128))
        pure (⟨k0_pay209 v88, k0_pay210⟩ : Σ' (v110 : FVec F S11391x128 .f32), IVec S128x128 32)) Q := by
    intro f8 h8
    refine load_all c arg8 f8 _ h8 _ _ _ iprop(Rf ∗ raw (c : Thread nD τ) arg10 f10 ∗ raw (c : Thread nD τ) arg6 f6 ∗ raw (c : Thread nD τ) arg7 f7) (by iintro ⟨HR, H2, H0, H1, H3⟩; iframe HR H0 H1 H2 H3) (by iintro ⟨⟨HR, H2, H0, H1⟩, H3⟩; iframe HR H0 H1 H2 H3) _ _ fun y hy => ?_
    refine pure_run c _ _ Q (Entails.trans ?_ (hk f6 f7 f8 (k0_pay209 y) h6 h7 h8 ?_))
    · iintro ⟨HR, H2, H0, H1, H3⟩
      iframe HR H0 H1 H2 H3
    · refine IsFlat.congr (isFlat_map (fun w => (FloatOps.sitofp .f32 (popW w) : F .f32)) hy) fun q _ => ?_
      have hp := popN_marks L 300000 q
      have hle : inWord L 300000 q ≤ 32 := inWord_le L _ q
      rw [N.vsitofp _ (by rw [toNat_popW, hp]; omega), toNat_popW, hp]
  unfold wpk at T hk' ⊢
  generalize k0_t1_body (F := F) arg0 harg0 arg1 harg1 arg2 harg2 arg3 harg3 arg4 harg4 arg5 harg5 arg6 harg6 arg7 harg7 arg8 harg8 arg9 harg9 arg10 harg10 arg11 harg11 v0 k0_pay205 = Bd at T ⊢
  refine Entails.trans ?_ (bind_of_run frame (wpE (defs₀ (F := F)) Variants.none (c : Thread nD τ) none) Set.univ T _ Q)
  unfold heldWith
  iintro ⟨⟨HR, H2, H0, H1⟩, H3⟩
  isplitl [H2 H3]
  · iexists f8
    isplitl [H2 H3]
    · iframe H2 H3
    ipureintro
    exact h8
  iintro ⟨%f8', ⟨H2, H3⟩, %h8'⟩
  iapply (hk' f8' h8')
  iframe HR H0 H1 H2 H3

end Cert.Proof.Vox

end
-- ==== Proof.Whole.lean ====
/-
  The whole body of the kernel.
-/
module

public import proofs.«01_k».proof.Proof.Body

@[expose] public section

noncomputable section

namespace Cert.Proof.Vox

open Cert.KernelIdeal Cert.KernelIdeal.Gen
open Idealize.ShloMosaic TcCoe LaneScatter Updates
open Idealize.SL
open Idealize.SL.BI (sProp)
open scoped Idealize.SL.BI
open Idealize.SL.BI.BIBase Idealize.SL.BI.Laws Idealize.SL.Sem Idealize.SL.ProofMode
open Idealize.SL.RA
open Idealize.ShloMosaic.Tactic

variable {F : FTy → Type} [FloatOps F]

local notation "𝕄" => MT nD τ sig Unit (Elt F) ℕ (UR sig nD τ) ℕ

variable (arg0 : Memref sig .tc .vmem S2344x128 .f32) (harg0 : arg0.IsWhole) (arg1 : Memref sig .tc .vmem S2344x128 .f32) (harg1 : arg1.IsWhole)
  (arg2 : Memref sig .tc .vmem S2344x128 .f32) (harg2 : arg2.IsWhole) (arg3 : Memref sig .tc .vmem S2344x128 .f32) (harg3 : arg3.IsWhole)
  (arg4 : Memref sig .tc .vmem S2344x128 .f32) (harg4 : arg4.IsWhole) (arg5 : Memref sig .tc .vmem S46876x128 .f32) (harg5 : arg5.IsWhole)
  (arg6 : Memref sig .tc .vmem S2814x128 .i32) (harg6 : arg6.IsWhole) (arg7 : Memref sig .tc .vmem S939x128 .i32) (harg7 : arg7.IsWhole)
  (arg8 : Memref sig .tc .vmem S11391x128 .i32) (harg8 : arg8.IsWhole) (arg9 : Memref sig .tc .vmem S11391x128 .f32) (harg9 : arg9.IsWhole)
  (arg10 : Memref sig .tc .vmem S2344x128 .i32) (harg10 : arg10.IsWhole) (arg11 : Memref sig .tc .vmem S2344x128 .i32) (harg11 : arg11.IsWhole)

/-- What the emptied blocks hold. -/
def blank : PS (F .f32) := ⟨fun _ => Scalar.ofBits .f32 0x00000000#32, fun _ => 0#32, fun _ => 0⟩

variable (X0 X1 X2 X3 X4 : ℕ → F .f32)

/-- The points' cells. -/
def cellsOf (q : ℕ) : BitVec 32 := cellW (gridOf 0xC2580000#32 0x3DCCCCCD#32 (X0 q)) (gridOf 0xC2580000#32 0x3DCCCCCD#32 (X1 q)) (gridOf 0xC0A00000#32 0x3E4CCCCD#32 (X2 q)) (BitVec.ofNat 32 q)

/-- The points' packed coordinates. -/
def packsOf (q : ℕ) : BitVec 32 := packW (gridOf 0xC2580000#32 0x3DCCCCCD#32 (X0 q)) (gridOf 0xC2580000#32 0x3DCCCCCD#32 (X1 q)) (gridOf 0xC0A00000#32 0x3E4CCCCD#32 (X2 q)) (BitVec.ofNat 32 q)

/-- What the kernel makes of the three results' blocks. -/
def result : PS (F .f32) :=
  places blank (cellsOf X0 X1 X2) (packsOf X0 X1 X2) (rankOf (cellsOf X0 X1 X2) 300000) X0 X1 X2 X3 X4 300000

theorem cells_le (q : ℕ) : (cellsOf X0 X1 X2 q).toNat ≤ 46656000 := cellW_le _ _ _ _

variable (c : Dev nD) (f0 : arg0.view.ty.Contents (Elt F)) (f1 : arg1.view.ty.Contents (Elt F)) (f2 : arg2.view.ty.Contents (Elt F)) (f3 : arg3.view.ty.Contents (Elt F)) (f4 : arg4.view.ty.Contents (Elt F))
  (h0 : IsFlat (R := 2344) (arg0.view.read (Elt F) f0) X0) (h1 : IsFlat (R := 2344) (arg1.view.read (Elt F) f1) X1) (h2 : IsFlat (R := 2344) (arg2.view.read (Elt F) f2) X2)
  (h3 : IsFlat (R := 2344) (arg3.view.read (Elt F) f3) X3) (h4 : IsFlat (R := 2344) (arg4.view.read (Elt F) f4) X4)

include h0 h1 h2 h3 h4 in
/-- The last part: the ranks and the writes. -/
theorem tail_run (N : ScanLaws F) (v5 : IVec S2x128 32) (hv5 : IsFlat (R := 2) v5 (fun q => BitVec.ofNat 32 q)) (v0 : IVec S1x128 32) (hv0 : IsFlat (R := 1) v0 (fun q => BitVec.ofNat 32 q))
    (L P : ℕ → BitVec 32) (hL : ∀ j, (L j).toNat ≤ 46656000)
    (f5 : arg5.view.ty.Contents (Elt F)) (f6 : arg6.view.ty.Contents (Elt F)) (f7 : arg7.view.ty.Contents (Elt F)) (f8 : arg8.view.ty.Contents (Elt F)) (f9 : arg9.view.ty.Contents (Elt F))
    (f10 : arg10.view.ty.Contents (Elt F)) (f11 : arg11.view.ty.Contents (Elt F)) (hs : Held (blank (F := F)) f5 f6 f7)
    (h8 : IsFlat (R := 11391) (β := BitVec 32) (arg8.view.read (Elt F) f8) (marks L 300000))
    (h10 : IsFlat (R := 2344) (β := BitVec 32) (arg10.view.read (Elt F) f10) L) (h11 : IsFlat (R := 2344) (β := BitVec 32) (arg11.view.read (Elt F) f11) P)
    (v110 : FVec F S11391x128 .f32) (hv : IsFlat (R := 11391) v110 (fun q => N.nat (inWord L 300000 q))) (Q : PUnit → sProp 𝕄)
    (hk : ∀ (f5 : arg5.view.ty.Contents (Elt F)) (f6 : arg6.view.ty.Contents (Elt F)) (f7 : arg7.view.ty.Contents (Elt F)) (f9 : arg9.view.ty.Contents (Elt F)),
      Held (places blank L P (rankOf L 300000) X0 X1 X2 X3 X4 300000) f5 f6 f7 → iprop(raw (c : Thread nD τ) arg0 f0 ∗ raw (c : Thread nD τ) arg1 f1 ∗ raw (c : Thread nD τ) arg2 f2 ∗ raw (c : Thread nD τ) arg3 f3 ∗ raw (c : Thread nD τ) arg4 f4 ∗ raw (c : Thread nD τ) arg5 f5 ∗ raw (c : Thread nD τ) arg6 f6 ∗ raw (c : Thread nD τ) arg7 f7 ∗ raw (c : Thread nD τ) arg8 f8 ∗ raw (c : Thread nD τ) arg9 f9 ∗ raw (c : Thread nD τ) arg10 f10 ∗ raw (c : Thread nD τ) arg11 f11) ⊢ Q ⟨⟩) :
    iprop(raw (c : Thread nD τ) arg0 f0 ∗ raw (c : Thread nD τ) arg1 f1 ∗ raw (c : Thread nD τ) arg2 f2 ∗ raw (c : Thread nD τ) arg3 f3 ∗ raw (c : Thread nD τ) arg4 f4 ∗ raw (c : Thread nD τ) arg5 f5 ∗ raw (c : Thread nD τ) arg6 f6 ∗ raw (c : Thread nD τ) arg7 f7 ∗ raw (c : Thread nD τ) arg8 f8 ∗ raw (c : Thread nD τ) arg9 f9 ∗ raw (c : Thread nD τ) arg10 f10 ∗ raw (c : Thread nD τ) arg11 f11) ⊢ wpk c (do
      let v117 : Vec F S11391x128 .f32 ← Prog.lift (.load arg9 (Rect.unit (s := S11391x128) ![0, 0] S11391x128.size inb_S11391x128_S11391x128_0_0).toLoadRect (View.loadsAt_vmem h_S11391x128))
      Prog.lift (.store arg9 (Rect.unit (s := S11391x128) ![0, 0] S11391x128.size inb_S11391x128_S11391x128_0_0) (k0_pay1 v110 k0_pay210) Finset.univ (View.stores_vmem_bits_univ h_S11391x128 rfl) (.inl rfl))
      let v121 : BitVec 32 ← Scf.Loop.for k0_t2_loop k0_t2_ok 0#32 (k0_t2_body (F := F) arg0 harg0 arg1 harg1 arg2 harg2 arg3 harg3 arg4 harg4 arg5 harg5 arg6 harg6 arg7 harg7 arg8 harg8 arg9 harg9 arg10 harg10 arg11 harg11)
      Scf.Loop.for k0_t3_loop k0_t3_ok ⟨⟩ (k0_t3_body (F := F) arg0 harg0 arg1 harg1 arg2 harg2 arg3 harg3 arg4 harg4 arg5 harg5 arg6 harg6 arg7 harg7 arg8 harg8 arg9 harg9 arg10 harg10 arg11 harg11 v0 v5)
      pure ⟨⟩) Q := by
  have hB : ∀ q, pre (inWord L 300000) q < 2 ^ 24 := fun q => by
    rw [pre_inWord]
    have := rankOf_le L 300000 (q * 32)
    omega
  refine load_some (by omega) c arg9 f9 _ _ _ iprop(raw (c : Thread nD τ) arg0 f0 ∗ raw (c : Thread nD τ) arg1 f1 ∗ raw (c : Thread nD τ) arg2 f2 ∗ raw (c : Thread nD τ) arg3 f3 ∗ raw (c : Thread nD τ) arg4 f4 ∗ raw (c : Thread nD τ) arg5 f5 ∗ raw (c : Thread nD τ) arg6 f6 ∗ raw (c : Thread nD τ) arg7 f7 ∗ raw (c : Thread nD τ) arg8 f8 ∗ raw (c : Thread nD τ) arg10 f10 ∗ raw (c : Thread nD τ) arg11 f11) (by iintro ⟨H0, H1, H2, H3, H4, H5, H6, H7, H8, H9, H10, H11⟩; iframe H0 H1 H2 H3 H4 H5 H6 H7 H8 H9 H10 H11) (by iintro ⟨⟨H0, H1, H2, H3, H4, H5, H6, H7, H8, H10, H11⟩, H9⟩; iframe H0 H1 H2 H3 H4 H5 H6 H7 H8 H9 H10 H11) _ _ fun _ => ?_
  refine store_all (by omega) c arg9 f9 _ _ _ (N.mat _ (inWord_le L _) _ hv) _ _ _ iprop((raw (c : Thread nD τ) arg0 f0 ∗ raw (c : Thread nD τ) arg1 f1 ∗ raw (c : Thread nD τ) arg2 f2 ∗ raw (c : Thread nD τ) arg3 f3 ∗ raw (c : Thread nD τ) arg4 f4 ∗ raw (c : Thread nD τ) arg5 f5 ∗ raw (c : Thread nD τ) arg6 f6 ∗ raw (c : Thread nD τ) arg7 f7 ∗ raw (c : Thread nD τ) arg10 f10 ∗ raw (c : Thread nD τ) arg11 f11) ∗ raw (c : Thread nD τ) arg8 f8) (by iintro ⟨H0, H1, H2, H3, H4, H5, H6, H7, H8, H9, H10, H11⟩; iframe H0 H1 H2 H3 H4 H5 H6 H7 H8 H9 H10 H11) _ _ fun f9 h9 => ?_
  refine Entails.trans ?_ (count_loop (F := F) arg0 harg0 arg1 harg1 arg2 harg2 arg3 harg3 arg4 harg4 arg5 harg5 arg6 harg6 arg7 harg7 arg8 harg8 arg9 harg9 arg10 harg10 arg11 harg11 N.toNatLaws (inWord L 300000) hB (marks L 300000) (popN_marks L 300000) iprop(raw (c : Thread nD τ) arg0 f0 ∗ raw (c : Thread nD τ) arg1 f1 ∗ raw (c : Thread nD τ) arg2 f2 ∗ raw (c : Thread nD τ) arg3 f3 ∗ raw (c : Thread nD τ) arg4 f4 ∗ raw (c : Thread nD τ) arg5 f5 ∗ raw (c : Thread nD τ) arg6 f6 ∗ raw (c : Thread nD τ) arg7 f7 ∗ raw (c : Thread nD τ) arg10 f10 ∗ raw (c : Thread nD τ) arg11 f11) c f8 h8 _ Q fun w f9 h9 => ?_)
  · unfold heldWith
    iintro H
    iexists f9
    isplitl [H]
    · iexact H
    ipureintro
    exact h9
  have T := place_loop (F := F) arg0 harg0 arg1 harg1 arg2 harg2 arg3 harg3 arg4 harg4 arg5 harg5 arg6 harg6 arg7 harg7 arg8 harg8 arg9 harg9 arg10 harg10 arg11 harg11 c v0 hv0 v5 hv5 f8 f9 (marks L 300000) _ (rankOf L 300000) (rankOf_RankOf N.toNatLaws L 300000 (by omega)) h8 h9
    f0 f1 f2 f3 f4 f10 f11 L P X0 X1 X2 X3 X4 hL h0 h1 h2 h3 h4 h10 h11 blank
  refine bind_wpk c _ _ _ Q ?_
  have hk' : ∀ u : PUnit, heldWith (own3 (arg5 := arg5) (arg6 := arg6) (arg7 := arg7) (arg8 := arg8) (arg9 := arg9) c (rows7 arg0 arg1 arg2 arg3 arg4 arg10 arg11 c f0 f1 f2 f3 f4 f10 f11) f8 f9)
      (fun f => Held (places blank L P (rankOf L 300000) X0 X1 X2 X3 X4 300000) f.1 f.2.1 f.2.2) ⊢ wpk c (pure ⟨⟩ : PG F PUnit) Q := by
    intro u
    refine held_elim fun f hf => ?_
    refine pure_run c _ _ Q (Entails.trans ?_ (hk f.1 f.2.1 f.2.2 f9 hf))
    iintro ⟨⟨H0, H1, H2, H3, H4, H10, H11⟩, H5, H6, H7, H8, H9⟩
    iframe H0 H1 H2 H3 H4 H5 H6 H7 H8 H9 H10 H11
  unfold own2
  iintro ⟨⟨⟨H0, H1, H2, H3, H4, H5, H6, H7, H10, H11⟩, H8⟩, H9⟩
  iapply (wp_wand_r frame (wpE (defs₀ (F := F)) Variants.none (c : Thread nD τ) none) Set.univ)
  isplitl [H0 H1 H2 H3 H4 H5 H6 H7 H8 H9 H10 H11]
  · iapply T
    unfold heldWith
    iexists (f5, f6, f7)
    isplitl [H0 H1 H2 H3 H4 H5 H6 H7 H8 H9 H10 H11]
    · unfold own3 rows7 five5
      dsimp only
      iframe H0 H1 H2 H3 H4 H5 H6 H7 H8 H9 H10 H11
    ipureintro
    exact hs
  iintro %u H
  iapply (hk' u)
  iexact H

include h0 h1 h2 h3 h4 in
/-- The whole body: from the points' five blocks and the other blocks' any contents, the three results' blocks end as
    the walk over the points makes them. -/
theorem body_run (N : ScanLaws F)
    (f5 : arg5.view.ty.Contents (Elt F)) (f6 : arg6.view.ty.Contents (Elt F)) (f7 : arg7.view.ty.Contents (Elt F)) (f8 : arg8.view.ty.Contents (Elt F)) (f9 : arg9.view.ty.Contents (Elt F))
    (f10 : arg10.view.ty.Contents (Elt F)) (f11 : arg11.view.ty.Contents (Elt F)) (Q : PUnit → sProp 𝕄)
    (hk : ∀ (f5 : arg5.view.ty.Contents (Elt F)) (f6 : arg6.view.ty.Contents (Elt F)) (f7 : arg7.view.ty.Contents (Elt F)) (f8 : arg8.view.ty.Contents (Elt F)) (f9 : arg9.view.ty.Contents (Elt F))
      (f10 : arg10.view.ty.Contents (Elt F)) (f11 : arg11.view.ty.Contents (Elt F)),
      Held (result X0 X1 X2 X3 X4) f5 f6 f7 → iprop(raw (c : Thread nD τ) arg0 f0 ∗ raw (c : Thread nD τ) arg1 f1 ∗ raw (c : Thread nD τ) arg2 f2 ∗ raw (c : Thread nD τ) arg3 f3 ∗ raw (c : Thread nD τ) arg4 f4 ∗ raw (c : Thread nD τ) arg5 f5 ∗ raw (c : Thread nD τ) arg6 f6 ∗ raw (c : Thread nD τ) arg7 f7 ∗ raw (c : Thread nD τ) arg8 f8 ∗ raw (c : Thread nD τ) arg9 f9 ∗ raw (c : Thread nD τ) arg10 f10 ∗ raw (c : Thread nD τ) arg11 f11) ⊢ Q ⟨⟩) :
    iprop(raw (c : Thread nD τ) arg0 f0 ∗ raw (c : Thread nD τ) arg1 f1 ∗ raw (c : Thread nD τ) arg2 f2 ∗ raw (c : Thread nD τ) arg3 f3 ∗ raw (c : Thread nD τ) arg4 f4 ∗ raw (c : Thread nD τ) arg5 f5 ∗ raw (c : Thread nD τ) arg6 f6 ∗ raw (c : Thread nD τ) arg7 f7 ∗ raw (c : Thread nD τ) arg8 f8 ∗ raw (c : Thread nD τ) arg9 f9 ∗ raw (c : Thread nD τ) arg10 f10 ∗ raw (c : Thread nD τ) arg11 f11) ⊢ wpk c (cc0__kernel_body (F := F) arg0 harg0 arg1 harg1 arg2 harg2 arg3 harg3 arg4 harg4 arg5 harg5 arg6 harg6 arg7 harg7 arg8 harg8 arg9 harg9 arg10 harg10 arg11 harg11) Q := by
  rw [cc0__kernel_body_eq_skeleton]
  unfold cc0__kernel_body_skel
  refine bind_wpk c _ _ _ Q ?_
  refine Entails.trans (by iintro ⟨H0, H1, H2, H3, H4, H5, H6, H7, H8, H9, H10, H11⟩; iframe H0 H1 H2 H3 H4 H5 H6 H7 H8 H9 H10 H11) (part28_run (F := F) arg0 harg0 arg1 harg1 arg2 harg2 arg3 harg3 arg4 harg4 arg5 harg5 arg6 harg6 arg7 harg7 arg8 harg8 arg9 harg9 arg10 harg10 arg11 harg11 c iprop(raw (c : Thread nD τ) arg3 f3 ∗ raw (c : Thread nD τ) arg4 f4 ∗ raw (c : Thread nD τ) arg5 f5 ∗ raw (c : Thread nD τ) arg6 f6 ∗ raw (c : Thread nD τ) arg7 f7 ∗ raw (c : Thread nD τ) arg8 f8 ∗ raw (c : Thread nD τ) arg9 f9 ∗ raw (c : Thread nD τ) arg10 f10 ∗ raw (c : Thread nD τ) arg11 f11) f0 f1 f2 X0 X1 X2 h0 h1 h2 _ fun v17 v23 v29 v42 hx hy hz hm => ?_)
  refine bind_wpk c _ _ _ Q ?_
  refine Entails.trans (by iintro ⟨⟨H3, H4, H5, H6, H7, H8, H9, H10, H11⟩, H0, H1, H2⟩; iframe H0 H1 H2 H3 H4 H5 H6 H7 H8 H9 H10 H11) (part29_run (F := F) arg0 harg0 arg1 harg1 arg2 harg2 arg3 harg3 arg4 harg4 arg5 harg5 arg6 harg6 arg7 harg7 arg8 harg8 arg9 harg9 arg10 harg10 arg11 harg11 c iprop(raw (c : Thread nD τ) arg0 f0 ∗ raw (c : Thread nD τ) arg1 f1 ∗ raw (c : Thread nD τ) arg2 f2 ∗ raw (c : Thread nD τ) arg3 f3 ∗ raw (c : Thread nD τ) arg4 f4 ∗ raw (c : Thread nD τ) arg6 f6 ∗ raw (c : Thread nD τ) arg7 f7 ∗ raw (c : Thread nD τ) arg8 f8 ∗ raw (c : Thread nD τ) arg9 f9) f5 f10 f11 v17 v23 v29 _ v42 _ _ _ hx hy hz isFlat_number hm _ fun f5 f10 f11 h5 h10 h11 => ?_)
  refine bind_wpk c _ _ _ Q ?_
  refine Entails.trans (by iintro ⟨⟨H0, H1, H2, H3, H4, H6, H7, H8, H9⟩, H10, H11, H5⟩; iframe H0 H1 H2 H3 H4 H5 H6 H7 H8 H9 H10 H11) (part30_run (F := F) arg0 harg0 arg1 harg1 arg2 harg2 arg3 harg3 arg4 harg4 arg5 harg5 arg6 harg6 arg7 harg7 arg8 harg8 arg9 harg9 arg10 harg10 arg11 harg11 c iprop(raw (c : Thread nD τ) arg0 f0 ∗ raw (c : Thread nD τ) arg1 f1 ∗ raw (c : Thread nD τ) arg2 f2 ∗ raw (c : Thread nD τ) arg3 f3 ∗ raw (c : Thread nD τ) arg4 f4 ∗ raw (c : Thread nD τ) arg5 f5 ∗ raw (c : Thread nD τ) arg9 f9 ∗ raw (c : Thread nD τ) arg11 f11) N.toNatLaws f6 f7 f8 f10 _ (isFlat_iota1 _) (cellsOf X0 X1 X2) (cells_le X0 X1 X2) h10 _ fun f6 f7 f8 v110 h6 h7 h8 hv => ?_)
  refine Entails.trans (by iintro ⟨⟨H0, H1, H2, H3, H4, H5, H9, H11⟩, H6, H7, H10, H8⟩; iframe H0 H1 H2 H3 H4 H5 H6 H7 H8 H9 H10 H11) (tail_run (F := F) arg0 harg0 arg1 harg1 arg2 harg2 arg3 harg3 arg4 harg4 arg5 harg5 arg6 harg6 arg7 harg7 arg8 harg8 arg9 harg9 arg10 harg10 arg11 harg11 X0 X1 X2 X3 X4 c f0 f1 f2 f3 f4 h0 h1 h2 h3 h4 N _ (isFlat_place2 _ _) _ (isFlat_iota1 _) (cellsOf X0 X1 X2) (packsOf X0 X1 X2) (cells_le X0 X1 X2)
    f5 f6 f7 f8 f9 f10 f11 ⟨h5, h6, h7, fun _ => Nat.zero_le _⟩ h8 h10 h11 v110 hv Q fun f5 f6 f7 f9 h => hk f5 f6 f7 f8 f9 f10 f11 h)

end Cert.Proof.Vox

end
-- ==== Proof.Region.lean ====
/-
  The kernel's one region: the proof data, the body's obligation, and the run of the whole program.
-/
module

public import proofs.«01_k».proof.Proof.Whole
public import proofs.«01_k».proof.Proof.Gen.KernelIdeal.Frame

@[expose] public section

noncomputable section

namespace Cert.Proof.Vox

open Cert.KernelIdeal Cert.KernelIdeal.Gen
open Idealize.ShloMosaic TcCoe LaneScatter Updates
open Idealize.SL
open Idealize.SL.BI (sProp bigSep)
open scoped Idealize.SL.BI
open Idealize.SL.BI.BIBase Idealize.SL.BI.Laws Idealize.SL.Sem Idealize.SL.ProofMode
open Idealize.SL.RA
open Idealize.ShloMosaic.Tactic
open Idealize.ShloMosaic.Pipeline (Dat Cfg Window BodyObligation cellOf ΦA)

variable {F : FTy → Type} [FloatOps F]

local notation "𝕄" => MT nD τ sig Unit (Elt F) ℕ (UR sig nD τ) ℕ

/-- A block's long row. -/
def rowOf {β : Type} {R : ℕ} (hR : 0 < R) (X : (Blk R 128).Idx → β) (q : ℕ) : β :=
  X (ValueIdx.ix2 ⟨q / 128 % R, Nat.mod_lt _ hR⟩ ⟨q % 128, Nat.mod_lt _ (by omega)⟩)

/-- The block of a long row. -/
def block {β : Type} {R : ℕ} (g : ℕ → β) : (Blk R 128).Idx → β := fun ι => g ((ι 0).val * 128 + (ι 1).val)

/-- A block holds its long row. -/
theorem isFlat_rowOf {β : Type} {R : ℕ} (hR : 0 < R) (X : (Blk R 128).Idx → β) : IsFlat X (rowOf hR X) := by
  intro ι
  have h0 : (ι 0).val < R := (ι 0).isLt
  have h1 : (ι 1).val < 128 := (ι 1).isLt
  show X ι = X (ValueIdx.ix2 ⟨((ι 0).val * 128 + (ι 1).val) / 128 % R, _⟩ ⟨((ι 0).val * 128 + (ι 1).val) % 128, _⟩)
  congr 1
  funext a
  refine Fin.cases ?_ (fun b => ?_) a
  · apply Fin.ext
    show (ι 0).val = ((ι 0).val * 128 + (ι 1).val) / 128 % R
    rw [show ((ι 0).val * 128 + (ι 1).val) / 128 = (ι 0).val by omega, Nat.mod_eq_of_lt h0]
  · obtain rfl : b = 0 := Subsingleton.elim _ _
    apply Fin.ext
    show (ι 1).val = ((ι 0).val * 128 + (ι 1).val) % 128
    omega

/-- The same of a block named. -/
theorem flat_of {β : Type} {R : ℕ} (hR : 0 < R) {Y X : (Blk R 128).Idx → β} (e : Y = X) : IsFlat Y (rowOf hR X) := by
  rw [e]
  exact isFlat_rowOf hR X

/-- A block is known by its long row. -/
theorem eq_block {β : Type} {R : ℕ} {X : (Blk R 128).Idx → β} {g : ℕ → β} (h : IsFlat X g) : X = block g := funext fun ι => h.at ι

variable (arg0 : Memref sig .tc .vmem S2344x128 .f32) (harg0 : arg0.IsWhole) (arg1 : Memref sig .tc .vmem S2344x128 .f32) (harg1 : arg1.IsWhole)
  (arg2 : Memref sig .tc .vmem S2344x128 .f32) (harg2 : arg2.IsWhole) (arg3 : Memref sig .tc .vmem S2344x128 .f32) (harg3 : arg3.IsWhole)
  (arg4 : Memref sig .tc .vmem S2344x128 .f32) (harg4 : arg4.IsWhole) (arg5 : Memref sig .tc .vmem S46876x128 .f32) (harg5 : arg5.IsWhole)
  (arg6 : Memref sig .tc .vmem S2814x128 .i32) (harg6 : arg6.IsWhole) (arg7 : Memref sig .tc .vmem S939x128 .i32) (harg7 : arg7.IsWhole)
  (arg8 : Memref sig .tc .vmem S11391x128 .i32) (harg8 : arg8.IsWhole) (arg9 : Memref sig .tc .vmem S11391x128 .f32) (harg9 : arg9.IsWhole)
  (arg10 : Memref sig .tc .vmem S2344x128 .i32) (harg10 : arg10.IsWhole) (arg11 : Memref sig .tc .vmem S2344x128 .i32) (harg11 : arg11.IsWhole)

/-- The kernel on its staging buffers: the five points' blocks as they were, the three results' blocks at what the walk makes. -/
theorem kernel_run (N : ScanLaws F) (c : Dev nD) (x0 x1 x2 x3 x4 : Vec F S2344x128 .f32) (R : PS (F .f32))
    (hR : R = result (rowOf (R := 2344) (by omega) x0) (rowOf (R := 2344) (by omega) x1) (rowOf (R := 2344) (by omega) x2) (rowOf (R := 2344) (by omega) x3) (rowOf (R := 2344) (by omega) x4))
    (Q : PUnit → sProp 𝕄)
    (hk : iprop(((∃ f, raw (c : Thread nD τ) arg8 f) ∗ (∃ f, raw (c : Thread nD τ) arg9 f) ∗ (∃ f, raw (c : Thread nD τ) arg10 f) ∗ (∃ f, raw (c : Thread nD τ) arg11 f)) ∗ owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (block (R.vox)) ∗ owns (c : Thread nD τ) arg6 fullShare (block (R.crd)) ∗ owns (c : Thread nD τ) arg7 fullShare (block (fun q => BitVec.ofNat 32 (R.cnt q)))) ⊢ Q ⟨⟩) :
    iprop(((∃ f, raw (c : Thread nD τ) arg8 f) ∗ (∃ f, raw (c : Thread nD τ) arg9 f) ∗ (∃ f, raw (c : Thread nD τ) arg10 f) ∗ (∃ f, raw (c : Thread nD τ) arg11 f)) ∗ owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d)) ⊢ wpk c (cc0__kernel_body (F := F) arg0 harg0 arg1 harg1 arg2 harg2 arg3 harg3 arg4 harg4 arg5 harg5 arg6 harg6 arg7 harg7 arg8 harg8 arg9 harg9 arg10 harg10 arg11 harg11) Q := by
  iintro ⟨⟨⟨%f8, H8⟩, ⟨%f9, H9⟩, ⟨%f10, H10⟩, ⟨%f11, H11⟩⟩, H0, H1, H2, H3, H4, ⟨%d5, H5⟩, ⟨%d6, H6⟩, ⟨%d7, H7⟩⟩
  unfold owns
  icases H0 with ⟨%f0, %e0, H0⟩
  icases H1 with ⟨%f1, %e1, H1⟩
  icases H2 with ⟨%f2, %e2, H2⟩
  icases H3 with ⟨%f3, %e3, H3⟩
  icases H4 with ⟨%f4, %e4, H4⟩
  icases H5 with ⟨%f5, %e5, H5⟩
  icases H6 with ⟨%f6, %e6, H6⟩
  icases H7 with ⟨%f7, %e7, H7⟩
  iapply (body_run (F := F) arg0 harg0 arg1 harg1 arg2 harg2 arg3 harg3 arg4 harg4 arg5 harg5 arg6 harg6 arg7 harg7 arg8 harg8 arg9 harg9 arg10 harg10 arg11 harg11 _ _ _ _ _ c f0 f1 f2 f3 f4 (flat_of (by omega) e0) (flat_of (by omega) e1) (flat_of (by omega) e2)
    (flat_of (by omega) e3) (flat_of (by omega) e4) N f5 f6 f7 f8 f9 f10 f11 Q fun f5 f6 f7 f8 f9 f10 f11 h => Entails.trans ?_ hk)
  · subst hR
    obtain ⟨g5, g6, g7, _⟩ := h
    iintro ⟨H0, H1, H2, H3, H4, H5, H6, H7, H8, H9, H10, H11⟩
    isplitl [H8 H9 H10 H11]
    · isplitl [H8]
      · iexists f8; iexact H8
      isplitl [H9]
      · iexists f9; iexact H9
      isplitl [H10]
      · iexists f10; iexact H10
      iexists f11; iexact H11
    isplitl [H0]
    · iapply (raw_owns (c : Thread nD τ) arg0 e0); iexact H0
    isplitl [H1]
    · iapply (raw_owns (c : Thread nD τ) arg1 e1); iexact H1
    isplitl [H2]
    · iapply (raw_owns (c : Thread nD τ) arg2 e2); iexact H2
    isplitl [H3]
    · iapply (raw_owns (c : Thread nD τ) arg3 e3); iexact H3
    isplitl [H4]
    · iapply (raw_owns (c : Thread nD τ) arg4 e4); iexact H4
    isplitl [H5]
    · iapply (raw_owns (c : Thread nD τ) arg5 (eq_block g5)); iexact H5
    isplitl [H6]
    · iapply (raw_owns (c : Thread nD τ) arg6 (eq_block g6)); iexact H6
    iapply (raw_owns (c : Thread nD τ) arg7 (eq_block g7)); iexact H7
  iframe H0 H1 H2 H3 H4 H5 H6 H7 H8 H9 H10 H11

/-- The same with what is left named. -/
theorem kernel_post (N : ScanLaws F) (c : Dev nD) (x0 x1 x2 x3 x4 : Vec F S2344x128 .f32) (R : PS (F .f32))
    (hR : R = result (rowOf (R := 2344) (by omega) x0) (rowOf (R := 2344) (by omega) x1) (rowOf (R := 2344) (by omega) x2) (rowOf (R := 2344) (by omega) x3) (rowOf (R := 2344) (by omega) x4)) :
    iprop(((∃ f, raw (c : Thread nD τ) arg8 f) ∗ (∃ f, raw (c : Thread nD τ) arg9 f) ∗ (∃ f, raw (c : Thread nD τ) arg10 f) ∗ (∃ f, raw (c : Thread nD τ) arg11 f)) ∗ owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d)) ⊢ wpk c (cc0__kernel_body (F := F) arg0 harg0 arg1 harg1 arg2 harg2 arg3 harg3 arg4 harg4 arg5 harg5 arg6 harg6 arg7 harg7 arg8 harg8 arg9 harg9 arg10 harg10 arg11 harg11) (fun _ => iprop(((∃ f, raw (c : Thread nD τ) arg8 f) ∗ (∃ f, raw (c : Thread nD τ) arg9 f) ∗ (∃ f, raw (c : Thread nD τ) arg10 f) ∗ (∃ f, raw (c : Thread nD τ) arg11 f)) ∗ owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (block (R.vox)) ∗ owns (c : Thread nD τ) arg6 fullShare (block (R.crd)) ∗ owns (c : Thread nD τ) arg7 fullShare (block (fun q => BitVec.ofNat 32 (R.cnt q))))) :=
  kernel_run (F := F) arg0 harg0 arg1 harg1 arg2 harg2 arg3 harg3 arg4 harg4 arg5 harg5 arg6 harg6 arg7 harg7 arg8 harg8 arg9 harg9 arg10 harg10 arg11 harg11 N c x0 x1 x2 x3 x4 R hR _ Entails.refl

variable (m : (ℓ : Loc nD τ sig) → Buf (Elt F) ℓ) (ρ : Dev nD → PrngReg)

/-- A whole buffer of the core at some contents, said either way. -/
theorem whole_raw (c : Dev nD) (b : Ref sig .tc) :
    (iprop(∃ f : Buf (Elt F) ((c : Thread nD τ).loc b), ((c : Thread nD τ).loc b) ↦{fullShare} f) : sProp 𝕄) = iprop(∃ f, raw (c : Thread nD τ) (Memref.whole b) f) := by
  unfold raw
  rw [show (Memref.whole b : Memref sig .tc _ _ _).view.set = Finset.univ from View.set_whole _]

/-- The three results' long rows. -/
def outRows (c : Dev nD) (t : Fin cfg0.N) : PS (F .f32) :=
  result (rowOf (R := 2344) (by omega) (iblk m c 0 t : Vec F S2344x128 .f32)) (rowOf (R := 2344) (by omega) (iblk m c 1 t : Vec F S2344x128 .f32)) (rowOf (R := 2344) (by omega) (iblk m c 2 t : Vec F S2344x128 .f32))
    (rowOf (R := 2344) (by omega) (iblk m c 3 t : Vec F S2344x128 .f32)) (rowOf (R := 2344) (by omega) (iblk m c 4 t : Vec F S2344x128 .f32))

/-- The region's proof data: each input's buffer at its block, each result's at the walk's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (block (outRows m c t).vox : Vec F S46876x128 .f32)
    | ⟨6, _⟩ => (block (outRows m c t).crd : Vec F S2814x128 .i32)
    | ⟨7, _⟩ => (block (fun q => BitVec.ofNat 32 ((outRows m c t).cnt q)) : Vec F S939x128 .i32)
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (block ((outRows m c t).vox) : Vec F S46876x128 .f32) := by dsimp only [dats]
theorem after0_6 (c : Dev nD) (t : Fin cfg0.N) : (dats m 0 c).after 6 t = (block ((outRows m c t).crd) : Vec F S2814x128 .i32) := by dsimp only [dats]
theorem after0_7 (c : Dev nD) (t : Fin cfg0.N) : (dats m 0 c).after 7 t = (block (fun q => BitVec.ofNat 32 ((outRows m c t).cnt q)) : Vec F S939x128 .i32) := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d

set_option maxRecDepth 65536 in
/-- The body's obligation at the region's one point. -/
theorem body_obligation (N : ScanLaws F) (c : Dev nD) : BodyObligation (dats (F := F) m 0 c) (defs₀ (F := F)) Variants.none () Set.univ := fun t => by
  rw [bigSep_W0, bigSep_W0]
  sl_whnfR [defs₀, Defs.onTc]
  simp only [before0_0, before0_1, before0_2, before0_3, before0_4]
  rw [show (dats m 0 c).Φ t.succ = (dats m 0 c).Φ t.castSucc from rfl,
    show (dats m 0 c).owesAt () t.succ = (dats m 0 c).owesAt () t.castSucc from rfl, after0_0, after0_1, after0_2, after0_3, after0_4, after0_5, after0_6, after0_7, show (dats m 0 c).Φ t.castSucc = Pipeline.ΦA spec0 c from rfl]
  unfold Pipeline.ΦA
  rw [scopedRest0_eq, whole_raw, whole_raw, whole_raw, whole_raw]
  iintro ⟨⟨HS, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (wp_wand_r frame (wpE (defs₀ (F := F)) Variants.none (c : Thread nD τ) none) Set.univ)
  isplitl [HS H0 H1 H2 H3 H4 H5 H6 H7]
  · iapply (kernel_post (F := F) _ _ _ _ _ _ _ _ _ _ _ _ _ _ _ _ _ _ _ _ _ _ _ _ N c (iblk m c 0 t) (iblk m c 1 t) (iblk m c 2 t) (iblk m c 3 t) (iblk m c 4 t) (outRows m c t) rfl)
    isplitl [HS]; · iexact HS
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iexists _; iexact H7
  iintro %u ⟨HS, H0, H1, H2, H3, H4, H5, H6, H7⟩
  isplitl [HS Hr]
  · isplitl [HS]
    · iexact HS
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

-- the run's implicit arguments are found through plain definitions
set_option backward.isDefEq.respectTransparency.types false in
/-- The whole program's run: the arrays at the proof data's, every other buffer as the later lines leave it, the counters at zero. -/
theorem run_main (N : ScanLaws F) : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m N c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := fun _ _ => rfl) (hΦ := fun _ _ => rfl)

end Cert.Proof.Vox

end
-- ==== Proof.IdealLaws.lean ====
/-
  The real numbers keep the laws the counting asks for.
-/
module

public import proofs.«01_k».proof.Proof.Body
public import Idealize.ShloMosaic.Lib.MatmulPlain

@[expose] public section

noncomputable section

namespace Cert.Proof.Vox

open Cert.KernelIdeal Cert.KernelIdeal.Gen
open Idealize.ShloMosaic TcCoe LaneScatter Updates
open scoped BigOperators

/-- A whole number among the extended reals. -/
def realOf (n : ℕ) : EReal := ((n : ℝ) : EReal)

/-- A whole number below the sign bit, read back from the real it becomes. -/
theorem toInt_small (w : BitVec 32) (h : w.toNat < 2 ^ 24) : ((w.toInt : ℝ) : EReal) = realOf w.toNat := by
  rw [BitVec.toInt_eq_toNat_of_lt (by omega)]
  unfold realOf
  norm_cast

/-- Rounding a whole number to a word gives it back. -/
theorem fptosi_nat (n : ℕ) (hn : n < 2 ^ 24) : Ideal.fptosi 32 (realOf n) = BitVec.ofNat 32 n := by
  unfold Ideal.fptosi realOf
  rw [Ideal.toIntClamped_coe, if_pos (Nat.cast_nonneg n), Int.floor_natCast, min_eq_right (by norm_num; omega), max_eq_right (by norm_num), BitVec.ofInt_natCast]

theorem realOf_add (n m : ℕ) : realOf n + realOf m = realOf (n + m) := by
  unfold realOf
  rw [← EReal.coe_add]
  push_cast; rfl

/-- The counting's numbers are the whole numbers among the reals. -/
def idealNat : NatLaws Ideal where
  nat n := realOf n
  sitofp w h := toInt_small w h
  vsitofp w h := toInt_small w h
  fptosi n h := fptosi_nat n h
  add n m _ := realOf_add n m

/-- The triangular matrix: one right of the diagonal, else zero. -/
theorem triangle (i k : Fin 128) : k0_pay210 (ValueIdx.ix2 i k) = if i.val < k.val then 1#32 else 0#32 := by
  have e0 : k0_pay210 (ValueIdx.ix2 i k) = (BitVec.ofBool ((BitVec.ofNat 32 i.val).slt (BitVec.ofNat 32 k.val))).setWidth 32 := by
    simp only [k0_pay210, ValueIdx.extui_apply, cmpi, iota, Scalar.cmpi]
    simp [ValueIdx.ix2]
    rfl
  rw [e0]
  have := i.isLt
  have := k.isLt
  have e : (BitVec.ofNat 32 i.val).slt (BitVec.ofNat 32 k.val) = decide (i.val < k.val) := by
    unfold BitVec.slt
    rw [BitVec.toInt_eq_toNat_of_lt (by rw [BitVec.toNat_ofNat]; omega), BitVec.toInt_eq_toNat_of_lt (by rw [BitVec.toNat_ofNat]; omega), BitVec.toNat_ofNat, BitVec.toNat_ofNat,
      Nat.mod_eq_of_lt (by omega), Nat.mod_eq_of_lt (by omega)]
    simp
  rw [e]
  by_cases h : i.val < k.val <;> simp [h]

/-- A sum of whole numbers among the reals. -/
theorem realOf_sum {n : ℕ} (f : ℕ → ℕ) : (∑ k : Fin n, realOf (f k.val)) = realOf (∑ k ∈ Finset.range n, f k) := by
  induction n with
  | zero => simp [realOf]
  | succ n ih => rw [Fin.sum_univ_castSucc, Finset.sum_range_succ, ← realOf_add, ← ih]; rfl

/-- The counts before lane `b` of row `a`. -/
theorem row_pre (B : ℕ → ℕ) (a b : ℕ) (hb : b < 128) :
    (∑ k ∈ Finset.range 128, if k < b then B (a * 128 + k) else 0) = pre B (a * 128 + b) - pre B (a * 128) := by
  have h1 : (∑ k ∈ Finset.range 128, if k < b then B (a * 128 + k) else 0) = ∑ k ∈ Finset.range b, B (a * 128 + k) := by
    rw [← Finset.sum_filter]
    refine Finset.sum_congr ?_ fun _ _ => rfl
    ext k
    simp only [Finset.mem_filter, Finset.mem_range]
    omega
  have h2 : pre B (a * 128 + b) = pre B (a * 128) + ∑ k ∈ Finset.range b, B (a * 128 + k) := Finset.sum_range_add B (a * 128) b
  rw [h1, h2]; omega

/-- The product with the triangular matrix sums each row's counts up to a lane. -/
theorem ideal_mat (B : ℕ → ℕ) (v : FVec Ideal S11391x128 .f32) (hv : IsFlat (R := 11391) v (fun q => realOf (B q))) :
    IsFlat (R := 11391) (k0_pay1 v k0_pay210) (fun q => realOf (pre B q - pre B (q / 128 * 128))) := by
  have hcast : IsFlat (R := 11391) (FloatOps.matmul (DotDims.plain 11391 128 128) none v (sitofp .f32 k0_pay210 : FVec Ideal S128x128 .f32) (constant S11391x128 .f32 0x00000000#32))
      (fun q => realOf (pre B q - pre B (q / 128 * 128))) := by
    intro ι
    obtain ⟨a, b, rfl⟩ : ∃ (a : Fin 11391) (b : Fin 128), ι = ValueIdx.ix2 a b := ⟨ι 0, ι 1, ValueIdx.eq_ix2 ι⟩
    rw [Ideal.matmul_plain_apply]
    have hz : (constant S11391x128 .f32 0x00000000#32 : FVec Ideal S11391x128 .f32) (ValueIdx.ix2 a b) = (0 : EReal) := by
      exact Ideal.ofBits_zero_f32
    have hterm : ∀ k : Fin 128, v (ValueIdx.ix2 a k) * (sitofp .f32 k0_pay210 : FVec Ideal S128x128 .f32) (ValueIdx.ix2 k b) = realOf (if k.val < b.val then B (a.val * 128 + k.val) else 0) := by
      intro k
      have e1 : v (ValueIdx.ix2 a k) = realOf (B (a.val * 128 + k.val)) := hv _
      have e2 : (sitofp .f32 k0_pay210 : FVec Ideal S128x128 .f32) (ValueIdx.ix2 k b) = realOf (if k.val < b.val then 1 else 0) := by
        show (((k0_pay210 (ValueIdx.ix2 k b)).toInt : ℝ) : EReal) = _
        rw [triangle]
        split <;> simp [realOf]
      rw [e1, e2]
      split <;> simp [realOf]
    rw [hz, zero_add, Finset.sum_congr rfl fun k _ => hterm k, realOf_sum (fun k => if k < b.val then B (a.val * 128 + k) else 0), row_pre B a.val b.val b.isLt]
    show _ = realOf (pre B (a.val * 128 + b.val) - pre B ((a.val * 128 + b.val) / 128 * 128))
    rw [show (a.val * 128 + b.val) / 128 = a.val by have := b.isLt; omega]
  exact isFlat_cast hcast shapeCasts_S11391x128_S11391x128

/-- The reals keep the counting's laws. -/
def idealScan : ScanLaws Ideal where
  toNatLaws := idealNat
  mat B _ v hv := ideal_mat B v hv

end Cert.Proof.Vox

end
-- ==== Proof.KernelRows.lean ====
/- What the kernel reads and leaves, as long rows: the five columns it is handed, and its three results. -/
module

public import proofs.«01_k».proof.Proof.Region
public import Idealize.ShloMosaic.Lib.Pipeline.ValueKit.Geometry
public import Idealize.ShloMosaic.Lib.Routing.Ops

@[expose] public section

noncomputable section

namespace Cert.Proof.Vox

open Idealize.ShloMosaic Idealize.ShloMosaic.ValueIdx Idealize.ShloMosaic.Routing Idealize.SL.Sem Cert.KernelIdeal Cert.KernelIdeal.Gen

/-- A column of the points, padded and folded to rows of 128 lanes, holds point `q`'s entry at place `q`. -/
theorem padded_at {α : Type} (x : S300000x5.Idx → α) (v : S_.Idx → α) (k : Fin 5) (hs : S300000x5.Slices ![0, k.val] S300000x1)
    (q : Fin 300000) :
    rowOf (R := 2344) (by omega) (shapeCast S2344x128 (pad S300032 ![0] ![32] ![0] (shapeCast S300000 (extractStridedSlice S300000x1 ![0, k.val] x hs)
      shapeCasts_S300000x1_S300000) v pads_S300000_S300032_0320 h_S_) shapeCasts_S300032_S2344x128) q.val = x (ix2 q k) := by
  have hq := q.isLt
  unfold rowOf
  refine (cast12 _ _ _ _ (⟨q.val, by omega⟩ : Fin 300032) ?_).trans ?_
  · show q.val = q.val / 128 % 2344 * 128 + q.val % 128
    omega
  · refine (pad1 _ v _ _ _).trans ?_
    rw [dif_pos ⟨Nat.zero_le _, by show q.val - 0 < 300000; omega⟩]
    refine (cast21 _ _ q (0 : Fin 1) _ ?_).trans ?_
    · show q.val - 0 = q.val * 1 + 0
      omega
    · unfold extractStridedSlice
      refine congrArg x (funext fun a => Fin.ext ?_)
      match a with
      | ⟨0, _⟩ => show 0 + q.val = q.val; omega
      | ⟨1, _⟩ => rfl

variable (m : (ℓ : Loc nD τ sig) → Buf (Elt Ideal) ℓ)

/-- The points as the kernel is launched on them. -/
abbrev given (c : Dev nD) : S300000x5.Idx → EReal := m ((c.tc : Thread nD τ).loc main_arg0)

/-- The padded and folded column `k` of the points, with `v` for the padding. -/
abbrev folded (c : Dev nD) (v : S_.Idx → EReal) (k : Fin 5) (hs : S300000x5.Slices ![0, k.val] S300000x1) : S2344x128.Idx → EReal :=
  shapeCast S2344x128 (pad S300032 ![0] ![32] ![0] (shapeCast S300000 (extractStridedSlice S300000x1 ![0, k.val] (given m c) hs)
    shapeCasts_S300000x1_S300000) v pads_S300000_S300032_0320 h_S_) shapeCasts_S300032_S2344x128

set_option maxRecDepth 4096 in
theorem v3_is (c : Dev nD) : ∃ v, (V m c main_v3 : S2344x128.Idx → EReal) = folded m c v 0 slices_S300000x5_S300000x1_0_0 := by
  refine ⟨?_, ?_⟩
  rotate_left
  · dsimp only [V, V0]
    simp only [List.flatten_cons, List.flatten_nil, List.append_nil, List.cons_append, List.nil_append]
    after_results
    rfl

set_option maxRecDepth 4096 in
theorem v7_is (c : Dev nD) : ∃ v, (V m c main_v7 : S2344x128.Idx → EReal) = folded m c v 1 slices_S300000x5_S300000x1_0_1 := by
  refine ⟨?_, ?_⟩
  rotate_left
  · dsimp only [V, V0]
    simp only [List.flatten_cons, List.flatten_nil, List.append_nil, List.cons_append, List.nil_append]
    after_results
    rfl

set_option maxRecDepth 4096 in
theorem v11_is (c : Dev nD) : ∃ v, (V m c main_v11 : S2344x128.Idx → EReal) = folded m c v 2 slices_S300000x5_S300000x1_0_2 := by
  refine ⟨?_, ?_⟩
  rotate_left
  · dsimp only [V, V0]
    simp only [List.flatten_cons, List.flatten_nil, List.append_nil, List.cons_append, List.nil_append]
    after_results
    rfl

set_option maxRecDepth 4096 in
theorem v15_is (c : Dev nD) : ∃ v, (V m c main_v15 : S2344x128.Idx → EReal) = folded m c v 3 slices_S300000x5_S300000x1_0_3 := by
  refine ⟨?_, ?_⟩
  rotate_left
  · dsimp only [V, V0]
    simp only [List.flatten_cons, List.flatten_nil, List.append_nil, List.cons_append, List.nil_append]
    after_results
    rfl

set_option maxRecDepth 4096 in
theorem v19_is (c : Dev nD) : ∃ v, (V m c main_v19 : S2344x128.Idx → EReal) = folded m c v 4 slices_S300000x5_S300000x1_0_4 := by
  refine ⟨?_, ?_⟩
  rotate_left
  · dsimp only [V, V0]
    simp only [List.flatten_cons, List.flatten_nil, List.append_nil, List.cons_append, List.nil_append]
    after_results
    rfl

/-- A place of a window's one block is the same place of its array. -/
theorem place_val (w : Fin cfg0.W) (t : Fin cfg0.N) (y : ((cfg0.win w).xblock (cfg0.grid.coords t)).Idx) (a) : (((cfg0.win w).rect t).emb y a : ℕ) = y a :=
  Pipeline.Window.rect_emb_val_of_index_zero _ _ _ ((by decide +kernel : ∀ w : Fin cfg0.W, ∀ t : Fin cfg0.N, ∀ a, (cfg0.win w).index t a = 0) w t a) y

theorem row0_at (c : Dev nD) (t : Fin cfg0.N) (q : Fin 300000) :
    rowOf (R := 2344) (by omega) (iblk m c 0 t : Vec Ideal S2344x128 .f32) q.val = given m c (ix2 q 0) := by
  obtain ⟨v, e⟩ := v3_is m c
  have h : (iblk m c 0 t : Vec Ideal S2344x128 .f32) = (V m c main_v3 : S2344x128.Idx → EReal) := by
    funext ι
    unfold iblk
    exact congrArg (V m c main_v3 : S2344x128.Idx → EReal) (show ((cfg0.win 0).blk t).view.emb ι = ι from funext fun a => Fin.ext (place_val 0 t ι a))
  rw [h, e]
  exact padded_at (given m c) v 0 slices_S300000x5_S300000x1_0_0 q

theorem row1_at (c : Dev nD) (t : Fin cfg0.N) (q : Fin 300000) :
    rowOf (R := 2344) (by omega) (iblk m c 1 t : Vec Ideal S2344x128 .f32) q.val = given m c (ix2 q 1) := by
  obtain ⟨v, e⟩ := v7_is m c
  have h : (iblk m c 1 t : Vec Ideal S2344x128 .f32) = (V m c main_v7 : S2344x128.Idx → EReal) := by
    funext ι
    unfold iblk
    exact congrArg (V m c main_v7 : S2344x128.Idx → EReal) (show ((cfg0.win 1).blk t).view.emb ι = ι from funext fun a => Fin.ext (place_val 1 t ι a))
  rw [h, e]
  exact padded_at (given m c) v 1 slices_S300000x5_S300000x1_0_1 q

theorem row2_at (c : Dev nD) (t : Fin cfg0.N) (q : Fin 300000) :
    rowOf (R := 2344) (by omega) (iblk m c 2 t : Vec Ideal S2344x128 .f32) q.val = given m c (ix2 q 2) := by
  obtain ⟨v, e⟩ := v11_is m c
  have h : (iblk m c 2 t : Vec Ideal S2344x128 .f32) = (V m c main_v11 : S2344x128.Idx → EReal) := by
    funext ι
    unfold iblk
    exact congrArg (V m c main_v11 : S2344x128.Idx → EReal) (show ((cfg0.win 2).blk t).view.emb ι = ι from funext fun a => Fin.ext (place_val 2 t ι a))
  rw [h, e]
  exact padded_at (given m c) v 2 slices_S300000x5_S300000x1_0_2 q

theorem row3_at (c : Dev nD) (t : Fin cfg0.N) (q : Fin 300000) :
    rowOf (R := 2344) (by omega) (iblk m c 3 t : Vec Ideal S2344x128 .f32) q.val = given m c (ix2 q 3) := by
  obtain ⟨v, e⟩ := v15_is m c
  have h : (iblk m c 3 t : Vec Ideal S2344x128 .f32) = (V m c main_v15 : S2344x128.Idx → EReal) := by
    funext ι
    unfold iblk
    exact congrArg (V m c main_v15 : S2344x128.Idx → EReal) (show ((cfg0.win 3).blk t).view.emb ι = ι from funext fun a => Fin.ext (place_val 3 t ι a))
  rw [h, e]
  exact padded_at (given m c) v 3 slices_S300000x5_S300000x1_0_3 q

theorem row4_at (c : Dev nD) (t : Fin cfg0.N) (q : Fin 300000) :
    rowOf (R := 2344) (by omega) (iblk m c 4 t : Vec Ideal S2344x128 .f32) q.val = given m c (ix2 q 4) := by
  obtain ⟨v, e⟩ := v19_is m c
  have h : (iblk m c 4 t : Vec Ideal S2344x128 .f32) = (V m c main_v19 : S2344x128.Idx → EReal) := by
    funext ι
    unfold iblk
    exact congrArg (V m c main_v19 : S2344x128.Idx → EReal) (show ((cfg0.win 4).blk t).view.emb ι = ι from funext fun a => Fin.ext (place_val 4 t ι a))
  rw [h, e]
  exact padded_at (given m c) v 4 slices_S300000x5_S300000x1_0_4 q

/-- The region's one point. -/
def only : Fin cfg0.N := ⟨0, by decide⟩

theorem arr5 (c : Dev nD) : (dats (F := Ideal) m 0 c).arrAt 5 cfg0.N = (block ((outRows m c only).vox) : Vec Ideal S46876x128 .f32) := by
  refine (dats m 0 c).arrAt_eq_of_after_last 5 only (by decide +kernel) _ fun j => ?_
  rw [after0_5]
  rfl

theorem arr6 (c : Dev nD) : (dats (F := Ideal) m 0 c).arrAt 6 cfg0.N = (block ((outRows m c only).crd) : Vec Ideal S2814x128 .i32) := by
  refine (dats m 0 c).arrAt_eq_of_after_last 6 only (by decide +kernel) _ fun j => ?_
  rw [after0_6]
  rfl

theorem arr7 (c : Dev nD) : (dats (F := Ideal) m 0 c).arrAt 7 cfg0.N = (block (fun q => BitVec.ofNat 32 ((outRows m c only).cnt q)) : Vec Ideal S939x128 .i32) := by
  refine (dats m 0 c).arrAt_eq_of_after_last 7 only (by decide +kernel) _ fun j => ?_
  rw [after0_7]
  rfl

section Tail
variable (W : Valuation τ sig (Elt Ideal))

theorem tail23 : (StableHlo.after hostOps1 W (Proc.devRef .tc main_v23) : S120000x10x5.Idx → EReal)
    = shapeCast S120000x10x5 (extractStridedSlice S6000000 ![0] (shapeCast S6000128 (W (Proc.devRef .tc main_v20_0) : Vec Ideal S46876x128 .f32) shapeCasts_S46876x128_S6000128) slices_S6000128_S6000000_0) shapeCasts_S6000000_S120000x10x5 := by
  after_results
  rfl

theorem tail26 : (StableHlo.after hostOps1 W (Proc.devRef .tc main_v26) : S120000x3.Idx → BitVec 32)
    = shapeCast S120000x3 (extractStridedSlice S360000 ![0] (shapeCast S360192 (W (Proc.devRef .tc main_v20_1) : Vec Ideal S2814x128 .i32) shapeCasts_S2814x128_S360192) slices_S360192_S360000_0) shapeCasts_S360000_S120000x3 := by
  after_results
  rfl

theorem tail28 : (StableHlo.after hostOps1 W (Proc.devRef .tc main_v28) : S120000.Idx → BitVec 32)
    = extractStridedSlice S120000 ![0] (shapeCast S120192 (W (Proc.devRef .tc main_v20_2) : Vec Ideal S939x128 .i32) shapeCasts_S939x128_S120192) slices_S120192_S120000_0 := by
  after_results
  rfl

end Tail

/-- A block read as one row is its long row, to any length cut off it. -/
theorem unfolded_at {α : Type} {R M n : ℕ} (g : ℕ → α) (h : (shape2 R 128).ShapeCasts (shape1 M)) (hs : (shape1 M).Slices ![0] (shape1 n)) (hM : M = R * 128) (hn : n ≤ M) (p : Fin n) :
    extractStridedSlice (shape1 n) ![0] (shapeCast (shape1 M) (block g : (shape2 R 128).Idx → α) h) hs (ix1 p) = g p.val := by
  have hp := p.isLt
  refine (slice1 0 _ hs p (by omega)).trans ((cast21 _ h (⟨p.val / 128, by omega⟩ : Fin R) (⟨p.val % 128, by omega⟩ : Fin 128) _ ?_).trans ?_)
  · show 0 + p.val = p.val / 128 * 128 + p.val % 128
    omega
  · show g (p.val / 128 * 128 + p.val % 128) = _
    congr 1
    omega

theorem left23 (c : Dev nD) : (Pipeline.withArrays (cfgs 0).spec c (V0 m c) (fun w => (dats (F := Ideal) m 0 c).arrAt w (cfgs 0).N) (Proc.devRef .tc main_v20_0) : Vec Ideal S46876x128 .f32)
    = (block ((outRows m c only).vox) : Vec Ideal S46876x128 .f32) :=
  (Pipeline.withArrays_arr (cfgs 0).spec launch0.win.arr_inj c (V0 m c) (fun w => (dats (F := Ideal) m 0 c).arrAt w (cfgs 0).N) 5).trans (arr5 m c)

theorem left26 (c : Dev nD) : (Pipeline.withArrays (cfgs 0).spec c (V0 m c) (fun w => (dats (F := Ideal) m 0 c).arrAt w (cfgs 0).N) (Proc.devRef .tc main_v20_1) : Vec Ideal S2814x128 .i32)
    = (block ((outRows m c only).crd) : Vec Ideal S2814x128 .i32) :=
  (Pipeline.withArrays_arr (cfgs 0).spec launch0.win.arr_inj c (V0 m c) (fun w => (dats (F := Ideal) m 0 c).arrAt w (cfgs 0).N) 6).trans (arr6 m c)

theorem left28 (c : Dev nD) : (Pipeline.withArrays (cfgs 0).spec c (V0 m c) (fun w => (dats (F := Ideal) m 0 c).arrAt w (cfgs 0).N) (Proc.devRef .tc main_v20_2) : Vec Ideal S939x128 .i32)
    = (block (fun q => BitVec.ofNat 32 ((outRows m c only).cnt q)) : Vec Ideal S939x128 .i32) :=
  (Pipeline.withArrays_arr (cfgs 0).spec launch0.win.arr_inj c (V0 m c) (fun w => (dats (F := Ideal) m 0 c).arrAt w (cfgs 0).N) 7).trans (arr7 m c)

theorem out23 (c : Dev nD) (t : Fin 120000) (l : Fin 10) (f : Fin 5) :
    (Pipeline.afterTail₀ cfgs (dats m) 0 (V0 m) [hostOps1] c main_v23 : S120000x10x5.Idx → EReal) (ix3 t l f) = (outRows m c only).vox ((t.val * 10 + l.val) * 5 + f.val) := by
  have ht := t.isLt
  have hl := l.isLt
  have hf := f.isLt
  unfold Pipeline.afterTail₀
  simp only [List.flatten_cons, List.flatten_nil, List.append_nil]
  refine (congrFun (tail23 _) (ix3 t l f)).trans ?_
  rw [left23 m c]
  refine (cast13 _ _ t l f (⟨(t.val * 10 + l.val) * 5 + f.val, by omega⟩ : Fin 6000000) rfl).trans ?_
  exact unfolded_at _ _ _ rfl (by omega) _

theorem out26 (c : Dev nD) (t : Fin 120000) (a : Fin 3) :
    (Pipeline.afterTail₀ cfgs (dats m) 0 (V0 m) [hostOps1] c main_v26 : S120000x3.Idx → BitVec 32) (ix2 t a) = (outRows m c only).crd (t.val * 3 + a.val) := by
  have ht := t.isLt
  have ha := a.isLt
  unfold Pipeline.afterTail₀
  simp only [List.flatten_cons, List.flatten_nil, List.append_nil]
  refine (congrFun (tail26 _) (ix2 t a)).trans ?_
  rw [left26 m c]
  refine (cast12 _ _ t a (⟨t.val * 3 + a.val, by omega⟩ : Fin 360000) rfl).trans ?_
  exact unfolded_at _ _ _ rfl (by omega) _

theorem out28 (c : Dev nD) (t : Fin 120000) :
    (Pipeline.afterTail₀ cfgs (dats m) 0 (V0 m) [hostOps1] c main_v28 : S120000.Idx → BitVec 32) (ix1 t) = BitVec.ofNat 32 ((outRows m c only).cnt t.val) := by
  unfold Pipeline.afterTail₀
  simp only [List.flatten_cons, List.flatten_nil, List.append_nil]
  refine (congrFun (tail28 _) (ix1 t)).trans ?_
  rw [left28 m c]
  exact unfolded_at (fun q => BitVec.ofNat 32 ((outRows m c only).cnt q)) _ _ rfl (by omega) _

end Cert.Proof.Vox

end
-- ==== Proof.Land.lean ====
/- Where the reference's three scatters put an update, and the running maximum at a place. -/
module

public import proofs.«01_k».proof.Proof.Gen.ReferenceIdeal
public import Idealize.ShloMosaic.Lib.Routing.OpsPair
public import Idealize.ShloMosaic.Lib.Routing.OpsSet
public import Idealize.ShloMosaic.Lib.Routing.Ops

@[expose] public section

noncomputable section

namespace Cert.Proof.Vox

open Idealize.ShloMosaic Idealize.ShloMosaic.ValueIdx Idealize.ShloMosaic.Routing Cert.ReferenceIdeal

/-- The table of points takes row `k` at the voxel and slot its two index words name. -/
theorem lands_points (idx : IVec S300000x2 32) (k : Fin 300000) (l : Fin 5) (a : Fin 120001) (b : Fin 10) (c : Fin 5) :
    scatter_S120001x10x5_S300000x2_S300000x5_1_01_01_1.resultIdx? (ix2 k l) idx = some (ix3 a b c)
      ↔ (idx (ix2 k 0)).toInt = a.val ∧ (idx (ix2 k 1)).toInt = b.val ∧ l = c := by
  rw [resultIdx?_eq_some]
  have hs : ∀ q : Fin 2, scatter_S120001x10x5_S300000x2_S300000x5_1_01_01_1.siIdx (ix2 k l) q = ix2 k q := fun q => by
    funext x; apply Fin.ext; fin_cases x <;> fin_cases q <;> rfl
  have e0 : scatter_S120001x10x5_S300000x2_S300000x5_1_01_01_1.start (ix2 k l) idx 0 = (idx (ix2 k 0)).toInt := by rw [← hs 0]; rfl
  have e1 : scatter_S120001x10x5_S300000x2_S300000x5_1_01_01_1.start (ix2 k l) idx 1 = (idx (ix2 k 1)).toInt := by rw [← hs 1]; rfl
  have e2 : scatter_S120001x10x5_S300000x2_S300000x5_1_01_01_1.start (ix2 k l) idx 2 = 0 := rfl
  have w0 : scatter_S120001x10x5_S300000x2_S300000x5_1_01_01_1.window (ix2 k l) 0 = 0 := rfl
  have w1 : scatter_S120001x10x5_S300000x2_S300000x5_1_01_01_1.window (ix2 k l) 1 = 0 := rfl
  have w2 : scatter_S120001x10x5_S300000x2_S300000x5_1_01_01_1.window (ix2 k l) 2 = l.val := rfl
  constructor
  · intro h
    have h0 := h 0
    have h1 := h 1
    have h2 := h 2
    rw [e0, w0] at h0
    rw [e1, w1] at h1
    rw [e2, w2] at h2
    change _ = (a.val : Int) at h0
    change _ = (b.val : Int) at h1
    change _ = (c.val : Int) at h2
    exact ⟨by omega, by omega, Fin.ext (by omega)⟩
  · rintro ⟨h0, h1, rfl⟩ x
    match x with
    | ⟨0, _⟩ => refine (congrArg₂ (fun (p : Int) (q : ℕ) => p + (q : Int)) e0 w0).trans ?_; show _ = (a.val : Int); omega
    | ⟨1, _⟩ => refine (congrArg₂ (fun (p : Int) (q : ℕ) => p + (q : Int)) e1 w1).trans ?_; show _ = (b.val : Int); omega
    | ⟨2, _⟩ => refine (congrArg₂ (fun (p : Int) (q : ℕ) => p + (q : Int)) e2 w2).trans ?_; show _ = (l.val : Int); omega

/-- The table of coordinates takes row `k` at the voxel its index word names. -/
theorem lands_coords (idx : IVec S300000x1 32) (k : Fin 300000) (l : Fin 3) (a : Fin 120001) (c : Fin 3) :
    scatter_S120001x3_S300000x1_S300000x3_1_0_0_1.resultIdx? (ix2 k l) idx = some (ix2 a c)
      ↔ (idx (ix2 k 0)).toInt = a.val ∧ l = c := by
  rw [resultIdx?_ix2]
  have hs : scatter_S120001x3_S300000x1_S300000x3_1_0_0_1.siIdx (ix2 k l) (⟨0, Nat.one_pos⟩ : Fin 1) = ix2 k 0 := by
    funext x; apply Fin.ext; fin_cases x <;> rfl
  have e0 : scatter_S120001x3_S300000x1_S300000x3_1_0_0_1.start (ix2 k l) idx 0 = (idx (ix2 k 0)).toInt := by rw [← hs]; rfl
  have e1 : scatter_S120001x3_S300000x1_S300000x3_1_0_0_1.start (ix2 k l) idx 1 = 0 := rfl
  have w0 : scatter_S120001x3_S300000x1_S300000x3_1_0_0_1.window (ix2 k l) 0 = 0 := rfl
  have w1 : scatter_S120001x3_S300000x1_S300000x3_1_0_0_1.window (ix2 k l) 1 = l.val := rfl
  rw [e0, e1, w0, w1, Fin.ext_iff]
  omega

/-- The table of counts takes update `k` at the voxel its index word names. -/
theorem lands_counts (idx : IVec S300000x1 32) (k : Fin 300000) (a : Fin 120001) :
    scatter_S120001_S300000x1_S300000_n_0_0_1.resultIdx? (ix1 k) idx = some (ix1 a) ↔ (idx (ix2 k 0)).toInt = a.val := by
  rw [resultIdx?_ix1]
  have hs : scatter_S120001_S300000x1_S300000_n_0_0_1.siIdx (ix1 k) (⟨0, Nat.one_pos⟩ : Fin 1) = ix2 k 0 := by
    funext x; apply Fin.ext; fin_cases x <;> rfl
  have e0 : scatter_S120001_S300000x1_S300000_n_0_0_1.start (ix1 k) idx 0 = (idx (ix2 k 0)).toInt := by rw [← hs]; rfl
  have w0 : scatter_S120001_S300000x1_S300000_n_0_0_1.window (ix1 k) 0 = 0 := rfl
  rw [e0, w0]
  omega

/-- The greater of two words, read as signed numbers. -/
theorem toInt_maxsi (x y : BitVec 32) : (IntOp.maxsi x y).toInt = max x.toInt y.toInt := by
  unfold IntOp.maxsi BitVec.slt
  by_cases h : y.toInt < x.toInt
  · rw [if_pos (decide_eq_true h), max_eq_left h.le]
  · rw [if_neg (by simpa using h), max_eq_right (not_lt.mp h)]

/-- A fold of maxima that reaches its bound is the bound. -/
theorem foldl_maxsi {ι : Type} (g : ι → BitVec 32) (M : Int) (l : List ι) (v : BitVec 32) (hv : v.toInt ≤ M) (hg : ∀ n ∈ l, (g n).toInt ≤ M)
    (hex : v.toInt = M ∨ ∃ n ∈ l, (g n).toInt = M) : (l.foldl (fun r n => IntOp.maxsi r (g n)) v).toInt = M := by
  induction l generalizing v with
  | nil =>
    rcases hex with h | ⟨n, h, _⟩
    · exact h
    · exact absurd h List.not_mem_nil
  | cons n l ih =>
    have hn := hg n List.mem_cons_self
    have hm := toInt_maxsi v (g n)
    rw [List.foldl_cons]
    refine ih _ (by rw [hm]; exact max_le hv hn) (fun n hn => hg n (List.mem_cons_of_mem _ hn)) ?_
    rcases hex with h | ⟨n', h, h'⟩
    · exact .inl (by rw [hm, h]; exact max_eq_left hn)
    · rcases List.mem_cons.mp h with rfl | h
      · exact .inl (by rw [hm, h']; exact max_eq_right hv)
      · exact .inr ⟨n', h, h'⟩

/-- The running maximum at a place: a bound of what comes to it, reached there. -/
theorem cummax1 {N Nm1 : Nat} (hN : Nm1 + 1 = N) (x : IVec (shape1 N) 32) (init : IVec shape0 32) (hinit : init ix0 = 2147483648#32)
    (h : (shape1 N).ReduceWindows (![N] : Fin 1 → Nat) ![1] ![Nm1] ![0] (shape1 N)) (hu : 0 < shape0.numel) (j : Fin N) (M : Int)
    (hle : ∀ i : Fin N, i ≤ j → (x (ix1 i)).toInt ≤ M) (i₀ : Fin N) (hi₀ : i₀ ≤ j) (hx₀ : (x (ix1 i₀)).toInt = M) :
    (Host.reduceWindow IntOp.maxsi ![N] ![1] ![Nm1] ![0] x init h hu (ix1 j)).toInt = M := by
  subst hN
  have hv : (init (Shape.Idx.first hu)).toInt = -2147483648 := by
    rw [show init (Shape.Idx.first hu) = 2147483648#32 from (congrArg init (eq_ix0 _)).trans hinit]; rfl
  have hM : -2147483648 ≤ M := by
    rw [← hx₀]
    have := BitVec.le_toInt (x (ix1 i₀))
    simpa using this
  have hj := j.isLt
  unfold Host.reduceWindow
  refine foldl_maxsi _ M _ _ (by rw [hv]; exact hM) (fun n _ => ?_) (.inr ⟨(⟨Nm1 + i₀.val - j.val, ?_⟩ : Fin (shape1 (Nm1 + 1)).numel), List.mem_finRange _, ?_⟩)
  · have hw : ((shape1 (Nm1 + 1)).rowMajor.symm n 0).val = n.val := by rw [symm1]; rfl
    dsimp only
    split
    · next hin =>
      have h0 := hin 0
      change Nm1 ≤ j.val * 1 + ((shape1 (Nm1 + 1)).rowMajor.symm n 0).val
        ∧ j.val * 1 + ((shape1 (Nm1 + 1)).rowMajor.symm n 0).val - Nm1 < Nm1 + 1 at h0
      rw [hw] at h0
      have hn : n.val < Nm1 + 1 := (n.cast (numel1 _)).isLt
      refine le_of_eq_of_le (congrArg (fun e => (x e).toInt) (funext fun a => Fin.ext ?_)) (hle ⟨j.val + n.val - Nm1, by omega⟩ (by show j.val + n.val - Nm1 ≤ j.val; omega))
      match a with
      | ⟨0, _⟩ =>
        show j.val * 1 + ((shape1 (Nm1 + 1)).rowMajor.symm n 0).val - Nm1 = j.val + n.val - Nm1
        rw [hw, Nat.mul_one]
    · rw [hv]; exact hM
  · have : i₀.val ≤ j.val := hi₀
    rw [numel1]; omega
  · have hij : i₀.val ≤ j.val := hi₀
    have hw : ((shape1 (Nm1 + 1)).rowMajor.symm (⟨Nm1 + i₀.val - j.val, by rw [numel1]; omega⟩ : Fin (shape1 (Nm1 + 1)).numel) 0).val = Nm1 + i₀.val - j.val := by rw [symm1]; rfl
    have hi := i₀.isLt
    dsimp only
    rw [dif_pos fun a => by
      match a with
      | ⟨0, _⟩ =>
        show Nm1 ≤ j.val * 1 + ((shape1 (Nm1 + 1)).rowMajor.symm _ 0).val
          ∧ j.val * 1 + ((shape1 (Nm1 + 1)).rowMajor.symm _ 0).val - Nm1 < Nm1 + 1
        rw [hw]
        omega]
    rw [← hx₀]
    refine congrArg (fun e => (x e).toInt) (funext fun a => Fin.ext ?_)
    match a with
    | ⟨0, _⟩ =>
      show j.val * 1 + ((shape1 (Nm1 + 1)).rowMajor.symm _ 0).val - Nm1 = i₀.val
      rw [hw]
      omega

end Cert.Proof.Vox

end
-- ==== Proof.CellEq.lean ====
/- A cell's number names its grid coordinates, and the packed word gives them back. -/
module

public import proofs.«01_k».proof.Proof.Whole

@[expose] public section

noncomputable section

namespace Cert.Proof.Vox

open Idealize.ShloMosaic

variable (x y z w x' y' z' w' : BitVec 32)

/-- What the tests say of the coordinates. -/
theorem ranges_of_test (h : testAll (test3 x y) y z w = 1#1) : x.toNat < 1080 ∧ y.toNat < 1080 ∧ z.toNat < 40 := by
  have hx := range_iff x 1080 (by omega)
  have hy := range_iff y 1080 (by omega)
  have hz := range_iff z 40 (by omega)
  unfold testAll test3 at h
  simp only [andi_eq_one] at h
  tauto

/-- The number of a cell within the ranges. -/
theorem cellNo_toNat (hx : x.toNat < 1080) (hy : y.toNat < 1080) (hz : z.toNat < 40) : (cellNo x y z).toNat = (z.toNat * 1080 + y.toNat) * 1080 + x.toNat := by
  have e1 := toNat_muli z 1080#32 (by show _ * 1080 < _; omega)
  have e2 := toNat_addi (Scalar.muli z 1080#32) y (by rw [e1]; show _ * 1080 + _ < _; omega)
  have e3 := toNat_muli (Scalar.addi (Scalar.muli z 1080#32) y) 1080#32 (by rw [e2, e1]; show (_ * 1080 + _) * 1080 < _; omega)
  have e4 := toNat_addi (Scalar.muli (Scalar.addi (Scalar.muli z 1080#32) y) 1080#32) x (by rw [e3, e2, e1]; show (_ * 1080 + _) * 1080 + _ < _; omega)
  unfold cellNo
  rw [e4, e3, e2, e1]; rfl

/-- A point has a cell if it passes the tests. -/
theorem cellW_lt_iff : (cellW x y z w).toNat < 46656000 ↔ testAll (test3 x y) y z w = 1#1 := by
  unfold cellW
  split
  · next h =>
    obtain ⟨hx, hy, hz⟩ := ranges_of_test x y z w h
    rw [cellNo_toNat x y z hx hy hz]
    exact ⟨fun _ => h, fun _ => by omega⟩
  · next h => exact ⟨fun e => absurd e (by decide), fun e => absurd e h⟩

/-- Points of one cell have one packed word. -/
theorem packW_of_cell (e : (cellW x y z w).toNat = (cellW x' y' z' w').toNat) (hlt : (cellW x y z w).toNat < 46656000) : packW x y z w = packW x' y' z' w' := by
  have t := (cellW_lt_iff x y z w).mp hlt
  have t' := (cellW_lt_iff x' y' z' w').mp (e ▸ hlt)
  obtain ⟨hx, hy, hz⟩ := ranges_of_test x y z w t
  obtain ⟨hx', hy', hz'⟩ := ranges_of_test x' y' z' w' t'
  unfold cellW at e
  rw [if_pos t, if_pos t', cellNo_toNat x y z hx hy hz, cellNo_toNat x' y' z' hx' hy' hz'] at e
  unfold packW
  rw [if_pos t, if_pos t', show x = x' from BitVec.eq_of_toNat_eq (by omega), show y = y' from BitVec.eq_of_toNat_eq (by omega), show z = z' from BitVec.eq_of_toNat_eq (by omega)]

/-- The packed word as a number. -/
theorem packNo_toNat (hx : x.toNat < 1080) (hy : y.toNat < 1080) (hz : z.toNat < 40) : (packNo x y z).toNat = z.toNat * 2 ^ 22 + y.toNat * 2 ^ 11 + x.toNat := by
  show (z <<< 22 ||| y <<< 11 ||| x).toNat = _
  have hz' : (z <<< 22).toNat = z.toNat * 2 ^ 22 := by
    rw [BitVec.toNat_shiftLeft, Nat.shiftLeft_eq, Nat.mod_eq_of_lt (by omega)]
  have hy' : (y <<< 11).toNat = y.toNat * 2 ^ 11 := by
    rw [BitVec.toNat_shiftLeft, Nat.shiftLeft_eq, Nat.mod_eq_of_lt (by omega)]
  have e1 : z.toNat * 2 ^ 22 ||| y.toNat * 2 ^ 11 = z.toNat * 2 ^ 22 + y.toNat * 2 ^ 11 := by
    rw [Nat.mul_comm]
    exact (Nat.two_pow_add_eq_or_of_lt (show y.toNat * 2 ^ 11 < 2 ^ 22 by omega) _).symm
  have e2 : (z.toNat * 2 ^ 22 + y.toNat * 2 ^ 11) ||| x.toNat = z.toNat * 2 ^ 22 + y.toNat * 2 ^ 11 + x.toNat := by
    rw [show z.toNat * 2 ^ 22 + y.toNat * 2 ^ 11 = 2 ^ 11 * (z.toNat * 2 ^ 11 + y.toNat) by omega]
    exact (Nat.two_pow_add_eq_or_of_lt (show x.toNat < 2 ^ 11 by omega) _).symm
  rw [BitVec.toNat_or, BitVec.toNat_or, hz', hy', e1, e2]

/-- A right shift of a small word. -/
theorem toNat_shr (p : BitVec 32) (hp : p.toNat < 2 ^ 31) (k : ℕ) : (p.sshiftRight k).toNat = p.toNat / 2 ^ k := by
  have hm : p.msb = false := by rw [BitVec.msb_eq_false_iff_two_mul_lt]; omega
  rw [BitVec.sshiftRight_eq_of_msb_false hm, BitVec.toNat_ushiftRight, Nat.shiftRight_eq_div_pow]

/-- The packed word gives the coordinates back. -/
theorem crdOf_packW (h : (cellW x y z w).toNat < 46656000) : crdOf (packW x y z w) 0 = z ∧ crdOf (packW x y z w) 1 = y ∧ crdOf (packW x y z w) 2 = x := by
  have t := (cellW_lt_iff x y z w).mp h
  obtain ⟨hx, hy, hz⟩ := ranges_of_test x y z w t
  have hp := packNo_toNat x y z hx hy hz
  unfold packW
  rw [if_pos t]
  refine ⟨BitVec.eq_of_toNat_eq ?_, BitVec.eq_of_toNat_eq ?_, BitVec.eq_of_toNat_eq ?_⟩
  · show ((packNo x y z).sshiftRight 22).toNat = _
    rw [toNat_shr _ (by omega), hp]; omega
  · show ((packNo x y z).sshiftRight 11 &&& 2047#32).toNat = _
    rw [BitVec.toNat_and, toNat_shr _ (by omega), hp, show (2047#32 : BitVec 32).toNat = 2 ^ 11 - 1 from rfl, Nat.and_two_pow_sub_one_eq_mod]; omega
  · show (packNo x y z &&& 2047#32).toNat = _
    rw [BitVec.toNat_and, hp, show (2047#32 : BitVec 32).toNat = 2 ^ 11 - 1 from rfl, Nat.and_two_pow_sub_one_eq_mod]; omega

end Cert.Proof.Vox

end
-- ==== Proof.RefCell.lean ====
/- The reference's cells of the points are the kernel's. -/
module

public import proofs.«01_k».proof.Proof.Gen.ReferenceIdeal.Run
public import proofs.«01_k».proof.Proof.Whole
public import proofs.«01_k».proof.Proof.Land
public import proofs.«01_k».proof.Proof.CellEq

@[expose] public section

noncomputable section

namespace Cert.Proof.Vox

open Idealize.ShloMosaic Idealize.ShloMosaic.TcCoe Idealize.ShloMosaic.ValueIdx Idealize.ShloMosaic.Routing Cert.ReferenceIdeal Cert.ReferenceIdeal.Gen Cert.ReferenceIdeal.Value

/-- A fold of one-bit ands is one when all are. -/
theorem foldl_andi {ι : Type} (g : ι → BitVec 1) (l : List ι) (v : BitVec 1) :
    l.foldl (fun r n => IntOp.andi r (g n)) v = 1#1 ↔ v = 1#1 ∧ ∀ n ∈ l, g n = 1#1 := by
  induction l generalizing v with
  | nil => simp
  | cons n l ih =>
    rw [List.foldl_cons, ih, List.forall_mem_cons, show IntOp.andi v (g n) = 1#1 ↔ v = 1#1 ∧ g n = 1#1 from andi_eq_one v (g n)]
    tauto

/-- The and of a row of three bits. -/
theorem all_row (x : IVec S300000x3 1) (init : IVec S_ 1) (hi : ∀ i, init i = 1#1) (q : Fin 300000) :
    Host.reduce IntOp.andi x init reducesTo_S300000x3_S300000_d1 h_S_ (ix1 q) = 1#1 ↔ ∀ c : Fin 3, x (ix2 q c) = 1#1 := by
  unfold Host.reduce
  rw [foldl_andi, hi]
  have hd : ∀ i : S300000x3.Idx, reducesTo_S300000x3_S300000_d1.drop i = ix1 q ↔ i 0 = q := fun i => by
    constructor
    · intro e
      have := congrFun e 0
      exact Fin.ext (congrArg Fin.val this)
    · intro e
      funext a
      match a with
      | ⟨0, _⟩ => exact Fin.ext (congrArg Fin.val e)
  constructor
  · rintro ⟨-, h⟩ c
    have := h (S300000x3.rowMajor (ix2 q c)) (List.mem_filter.mpr ⟨List.mem_finRange _, decide_eq_true (by rw [Equiv.symm_apply_apply]; exact (hd _).mpr rfl)⟩)
    rwa [Equiv.symm_apply_apply] at this
  · refine fun h => ⟨rfl, fun n hn => ?_⟩
    have h0 := (hd _).mp (of_decide_eq_true (List.mem_filter.mp hn).2)
    have := h (S300000x3.rowMajor.symm n 1)
    rw [← h0] at this
    rw [show S300000x3.rowMajor.symm n = ix2 (S300000x3.rowMajor.symm n 0) (S300000x3.rowMajor.symm n 1) from eq_ix2 _]
    exact this

/-- A column of a table of three columns. -/
theorem col3 {α : Type} (o : ℕ) (c : Fin 3) (ho : o = c.val) (x : S300000x3.Idx → α) (h : S300000x3.Slices ![0, o] S300000x1) (hc : S300000x1.ShapeCasts S300000) (q : Fin 300000) :
    shapeCast S300000 (extractStridedSlice S300000x1 ![0, o] x h) hc (ix1 q) = x (ix2 q c) := by
  refine (cast21 _ hc q (0 : Fin 1) q (by simp)).trans ?_
  unfold extractStridedSlice
  refine congrArg x (funext fun a => Fin.ext ?_)
  match a with
  | ⟨0, _⟩ => show 0 + q.val = q.val; omega
  | ⟨1, _⟩ => show o + 0 = c.val; omega

/-- A choice between a row and a constant. -/
theorem select_word (c : IVec S300000 1) (a : IVec S300000 32) (w : BitVec 32) (i : S300000.Idx) :
    select c a (broadcastInDim S300000 ![] bcast_S_S300000 (constantI S_ 32 w)) i = if c i = 1#1 then a i else w := rfl

variable (V : Valuation τ sig (Elt Ideal))

/-- The points, as the reference is given them. -/
abbrev pts : S300000x5.Idx → EReal := V (Proc.devRef .tc main_arg0)

/-- The first columns of the points, each to its grid coordinate. -/
theorem v8_at (q : Fin 300000) (c : Fin 3) :
    res_main_v8 V (ix2 q c) = gridOf (F := Ideal) (lit1 c) (lit0 c) (pts V (ix2 q (c.castLE (by omega)))) := by
  have e1 : ∀ (l : Fin 3 → BitVec 32), broadcastInDim S300000x3 ![0, 1] bcast_S1x3_S300000x3_0_1 (broadcastInDim S1x3 ![1] bcast_S3_S1x3_1 ((fun i => FloatOps.ofBits (F := Ideal) .f32 (l (S3.rowMajor i))))) (ix2 q c) = FloatOps.ofBits (F := Ideal) .f32 (l c) := fun l => by
    refine (bcCols bcast_S3_S1x3_1 bcast_S1x3_S300000x3_0_1 _ q c).trans ?_
    rw [show S3.rowMajor (ix1 c) = c from Fin.ext (Shape.rowMajor_val_one _)]
  have e2 : extractStridedSlice S300000x3 ![0, 0] (pts V) slices_S300000x5_S300000x3_0_0 (ix2 q c) = pts V (ix2 q (c.castLE (by omega))) := by
    unfold extractStridedSlice
    refine congrArg (pts V) (funext fun a => Fin.ext ?_)
    match a with
    | ⟨0, _⟩ => show 0 + q.val = q.val; omega
    | ⟨1, _⟩ => show 0 + c.val = c.val; omega
  unfold res_main_v8
  show FloatOps.fptosi (F := Ideal) 32 (FloatOps.hostUnary .floor (FloatOps.hostDivf (FloatOps.subf (extractStridedSlice S300000x3 ![0, 0] (pts V) slices_S300000x5_S300000x3_0_0 (ix2 q c)) _) _)) = _
  rw [e1, e1, e2]
  rfl

/-- The ranges of the grid coordinates. -/
theorem c_at (c : Fin 3) (q : Fin 300000) : broadcastInDim S300000x3 ![0, 1] bcast_S1x3_S300000x3_0_1 (broadcastInDim S1x3 ![1] bcast_S3_S1x3_1 (res_main_c V)) (ix2 q c) = lit2 c := by
  refine (bcCols bcast_S3_S1x3_1 bcast_S1x3_S300000x3_0_1 _ q c).trans ?_
  unfold res_main_c
  rw [show S3.rowMajor (ix1 c) = c from Fin.ext (Shape.rowMajor_val_one _)]

theorem v15_at (q : Fin 300000) : res_main_v15 V (ix1 q) = 1#1 ↔
    (res_main_v8 V (ix2 q 0)).toNat < 1080 ∧ (res_main_v8 V (ix2 q 1)).toNat < 1080 ∧ (res_main_v8 V (ix2 q 2)).toNat < 40 := by
  unfold res_main_v15
  refine (all_row _ (constantI S_ 1 1#1) (fun _ => rfl) q).trans ?_
  have h : ∀ c : Fin 3, ∀ n : ℕ, n < 2 ^ 31 → lit2 c = BitVec.ofNat 32 n → (andi (cmpi .sge (res_main_v8 V) (broadcastInDim S300000x3 ![] bcast_S_S300000x3 (constantI S_ 32 0#32))) (cmpi .slt (res_main_v8 V) (broadcastInDim S300000x3 ![0, 1] bcast_S1x3_S300000x3_0_1 (broadcastInDim S1x3 ![1] bcast_S3_S1x3_1 (res_main_c V)))) (ix2 q c) = 1#1 ↔ (res_main_v8 V (ix2 q c)).toNat < n) := fun c n hn hl => by
    rw [← range_iff _ n hn, ← hl, ← c_at V c q]
    exact andi_eq_one _ _
  constructor
  · intro e
    exact ⟨(h 0 1080 (by omega) rfl).mp (e 0), (h 1 1080 (by omega) rfl).mp (e 1), (h 2 40 (by omega) rfl).mp (e 2)⟩
  · rintro ⟨h0, h1, h2⟩ c
    match c with
    | 0 => exact (h 0 1080 (by omega) rfl).mpr h0
    | 1 => exact (h 1 1080 (by omega) rfl).mpr h1
    | 2 => exact (h 2 40 (by omega) rfl).mpr h2

theorem v17_at (q : Fin 300000) : res_main_v17 V (ix1 q) = res_main_v8 V (ix2 q 0) := col3 0 0 rfl _ _ _ q
theorem v19_at (q : Fin 300000) : res_main_v19 V (ix1 q) = res_main_v8 V (ix2 q 1) := col3 1 1 rfl _ _ _ q
theorem v21_at (q : Fin 300000) : res_main_v21 V (ix1 q) = res_main_v8 V (ix2 q 2) := col3 2 2 rfl _ _ _ q

/-- One of the ranges' extents, spread over the points. -/
theorem extent_at (o : ℕ) (c : Fin 3) (ho : o = c.val) (h : S3.Slices ![o] S1) (q : Fin 300000) :
    broadcastInDim S300000 ![] bcast_S_S300000 (shapeCast S_ (extractStridedSlice S1 ![o] (res_main_c V) h) shapeCasts_S1_S_) (ix1 q) = lit2 c := by
  refine (bc0 bcast_S_S300000 _ _).trans ?_
  refine (shapeCast_apply _ shapeCasts_S1_S_ _ (ix1 (0 : Fin 1)) ?_).trans ?_
  · rw [Shape.rowMajor_val_one]
    have : (S_.rowMajor ix0).val < S_.numel := (S_.rowMajor ix0).isLt
    have h1 : S_.numel = 1 := by decide
    show 0 = _
    omega
  · refine (slice1 o _ h (0 : Fin 1) (by show o + 0 < 3; omega)).trans ?_
    unfold res_main_c
    refine congrArg lit2 (Fin.ext ?_)
    rw [Shape.rowMajor_val_one]
    exact ho

variable (X0 X1 X2 : ℕ → EReal) (h0 : ∀ q : Fin 300000, pts V (ix2 q 0) = X0 q.val) (h1 : ∀ q : Fin 300000, pts V (ix2 q 1) = X1 q.val) (h2 : ∀ q : Fin 300000, pts V (ix2 q 2) = X2 q.val)

include h0 h1 h2

theorem grid_at (q : Fin 300000) : res_main_v8 V (ix2 q 0) = gridOf (F := Ideal) 0xC2580000#32 0x3DCCCCCD#32 (X0 q) ∧ res_main_v8 V (ix2 q 1) = gridOf (F := Ideal) 0xC2580000#32 0x3DCCCCCD#32 (X1 q)
    ∧ res_main_v8 V (ix2 q 2) = gridOf (F := Ideal) 0xC0A00000#32 0x3E4CCCCD#32 (X2 q) :=
  ⟨(v8_at V q 0).trans (by rw [← h0 q]; rfl), (v8_at V q 1).trans (by rw [← h1 q]; rfl), (v8_at V q 2).trans (by rw [← h2 q]; rfl)⟩

/-- A point passes the reference's tests if it passes the kernel's. -/
theorem v15_test (q : Fin 300000) : res_main_v15 V (ix1 q) = 1#1 ↔
    testAll (test3 (gridOf (F := Ideal) 0xC2580000#32 0x3DCCCCCD#32 (X0 q)) (gridOf (F := Ideal) 0xC2580000#32 0x3DCCCCCD#32 (X1 q))) (gridOf (F := Ideal) 0xC2580000#32 0x3DCCCCCD#32 (X1 q)) (gridOf (F := Ideal) 0xC0A00000#32 0x3E4CCCCD#32 (X2 q)) (BitVec.ofNat 32 q) = 1#1 := by
  obtain ⟨g0, g1, g2⟩ := grid_at V X0 X1 X2 h0 h1 h2 q
  exact (v15_at V q).trans ((and_iff_left q.isLt).symm.trans (by rw [g0, g1, g2]; exact (testAll_iff _ _ _ q.val (by have := q.isLt; omega)).symm))

/-- The reference's cell of a point is the kernel's. -/
theorem v32_at (q : Fin 300000) : res_main_v32 V (ix1 q) = cellsOf (F := Ideal) X0 X1 X2 q.val := by
  obtain ⟨g0, g1, g2⟩ := grid_at V X0 X1 X2 h0 h1 h2 q
  unfold res_main_v32 cellsOf cellW cellNo
  refine (select_word _ _ _ _).trans ?_
  refine if_congr (v15_test V X0 X1 X2 h0 h1 h2 q) ?_ rfl
  refine (congrArg₂ Scalar.addi (congrArg₂ Scalar.muli (congrArg₂ Scalar.addi (congrArg₂ Scalar.muli (v21_at V q) (extent_at V 1 1 rfl slices_S3_S1_1 q)) (v19_at V q)) (extent_at V 0 0 rfl slices_S3_S1_0 q)) (v17_at V q)).trans ?_
  rw [g0, g1, g2]
  rfl

/-- A point whose reference's tests pass has a cell. -/
theorem v15_cell (q : Fin 300000) : res_main_v15 V (ix1 q) = 1#1 ↔ (cellsOf (F := Ideal) X0 X1 X2 q.val).toNat < 46656000 :=
  (v15_test V X0 X1 X2 h0 h1 h2 q).trans (cellW_lt_iff _ _ _ _).symm

/-- The coordinates of a point that has a cell are what the kernel packs. -/
theorem crd_at (q : Fin 300000) (h : (cellsOf (F := Ideal) X0 X1 X2 q.val).toNat < 46656000) :
    crdOf (packsOf (F := Ideal) X0 X1 X2 q.val) 0 = res_main_v21 V (ix1 q) ∧ crdOf (packsOf (F := Ideal) X0 X1 X2 q.val) 1 = res_main_v19 V (ix1 q)
      ∧ crdOf (packsOf (F := Ideal) X0 X1 X2 q.val) 2 = res_main_v17 V (ix1 q) := by
  obtain ⟨g0, g1, g2⟩ := grid_at V X0 X1 X2 h0 h1 h2 q
  rw [v17_at, v19_at, v21_at, g0, g1, g2]
  exact crdOf_packW _ _ _ _ h

end Cert.Proof.Vox

end
-- ==== Proof.Kept.lean ====
/-
  Which points are kept and where they end: the writing loop in closed form.
-/
module

public import proofs.«01_k».proof.Proof.Cells

@[expose] public section

noncomputable section

namespace Cert.Proof.Vox

open scoped Classical

/-- How many of the first `n` points lie in cell `w`. -/
def seen (K : ℕ → ℕ) (w n : ℕ) : ℕ := Nat.count (fun i => K i = w) n

/-- The number of earlier points in point `j`'s cell. -/
def slot (K : ℕ → ℕ) (j : ℕ) : ℕ := seen K (K j) j

/-- Point `j` is kept: its cell is valid, the cell's rank below the number of voxels, and fewer than ten points came before it. -/
def Kept (K T : ℕ → ℕ) (j : ℕ) : Prop := K j < 46656000 ∧ T j < 120000 ∧ slot K j < 10

/-- How many kept points of the first `n` have rank `t`. -/
def keptCount (K T : ℕ → ℕ) (t n : ℕ) : ℕ := Nat.count (fun j => Kept K T j ∧ T j = t) n

theorem count_congr {p q : ℕ → Prop} [DecidablePred p] [DecidablePred q] (n : ℕ) (h : ∀ i < n, (p i ↔ q i)) : Nat.count p n = Nat.count q n := by
  induction n with
  | zero => simp
  | succ n ih => rw [Nat.count_succ, Nat.count_succ, ih fun i hi => h i (by omega), if_congr (h n (by omega)) rfl rfl]

theorem seen_succ (K : ℕ → ℕ) (w n : ℕ) : seen K w (n + 1) = seen K w n + if K n = w then 1 else 0 := Nat.count_succ _ _

/-- Of the points of a cell at most the first ten are kept. -/
theorem count_ten (K : ℕ → ℕ) (w n : ℕ) : Nat.count (fun j => K j = w ∧ seen K w j < 10) n = min 10 (seen K w n) := by
  induction n with
  | zero => rw [Nat.count_zero, show seen K w 0 = 0 from Nat.count_zero _]; rfl
  | succ n ih =>
    rw [Nat.count_succ, ih, seen_succ]
    by_cases h : K n = w <;> by_cases h2 : seen K w n < 10 <;> simp [h, h2] <;> omega

/-- A later point of a cell has a larger slot. -/
theorem slot_lt (K : ℕ → ℕ) {j n : ℕ} (hj : j < n) (e : K j = K n) : slot K j < slot K n := by
  have h1 : seen K (K n) (j + 1) ≤ seen K (K n) n := Nat.count_monotone _ hj
  rw [seen_succ, if_pos e] at h1
  unfold slot
  rw [e]; omega

/-- Two points of one cell with the same slot are the same. -/
theorem slot_inj (K : ℕ → ℕ) {i j : ℕ} (e : K i = K j) (h : slot K i = slot K j) : i = j := by
  rcases Nat.lt_trichotomy i j with h1 | h1 | h1
  · have := slot_lt K h1 e; omega
  · exact h1
  · have := slot_lt K h1 e.symm; omega

variable {β : Type}

/-- Ranks tell the valid cells of the points apart. -/
def Tells (K T : ℕ → ℕ) (N : ℕ) : Prop := ∀ i < N, ∀ j < N, K i < 46656000 → K j < 46656000 → T i = T j → K i = K j

/-- The kept points of a point's rank. -/
theorem keptCount_eq {K T : ℕ → ℕ} {N : ℕ} (hT : Tells K T N) (hTK : ∀ i j, K i = K j → T i = T j) (n j : ℕ) (hn : n ≤ N) (hj : j < N) (h1 : K j < 46656000) (h2 : T j < 120000) :
    keptCount K T (T j) n = min 10 (seen K (K j) n) := by
  rw [← count_ten]
  refine count_congr n fun i hi => ?_
  unfold Kept slot
  constructor
  · rintro ⟨⟨a, b, c⟩, e⟩
    have e' := hT i (by omega) j hj a h1 e
    exact ⟨e', e' ▸ c⟩
  · rintro ⟨a, b⟩
    exact ⟨⟨a ▸ h1, by rw [hTK i j a]; exact h2, a.symm ▸ b⟩, hTK i j a⟩

/-- What the blocks hold once `n` points are placed. -/
structure Placed (K T : ℕ → ℕ) (P : ℕ → BitVec 32) (X : ℕ → ℕ → β) (z : β) (n : ℕ) (s : PS β) : Prop where
  cnt : ∀ t, s.cnt t = keptCount K T t n
  voxHit : ∀ j < n, Kept K T j → ∀ f < 5, s.vox ((T j * 10 + slot K j) * 5 + f) = X j f
  voxMiss : ∀ t l f, l < 10 → f < 5 → (∀ j < n, Kept K T j → ¬ (T j = t ∧ slot K j = l)) → s.vox ((t * 10 + l) * 5 + f) = z
  crdHit : ∀ j < n, Kept K T j → ∀ a < 3, s.crd (T j * 3 + a) = crdOf (P j) a
  crdMiss : ∀ t a, a < 3 → (∀ j < n, Kept K T j → T j ≠ t) → s.crd (t * 3 + a) = 0#32

theorem keptCount_succ (K T : ℕ → ℕ) (t n : ℕ) : keptCount K T t (n + 1) = keptCount K T t n + if Kept K T n ∧ T n = t then 1 else 0 := Nat.count_succ _ _

/-- One more point placed. -/
theorem placed_succ {K T : ℕ → ℕ} {P : ℕ → BitVec 32} {X : ℕ → ℕ → β} {z : β} {N : ℕ} (hT : Tells K T N) (hTK : ∀ i j, K i = K j → T i = T j)
    (hP : ∀ i j, K i = K j → K i < 46656000 → P i = P j) {n : ℕ} (hn : n < N) {s : PS β} (hs : Placed K T P X z n s) :
    Placed K T P X z (n + 1) (s.place (K n) (T n) (P n) (X n)) := by
  have hcond : (K n < 46656000 ∧ T n < 120000 ∧ s.cnt (T n) < 10) ↔ Kept K T n := by
    unfold Kept
    refine and_congr_right fun h1 => and_congr_right fun h2 => ?_
    rw [hs.cnt, keptCount_eq hT hTK n n hn.le hn h1 h2]
    unfold slot
    omega
  by_cases hk : Kept K T n
  · have hc := hcond.mpr hk
    have hcnt : s.cnt (T n) = slot K n := by
      have := hs.cnt (T n)
      rw [keptCount_eq hT hTK n n hn.le hn hc.1 hc.2.1] at this
      have h3 := hk.2.2
      unfold slot at h3 ⊢
      omega
    have e : s.place (K n) (T n) (P n) (X n) = s.put (T n) (P n) (X n) := if_pos hc
    have hsl := hk.2.2
    rw [e]
    have key : ∀ j < n, Kept K T j → ¬ (T j = T n ∧ slot K j = slot K n) := by
      rintro j hj hj' ⟨a, b⟩
      have := slot_inj K (hT j (by omega) n hn hj'.1 hk.1 a) b
      omega
    refine ⟨fun t => ?_, fun j hj hj' f hf => ?_, fun t l f hl hf hm => ?_, fun j hj hj' a ha => ?_, fun t a ha hm => ?_⟩
    · rw [keptCount_succ]
      show (if t = T n then s.cnt (T n) + 1 else s.cnt t) = _
      by_cases ht : t = T n
      · subst ht; rw [if_pos rfl, if_pos ⟨hk, rfl⟩, hs.cnt]
      · rw [if_neg ht, if_neg (fun h => ht h.2.symm), hs.cnt]; rfl
    · show putFrom 5 ((T n * 10 + s.cnt (T n)) * 5) (X n) s.vox _ = _
      rw [hcnt]
      unfold putFrom
      rcases Nat.lt_succ_iff_lt_or_eq.mp hj with h | rfl
      · have h1 := key j h hj'
        have h2 := hj'.2.2
        rw [if_neg (by omega)]
        exact hs.voxHit j h hj' f hf
      · rw [if_pos (by omega), Nat.add_sub_cancel_left]
    · show putFrom 5 ((T n * 10 + s.cnt (T n)) * 5) (X n) s.vox _ = _
      rw [hcnt]
      unfold putFrom
      have h1 := hm n (by omega) hk
      rw [if_neg (by omega)]
      exact hs.voxMiss t l f hl hf fun j hj => hm j (by omega)
    · show putFrom 3 (T n * 3) (crdOf (P n)) s.crd _ = _
      unfold putFrom
      rcases Nat.lt_succ_iff_lt_or_eq.mp hj with h | rfl
      · by_cases ht : T j = T n
        · rw [if_pos (by omega), ht, Nat.add_sub_cancel_left, hP j n (hT j (by omega) n hn hj'.1 hk.1 ht) hj'.1]
        · rw [if_neg (by omega)]
          exact hs.crdHit j h hj' a ha
      · rw [if_pos (by omega), Nat.add_sub_cancel_left]
    · show putFrom 3 (T n * 3) (crdOf (P n)) s.crd _ = _
      unfold putFrom
      have h1 := hm n (by omega) hk
      rw [if_neg (by omega)]
      exact hs.crdMiss t a ha fun j hj => hm j (by omega)
  · have e : s.place (K n) (T n) (P n) (X n) = s := if_neg (fun h => hk (hcond.mp h))
    rw [e]
    have low : ∀ j < n + 1, Kept K T j → j < n := fun j hj hj' => by
      rcases Nat.lt_succ_iff_lt_or_eq.mp hj with h | rfl
      · exact h
      · exact absurd hj' hk
    refine ⟨fun t => ?_, fun j hj hj' => hs.voxHit j (low j hj hj') hj', fun t l f hl hf hm => hs.voxMiss t l f hl hf fun j hj => hm j (by omega),
      fun j hj hj' => hs.crdHit j (low j hj hj') hj', fun t a ha hm => hs.crdMiss t a ha fun j hj => hm j (by omega)⟩
    rw [keptCount_succ, if_neg (fun h => hk h.1), hs.cnt]; rfl

/-- The writing loop, in closed form. -/
theorem placed_places {L P : ℕ → BitVec 32} {rk : ℕ → ℕ} {X0 X1 X2 X3 X4 : ℕ → β} {z : β} {N : ℕ}
    (hT : Tells (fun j => (L j).toNat) (fun j => rk (L j).toNat) N) (hP : ∀ i j, (L i).toNat = (L j).toNat → (L i).toNat < 46656000 → P i = P j) (n : ℕ) (hn : n ≤ N) :
    Placed (fun j => (L j).toNat) (fun j => rk (L j).toNat) P (fun j => five (X0 j) (X1 j) (X2 j) (X3 j) (X4 j)) z n
      (places ⟨fun _ => z, fun _ => 0#32, fun _ => 0⟩ L P rk X0 X1 X2 X3 X4 n) := by
  induction n with
  | zero => exact ⟨fun t => by simp [places, keptCount], fun j hj => absurd hj (by omega), fun _ _ _ _ _ _ => rfl, fun j hj => absurd hj (by omega), fun _ _ _ _ => rfl⟩
  | succ n ih => exact placed_succ hT (fun i j e => by show rk _ = rk _; rw [show (L i).toNat = (L j).toNat from e]) hP (by omega) (ih (by omega))

/-! ## Ranks -/

variable {L : ℕ → BitVec 32} {n : ℕ}

theorem rankOf_succ (L : ℕ → BitVec 32) (n c : ℕ) : rankOf L n (c + 1) = rankOf L n c + if Occ L n c then 1 else 0 := Finset.sum_range_succ _ _

theorem rankOf_mono {a b : ℕ} (h : a ≤ b) : rankOf L n a ≤ rankOf L n b := by
  induction b, h using Nat.le_induction with
  | base => exact le_refl _
  | succ b _ ih => rw [rankOf_succ]; omega

/-- A later occupied cell has a larger rank. -/
theorem rankOf_lt {a b : ℕ} (h : a < b) (ha : Occ L n a) : rankOf L n a < rankOf L n b := by
  have := rankOf_mono (L := L) (n := n) (show a + 1 ≤ b from h)
  rw [rankOf_succ, if_pos ha] at this
  omega

/-- The next occupied cell has the next rank. -/
theorem rankOf_next {a b : ℕ} (h : a < b) (ha : Occ L n a) (hb : ∀ c, a < c → c < b → ¬ Occ L n c) : rankOf L n b = rankOf L n a + 1 := by
  induction b, (show a + 1 ≤ b from h) using Nat.le_induction with
  | base => rw [rankOf_succ, if_pos ha]
  | succ b hab ih => rw [rankOf_succ, if_neg (hb b hab (by omega)), ih hab fun c h1 h2 => hb c h1 (by omega)]

/-- The first occupied cell has rank zero. -/
theorem rankOf_first {a : ℕ} (hb : ∀ c < a, ¬ Occ L n c) : rankOf L n a = 0 :=
  Finset.sum_eq_zero fun c hc => if_neg (hb c (Finset.mem_range.mp hc))

/-- Ranks tell the points' cells apart. -/
theorem tells_rank (L : ℕ → BitVec 32) (n : ℕ) : Tells (fun j => (L j).toNat) (fun j => rankOf L n (L j).toNat) n := by
  intro i hi j hj _ _ e
  rcases Nat.lt_trichotomy (L i).toNat (L j).toNat with h | h | h
  · have := rankOf_lt h (⟨i, hi, rfl⟩ : Occ L n _); dsimp only at e; omega
  · exact h
  · have := rankOf_lt h (⟨j, hj, rfl⟩ : Occ L n _); dsimp only at e; omega

end Cert.Proof.Vox

end
-- ==== Proof.Order.lean ====
/-
  Points in the order of their cells: a stable sort, its runs of equal cells, and the places in a run.
-/
module

public import proofs.«01_k».proof.Proof.Kept
public import Idealize.ShloMosaic.Lib.SortFacts

@[expose] public section

noncomputable section

namespace Cert.Proof.Vox

open Idealize.ShloMosaic
open scoped Classical

/-- One point comes before another: its cell is smaller, or the same and its number smaller. -/
def Lex (K : ℕ → ℕ) (a b : ℕ) : Prop := K a < K b ∨ K a = K b ∧ a < b

theorem lex_insert {N : ℕ} (K : ℕ → ℕ) (a : Fin N) (m : List (Fin N)) (hm : m.Pairwise fun b c => Lex K b.val c.val) (ha : ∀ b ∈ m, a < b) :
    (insertBefore (fun b c => decide (K b.val < K c.val)) a m).Pairwise fun b c => Lex K b.val c.val := by
  induction m with
  | nil => exact List.pairwise_singleton _ _
  | cons b m ih =>
    obtain ⟨h1, h2⟩ := List.pairwise_cons.mp hm
    unfold insertBefore
    by_cases h : K b.val < K a.val
    · rw [if_pos (decide_eq_true h)]
      refine List.pairwise_cons.mpr ⟨fun c hc => ?_, ih h2 fun c hc => ha c (List.mem_cons_of_mem _ hc)⟩
      rcases List.mem_cons.mp ((perm_insertBefore _ a m).mem_iff.mp hc) with rfl | hc
      · exact .inl h
      · exact h1 c hc
    · rw [if_neg (by simpa using h)]
      refine List.pairwise_cons.mpr ⟨fun c hc => ?_, hm⟩
      have hac : a.val < c.val := ha c hc
      have hbc : K b.val ≤ K c.val := by
        rcases List.mem_cons.mp hc with rfl | hc
        · exact le_refl _
        · rcases h1 c hc with h3 | h3
          · exact h3.le
          · exact h3.1.le
      unfold Lex
      omega

theorem lex_sort {N : ℕ} (K : ℕ → ℕ) (l : List (Fin N)) (hl : l.Pairwise (· < ·)) :
    (stableSort (fun b c => decide (K b.val < K c.val)) l).Pairwise fun b c => Lex K b.val c.val := by
  induction l with
  | nil => exact List.Pairwise.nil
  | cons a l ih =>
    obtain ⟨h1, h2⟩ := List.pairwise_cons.mp hl
    exact lex_insert K a _ (ih h2) fun b hb => h1 b ((perm_stableSort _ l).mem_iff.mp hb)

/-- `sg` lists the first `N` points in the order of their cells. -/
structure Sorts (N : ℕ) (K : ℕ → ℕ) (sg : ℕ → ℕ) : Prop where
  lt : ∀ r < N, sg r < N
  surj : ∀ j < N, ∃ r < N, sg r = j
  lex : ∀ i j, i < j → j < N → Lex K (sg i) (sg j)

/-- The stable sort lists the points so. -/
theorem sorts_sortedFrom {N : ℕ} (K : ℕ → ℕ) (sg : ℕ → ℕ) (h : ∀ r : Fin N, sg r.val = (sortedFrom (fun b c : Fin N => decide (K b.val < K c.val)) r).val) : Sorts N K sg where
  lt r hr := by rw [h ⟨r, hr⟩]; exact Fin.isLt _
  surj j hj := by
    obtain ⟨r, hr⟩ := sortedFrom_surjective (fun b c : Fin N => decide (K b.val < K c.val)) ⟨j, hj⟩
    exact ⟨r.val, r.isLt, by rw [h r, hr]⟩
  lex i j hij hj := by
    rw [h ⟨i, by omega⟩, h ⟨j, hj⟩]
    have hp := List.pairwise_iff_get.mp (lex_sort (N := N) K (List.finRange N) (List.pairwise_lt_finRange N))
    exact hp _ _ (show (Fin.cast _ ⟨i, _⟩ : Fin _) < Fin.cast _ ⟨j, _⟩ from hij)

variable {N : ℕ} {K sg : ℕ → ℕ}

theorem Sorts.inj (h : Sorts N K sg) {i j : ℕ} (hi : i < N) (hj : j < N) (e : sg i = sg j) : i = j := by
  rcases Nat.lt_trichotomy i j with h1 | h1 | h1
  · have := h.lex i j h1 hj; rw [e] at this; unfold Lex at this; omega
  · exact h1
  · have := h.lex j i h1 hi; rw [e] at this; unfold Lex at this; omega

theorem Sorts.mono (h : Sorts N K sg) {i j : ℕ} (hij : i ≤ j) (hj : j < N) : K (sg i) ≤ K (sg j) := by
  rcases Nat.lt_or_ge i j with h1 | h1
  · have := h.lex i j h1 hj; unfold Lex at this; omega
  · rw [show i = j by omega]

/-- Counting along the order counts the points. -/
theorem Sorts.count (h : Sorts N K sg) (Q : ℕ → Prop) [DecidablePred Q] [DecidablePred fun r => Q (sg r)] : Nat.count (fun r => Q (sg r)) N = Nat.count Q N := by
  rw [Nat.count_eq_card_filter_range, Nat.count_eq_card_filter_range]
  refine Finset.card_bij (fun r _ => sg r) (fun r hr => ?_) (fun a ha b hb e => ?_) (fun j hj => ?_)
  · have := Finset.mem_filter.mp hr
    exact Finset.mem_filter.mpr ⟨Finset.mem_range.mpr (h.lt r (Finset.mem_range.mp this.1)), this.2⟩
  · exact h.inj (Finset.mem_range.mp (Finset.mem_filter.mp ha).1) (Finset.mem_range.mp (Finset.mem_filter.mp hb).1) e
  · have hj' := Finset.mem_filter.mp hj
    obtain ⟨r, hr, e⟩ := h.surj j (Finset.mem_range.mp hj'.1)
    exact ⟨r, Finset.mem_filter.mpr ⟨Finset.mem_range.mpr hr, by rw [e]; exact hj'.2⟩, e⟩

theorem count_below (Q : ℕ → Prop) [DecidablePred Q] (m n : ℕ) (h : m ≤ n) [DecidablePred fun i => i < m ∧ Q i] : Nat.count (fun i => i < m ∧ Q i) n = Nat.count Q m := by
  induction n, h using Nat.le_induction with
  | base => exact count_congr m fun i hi => ⟨fun h => h.2, fun h => ⟨hi, h⟩⟩
  | succ n hn ih => rw [Nat.count_succ, ih, if_neg (by omega), Nat.add_zero]

/-- A place of the order begins a run of equal cells. -/
def New (K sg : ℕ → ℕ) (r : ℕ) : Prop := r = 0 ∨ K (sg r) ≠ K (sg (r - 1))

/-- Where the run of a place begins. -/
def start (K sg : ℕ → ℕ) : ℕ → ℕ
  | 0 => 0
  | r + 1 => if New K sg (r + 1) then r + 1 else start K sg r

theorem start_le (K sg : ℕ → ℕ) (r : ℕ) : start K sg r ≤ r := by
  induction r with
  | zero => exact le_refl _
  | succ r ih => unfold start; split <;> omega

/-- A run begins where it begins. -/
theorem new_start (K sg : ℕ → ℕ) (r : ℕ) : New K sg (start K sg r) := by
  induction r with
  | zero => exact .inl rfl
  | succ r ih =>
    unfold start
    split
    · next h => exact h
    · exact ih

/-- No run begins later. -/
theorem le_start (K sg : ℕ → ℕ) (r i : ℕ) (hi : i ≤ r) (h : New K sg i) : i ≤ start K sg r := by
  induction r with
  | zero => exact hi
  | succ r ih =>
    unfold start
    split
    · exact hi
    · next hn =>
      rcases Nat.lt_or_ge i (r + 1) with h1 | h1
      · exact ih (by omega)
      · rw [show i = r + 1 by omega] at h; exact absurd h hn

/-- A place's run is of its cell, what comes before it is not. -/
theorem start_spec (h : Sorts N K sg) (r : ℕ) (hr : r < N) : ∀ i ≤ r, (K (sg i) = K (sg r) ↔ start K sg r ≤ i) := by
  induction r with
  | zero => intro i hi; rw [show i = 0 by omega]; simp [start]
  | succ r ih =>
    intro i hi
    have ih' := ih (by omega)
    have hm := h.mono (show r ≤ r + 1 by omega) hr
    unfold start
    by_cases hn : New K sg (r + 1)
    · rw [if_pos hn]
      have hne : K (sg (r + 1)) ≠ K (sg r) := by
        rcases hn with h0 | h0
        · omega
        · exact h0
      constructor
      · intro e
        by_contra hc
        have := h.mono (show i ≤ r by omega) (by omega)
        omega
      · intro hc; rw [show i = r + 1 by omega]
    · rw [if_neg hn]
      have he : K (sg (r + 1)) = K (sg r) := by
        by_contra hc
        exact hn (.inr hc)
      rw [he]
      rcases Nat.lt_succ_iff_lt_or_eq.mp (show i < r + 1 + 1 by omega) with h1 | h1
      · exact ih' i (by omega)
      · subst h1
        have := start_le K sg r
        exact ⟨fun _ => by omega, fun _ => he⟩

/-- A place's distance from its run's beginning is its point's slot. -/
theorem start_slot (h : Sorts N K sg) (r : ℕ) (hr : r < N) : r - start K sg r = slot K (sg r) := by
  have h1 : Nat.count (fun i => sg i < sg r ∧ K (sg i) = K (sg r)) N = slot K (sg r) :=
    (h.count (fun j => j < sg r ∧ K j = K (sg r))).trans (count_below (fun j => K j = K (sg r)) (sg r) N (h.lt r hr).le)
  have h2 : Nat.count (fun i => sg i < sg r ∧ K (sg i) = K (sg r)) N = Nat.count (fun i => i < r ∧ start K sg r ≤ i) N := by
    refine count_congr N fun i hi => ?_
    constructor
    · rintro ⟨a, b⟩
      have hir : i < r := by
        rcases Nat.lt_trichotomy i r with h3 | h3 | h3
        · exact h3
        · subst h3; omega
        · have := h.lex r i h3 hi; unfold Lex at this; omega
      exact ⟨hir, (start_spec h r hr i hir.le).mp b⟩
    · rintro ⟨a, b⟩
      have e := (start_spec h r hr i a.le).mpr b
      have := h.lex i r a hr
      unfold Lex at this
      exact ⟨by omega, e⟩
  rw [← h1, h2]
  refine Eq.trans ?_ (count_below (fun i => start K sg r ≤ i) r N hr.le).symm
  have hs := start_le K sg r
  have : ∀ m, Nat.count (fun i => start K sg r ≤ i) m = m - start K sg r := by
    intro m
    induction m with
    | zero => simp
    | succ m ih => rw [Nat.count_succ, ih]; split <;> omega
  rw [this]

/-- The runs begun up to a place number one more than its cell's rank. -/
theorem runs_rank {L : ℕ → BitVec 32} (h : Sorts N (fun j => (L j).toNat) sg) (r : ℕ) (hr : r < N) :
    Nat.count (New (fun j => (L j).toNat) sg) (r + 1) = rankOf L N (L (sg r)).toNat + 1 := by
  have hocc : ∀ i < N, Occ L N (L (sg i)).toNat := fun i hi => ⟨sg i, h.lt i hi, rfl⟩
  induction r with
  | zero =>
    have h0 : ∀ c < (L (sg 0)).toNat, ¬ Occ L N c := ?_
    · rw [Nat.count_succ, Nat.count_zero, if_pos (.inl rfl), rankOf_first h0]
    rintro c hc ⟨j, hj, e⟩
    obtain ⟨i, hi, rfl⟩ := h.surj j hj
    have := h.mono (Nat.zero_le i) hi
    omega
  | succ r ih =>
    rw [Nat.count_succ, ih (by omega)]
    by_cases e : (L (sg (r + 1))).toNat = (L (sg r)).toNat
    · have hn : ¬ New (fun j => (L j).toNat) sg (r + 1) := by
        rintro (h0 | h0)
        · omega
        · exact h0 e
      rw [if_neg hn, e]
    · rw [if_pos (show New (fun j => (L j).toNat) sg (r + 1) from .inr e)]
      have hm : (L (sg r)).toNat ≤ (L (sg (r + 1))).toNat := h.mono (show r ≤ r + 1 by omega) hr
      rw [rankOf_next (show (L (sg r)).toNat < (L (sg (r + 1))).toNat by omega) (hocc r (by omega)) fun c h1 h2 ⟨j, hj, e'⟩ => ?_]
      obtain ⟨i, hi, rfl⟩ := h.surj j hj
      rcases Nat.lt_or_ge r i with h3 | h3
      · have := h.mono (show r + 1 ≤ i from h3) hi
        omega
      · have := h.mono h3 (by omega)
        omega

end Cert.Proof.Vox

end
-- ==== Proof.RefOrder.lean ====
/- The reference's sorted points: which are kept, of which rank and slot. -/
module

public import proofs.«01_k».proof.Proof.RefCell
public import proofs.«01_k».proof.Proof.Order
public import Idealize.ShloMosaic.Lib.Routing.Count

@[expose] public section

noncomputable section

namespace Cert.Proof.Vox

open Idealize.ShloMosaic Idealize.ShloMosaic.TcCoe Idealize.ShloMosaic.ValueIdx Idealize.ShloMosaic.Routing Cert.ReferenceIdeal Cert.ReferenceIdeal.Gen Cert.ReferenceIdeal.Value

open scoped Classical in
/-- The point at a place of the order by cells. -/
def sgOf (L : ℕ → BitVec 32) (r : ℕ) : ℕ :=
  if h : r < 300000 then (sortedFrom (fun b c : Fin 300000 => decide ((L b.val).toNat < (L c.val).toNat)) ⟨r, h⟩).val else 0

theorem sorts_sgOf (L : ℕ → BitVec 32) : Sorts 300000 (fun j => (L j).toNat) (sgOf L) :=
  sorts_sortedFrom _ _ fun r => by
    unfold sgOf
    rw [dif_pos r.isLt]

theorem toNat_word (n : ℕ) (h : n < 2 ^ 32) : (BitVec.ofNat 32 n).toNat = n := by rw [BitVec.toNat_ofNat, Nat.mod_eq_of_lt h]

/-- A row of index words, wrapped and stood up as a column. -/
theorem wrapped_at (v : IVec S300000 32) (w : BitVec 32) (r : Fin 300000) (h : (v (ix1 r)).toNat < 2 ^ 31) :
    broadcastInDim S300000x1 ![0] bcast_S300000_S300000x1_0 (select (cmpi .slt v (broadcastInDim S300000 ![] bcast_S_S300000 (constantI S_ 32 0#32))) (addi v (broadcastInDim S300000 ![] bcast_S_S300000 (constantI S_ 32 w))) v) (ix2 r 0) = v (ix1 r) :=
  (bcCol bcast_S300000_S300000x1_0 _ r).trans (wrap_of_lt (v (ix1 r)) _ h)

theorem compare_word (v : IVec S300000 32) (n : ℕ) (hn : n < 2 ^ 31) (r : Fin 300000) (h : (v (ix1 r)).toNat < 2 ^ 31) :
    cmpi .slt v (broadcastInDim S300000 ![] bcast_S_S300000 (constantI S_ 32 (BitVec.ofNat 32 n))) (ix1 r) = 1#1 ↔ (v (ix1 r)).toNat < n := by
  have := slt_iff (v (ix1 r)) (BitVec.ofNat 32 n) h (by rw [toNat_word n (by omega)]; exact hn)
  rw [toNat_word n (by omega)] at this
  exact this

/-- The sort's order of two keys. -/
theorem comparator_word (a b : BitVec 32 × BitVec 32) (ha : a.1.toNat < 2 ^ 31) (hb : b.1.toNat < 2 ^ 31) :
    (comparator_i32_i32_d0 a b == 1#1) = decide (a.1.toNat < b.1.toNat) := by
  rw [Bool.eq_iff_iff, beq_iff_eq, decide_eq_true_iff]
  exact slt_iff _ _ ha hb

variable (V : Valuation τ sig (Elt Ideal)) (L : ℕ → BitVec 32) (hL : ∀ q : Fin 300000, res_main_v32 V (ix1 q) = L q.val) (hLe : ∀ j, (L j).toNat ≤ 46656000)
  (hv : ∀ q : Fin 300000, res_main_v15 V (ix1 q) = 1#1 ↔ (L q.val).toNat < 46656000)

/-- A place's point, as an index. -/
def ptAt (r : Fin 300000) : Fin 300000 := ⟨sgOf L r.val, (sorts_sgOf L).lt r.val r.isLt⟩

/-- The numbers of the voxels along the order are small. -/
theorem rank_le (r : ℕ) (hr : r < 300000) : rankOf L 300000 (L (sgOf L r)).toNat ≤ r := by
  classical
  have h1 := runs_rank (sorts_sgOf L) r hr
  have h2 := Nat.count_le (p := New (fun j => (L j).toNat) (sgOf L)) (n := r + 1)
  omega

include hL hLe

/-- The second row of a sorted pair, along the order of the first. -/
theorem sort_second (x y : IVec S300000 32) (hx : ∀ q : Fin 300000, x (ix1 q) = L q.val) (r : Fin 300000) :
    (Host.sort2 S300000 0 comparator_i32_i32_d0 x y).2 (ix1 r) = y (ix1 (ptAt L r)) := by
  have hal : ∀ (k : Fin 300000), (ix1 r : S300000.Idx).along 0 k = ix1 k := fun k => by
    funext a
    match a with
    | ⟨0, _⟩ => exact Function.update_self ..
  have hR : (fun k k' : Fin 300000 => comparator_i32_i32_d0 (x ((ix1 r : S300000.Idx).along 0 k), y ((ix1 r : S300000.Idx).along 0 k)) (x ((ix1 r : S300000.Idx).along 0 k'), y ((ix1 r : S300000.Idx).along 0 k')) == 1#1)
      = fun k k' : Fin 300000 => decide ((L k.val).toNat < (L k'.val).toNat) := by
    funext k k'
    rw [comparator_word _ _ (by dsimp only; rw [hal, hx]; have := hLe k.val; omega) (by dsimp only; rw [hal, hx]; have := hLe k'.val; omega)]
    dsimp only
    rw [hal, hal, hx, hx]
  have hp : (sortedFrom (fun k k' : Fin 300000 => comparator_i32_i32_d0 (x ((ix1 r : S300000.Idx).along 0 k), y ((ix1 r : S300000.Idx).along 0 k)) (x ((ix1 r : S300000.Idx).along 0 k'), y ((ix1 r : S300000.Idx).along 0 k')) == 1#1)) r = ptAt L r := by
    rw [hR]
    apply Fin.ext
    show _ = sgOf L r.val
    unfold sgOf
    rw [dif_pos r.isLt]
  unfold Host.sort2
  rw [dif_pos (by decide : 0 < S300000.rank)]
  exact congrArg y ((hal _).trans (congrArg ix1 hp))

theorem v33_at (r : Fin 300000) : res_main_v33 V (ix1 r) = BitVec.ofNat 32 (sgOf L r.val) := by
  unfold res_main_v33
  exact sort_second V L hL hLe _ _ hL r

theorem v33_toNat (r : Fin 300000) : (res_main_v33 V (ix1 r)).toNat = (ptAt L r).val := by
  rw [v33_at V L hL hLe r]
  exact toNat_word _ (by have := (ptAt L r).isLt; show (ptAt L r).val < _; omega)

/-- The column of the order's points. -/
theorem order_col (r : Fin 300000) :
    broadcastInDim S300000x1 ![0] bcast_S300000_S300000x1_0 (select (cmpi .slt (res_main_v33 V) (broadcastInDim S300000 ![] bcast_S_S300000 (constantI S_ 32 0#32))) (addi (res_main_v33 V) (broadcastInDim S300000 ![] bcast_S_S300000 (constantI S_ 32 300000#32))) (res_main_v33 V)) (ix2 r 0) = BitVec.ofNat 32 (ptAt L r).val :=
  (wrapped_at _ _ r (by rw [v33_toNat V L hL hLe r]; have := (ptAt L r).isLt; omega)).trans (v33_at V L hL hLe r)

theorem v40_at (r : Fin 300000) : res_main_v40 V (ix1 r) = L (sgOf L r.val) :=
  (gather_take1 gather_S300000_S300000x1_S300000_n_0_n_n_0_1_1 rfl rfl rfl rfl (res_main_v32 V) _ r (ptAt L r) (order_col V L hL hLe r) (by omega)).trans (hL _)

set_option maxRecDepth 65536 in
theorem v69_at (r : Fin 300000) : res_main_v69 V (ix1 r) = 1#1 ↔ New (fun j => (L j).toNat) (sgOf L) r.val := by
  unfold res_main_v69
  by_cases h : r.val = 0
  · rw [concatenate_pair_apply_left (t := S300000) (s₁ := S1) (s₂ := S299999) (0 : Fin 1) _ _ concatenates_S1_S299999_S300000_d0 (ix1 r) rfl (ix1 (0 : Fin 1)) (fun b => by
      match b with
      | ⟨0, _⟩ => exact h.symm)]
    exact ⟨fun _ => .inl h, fun _ => rfl⟩
  · have hr := r.isLt
    rw [concatenate_pair_apply_right (t := S300000) (s₁ := S1) (s₂ := S299999) (0 : Fin 1) _ _ concatenates_S1_S299999_S300000_d0 (ix1 r) rfl rfl (ix1 (⟨r.val - 1, by omega⟩ : Fin 299999)) (fun b hb => by
      match b with
      | ⟨0, _⟩ => exact absurd rfl hb) (by show r.val - 1 + 1 = r.val; omega)]
    have e1 := (slice1 1 (res_main_v40 V) slices_S300000_S299999_1 (⟨r.val - 1, by omega⟩ : Fin 299999) (by show 1 + (r.val - 1) < 300000; omega)).trans (v40_at V L hL hLe _)
    have e0 := (slice1 0 (res_main_v40 V) slices_S300000_S299999_0 (⟨r.val - 1, by omega⟩ : Fin 299999) (by show 0 + (r.val - 1) < 300000; omega)).trans (v40_at V L hL hLe _)
    show IntOp.cmpi .ne (extractStridedSlice S299999 ![1] (res_main_v40 V) slices_S300000_S299999_1 (ix1 (⟨r.val - 1, by omega⟩ : Fin 299999))) (extractStridedSlice S299999 ![0] (res_main_v40 V) slices_S300000_S299999_0 (ix1 (⟨r.val - 1, by omega⟩ : Fin 299999))) = 1#1 ↔ _
    rw [e1, e0]
    dsimp only
    rw [show 1 + (r.val - 1) = r.val by omega, show 0 + (r.val - 1) = r.val - 1 by omega]
    unfold New
    rw [show IntOp.cmpi .ne (L (sgOf L r.val)) (L (sgOf L (r.val - 1))) = BitVec.ofBool (L (sgOf L r.val) != L (sgOf L (r.val - 1))) from rfl, WordCmp.ofBool_eq_one_iff, bne_iff_ne]
    have : (L (sgOf L r.val)).toNat ≠ (L (sgOf L (r.val - 1))).toNat ↔ L (sgOf L r.val) ≠ L (sgOf L (r.val - 1)) := not_congr BitVec.toNat_inj
    rw [← this]
    exact ⟨fun e => .inr e, fun e => e.resolve_left h⟩

/-- A place's rank of its voxel. -/
theorem v73_at (r : Fin 300000) : res_main_v73 V (ix1 r) = BitVec.ofNat 32 (rankOf L 300000 (L (sgOf L r.val)).toNat) := by
  classical
  unfold res_main_v73
  have h := cumsum1 (show 299999 + 1 = 300000 from rfl) (extui 32 (res_main_v69 V) natLt_1_32) (fun r => if New (fun j => (L j).toNat) (sgOf L) r then 1 else 0)
    (fun i => by
      show (res_main_v69 V (ix1 i)).setWidth 32 = _
      have hi := v69_at V L hL hLe i
      by_cases hn : New (fun j => (L j).toNat) (sgOf L) i.val
      · rw [hi.mpr hn, if_pos hn]; rfl
      · rw [if_neg hn, show res_main_v69 V (ix1 i) = 0#1 from (BitVec.eq_zero_or_eq_one _).resolve_right fun e => hn (hi.mp e)]; rfl)
    (broadcastInDim S_ ![] bcast_S_S_ (constantI S_ 32 0#32)) rfl reduceWindows_S300000_S300000_w300000s1p299999_0 h_S_ r
  show IntOp.subi (Host.reduceWindow IntOp.addi ![300000] ![1] ![299999] ![0] (extui 32 (res_main_v69 V) natLt_1_32) (broadcastInDim S_ ![] bcast_S_S_ (constantI S_ 32 0#32)) reduceWindows_S300000_S300000_w300000s1p299999_0 h_S_ (ix1 r)) 1#32 = _
  rw [h, sum_map_ite, runs_rank (sorts_sgOf L) r.val r.isLt]
  show BitVec.ofNat 32 _ - BitVec.ofNat 32 1 = _
  rw [BitVec.ofNat_add, BitVec.add_sub_cancel]

/-- A place's slot in its voxel. -/
theorem v77_at (r : Fin 300000) : res_main_v77 V (ix1 r) = BitVec.ofNat 32 (slot (fun j => (L j).toNat) (sgOf L r.val)) := by
  classical
  have hS := sorts_sgOf L
  have hr := r.isLt
  have hst := start_le (fun j => (L j).toNat) (sgOf L) r.val
  have hx : ∀ i : Fin 300000, select (res_main_v69 V) (res_main_v74 V) (broadcastInDim S300000 ![] bcast_S_S300000 (id (constantI S_ 32 0#32))) (ix1 i)
      = BitVec.ofNat 32 (if New (fun j => (L j).toNat) (sgOf L) i.val then i.val else 0) := fun i => by
    refine (select_word _ _ _ _).trans ?_
    have hi := v69_at V L hL hLe i
    by_cases hn : New (fun j => (L j).toNat) (sgOf L) i.val
    · rw [if_pos (hi.mpr hn), if_pos hn]; rfl
    · rw [if_neg (fun e => hn (hi.mp e)), if_neg hn]
  have hI : ∀ n : ℕ, n < 300000 → (BitVec.ofNat 32 n).toInt = (n : Int) := fun n hn => by
    rw [BitVec.toInt_eq_toNat_of_lt (by rw [toNat_word n (by omega)]; omega), toNat_word n (by omega)]
  have h := cummax1 (show 299999 + 1 = 300000 from rfl) (select (res_main_v69 V) (res_main_v74 V) (broadcastInDim S300000 ![] bcast_S_S300000 (id (constantI S_ 32 0#32))))
    (broadcastInDim S_ ![] bcast_S_S_ (constantI S_ 32 2147483648#32)) rfl reduceWindows_S300000_S300000_w300000s1p299999_0 h_S_ r (start (fun j => (L j).toNat) (sgOf L) r.val : ℕ)
    (fun i hi => by
      rw [hx i, hI _ (by have := i.isLt; split <;> omega)]
      split
      · next hn => exact_mod_cast le_start _ _ _ _ hi hn
      · exact_mod_cast Nat.zero_le _)
    ⟨start (fun j => (L j).toNat) (sgOf L) r.val, by omega⟩ hst (by
      rw [hx, if_pos (new_start _ _ _), hI _ (by dsimp only; omega)])
  unfold res_main_v77
  show IntOp.subi (BitVec.ofNat 32 r.val) (Host.reduceWindow IntOp.maxsi ![300000] ![1] ![299999] ![0] (select (res_main_v69 V) (res_main_v74 V) (broadcastInDim S300000 ![] bcast_S_S300000 (id (constantI S_ 32 0#32)))) (broadcastInDim S_ ![] bcast_S_S_ (constantI S_ 32 2147483648#32)) reduceWindows_S300000_S300000_w300000s1p299999_0 h_S_ (ix1 r)) = _
  have e := BitVec.eq_of_toInt_eq (h.trans (hI _ (by omega)).symm)
  rw [e, ← start_slot hS r.val hr]
  exact (BitVec.ofNat_sub_ofNat_of_le _ _ (by omega) hst)

include hv

theorem v83_at (r : Fin 300000) : res_main_v83 V (ix1 r) = 1#1 ↔ Kept (fun j => (L j).toNat) (fun j => rankOf L 300000 (L j).toNat) (sgOf L r.val) := by
  have hr := r.isLt
  have e15 := gather_take1 gather_S300000_S300000x1_S300000_n_0_n_n_0_1_1 rfl rfl rfl rfl (res_main_v15 V) _ r (ptAt L r) (order_col V L hL hLe r) (by omega)
  have h73 := v73_at V L hL hLe r
  have h77 := v77_at V L hL hLe r
  have hR := rank_le L r.val hr
  have hT : slot (fun j => (L j).toNat) (sgOf L r.val) ≤ r.val := by rw [← start_slot (sorts_sgOf L) r.val hr]; omega
  have a := compare_word (res_main_v73 V) 120000 (by omega) r (by rw [h73, toNat_word _ (by omega)]; omega)
  have b := compare_word (res_main_v77 V) 10 (by omega) r (by rw [h77, toNat_word _ (by omega)]; omega)
  rw [h73, toNat_word _ (by omega)] at a
  rw [h77, toNat_word _ (by omega)] at b
  unfold res_main_v83 Kept
  refine (andi_eq_one _ _).trans (((and_congr ((andi_eq_one _ _).trans (and_congr ?_ a)) b)).trans and_assoc)
  rw [e15]
  exact hv (ptAt L r)

/-- The voxel a place's point goes to: its rank if it is kept, the spare voxel if not. -/
theorem v84_kept (r : Fin 300000) (h : Kept (fun j => (L j).toNat) (fun j => rankOf L 300000 (L j).toNat) (sgOf L r.val)) :
    res_main_v84 V (ix1 r) = BitVec.ofNat 32 (rankOf L 300000 (L (sgOf L r.val)).toNat) := by
  unfold res_main_v84
  exact (select_word _ _ _ _).trans ((if_pos ((v83_at V L hL hLe hv r).mpr h)).trans (v73_at V L hL hLe r))

theorem v84_spare (r : Fin 300000) (h : ¬ Kept (fun j => (L j).toNat) (fun j => rankOf L 300000 (L j).toNat) (sgOf L r.val)) : res_main_v84 V (ix1 r) = 120000#32 := by
  unfold res_main_v84
  exact (select_word _ _ _ _).trans (if_neg fun e => h ((v83_at V L hL hLe hv r).mp e))

/-- The slot a place's point goes to. -/
theorem v85_kept (r : Fin 300000) (h : Kept (fun j => (L j).toNat) (fun j => rankOf L 300000 (L j).toNat) (sgOf L r.val)) :
    res_main_v85 V (ix1 r) = BitVec.ofNat 32 (slot (fun j => (L j).toNat) (sgOf L r.val)) := by
  unfold res_main_v85
  exact (select_word _ _ _ _).trans ((if_pos ((v83_at V L hL hLe hv r).mpr h)).trans (v77_at V L hL hLe r))

theorem v85_spare (r : Fin 300000) (h : ¬ Kept (fun j => (L j).toNat) (fun j => rankOf L 300000 (L j).toNat) (sgOf L r.val)) : res_main_v85 V (ix1 r) = 0#32 := by
  unfold res_main_v85
  exact (select_word _ _ _ _).trans (if_neg fun e => h ((v83_at V L hL hLe hv r).mp e))

end Cert.Proof.Vox

end
-- ==== Proof.RefIndex.lean ====
/- The index words and the updates of the reference's three scatters. -/
module

public import proofs.«01_k».proof.Proof.RefOrder
public import proofs.«01_k».proof.Proof.Land
public import Idealize.ShloMosaic.Lib.Pipeline.Value

@[expose] public section

noncomputable section

namespace Cert.Proof.Vox

open Idealize.ShloMosaic Idealize.ShloMosaic.TcCoe Idealize.ShloMosaic.ValueIdx Idealize.ShloMosaic.Routing Cert.ReferenceIdeal Cert.ReferenceIdeal.Gen Cert.ReferenceIdeal.Value

theorem toInt_word (n : ℕ) (h : n < 2 ^ 31) : (BitVec.ofNat 32 n).toInt = n := by
  rw [BitVec.toInt_eq_toNat_of_lt (by rw [toNat_word n (by omega)]; omega), toNat_word n (by omega)]

/-- A row of index words, wrapped by `w`, as a column. -/
abbrev wrapCol (v : IVec S300000 32) (w : BitVec 32) : IVec S300000x1 32 :=
  broadcastInDim S300000x1 ![0] bcast_S300000_S300000x1_0 (select (cmpi .slt v (broadcastInDim S300000 ![] bcast_S_S300000 (constantI S_ 32 0#32))) (addi v (broadcastInDim S300000 ![] bcast_S_S300000 (constantI S_ 32 w))) v)

theorem wrapCol_at (v : IVec S300000 32) (w : BitVec 32) (r : Fin 300000) (x : BitVec 32) (e : v (ix1 r) = x) (h : x.toNat < 2 ^ 31) : wrapCol v w (ix2 r 0) = x :=
  (wrapped_at v w r (by rw [e]; exact h)).trans e

/-- Two columns side by side. -/
theorem pair_at {α : Type} (x y : S300000x1.Idx → α) (r : Fin 300000) :
    concatenate S300000x2 1 [⟨S300000x1, x⟩, ⟨S300000x1, y⟩] concatenates_S300000x1_S300000x1_S300000x2_d1 (ix2 r 0) = x (ix2 r 0)
      ∧ concatenate S300000x2 1 [⟨S300000x1, x⟩, ⟨S300000x1, y⟩] concatenates_S300000x1_S300000x1_S300000x2_d1 (ix2 r 1) = y (ix2 r 0) :=
  ⟨concatenate_pair_apply_left (t := S300000x2) (s₁ := S300000x1) (s₂ := S300000x1) (1 : Fin 2) x y _ (ix2 r 0) rfl (ix2 r 0) fun b => by
      match b with
      | ⟨0, _⟩ => rfl
      | ⟨1, _⟩ => rfl,
    concatenate_pair_apply_right (t := S300000x2) (s₁ := S300000x1) (s₂ := S300000x1) (1 : Fin 2) x y _ (ix2 r 1) rfl rfl (ix2 r 0) (fun b hb => by
      match b with
      | ⟨0, _⟩ => rfl
      | ⟨1, _⟩ => exact absurd rfl hb) rfl⟩

/-- Three columns side by side. -/
theorem triple_at {α : Type} (x y z : S300000x1.Idx → α) (r : Fin 300000) (c : Fin 3) :
    concatenate S300000x3 1 [⟨S300000x1, x⟩, ⟨S300000x1, y⟩, ⟨S300000x1, z⟩] concatenates_S300000x1_S300000x1_S300000x1_S300000x3_d1 (ix2 r c) = (![x, y, z] : Fin 3 → S300000x1.Idx → α) c (ix2 r 0) := by
  have hi : ∀ c : Fin 3, ∀ b : Fin S300000x1.rank, b.cast (rfl : S300000x1.rank = S300000x3.rank) ≠ (1 : Fin 2) → ((ix2 r 0 : S300000x1.Idx) b).val = ((ix2 r c : S300000x3.Idx) (b.cast rfl)).val := fun c b hb => by
    match b with
    | ⟨0, _⟩ => rfl
    | ⟨1, _⟩ => exact absurd rfl hb
  match c with
  | ⟨0, _⟩ => exact concatenate_apply_piece (t := S300000x3) (1 : Fin 2) _ _ _ 0 (by simp) S300000x1 x rfl rfl 0 rfl (ix2 r 0) (hi 0) rfl
  | ⟨1, _⟩ => exact concatenate_apply_piece (t := S300000x3) (1 : Fin 2) _ _ _ 1 (by simp) S300000x1 y rfl rfl 1 rfl (ix2 r 0) (hi 1) rfl
  | ⟨2, _⟩ => exact concatenate_apply_piece (t := S300000x3) (1 : Fin 2) _ _ _ 2 (by simp) S300000x1 z rfl rfl 2 rfl (ix2 r 0) (hi 2) rfl

variable (V : Valuation τ sig (Elt Ideal))

/-- The voxels and slots the points' rows go to. -/
def pointsIdx : IVec S300000x2 32 :=
  concatenate S300000x2 1 [⟨S300000x1, wrapCol (res_main_v84 V) 120001#32⟩, ⟨S300000x1, wrapCol (res_main_v85 V) 10#32⟩] concatenates_S300000x1_S300000x1_S300000x2_d1

/-- The points' rows, along the order; zero for a point that is not kept. -/
def pointsUpd : S300000x5.Idx → EReal :=
  select (broadcastInDim S300000x5 ![0, 1] bcast_S300000x1_S300000x5_0_1 (broadcastInDim S300000x1 ![0] bcast_S300000_S300000x1_0 (res_main_v83 V)))
    (Host.gather gather_S300000x5_S300000x1_S300000x5_1_0_n_n_0_1_15 (pts V) (wrapCol (res_main_v33 V) 300000#32)) (broadcastInDim S300000x5 ![] bcast_S_S300000x5 (id (constant (F := Ideal) S_ .f32 0x00000000#32)))

/-- The points' coordinates. -/
def coordsOf : S300000x3.Idx → BitVec 32 :=
  concatenate S300000x3 1 [⟨S300000x1, broadcastInDim S300000x1 ![0] bcast_S300000_S300000x1_0 (res_main_v21 V)⟩, ⟨S300000x1, broadcastInDim S300000x1 ![0] bcast_S300000_S300000x1_0 (res_main_v19 V)⟩, ⟨S300000x1, broadcastInDim S300000x1 ![0] bcast_S300000_S300000x1_0 (res_main_v17 V)⟩] concatenates_S300000x1_S300000x1_S300000x1_S300000x3_d1

/-- The points' coordinates, along the order; zero for a point that is not kept. -/
def coordsUpd : S300000x3.Idx → BitVec 32 :=
  select (broadcastInDim S300000x3 ![0, 1] bcast_S300000x1_S300000x3_0_1 (broadcastInDim S300000x1 ![0] bcast_S300000_S300000x1_0 (res_main_v83 V)))
    (Host.gather gather_S300000x3_S300000x1_S300000x3_1_0_n_n_0_1_13 (coordsOf V) (wrapCol (res_main_v33 V) 300000#32)) (broadcastInDim S300000x3 ![] bcast_S_S300000x3 (id (constantI S_ 32 0#32)))

theorem coordsOf_at (q : Fin 300000) (a : Fin 3) : coordsOf V (ix2 q a) = (![res_main_v21 V (ix1 q), res_main_v19 V (ix1 q), res_main_v17 V (ix1 q)] : Fin 3 → BitVec 32) a := by
  unfold coordsOf
  rw [triple_at]
  match a with
  | ⟨0, _⟩ => exact bcCol bcast_S300000_S300000x1_0 (res_main_v21 V) q
  | ⟨1, _⟩ => exact bcCol bcast_S300000_S300000x1_0 (res_main_v19 V) q
  | ⟨2, _⟩ => exact bcCol bcast_S300000_S300000x1_0 (res_main_v17 V) q

variable (L : ℕ → BitVec 32) (hL : ∀ q : Fin 300000, res_main_v32 V (ix1 q) = L q.val) (hLe : ∀ j, (L j).toNat ≤ 46656000)
  (hv : ∀ q : Fin 300000, res_main_v15 V (ix1 q) = 1#1 ↔ (L q.val).toNat < 46656000)

include hL hLe hv

/-- A place's index word names voxel `t` exactly if its point is kept and of rank `t`. -/
theorem voxel_word (r : Fin 300000) (t : ℕ) (ht : t < 120000) : (wrapCol (res_main_v84 V) 120001#32 (ix2 r 0)).toInt = (t : Int)
    ↔ Kept (fun j => (L j).toNat) (fun j => rankOf L 300000 (L j).toNat) (sgOf L r.val) ∧ rankOf L 300000 (L (sgOf L r.val)).toNat = t := by
  by_cases h : Kept (fun j => (L j).toNat) (fun j => rankOf L 300000 (L j).toNat) (sgOf L r.val)
  · have h2 : rankOf L 300000 (L (sgOf L r.val)).toNat < 120000 := h.2.1
    have e := v84_kept V L hL hLe hv r h
    rw [wrapCol_at _ _ r _ e (by rw [toNat_word _ (by omega)]; omega), toInt_word _ (by omega)]
    exact ⟨fun q => ⟨h, by exact_mod_cast q⟩, fun q => by exact_mod_cast q.2⟩
  · have e := v84_spare V L hL hLe hv r h
    rw [wrapCol_at _ _ r _ e (by decide)]
    refine ⟨fun q => absurd q ?_, fun q => absurd q.1 h⟩
    rw [show (120000#32).toInt = 120000 from rfl]
    omega

theorem slot_word (r : Fin 300000) (h : Kept (fun j => (L j).toNat) (fun j => rankOf L 300000 (L j).toNat) (sgOf L r.val)) :
    (wrapCol (res_main_v85 V) 10#32 (ix2 r 0)).toInt = (slot (fun j => (L j).toNat) (sgOf L r.val) : Int) := by
  have h3 : slot (fun j => (L j).toNat) (sgOf L r.val) < 10 := h.2.2
  have e := v85_kept V L hL hLe hv r h
  rw [wrapCol_at _ _ r _ e (by rw [toNat_word _ (by omega)]; omega), toInt_word _ (by omega)]

theorem pointsUpd_at (r : Fin 300000) (f : Fin 5) (h : Kept (fun j => (L j).toNat) (fun j => rankOf L 300000 (L j).toNat) (sgOf L r.val)) :
    pointsUpd V (ix2 r f) = pts V (ix2 (ptAt L r) f) := by
  have e : broadcastInDim S300000x5 ![0, 1] bcast_S300000x1_S300000x5_0_1 (broadcastInDim S300000x1 ![0] bcast_S300000_S300000x1_0 (res_main_v83 V)) (ix2 r f) = 1#1 :=
    (bcRows bcast_S300000_S300000x1_0 bcast_S300000x1_S300000x5_0_1 _ r f).trans ((v83_at V L hL hLe hv r).mpr h)
  unfold pointsUpd
  exact (if_pos e).trans (gather_row gather_S300000x5_S300000x1_S300000x5_1_0_n_n_0_1_15 rfl rfl rfl rfl rfl (pts V) _ r f (ptAt L r) (order_col V L hL hLe r) (by omega))

theorem coordsUpd_at (r : Fin 300000) (a : Fin 3) (h : Kept (fun j => (L j).toNat) (fun j => rankOf L 300000 (L j).toNat) (sgOf L r.val)) :
    coordsUpd V (ix2 r a) = coordsOf V (ix2 (ptAt L r) a) := by
  have e : broadcastInDim S300000x3 ![0, 1] bcast_S300000x1_S300000x3_0_1 (broadcastInDim S300000x1 ![0] bcast_S300000_S300000x1_0 (res_main_v83 V)) (ix2 r a) = 1#1 :=
    (bcRows bcast_S300000_S300000x1_0 bcast_S300000x1_S300000x3_0_1 _ r a).trans ((v83_at V L hL hLe hv r).mpr h)
  unfold coordsUpd
  exact (if_pos e).trans (gather_row gather_S300000x3_S300000x1_S300000x3_1_0_n_n_0_1_13 rfl rfl rfl rfl rfl (coordsOf V) _ r a (ptAt L r) (order_col V L hL hLe r) (by omega))

/-- Where a place's row of the points goes. -/
theorem points_land (r : Fin 300000) (g : Fin 5) (t l : ℕ) (ht : t < 120000) (hl : l < 10) (f : Fin 5) :
    scatter_S120001x10x5_S300000x2_S300000x5_1_01_01_1.resultIdx? (ix2 r g) (pointsIdx V) = some (ix3 (⟨t, by omega⟩ : Fin 120001) (⟨l, hl⟩ : Fin 10) f)
      ↔ Kept (fun j => (L j).toNat) (fun j => rankOf L 300000 (L j).toNat) (sgOf L r.val) ∧ rankOf L 300000 (L (sgOf L r.val)).toNat = t
        ∧ slot (fun j => (L j).toNat) (sgOf L r.val) = l ∧ g = f := by
  refine (lands_points _ r g _ _ f).trans ?_
  unfold pointsIdx
  rw [(pair_at _ _ r).1, (pair_at _ _ r).2]
  dsimp only
  rw [voxel_word V L hL hLe hv r t ht, and_assoc]
  refine and_congr_right fun h => and_congr_right fun _ => and_congr_left fun _ => ?_
  rw [slot_word V L hL hLe hv r h]
  exact Int.natCast_inj

theorem coords_land (r : Fin 300000) (g : Fin 3) (t : ℕ) (ht : t < 120000) (a : Fin 3) :
    scatter_S120001x3_S300000x1_S300000x3_1_0_0_1.resultIdx? (ix2 r g) (wrapCol (res_main_v84 V) 120001#32) = some (ix2 (⟨t, by omega⟩ : Fin 120001) a)
      ↔ (Kept (fun j => (L j).toNat) (fun j => rankOf L 300000 (L j).toNat) (sgOf L r.val) ∧ rankOf L 300000 (L (sgOf L r.val)).toNat = t) ∧ g = a :=
  (lands_coords _ r g _ a).trans (and_congr_left fun _ => voxel_word V L hL hLe hv r t ht)

theorem counts_land (r : Fin 300000) (t : ℕ) (ht : t < 120000) :
    scatter_S120001_S300000x1_S300000_n_0_0_1.resultIdx? (ix1 r) (wrapCol (res_main_v84 V) 120001#32) = some (ix1 (⟨t, by omega⟩ : Fin 120001))
      ↔ Kept (fun j => (L j).toNat) (fun j => rankOf L 300000 (L j).toNat) (sgOf L r.val) ∧ rankOf L 300000 (L (sgOf L r.val)).toNat = t :=
  (lands_counts _ r _).trans (voxel_word V L hL hLe hv r t ht)

end Cert.Proof.Vox

end
-- ==== Proof.RefOut.lean ====
/- The reference's three results, entry by entry: the kernel's. -/
module

public import proofs.«01_k».proof.Proof.RefIndex
public import proofs.«01_k».proof.Proof.Kept

@[expose] public section

noncomputable section

namespace Cert.Proof.Vox

open Idealize.ShloMosaic Idealize.ShloMosaic.TcCoe Idealize.ShloMosaic.ValueIdx Idealize.ShloMosaic.Routing Cert.ReferenceIdeal Cert.ReferenceIdeal.Gen Cert.ReferenceIdeal.Value

/-- A table of points with a spare voxel, and the same without it. -/
theorem trim3_at {α : Type} (x : S120001x10x5.Idx → α) (t : Fin 120000) (l : Fin 10) (f : Fin 5) :
    extractStridedSlice S120000x10x5 ![0, 0, 0] x slices_S120001x10x5_S120000x10x5_0_0_0 (ix3 t l f) = x (ix3 (⟨t.val, by omega⟩ : Fin 120001) l f) := by
  unfold extractStridedSlice
  refine congrArg x (funext fun a => Fin.ext ?_)
  match a with
  | ⟨0, _⟩ => exact Nat.zero_add _
  | ⟨1, _⟩ => exact Nat.zero_add _
  | ⟨2, _⟩ => exact Nat.zero_add _

theorem trim2_at {α : Type} (x : S120001x3.Idx → α) (t : Fin 120000) (a : Fin 3) :
    extractStridedSlice S120000x3 ![0, 0] x slices_S120001x3_S120000x3_0_0 (ix2 t a) = x (ix2 (⟨t.val, by omega⟩ : Fin 120001) a) := by
  unfold extractStridedSlice
  refine congrArg x (funext fun b => Fin.ext ?_)
  match b with
  | ⟨0, _⟩ => exact Nat.zero_add _
  | ⟨1, _⟩ => exact Nat.zero_add _

theorem trim1_at {α : Type} (x : S120001.Idx → α) (t : Fin 120000) :
    extractStridedSlice S120000 ![0] x slices_S120001_S120000_0 (ix1 t) = x (ix1 (⟨t.val, by omega⟩ : Fin 120001)) := by
  unfold extractStridedSlice
  refine congrArg x (funext fun b => Fin.ext ?_)
  match b with
  | ⟨0, _⟩ => exact Nat.zero_add _

/-- A sum of ones, scattered, counts the updates that land. -/
theorem scatter_ones (x0 : IVec S120001 32) (idx : IVec S300000x1 32) (upd : IVec S300000 32) (t : Fin 120001) (P : ℕ → Prop) [DecidablePred P] (hx : x0 (ix1 t) = 0#32)
    (hP : ∀ r : Fin 300000, scatter_S120001_S300000x1_S300000_n_0_0_1.resultIdx? (ix1 r) idx = some (ix1 t) ↔ P r.val) (hu : ∀ r : Fin 300000, P r.val → upd (ix1 r) = 1#32) :
    Host.scatter scatter_S120001_S300000x1_S300000_n_0_0_1 IntOp.addi x0 idx upd (ix1 t) = BitVec.ofNat 32 (Nat.count P 300000) := by
  have hN : S300000.numel = 300000 := numel1 300000
  rw [scatter_at]
  have h := foldl_count (I := Unit) (fun (r : Unit → BitVec 32) (n : Fin S300000.numel) => fun _ => if scatter_S120001_S300000x1_S300000_n_0_0_1.resultIdx? (S300000.rowMajor.symm n) idx = some (ix1 t) then IntOp.addi (r ()) (upd (S300000.rowMajor.symm n)) else r ())
    () (fun n => decide (P n.val)) (fun r n => by
      have e : S300000.rowMajor.symm n = ix1 (n.cast hN) := symm1 n
      rw [e]
      have hi := hP (n.cast hN)
      by_cases hp : P n.val
      · rw [if_pos (hi.mpr hp), if_pos (decide_eq_true hp), hu (n.cast hN) hp]
      · rw [if_neg fun q => hp (hi.mp q), if_neg (by rw [decide_eq_true_iff]; exact hp)]) (List.finRange S300000.numel) (fun _ => x0 (ix1 t)) 0 hx
  refine Eq.trans ?_ (h.trans ?_)
  · generalize List.finRange S300000.numel = l
    generalize x0 (ix1 t) = z
    induction l generalizing z with
    | nil => rfl
    | cons n l ih => exact ih _
  · rw [Nat.zero_add, countP_finRange S300000.numel P, hN]

variable (V : Valuation τ sig (Elt Ideal)) (X0 X1 X2 X3 X4 : ℕ → EReal)
  (h0 : ∀ q : Fin 300000, pts V (ix2 q 0) = X0 q.val) (h1 : ∀ q : Fin 300000, pts V (ix2 q 1) = X1 q.val) (h2 : ∀ q : Fin 300000, pts V (ix2 q 2) = X2 q.val)
  (h3 : ∀ q : Fin 300000, pts V (ix2 q 3) = X3 q.val) (h4 : ∀ q : Fin 300000, pts V (ix2 q 4) = X4 q.val)

/-- The kernel's results hold what the kept points put there. -/
theorem result_placed : Placed (fun j => (cellsOf (F := Ideal) X0 X1 X2 j).toNat) (fun j => rankOf (cellsOf (F := Ideal) X0 X1 X2) 300000 (cellsOf (F := Ideal) X0 X1 X2 j).toNat)
    (packsOf (F := Ideal) X0 X1 X2) (fun j => five (X0 j) (X1 j) (X2 j) (X3 j) (X4 j)) (FloatOps.ofBits (F := Ideal) .f32 0x00000000#32) 300000 (result (F := Ideal) X0 X1 X2 X3 X4) :=
  placed_places (tells_rank _ 300000) (fun _ _ e h => packW_of_cell _ _ _ _ _ _ _ _ e h) 300000 (le_refl _)

include h0 h1 h2

theorem points_out (h3 : ∀ q : Fin 300000, pts V (ix2 q 3) = X3 q.val) (h4 : ∀ q : Fin 300000, pts V (ix2 q 4) = X4 q.val) (t : Fin 120000) (l : Fin 10) (f : Fin 5) :
    Host.scatter scatter_S120001x10x5_S300000x2_S300000x5_1_01_01_1 (fun _ b => b) (broadcastInDim S120001x10x5 ![] bcast_S_S120001x10x5 (constant (F := Ideal) S_ .f32 0x00000000#32)) (pointsIdx V) (pointsUpd V)
      (ix3 (⟨t.val, by omega⟩ : Fin 120001) l f) = (result (F := Ideal) X0 X1 X2 X3 X4).vox ((t.val * 10 + l.val) * 5 + f.val) := by
  classical
  have hp := result_placed X0 X1 X2 X3 X4
  have hL := v32_at V X0 X1 X2 h0 h1 h2
  have hLe := cells_le (F := Ideal) X0 X1 X2
  have hv := v15_cell V X0 X1 X2 h0 h1 h2
  generalize result (F := Ideal) X0 X1 X2 X3 X4 = s at hp ⊢
  have hl := points_land V (cellsOf (F := Ideal) X0 X1 X2) hL hLe hv
  have hu := pointsUpd_at V (cellsOf (F := Ideal) X0 X1 X2) hL hLe hv
  have hT := tells_rank (cellsOf (F := Ideal) X0 X1 X2) 300000
  have hS := sorts_sgOf (cellsOf (F := Ideal) X0 X1 X2)
  have hx : ∀ (q : Fin 300000) (f : Fin 5), pts V (ix2 q f) = five (X0 q) (X1 q) (X2 q) (X3 q) (X4 q) f.val := fun q f => by
    match f with
    | ⟨0, _⟩ => exact h0 q
    | ⟨1, _⟩ => exact h1 q
    | ⟨2, _⟩ => exact h2 q
    | ⟨3, _⟩ => exact h3 q
    | ⟨4, _⟩ => exact h4 q
  unfold ptAt at hu
  generalize cellsOf (F := Ideal) X0 X1 X2 = L at *
  by_cases hk : ∃ j < 300000, Kept (fun j => (L j).toNat) (fun j => rankOf L 300000 (L j).toNat) j ∧ rankOf L 300000 (L j).toNat = t.val ∧ slot (fun j => (L j).toNat) j = l.val
  · obtain ⟨j, hj, hkj, hjt, hjl⟩ := hk
    have hv := hp.voxHit j hj hkj f.val f.isLt
    rw [hjt, hjl] at hv
    rw [hv]
    obtain ⟨r, hr, hrj⟩ := hS.surj j hj
    refine scatter_set_hit _ _ _ _ _ _ (fun k e => ?_) (ix2 ⟨r, hr⟩ f) ?_
    · obtain ⟨k0, k1, rfl⟩ : ∃ (k0 : Fin 300000) (k1 : Fin 5), k = ix2 k0 k1 := ⟨k 0, k 1, eq_ix2 k⟩
      obtain ⟨a, b, c, d⟩ := (hl k0 k1 t.val l.val t.isLt l.isLt f).mp e
      have hlt := hS.lt k0.val k0.isLt
      have ek := hT _ hlt j hj a.1 hkj.1 (b.trans hjt.symm)
      have ej := slot_inj (fun j => (L j).toNat) ek (c.trans hjl.symm)
      rw [hu k0 k1 a, hx, d]
      dsimp only
      rw [ej]
    · exact (hl ⟨r, hr⟩ f t.val l.val t.isLt l.isLt f).mpr (by dsimp only; rw [hrj]; exact ⟨hkj, hjt, hjl, rfl⟩)
  · rw [hp.voxMiss t.val l.val f.val l.isLt f.isLt fun j hj hkj e => hk ⟨j, hj, hkj, e.1, e.2⟩]
    refine (scatter_set_miss _ _ _ _ _ fun k e => ?_).trans (bc0 bcast_S_S120001x10x5 _ _)
    obtain ⟨k0, k1, rfl⟩ : ∃ (k0 : Fin 300000) (k1 : Fin 5), k = ix2 k0 k1 := ⟨k 0, k 1, eq_ix2 k⟩
    obtain ⟨a, b, c, _⟩ := (hl k0 k1 t.val l.val t.isLt l.isLt f).mp e
    exact hk ⟨_, hS.lt k0.val k0.isLt, a, b, c⟩

theorem coords_out (t : Fin 120000) (a : Fin 3) :
    Host.scatter scatter_S120001x3_S300000x1_S300000x3_1_0_0_1 (fun _ b => b) (broadcastInDim S120001x3 ![] bcast_S_S120001x3 (constantI S_ 32 0#32)) (wrapCol (res_main_v84 V) 120001#32) (coordsUpd V)
      (ix2 (⟨t.val, by omega⟩ : Fin 120001) a) = (result (F := Ideal) X0 X1 X2 X3 X4).crd (t.val * 3 + a.val) := by
  classical
  have hp := result_placed X0 X1 X2 X3 X4
  have hL := v32_at V X0 X1 X2 h0 h1 h2
  have hLe := cells_le (F := Ideal) X0 X1 X2
  have hv := v15_cell V X0 X1 X2 h0 h1 h2
  have hP : ∀ i j, (cellsOf (F := Ideal) X0 X1 X2 i).toNat = (cellsOf (F := Ideal) X0 X1 X2 j).toNat → (cellsOf (F := Ideal) X0 X1 X2 i).toNat < 46656000 → packsOf (F := Ideal) X0 X1 X2 i = packsOf (F := Ideal) X0 X1 X2 j :=
    fun _ _ e h => packW_of_cell _ _ _ _ _ _ _ _ e h
  have hc : ∀ (q : Fin 300000) (a : Fin 3), (cellsOf (F := Ideal) X0 X1 X2 q.val).toNat < 46656000 → coordsOf V (ix2 q a) = crdOf (packsOf (F := Ideal) X0 X1 X2 q.val) a.val := fun q a h => by
    obtain ⟨e0, e1, e2⟩ := crd_at V X0 X1 X2 h0 h1 h2 q h
    rw [coordsOf_at]
    match a with
    | ⟨0, _⟩ => exact e0.symm
    | ⟨1, _⟩ => exact e1.symm
    | ⟨2, _⟩ => exact e2.symm
  generalize result (F := Ideal) X0 X1 X2 X3 X4 = s at hp ⊢
  have hl := coords_land V (cellsOf (F := Ideal) X0 X1 X2) hL hLe hv
  have hu := coordsUpd_at V (cellsOf (F := Ideal) X0 X1 X2) hL hLe hv
  have hT := tells_rank (cellsOf (F := Ideal) X0 X1 X2) 300000
  have hS := sorts_sgOf (cellsOf (F := Ideal) X0 X1 X2)
  unfold ptAt at hu
  generalize cellsOf (F := Ideal) X0 X1 X2 = L at *
  by_cases hk : ∃ j < 300000, Kept (fun j => (L j).toNat) (fun j => rankOf L 300000 (L j).toNat) j ∧ rankOf L 300000 (L j).toNat = t.val
  · obtain ⟨j, hj, hkj, hjt⟩ := hk
    have hv := hp.crdHit j hj hkj a.val a.isLt
    rw [hjt] at hv
    rw [hv]
    obtain ⟨r, hr, hrj⟩ := hS.surj j hj
    refine scatter_set_hit _ _ _ _ _ _ (fun k e => ?_) (ix2 ⟨r, hr⟩ a) ?_
    · obtain ⟨k0, k1, rfl⟩ : ∃ (k0 : Fin 300000) (k1 : Fin 3), k = ix2 k0 k1 := ⟨k 0, k 1, eq_ix2 k⟩
      obtain ⟨⟨b, c⟩, d⟩ := (hl k0 k1 t.val t.isLt a).mp e
      have hlt := hS.lt k0.val k0.isLt
      have ek := hT _ hlt j hj b.1 hkj.1 (c.trans hjt.symm)
      rw [hu k0 k1 b, hc _ _ b.1, d, hP _ j ek b.1]
    · exact (hl ⟨r, hr⟩ a t.val t.isLt a).mpr (by dsimp only; rw [hrj]; exact ⟨⟨hkj, hjt⟩, rfl⟩)
  · rw [hp.crdMiss t.val a.val a.isLt fun j hj hkj e => hk ⟨j, hj, hkj, e⟩]
    refine (scatter_set_miss _ _ _ _ _ fun k e => ?_).trans (bc0 bcast_S_S120001x3 _ _)
    obtain ⟨k0, k1, rfl⟩ : ∃ (k0 : Fin 300000) (k1 : Fin 3), k = ix2 k0 k1 := ⟨k 0, k 1, eq_ix2 k⟩
    obtain ⟨⟨b, c⟩, _⟩ := (hl k0 k1 t.val t.isLt a).mp e
    exact hk ⟨_, hS.lt k0.val k0.isLt, b, c⟩

theorem counts_out (t : Fin 120000) :
    Host.scatter scatter_S120001_S300000x1_S300000_n_0_0_1 IntOp.addi (broadcastInDim S120001 ![] bcast_S_S120001 (constantI S_ 32 0#32)) (wrapCol (res_main_v84 V) 120001#32) (extui 32 (res_main_v83 V) natLt_1_32)
      (ix1 (⟨t.val, by omega⟩ : Fin 120001)) = BitVec.ofNat 32 ((result (F := Ideal) X0 X1 X2 X3 X4).cnt t.val) := by
  classical
  have hp := result_placed X0 X1 X2 X3 X4
  have hL := v32_at V X0 X1 X2 h0 h1 h2
  have hLe := cells_le (F := Ideal) X0 X1 X2
  have hv := v15_cell V X0 X1 X2 h0 h1 h2
  generalize result (F := Ideal) X0 X1 X2 X3 X4 = s at hp ⊢
  have hl := counts_land V (cellsOf (F := Ideal) X0 X1 X2) hL hLe hv
  have hk := v83_at V (cellsOf (F := Ideal) X0 X1 X2) hL hLe hv
  have hS := sorts_sgOf (cellsOf (F := Ideal) X0 X1 X2)
  generalize cellsOf (F := Ideal) X0 X1 X2 = L at *
  rw [hp.cnt t.val]
  refine (scatter_ones _ _ _ _ (fun r => Kept (fun j => (L j).toNat) (fun j => rankOf L 300000 (L j).toNat) (sgOf L r) ∧ rankOf L 300000 (L (sgOf L r)).toNat = t.val)
    (bc0 bcast_S_S120001 _ _) (fun r => hl r t.val t.isLt) fun r h => ?_).trans (congrArg (BitVec.ofNat 32) ?_)
  · show (res_main_v83 V (ix1 r)).zeroExtend 32 = 1#32
    rw [(hk r).mpr h.1]
    rfl
  · refine (hS.count (fun j => Kept (fun j => (L j).toNat) (fun j => rankOf L 300000 (L j).toNat) j ∧ rankOf L 300000 (L j).toNat = t.val)).trans ?_
    exact count_congr _ fun _ _ => Iff.rfl

end Cert.Proof.Vox

end
-- ==== Proof.Meet.lean ====
/- The kernel's three results and the reference's, from the same points: equal. -/
module

public import proofs.«01_k».proof.Proof.KernelRows
public import proofs.«01_k».proof.Proof.RefOut

@[expose] public section

noncomputable section

namespace Cert.Proof.Vox

open Idealize.ShloMosaic Idealize.ShloMosaic.TcCoe Idealize.ShloMosaic.ValueIdx Idealize.ShloMosaic.Routing Idealize.SL.Sem

/-- The kernel's result `b`, as its last host lines leave it. -/
abbrev kernelOut (m : (ℓ : Loc KernelIdeal.nD KernelIdeal.τ KernelIdeal.sig) → Buf (Elt Ideal) ℓ) (c : Dev KernelIdeal.nD) (b : Ref KernelIdeal.sig .tc) : Buf (Elt Ideal) ((c.tc : Thread KernelIdeal.nD KernelIdeal.τ).loc b) :=
  Pipeline.afterTail₀ KernelIdeal.cfgs (dats m) 0 (KernelIdeal.Gen.V0 m) [KernelIdeal.Gen.hostOps1] c b

variable (m : (ℓ : Loc KernelIdeal.nD KernelIdeal.τ KernelIdeal.sig) → Buf (Elt Ideal) ℓ) (c : Dev KernelIdeal.nD)
  (V : Valuation ReferenceIdeal.τ ReferenceIdeal.sig (Elt Ideal)) (hV : pts V = given m c)

include hV

theorem voxels_meet : extractStridedSlice ReferenceIdeal.S120000x10x5 ![0, 0, 0] (Host.scatter ReferenceIdeal.scatter_S120001x10x5_S300000x2_S300000x5_1_01_01_1 (fun _ b => b)
      (broadcastInDim ReferenceIdeal.S120001x10x5 ![] ReferenceIdeal.Gen.bcast_S_S120001x10x5 (constant (F := Ideal) ReferenceIdeal.S_ .f32 0x00000000#32)) (pointsIdx V) (pointsUpd V))
      ReferenceIdeal.Gen.slices_S120001x10x5_S120000x10x5_0_0_0 = (kernelOut m c KernelIdeal.main_v23 : KernelIdeal.S120000x10x5.Idx → EReal) := by
  funext ι
  obtain ⟨t, l, f, rfl⟩ : ∃ (t : Fin 120000) (l : Fin 10) (f : Fin 5), ι = ix3 t l f := ⟨ι 0, ι 1, ι 2, eq_ix3 ι⟩
  refine (trim3_at _ t l f).trans ((points_out V _ _ _ _ _ ?_ ?_ ?_ ?_ ?_ t l f).trans (out23 m c t l f).symm)
  · exact fun q => by rw [hV]; exact (row0_at m c only q).symm
  · exact fun q => by rw [hV]; exact (row1_at m c only q).symm
  · exact fun q => by rw [hV]; exact (row2_at m c only q).symm
  · exact fun q => by rw [hV]; exact (row3_at m c only q).symm
  · exact fun q => by rw [hV]; exact (row4_at m c only q).symm

theorem coords_meet : extractStridedSlice ReferenceIdeal.S120000x3 ![0, 0] (Host.scatter ReferenceIdeal.scatter_S120001x3_S300000x1_S300000x3_1_0_0_1 (fun _ b => b)
      (broadcastInDim ReferenceIdeal.S120001x3 ![] ReferenceIdeal.Gen.bcast_S_S120001x3 (constantI ReferenceIdeal.S_ 32 0#32)) (wrapCol (ReferenceIdeal.Value.res_main_v84 V) 120001#32) (coordsUpd V))
      ReferenceIdeal.Gen.slices_S120001x3_S120000x3_0_0 = (kernelOut m c KernelIdeal.main_v26 : KernelIdeal.S120000x3.Idx → BitVec 32) := by
  funext ι
  obtain ⟨t, a, rfl⟩ : ∃ (t : Fin 120000) (a : Fin 3), ι = ix2 t a := ⟨ι 0, ι 1, eq_ix2 ι⟩
  refine (trim2_at _ t a).trans ((coords_out V _ _ _ _ _ ?_ ?_ ?_ t a).trans (out26 m c t a).symm)
  · exact fun q => by rw [hV]; exact (row0_at m c only q).symm
  · exact fun q => by rw [hV]; exact (row1_at m c only q).symm
  · exact fun q => by rw [hV]; exact (row2_at m c only q).symm

theorem counts_meet : extractStridedSlice ReferenceIdeal.S120000 ![0] (Host.scatter ReferenceIdeal.scatter_S120001_S300000x1_S300000_n_0_0_1 IntOp.addi
      (broadcastInDim ReferenceIdeal.S120001 ![] ReferenceIdeal.Gen.bcast_S_S120001 (constantI ReferenceIdeal.S_ 32 0#32)) (wrapCol (ReferenceIdeal.Value.res_main_v84 V) 120001#32)
      (extui 32 (ReferenceIdeal.Value.res_main_v83 V) ReferenceIdeal.Gen.natLt_1_32)) ReferenceIdeal.Gen.slices_S120001_S120000_0 = (kernelOut m c KernelIdeal.main_v28 : KernelIdeal.S120000.Idx → BitVec 32) := by
  funext ι
  obtain ⟨t, rfl⟩ : ∃ t : Fin 120000, ι = ix1 t := ⟨ι 0, eq_ix1 ι⟩
  refine (trim1_at _ t).trans ((counts_out V _ _ _ _ _ ?_ ?_ ?_ t).trans (out28 m c t).symm)
  · exact fun q => by rw [hV]; exact (row0_at m c only q).symm
  · exact fun q => by rw [hV]; exact (row1_at m c only q).symm
  · exact fun q => by rw [hV]; exact (row2_at m c only q).symm

end Cert.Proof.Vox

end
-- ==== Proof.lean ====
/-
  The claims of this certificate, put together from the modules under Proof/.
-/
module

public import proofs.«01_k».proof.Defs
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Region
public import proofs.«01_k».proof.Proof.IdealLaws
public import proofs.«01_k».proof.Proof.Meet

@[expose] public section

noncomputable section

open Idealize.ShloMosaic Idealize.SL.Sem

/-- The kernel over the extended reals ends without fault, its argument as it was, every counter at zero. -/
theorem Cert.Proof.frame_pi : Cert.quiescent_KernelIdeal := fun m ρ _ =>
  θ_run_with_sems (Cert.KernelIdeal.Gen.frame_of m ρ (Cert.Proof.Vox.dats m) fun _ _ => rfl) (Cert.Proof.Vox.run_main m ρ Cert.Proof.Vox.idealScan)

/-- The reference over the extended reals ends without fault, its argument as it was; it has no counters. -/
theorem Cert.Proof.frame_ri : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run m ρ)

/-- From the same points both end with the same three results, the kernel's, and leave the points as they were. -/
theorem Cert.Proof.algebraic : Cert.algebraic_KernelIdeal_ReferenceIdeal := fun m ρ m' ρ' _ hagree => by
  have hV : ∀ c, Cert.Proof.Vox.pts (StableHlo.launchContents m' c) = Cert.Proof.Vox.given m c := fun c => hagree c
  refine ⟨fun c => Cert.Proof.Vox.kernelOut m c Cert.KernelIdeal.main_v23, fun c => Cert.Proof.Vox.kernelOut m c Cert.KernelIdeal.main_v26,
    fun c => Cert.Proof.Vox.kernelOut m c Cert.KernelIdeal.main_v28, ?_, ?_⟩
  · refine (θ_run Cert.KernelIdeal.defs _ _).mono (fun r h c => ⟨?_, ?_, ?_, ?_⟩) (Cert.Proof.Vox.run_main m ρ Cert.Proof.Vox.idealScan)
    · exact (h.1 c).2 Cert.KernelIdeal.main_v23 (Pipeline.mem_restRefs_of Cert.KernelIdeal.main_v23 (by decide) (by decide))
    · exact (h.1 c).2 Cert.KernelIdeal.main_v26 (Pipeline.mem_restRefs_of Cert.KernelIdeal.main_v26 (by decide) (by decide))
    · exact (h.1 c).2 Cert.KernelIdeal.main_v28 (Pipeline.mem_restRefs_of Cert.KernelIdeal.main_v28 (by decide) (by decide))
    · exact ((h.1 c).2 Cert.KernelIdeal.main_arg0 (Pipeline.mem_restRefs_of Cert.KernelIdeal.main_arg0 (by decide) (by decide))).trans
        (Cert.KernelIdeal.Gen.W_main_arg0 m (Cert.Proof.Vox.dats m) c)
  · exact (θ_run Cert.ReferenceIdeal.defs _ _).mono (fun r h c => ⟨(h c).1.trans (Cert.Proof.Vox.voxels_meet m c _ (hV c)), (h c).2.1.trans (Cert.Proof.Vox.coords_meet m c _ (hV c)),
      (h c).2.2.1.trans (Cert.Proof.Vox.counts_meet m c _ (hV c)), (h c).2.2.2⟩) (Cert.ReferenceIdeal.Value.run m' ρ')

/-- All the claims. -/
theorem Cert.Proof.claim : Cert.Claim :=
  ⟨Cert.KernelIdeal.Gen.facts, Cert.ReferenceIdeal.Gen.facts, Cert.Proof.frame_pi, Cert.Proof.frame_ri, Cert.Proof.algebraic⟩

end
